-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S8 : Shape := ⟨1, ![8]⟩
abbrev S_ : Shape := ⟨0, ![]⟩
abbrev S6 : Shape := ⟨1, ![6]⟩
abbrev S14 : Shape := ⟨1, ![14]⟩
abbrev S8x4x128x640 : Shape := ⟨4, ![8, 4, 128, 640]⟩
abbrev S4x8x128x384 : Shape := ⟨4, ![4, 8, 128, 384]⟩
abbrev S4x128x640 : Shape := ⟨3, ![4, 128, 640]⟩
abbrev S8x128x384 : Shape := ⟨3, ![8, 128, 384]⟩
abbrev S7x4 : Shape := ⟨2, ![7, 4]⟩
abbrev S3 : Shape := ⟨1, ![3]⟩
abbrev S3x8 : Shape := ⟨2, ![3, 8]⟩
abbrev S7 : Shape := ⟨1, ![7]⟩
abbrev S128x128 : Shape := ⟨2, ![128, 128]⟩
abbrev S128x640 : Shape := ⟨2, ![128, 640]⟩
abbrev S1x1x128x640 : Shape := ⟨4, ![1, 1, 128, 640]⟩
abbrev S1x1 : Shape := ⟨2, ![1, 1]⟩
abbrev S128x384 : Shape := ⟨2, ![128, 384]⟩
abbrev S1x1x128x384 : Shape := ⟨4, ![1, 1, 128, 384]⟩
abbrev S1x128x384 : Shape := ⟨3, ![1, 128, 384]⟩
abbrev S1x128x640 : Shape := ⟨3, ![1, 128, 640]⟩

abbrev nBuf : Space → Nat
  | .hbm => 160
  | .vmem => 11
  | .smem => 3
  | _ => 0

abbrev hbmTy0_0 (i : Nat) : BufTy := match i % 128 with
  | 0 => ⟨S4096x128, .fp8e5m2⟩
  | 1 => ⟨S128x2048, .fp8e5m2⟩
  | 2 => ⟨S1, .f32⟩
  | 3 => ⟨S1, .f32⟩
  | 4 => ⟨S8, .i32⟩
  | 5 => ⟨S8, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i1⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i1⟩
  | 36 => ⟨S_, .i32⟩
  | 37 => ⟨S_, .i1⟩
  | 38 => ⟨S_, .i1⟩
  | 39 => ⟨S_, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S1, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i1⟩
  | 64 => ⟨S_, .i32⟩
  | 65 => ⟨S_, .i1⟩
  | 66 => ⟨S_, .i1⟩
  | 67 => ⟨S_, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S1, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i1⟩
  | 93 => ⟨S_, .i32⟩
  | 94 => ⟨S_, .i1⟩
  | 95 => ⟨S_, .i1⟩
  | 96 => ⟨S_, .i1⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S1, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i1⟩
  | 120 => ⟨S_, .i32⟩
  | 121 => ⟨S_, .i1⟩
  | 122 => ⟨S_, .i1⟩
  | 123 => ⟨S_, .i1⟩
  | 124 => ⟨S_, .i32⟩
  | 125 => ⟨S_, .i32⟩
  | 126 => ⟨S_, .i32⟩
  | 127 => ⟨S_, .i32⟩
  | _ => ⟨S4096x128, .fp8e5m2⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i1⟩
  | 14 => ⟨S_, .i32⟩
  | 15 => ⟨S_, .i1⟩
  | 16 => ⟨S_, .i1⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S6, .i32⟩
  | 30 => ⟨S14, .i32⟩
  | 31 => ⟨S128x2048, .f32⟩
  | _ => ⟨S4096x128, .fp8e5m2⟩

abbrev hbmTy (i : Nat) : BufTy := match i / 128 with
  | 0 => hbmTy0_0 i
  | 1 => hbmTy0_1 i
  | _ => ⟨S4096x128, .fp8e5m2⟩

abbrev bufTy : (tb : Table) → Fin (tcTables nBuf tb) → BufTy
  | .hbm, ⟨i, _⟩ => hbmTy i
  | .local _ .vmem, ⟨0, _⟩ => ⟨S4096x128, .fp8e5m2⟩
  | .local _ .vmem, ⟨1, _⟩ => ⟨S128x2048, .fp8e5m2⟩
  | .local _ .vmem, ⟨2, _⟩ => ⟨S128x2048, .f32⟩
  | .local _ .vmem, ⟨3, _⟩ => ⟨S8x4x128x640, .bf16⟩
  | .local _ .vmem, ⟨4, _⟩ => ⟨S8x4x128x640, .bf16⟩
  | .local _ .vmem, ⟨5, _⟩ => ⟨S4x8x128x384, .bf16⟩
  | .local _ .vmem, ⟨6, _⟩ => ⟨S4x8x128x384, .bf16⟩
  | .local _ .vmem, ⟨7, _⟩ => ⟨S4x128x640, .bf16⟩
  | .local _ .vmem, ⟨8, _⟩ => ⟨S4x128x640, .bf16⟩
  | .local _ .vmem, ⟨9, _⟩ => ⟨S8x128x384, .bf16⟩
  | .local _ .vmem, ⟨10, _⟩ => ⟨S8x128x384, .bf16⟩
  | .local _ .smem, ⟨0, _⟩ => ⟨S1, .f32⟩
  | .local _ .smem, ⟨1, _⟩ => ⟨S1, .f32⟩
  | .local _ .smem, ⟨2, _⟩ => ⟨S14, .i32⟩
  | _, _ => ⟨S4096x128, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 254 → Bool
  | ⟨i, _⟩ => dmaSemScopedAt i

abbrev sig : RefSig :=
  (ofTc nBuf bufTy 1 254 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c : Ref sig .tc := ⟨.hbm, 19, rfl⟩
abbrev main_call0_v6 : Ref sig .tc := ⟨.hbm, 20, rfl⟩
abbrev main_call0_v7 : Ref sig .tc := ⟨.hbm, 21, rfl⟩
abbrev main_call0_c_0 : Ref sig .tc := ⟨.hbm, 22, rfl⟩
abbrev main_call0_v8 : Ref sig .tc := ⟨.hbm, 23, rfl⟩
abbrev main_v5 : Ref sig .tc := ⟨.hbm, 24, rfl⟩
abbrev main_c_4 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_v4 : Ref sig .tc := ⟨.hbm, 33, rfl⟩
abbrev main_call1_c_2 : Ref sig .tc := ⟨.hbm, 34, rfl⟩
abbrev main_call1_v5 : Ref sig .tc := ⟨.hbm, 35, rfl⟩
abbrev main_call1_c_3 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_v6 : Ref sig .tc := ⟨.hbm, 41, rfl⟩
abbrev main_c_5 : Ref sig .tc := ⟨.hbm, 42, rfl⟩
abbrev main_v7 : Ref sig .tc := ⟨.hbm, 43, rfl⟩
abbrev main_c_6 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_7 : Ref sig .tc := ⟨.hbm, 49, rfl⟩
abbrev main_v12 : Ref sig .tc := ⟨.hbm, 50, rfl⟩
abbrev main_c_8 : Ref sig .tc := ⟨.hbm, 51, rfl⟩
abbrev main_v13 : Ref sig .tc := ⟨.hbm, 52, rfl⟩
abbrev main_c_9 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_c_1 : Ref sig .tc := ⟨.hbm, 60, rfl⟩
abbrev main_call2_v4 : Ref sig .tc := ⟨.hbm, 61, rfl⟩
abbrev main_call2_c_2 : Ref sig .tc := ⟨.hbm, 62, rfl⟩
abbrev main_call2_v5 : Ref sig .tc := ⟨.hbm, 63, rfl⟩
abbrev main_call2_c_3 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_v14 : Ref sig .tc := ⟨.hbm, 69, rfl⟩
abbrev main_c_10 : Ref sig .tc := ⟨.hbm, 70, rfl⟩
abbrev main_v15 : Ref sig .tc := ⟨.hbm, 71, rfl⟩
abbrev main_c_11 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c_12 : Ref sig .tc := ⟨.hbm, 78, rfl⟩
abbrev main_v21 : Ref sig .tc := ⟨.hbm, 79, rfl⟩
abbrev main_c_13 : Ref sig .tc := ⟨.hbm, 80, rfl⟩
abbrev main_v22 : Ref sig .tc := ⟨.hbm, 81, rfl⟩
abbrev main_c_14 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_c_1 : Ref sig .tc := ⟨.hbm, 89, rfl⟩
abbrev main_call3_v4 : Ref sig .tc := ⟨.hbm, 90, rfl⟩
abbrev main_call3_c_2 : Ref sig .tc := ⟨.hbm, 91, rfl⟩
abbrev main_call3_v5 : Ref sig .tc := ⟨.hbm, 92, rfl⟩
abbrev main_call3_c_3 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_v23 : Ref sig .tc := ⟨.hbm, 98, rfl⟩
abbrev main_c_15 : Ref sig .tc := ⟨.hbm, 99, rfl⟩
abbrev main_v24 : Ref sig .tc := ⟨.hbm, 100, rfl⟩
abbrev main_c_16 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_c_17 : Ref sig .tc := ⟨.hbm, 107, rfl⟩
abbrev main_v30 : Ref sig .tc := ⟨.hbm, 108, rfl⟩
abbrev main_c_18 : Ref sig .tc := ⟨.hbm, 109, rfl⟩
abbrev main_call4_v0 : Ref sig .tc := ⟨.hbm, 110, rfl⟩
abbrev main_call4_c : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_c_1 : Ref sig .tc := ⟨.hbm, 116, rfl⟩
abbrev main_call4_v4 : Ref sig .tc := ⟨.hbm, 117, rfl⟩
abbrev main_call4_c_2 : Ref sig .tc := ⟨.hbm, 118, rfl⟩
abbrev main_call4_v5 : Ref sig .tc := ⟨.hbm, 119, rfl⟩
abbrev main_call4_c_3 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_v31 : Ref sig .tc := ⟨.hbm, 125, rfl⟩
abbrev main_c_19 : Ref sig .tc := ⟨.hbm, 126, rfl⟩
abbrev main_v32 : Ref sig .tc := ⟨.hbm, 127, rfl⟩
abbrev main_v33 : Ref sig .tc := ⟨.hbm, 128, rfl⟩
abbrev main_c_20 : Ref sig .tc := ⟨.hbm, 129, rfl⟩
abbrev main_v34 : Ref sig .tc := ⟨.hbm, 130, rfl⟩
abbrev main_c_21 : Ref sig .tc := ⟨.hbm, 131, rfl⟩
abbrev main_call5_v0 : Ref sig .tc := ⟨.hbm, 132, rfl⟩
abbrev main_call5_c : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_c_1 : Ref sig .tc := ⟨.hbm, 138, rfl⟩
abbrev main_call5_v4 : Ref sig .tc := ⟨.hbm, 139, rfl⟩
abbrev main_call5_c_2 : Ref sig .tc := ⟨.hbm, 140, rfl⟩
abbrev main_call5_v5 : Ref sig .tc := ⟨.hbm, 141, rfl⟩
abbrev main_call5_c_3 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_v35 : Ref sig .tc := ⟨.hbm, 147, rfl⟩
abbrev main_c_22 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_off1 (v1 : BitVec 32) : Fin 1 → Nat :=
  let c6_i32 : BitVec 32 := 6#32
  let c1_i32 : BitVec 32 := 1#32
  let v8 : BitVec 32 := Scalar.addi v1 c1_i32
  let c8_i32_0 : BitVec 32 := 8#32
  let v9 : BitVec 32 := Scalar.remsi v8 c8_i32_0
  let v10 : BitVec 32 := Scalar.addi c6_i32 v9
  let v11 : Index := Scalar.indexCast v10
  ![v11.toNat]

def k0_dev1 (v0 : BitVec 32) (v12 : BitVec 32) : Nat :=
  let c0_i32 : BitVec 32 := 0#32
  let c8_i32 : BitVec 32 := 8#32
  let v7 : BitVec 32 := Scalar.muli v0 c8_i32
  let v13 : BitVec 32 := Scalar.addi v7 v12
  let c1_i32_2 : BitVec 32 := 1#32
  let v14 : BitVec 32 := Scalar.muli v13 c1_i32_2
  let v15 : BitVec 32 := Scalar.addi c0_i32 v14
  v15.toNat

def k0_chk2 (v0 : BitVec 32) (v12 : BitVec 32) : Prop :=
  ((k0_dev1 v0 v12) < nD)
theorem k0_dev1_lt : ∀ (v0 : BitVec 32) (v12 : BitVec 32) (k0_hw2 : k0_chk2 v0 v12), (k0_dev1 v0 v12) < nD := fun v0 v12 k0_hw2 => k0_hw2

def k0_off2 (v1 : BitVec 32) : Fin 1 → Nat :=
  let c6_i32_5 : BitVec 32 := 6#32
  let c2_i32 : BitVec 32 := 2#32
  let v17 : BitVec 32 := Scalar.addi v1 c2_i32
  let c8_i32_4 : BitVec 32 := 8#32
  let v18 : BitVec 32 := Scalar.remsi v17 c8_i32_4
  let v19 : BitVec 32 := Scalar.addi c6_i32_5 v18
  let v20 : Index := Scalar.indexCast v19
  ![v20.toNat]
def k0_dev2 (v0 : BitVec 32) (v21 : BitVec 32) : Nat :=
  let c0_i32_8 : BitVec 32 := 0#32
  let c8_i32_3 : BitVec 32 := 8#32
  let v16 : BitVec 32 := Scalar.muli v0 c8_i32_3
  let v22 : BitVec 32 := Scalar.addi v16 v21
  let c1_i32_7 : BitVec 32 := 1#32
  let v23 : BitVec 32 := Scalar.muli v22 c1_i32_7
  let v24 : BitVec 32 := Scalar.addi c0_i32_8 v23
  v24.toNat

def k0_chk3 (v0 : BitVec 32) (v21 : BitVec 32) : Prop :=
  ((k0_dev2 v0 v21) < nD)
theorem k0_dev2_lt : ∀ (v0 : BitVec 32) (v21 : BitVec 32) (k0_hw3 : k0_chk3 v0 v21), (k0_dev2 v0 v21) < nD := fun v0 v21 k0_hw3 => k0_hw3

def k0_off3 (v1 : BitVec 32) : Fin 1 → Nat :=
  let c6_i32_11 : BitVec 32 := 6#32
  let c3_i32 : BitVec 32 := 3#32
  let v26 : BitVec 32 := Scalar.addi v1 c3_i32
  let c8_i32_10 : BitVec 32 := 8#32
  let v27 : BitVec 32 := Scalar.remsi v26 c8_i32_10
  let v28 : BitVec 32 := Scalar.addi c6_i32_11 v27
  let v29 : Index := Scalar.indexCast v28
  ![v29.toNat]
def k0_dev3 (v0 : BitVec 32) (v30 : BitVec 32) : Nat :=
  let c0_i32_14 : BitVec 32 := 0#32
  let c8_i32_9 : BitVec 32 := 8#32
  let v25 : BitVec 32 := Scalar.muli v0 c8_i32_9
  let v31 : BitVec 32 := Scalar.addi v25 v30
  let c1_i32_13 : BitVec 32 := 1#32
  let v32 : BitVec 32 := Scalar.muli v31 c1_i32_13
  let v33 : BitVec 32 := Scalar.addi c0_i32_14 v32
  v33.toNat

def k0_chk4 (v0 : BitVec 32) (v30 : BitVec 32) : Prop :=
  ((k0_dev3 v0 v30) < nD)
theorem k0_dev3_lt : ∀ (v0 : BitVec 32) (v30 : BitVec 32) (k0_hw4 : k0_chk4 v0 v30), (k0_dev3 v0 v30) < nD := fun v0 v30 k0_hw4 => k0_hw4

def k0_off4 (v1 : BitVec 32) : Fin 1 → Nat :=
  let c6_i32_17 : BitVec 32 := 6#32
  let c4_i32 : BitVec 32 := 4#32
  let v35 : BitVec 32 := Scalar.addi v1 c4_i32
  let c8_i32_16 : BitVec 32 := 8#32
  let v36 : BitVec 32 := Scalar.remsi v35 c8_i32_16
  let v37 : BitVec 32 := Scalar.addi c6_i32_17 v36
  let v38 : Index := Scalar.indexCast v37
  ![v38.toNat]
def k0_dev4 (v0 : BitVec 32) (v39 : BitVec 32) : Nat :=
  let c0_i32_20 : BitVec 32 := 0#32
  let c8_i32_15 : BitVec 32 := 8#32
  let v34 : BitVec 32 := Scalar.muli v0 c8_i32_15
  let v40 : BitVec 32 := Scalar.addi v34 v39
  let c1_i32_19 : BitVec 32 := 1#32
  let v41 : BitVec 32 := Scalar.muli v40 c1_i32_19
  let v42 : BitVec 32 := Scalar.addi c0_i32_20 v41
  v42.toNat

def k0_chk5 (v0 : BitVec 32) (v39 : BitVec 32) : Prop :=
  ((k0_dev4 v0 v39) < nD)
theorem k0_dev4_lt : ∀ (v0 : BitVec 32) (v39 : BitVec 32) (k0_hw5 : k0_chk5 v0 v39), (k0_dev4 v0 v39) < nD := fun v0 v39 k0_hw5 => k0_hw5

def k0_off5 (v1 : BitVec 32) : Fin 1 → Nat :=
  let c6_i32_23 : BitVec 32 := 6#32
  let c5_i32 : BitVec 32 := 5#32
  let v44 : BitVec 32 := Scalar.addi v1 c5_i32
  let c8_i32_22 : BitVec 32 := 8#32
  let v45 : BitVec 32 := Scalar.remsi v44 c8_i32_22
  let v46 : BitVec 32 := Scalar.addi c6_i32_23 v45
  let v47 : Index := Scalar.indexCast v46
  ![v47.toNat]
def k0_dev5 (v0 : BitVec 32) (v48 : BitVec 32) : Nat :=
  let c0_i32_26 : BitVec 32 := 0#32
  let c8_i32_21 : BitVec 32 := 8#32
  let v43 : BitVec 32 := Scalar.muli v0 c8_i32_21
  let v49 : BitVec 32 := Scalar.addi v43 v48
  let c1_i32_25 : BitVec 32 := 1#32
  let v50 : BitVec 32 := Scalar.muli v49 c1_i32_25
  let v51 : BitVec 32 := Scalar.addi c0_i32_26 v50
  v51.toNat

def k0_chk6 (v0 : BitVec 32) (v48 : BitVec 32) : Prop :=
  ((k0_dev5 v0 v48) < nD)
theorem k0_dev5_lt : ∀ (v0 : BitVec 32) (v48 : BitVec 32) (k0_hw6 : k0_chk6 v0 v48), (k0_dev5 v0 v48) < nD := fun v0 v48 k0_hw6 => k0_hw6

def k0_off6 (v1 : BitVec 32) : Fin 1 → Nat :=
  let c6_i32_30 : BitVec 32 := 6#32
  let c6_i32_28 : BitVec 32 := 6#32
  let v53 : BitVec 32 := Scalar.addi v1 c6_i32_28
  let c8_i32_29 : BitVec 32 := 8#32
  let v54 : BitVec 32 := Scalar.remsi v53 c8_i32_29
  let v55 : BitVec 32 := Scalar.addi c6_i32_30 v54
  let v56 : Index := Scalar.indexCast v55
  ![v56.toNat]
def k0_dev6 (v0 : BitVec 32) (v57 : BitVec 32) : Nat :=
  let c0_i32_33 : BitVec 32 := 0#32
  let c8_i32_27 : BitVec 32 := 8#32
  let v52 : BitVec 32 := Scalar.muli v0 c8_i32_27
  let v58 : BitVec 32 := Scalar.addi v52 v57
  let c1_i32_32 : BitVec 32 := 1#32
  let v59 : BitVec 32 := Scalar.muli v58 c1_i32_32
  let v60 : BitVec 32 := Scalar.addi c0_i32_33 v59
  v60.toNat

def k0_chk7 (v0 : BitVec 32) (v57 : BitVec 32) : Prop :=
  ((k0_dev6 v0 v57) < nD)
theorem k0_dev6_lt : ∀ (v0 : BitVec 32) (v57 : BitVec 32) (k0_hw7 : k0_chk7 v0 v57), (k0_dev6 v0 v57) < nD := fun v0 v57 k0_hw7 => k0_hw7

def k0_off7 (v1 : BitVec 32) : Fin 1 → Nat :=
  let c6_i32_36 : BitVec 32 := 6#32
  let c7_i32 : BitVec 32 := 7#32
  let v62 : BitVec 32 := Scalar.addi v1 c7_i32
  let c8_i32_35 : BitVec 32 := 8#32
  let v63 : BitVec 32 := Scalar.remsi v62 c8_i32_35
  let v64 : BitVec 32 := Scalar.addi c6_i32_36 v63
  let v65 : Index := Scalar.indexCast v64
  ![v65.toNat]
def k0_dev7 (v0 : BitVec 32) (v66 : BitVec 32) : Nat :=
  let c0_i32_39 : BitVec 32 := 0#32
  let c8_i32_34 : BitVec 32 := 8#32
  let v61 : BitVec 32 := Scalar.muli v0 c8_i32_34
  let v67 : BitVec 32 := Scalar.addi v61 v66
  let c1_i32_38 : BitVec 32 := 1#32
  let v68 : BitVec 32 := Scalar.muli v67 c1_i32_38
  let v69 : BitVec 32 := Scalar.addi c0_i32_39 v68
  v69.toNat

def k0_chk8 (v0 : BitVec 32) (v66 : BitVec 32) : Prop :=
  ((k0_dev7 v0 v66) < nD)
theorem k0_dev7_lt : ∀ (v0 : BitVec 32) (v66 : BitVec 32) (k0_hw8 : k0_chk8 v0 v66), (k0_dev7 v0 v66) < nD := fun v0 v66 k0_hw8 => k0_hw8

def k0_dev8 (v4 : BitVec 32) : Nat :=
  let c0_i32_42 : BitVec 32 := 0#32
  let c1_i32_41 : BitVec 32 := 1#32
  let v70 : BitVec 32 := Scalar.muli v4 c1_i32_41
  let v71 : BitVec 32 := Scalar.addi c0_i32_42 v70
  v71.toNat

def k0_dev9 (v5 : BitVec 32) : Nat :=
  let c0_i32_45 : BitVec 32 := 0#32
  let c1_i32_44 : BitVec 32 := 1#32
  let v72 : BitVec 32 := Scalar.muli v5 c1_i32_44
  let v73 : BitVec 32 := Scalar.addi c0_i32_45 v72
  v73.toNat

def k0_off8 (v1 : BitVec 32) (c7_i32_46 : BitVec 32) : Fin 1 → Nat :=
  let c6_i32_48 : BitVec 32 := 6#32
  let v74 : BitVec 32 := Scalar.addi v1 c7_i32_46
  let c8_i32_47 : BitVec 32 := 8#32
  let v75 : BitVec 32 := Scalar.remsi v74 c8_i32_47
  let v76 : BitVec 32 := Scalar.addi c6_i32_48 v75
  let v77 : Index := Scalar.indexCast v76
  ![v77.toNat]
def k0_off9 (v78 : BitVec 32) : Fin 2 → Nat :=
  let c0_i32_52 : BitVec 32 := 0#32
  let v84 : BitVec 32 := Scalar.addi c0_i32_52 v78
  let c128_i32 : BitVec 32 := 128#32
  let v85 : BitVec 32 := Scalar.muli v84 c128_i32
  let v86 : Index := Scalar.indexCast v85
  let c0_53 : Index := 0#32
  ![v86.toNat, 0]

def k0_dev10 (v2 : BitVec 32) : Nat :=
  let c0_i32_69 : BitVec 32 := 0#32
  let c1_i32_68 : BitVec 32 := 1#32
  let v96 : BitVec 32 := Scalar.muli v2 c1_i32_68
  let v97 : BitVec 32 := Scalar.addi c0_i32_69 v96
  v97.toNat

def k0_off10 (v83 : BitVec 32) : Fin 2 → Nat :=
  let c0_i32_74 : BitVec 32 := 0#32
  let v106 : BitVec 32 := Scalar.addi c0_i32_74 v83
  let c128_i32_75 : BitVec 32 := 128#32
  let v107 : BitVec 32 := Scalar.muli v106 c128_i32_75
  let v108 : Index := Scalar.indexCast v107
  let c0_76 : Index := 0#32
  ![v108.toNat, 0]

def k0_dev11 (v3 : BitVec 32) : Nat :=
  let c0_i32_92 : BitVec 32 := 0#32
  let c1_i32_91 : BitVec 32 := 1#32
  let v118 : BitVec 32 := Scalar.muli v3 c1_i32_91
  let v119 : BitVec 32 := Scalar.addi c0_i32_92 v118
  v119.toNat

def k0_off11 (v78 : BitVec 32) (c8_i32_97 : BitVec 32) : Fin 2 → Nat :=
  let v128 : BitVec 32 := Scalar.addi c8_i32_97 v78
  let c128_i32_98 : BitVec 32 := 128#32
  let v129 : BitVec 32 := Scalar.muli v128 c128_i32_98
  let v130 : Index := Scalar.indexCast v129
  let c0_99 : Index := 0#32
  ![v130.toNat, 0]

def k0_chk11 (v78 : BitVec 32) : Prop :=
  (∀ a, (k0_off9 v78) a + S128x128.size a ≤ S4096x128.size a) ∧
  (∀ (r : Fin 3), ∀ a, (k0_off11 v78 (BitVec.ofNat 32 (8 + 8 * r.val))) a + S128x128.size a ≤ S4096x128.size a)
theorem k0_off9_inb : ∀ (v78 : BitVec 32) (k0_hw11 : k0_chk11 v78), ∀ a, (k0_off9 v78) a + S128x128.size a ≤ S4096x128.size a := fun v78 k0_hw11 => k0_hw11.1
theorem k0_off11_inb : ∀ (v78 : BitVec 32) (k0_hw11 : k0_chk11 v78), ∀ (r : Fin 3), ∀ a, (k0_off11 v78 (BitVec.ofNat 32 (8 + 8 * r.val))) a + S128x128.size a ≤ S4096x128.size a := fun v78 k0_hw11 r => k0_hw11.2 r

def k0_dev12 (v2 : BitVec 32) : Nat :=
  let c0_i32_116 : BitVec 32 := 0#32
  let c1_i32_115 : BitVec 32 := 1#32
  let v140 : BitVec 32 := Scalar.muli v2 c1_i32_115
  let v141 : BitVec 32 := Scalar.addi c0_i32_116 v140
  v141.toNat
def k0_off12 (v83 : BitVec 32) (c8_i32_121 : BitVec 32) : Fin 2 → Nat :=
  let v150 : BitVec 32 := Scalar.addi c8_i32_121 v83
  let c128_i32_122 : BitVec 32 := 128#32
  let v151 : BitVec 32 := Scalar.muli v150 c128_i32_122
  let v152 : Index := Scalar.indexCast v151
  let c0_123 : Index := 0#32
  ![v152.toNat, 0]

def k0_chk13 (v83 : BitVec 32) : Prop :=
  (∀ a, (k0_off10 v83) a + S128x128.size a ≤ S4096x128.size a) ∧
  (∀ (r : Fin 3), ∀ a, (k0_off12 v83 (BitVec.ofNat 32 (8 + 8 * r.val))) a + S128x128.size a ≤ S4096x128.size a)
theorem k0_off10_inb : ∀ (v83 : BitVec 32) (k0_hw13 : k0_chk13 v83), ∀ a, (k0_off10 v83) a + S128x128.size a ≤ S4096x128.size a := fun v83 k0_hw13 => k0_hw13.1
theorem k0_off12_inb : ∀ (v83 : BitVec 32) (k0_hw13 : k0_chk13 v83), ∀ (r : Fin 3), ∀ a, (k0_off12 v83 (BitVec.ofNat 32 (8 + 8 * r.val))) a + S128x128.size a ≤ S4096x128.size a := fun v83 k0_hw13 r => k0_hw13.2 r

def k0_dev13 (v3 : BitVec 32) : Nat :=
  let c0_i32_140 : BitVec 32 := 0#32
  let c1_i32_139 : BitVec 32 := 1#32
  let v162 : BitVec 32 := Scalar.muli v3 c1_i32_139
  let v163 : BitVec 32 := Scalar.addi c0_i32_140 v162
  v163.toNat
def k0_dev14 (v2 : BitVec 32) : Nat :=
  let c0_i32_163 : BitVec 32 := 0#32
  let c1_i32_162 : BitVec 32 := 1#32
  let v184 : BitVec 32 := Scalar.muli v2 c1_i32_162
  let v185 : BitVec 32 := Scalar.addi c0_i32_163 v184
  v185.toNat
def k0_dev15 (v3 : BitVec 32) : Nat :=
  let c0_i32_187 : BitVec 32 := 0#32
  let c1_i32_186 : BitVec 32 := 1#32
  let v206 : BitVec 32 := Scalar.muli v3 c1_i32_186
  let v207 : BitVec 32 := Scalar.addi c0_i32_187 v206
  v207.toNat
def k0_dev16 (v2 : BitVec 32) : Nat :=
  let c0_i32_210 : BitVec 32 := 0#32
  let c1_i32_209 : BitVec 32 := 1#32
  let v228 : BitVec 32 := Scalar.muli v2 c1_i32_209
  let v229 : BitVec 32 := Scalar.addi c0_i32_210 v228
  v229.toNat
def k0_dev17 (v3 : BitVec 32) : Nat :=
  let c0_i32_234 : BitVec 32 := 0#32
  let c1_i32_233 : BitVec 32 := 1#32
  let v250 : BitVec 32 := Scalar.muli v3 c1_i32_233
  let v251 : BitVec 32 := Scalar.addi c0_i32_234 v250
  v251.toNat
def k0_off13 (v0 : BitVec 32) (c3_i32_239 : BitVec 32) (c0_i32_244 : BitVec 32) : Fin 2 → Nat :=
  let v260 : BitVec 32 := Scalar.addi v0 c3_i32_239
  let c4_i32_240 : BitVec 32 := 4#32
  let v261 : BitVec 32 := Scalar.remsi v260 c4_i32_240
  let c8_i32_243 : BitVec 32 := 8#32
  let v264 : BitVec 32 := Scalar.muli v261 c8_i32_243
  let v265 : BitVec 32 := Scalar.addi v264 c0_i32_244
  let c128_i32_245 : BitVec 32 := 128#32
  let v266 : BitVec 32 := Scalar.muli v265 c128_i32_245
  let v267 : Index := Scalar.indexCast v266
  let c0_246 : Index := 0#32
  ![v267.toNat, 0]

def k0_dev18 (v4 : BitVec 32) : Nat :=
  let c0_i32_262 : BitVec 32 := 0#32
  let c1_i32_261 : BitVec 32 := 1#32
  let v277 : BitVec 32 := Scalar.muli v4 c1_i32_261
  let v278 : BitVec 32 := Scalar.addi c0_i32_262 v277
  v278.toNat
def k0_dev19 (v5 : BitVec 32) : Nat :=
  let c0_i32_286 : BitVec 32 := 0#32
  let c1_i32_285 : BitVec 32 := 1#32
  let v300 : BitVec 32 := Scalar.muli v5 c1_i32_285
  let v301 : BitVec 32 := Scalar.addi c0_i32_286 v300
  v301.toNat
def k0_dev20 (v4 : BitVec 32) : Nat :=
  let c0_i32_311 : BitVec 32 := 0#32
  let c1_i32_310 : BitVec 32 := 1#32
  let v323 : BitVec 32 := Scalar.muli v4 c1_i32_310
  let v324 : BitVec 32 := Scalar.addi c0_i32_311 v323
  v324.toNat
def k0_dev21 (v5 : BitVec 32) : Nat :=
  let c0_i32_336 : BitVec 32 := 0#32
  let c1_i32_335 : BitVec 32 := 1#32
  let v346 : BitVec 32 := Scalar.muli v5 c1_i32_335
  let v347 : BitVec 32 := Scalar.addi c0_i32_336 v346
  v347.toNat
def k0_dev22 (v4 : BitVec 32) : Nat :=
  let c0_i32_361 : BitVec 32 := 0#32
  let c1_i32_360 : BitVec 32 := 1#32
  let v369 : BitVec 32 := Scalar.muli v4 c1_i32_360
  let v370 : BitVec 32 := Scalar.addi c0_i32_361 v369
  v370.toNat
def k0_dev23 (v5 : BitVec 32) : Nat :=
  let c0_i32_386 : BitVec 32 := 0#32
  let c1_i32_385 : BitVec 32 := 1#32
  let v392 : BitVec 32 := Scalar.muli v5 c1_i32_385
  let v393 : BitVec 32 := Scalar.addi c0_i32_386 v392
  v393.toNat
def k0_dev24 (v4 : BitVec 32) : Nat :=
  let c0_i32_411 : BitVec 32 := 0#32
  let c1_i32_410 : BitVec 32 := 1#32
  let v415 : BitVec 32 := Scalar.muli v4 c1_i32_410
  let v416 : BitVec 32 := Scalar.addi c0_i32_411 v415
  v416.toNat
def k0_dev25 (v5 : BitVec 32) : Nat :=
  let c0_i32_436 : BitVec 32 := 0#32
  let c1_i32_435 : BitVec 32 := 1#32
  let v438 : BitVec 32 := Scalar.muli v5 c1_i32_435
  let v439 : BitVec 32 := Scalar.addi c0_i32_436 v438
  v439.toNat
def k0_dev26 (v4 : BitVec 32) : Nat :=
  let c0_i32_461 : BitVec 32 := 0#32
  let c1_i32_460 : BitVec 32 := 1#32
  let v461 : BitVec 32 := Scalar.muli v4 c1_i32_460
  let v462 : BitVec 32 := Scalar.addi c0_i32_461 v461
  v462.toNat
def k0_dev27 (v5 : BitVec 32) : Nat :=
  let c0_i32_486 : BitVec 32 := 0#32
  let c1_i32_485 : BitVec 32 := 1#32
  let v484 : BitVec 32 := Scalar.muli v5 c1_i32_485
  let v485 : BitVec 32 := Scalar.addi c0_i32_486 v484
  v485.toNat
def k0_dev28 (v4 : BitVec 32) : Nat :=
  let c0_i32_511 : BitVec 32 := 0#32
  let c1_i32_510 : BitVec 32 := 1#32
  let v507 : BitVec 32 := Scalar.muli v4 c1_i32_510
  let v508 : BitVec 32 := Scalar.addi c0_i32_511 v507
  v508.toNat
def k0_dev29 (v5 : BitVec 32) : Nat :=
  let c0_i32_536 : BitVec 32 := 0#32
  let c1_i32_535 : BitVec 32 := 1#32
  let v530 : BitVec 32 := Scalar.muli v5 c1_i32_535
  let v531 : BitVec 32 := Scalar.addi c0_i32_536 v530
  v531.toNat
def k0_dev30 (v4 : BitVec 32) : Nat :=
  let c0_i32_560 : BitVec 32 := 0#32
  let c1_i32_559 : BitVec 32 := 1#32
  let v553 : BitVec 32 := Scalar.muli v4 c1_i32_559
  let v554 : BitVec 32 := Scalar.addi c0_i32_560 v553
  v554.toNat
def k0_dev31 (v5 : BitVec 32) : Nat :=
  let c0_i32_585 : BitVec 32 := 0#32
  let c1_i32_584 : BitVec 32 := 1#32
  let v576 : BitVec 32 := Scalar.muli v5 c1_i32_584
  let v577 : BitVec 32 := Scalar.addi c0_i32_585 v576
  v577.toNat
def k0_dev32 (v4 : BitVec 32) : Nat :=
  let c0_i32_609 : BitVec 32 := 0#32
  let c1_i32_608 : BitVec 32 := 1#32
  let v599 : BitVec 32 := Scalar.muli v4 c1_i32_608
  let v600 : BitVec 32 := Scalar.addi c0_i32_609 v599
  v600.toNat
def k0_dev33 (v5 : BitVec 32) : Nat :=
  let c0_i32_634 : BitVec 32 := 0#32
  let c1_i32_633 : BitVec 32 := 1#32
  let v622 : BitVec 32 := Scalar.muli v5 c1_i32_633
  let v623 : BitVec 32 := Scalar.addi c0_i32_634 v622
  v623.toNat
def k0_off14 (v1 : BitVec 32) : Fin 1 → Nat :=
  let c6_i32_641 : BitVec 32 := 6#32
  let c15_i32 : BitVec 32 := 15#32
  let v632 : BitVec 32 := Scalar.addi v1 c15_i32
  let c1_i32_639 : BitVec 32 := 1#32
  let v633 : BitVec 32 := Scalar.subi v632 c1_i32_639
  let c8_i32_640 : BitVec 32 := 8#32
  let v634 : BitVec 32 := Scalar.remsi v633 c8_i32_640
  let v635 : BitVec 32 := Scalar.addi c6_i32_641 v634
  let v636 : Index := Scalar.indexCast v635
  ![v636.toNat]
def k0_off15 (v1 : BitVec 32) : Fin 1 → Nat :=
  let c6_i32_645 : BitVec 32 := 6#32
  let c1_i32_642 : BitVec 32 := 1#32
  let v638 : BitVec 32 := Scalar.addi v1 c1_i32_642
  let c1_i32_643 : BitVec 32 := 1#32
  let v639 : BitVec 32 := Scalar.addi v638 c1_i32_643
  let c8_i32_644 : BitVec 32 := 8#32
  let v640 : BitVec 32 := Scalar.remsi v639 c8_i32_644
  let v641 : BitVec 32 := Scalar.addi c6_i32_645 v640
  let v642 : Index := Scalar.indexCast v641
  ![v642.toNat]
def k0_off16 (v637 : BitVec 32) : Fin 2 → Nat :=
  let c128_i32_646 : BitVec 32 := 128#32
  let v644 : BitVec 32 := Scalar.muli v637 c128_i32_646
  let v645 : Index := Scalar.indexCast v644
  let c0_647 : Index := 0#32
  ![v645.toNat, 0]

def k0_off17 (v643 : BitVec 32) : Fin 2 → Nat :=
  let c128_i32_651 : BitVec 32 := 128#32
  let v651 : BitVec 32 := Scalar.muli v643 c128_i32_651
  let v652 : Index := Scalar.indexCast v651
  let c0_652 : Index := 0#32
  ![v652.toNat, 0]

def k0_off18 (v637 : BitVec 32) (c8_i32_656 : BitVec 32) : Fin 2 → Nat :=
  let v658 : BitVec 32 := Scalar.addi c8_i32_656 v637
  let c128_i32_657 : BitVec 32 := 128#32
  let v659 : BitVec 32 := Scalar.muli v658 c128_i32_657
  let v660 : Index := Scalar.indexCast v659
  let c0_658 : Index := 0#32
  ![v660.toNat, 0]

def k0_chk16 (v637 : BitVec 32) : Prop :=
  (∀ a, (k0_off16 v637) a + S128x128.size a ≤ S4096x128.size a) ∧
  (∀ (r : Fin 3), ∀ a, (k0_off18 v637 (BitVec.ofNat 32 (8 + 8 * r.val))) a + S128x128.size a ≤ S4096x128.size a)
theorem k0_off16_inb : ∀ (v637 : BitVec 32) (k0_hw16 : k0_chk16 v637), ∀ a, (k0_off16 v637) a + S128x128.size a ≤ S4096x128.size a := fun v637 k0_hw16 => k0_hw16.1
theorem k0_off18_inb : ∀ (v637 : BitVec 32) (k0_hw16 : k0_chk16 v637), ∀ (r : Fin 3), ∀ a, (k0_off18 v637 (BitVec.ofNat 32 (8 + 8 * r.val))) a + S128x128.size a ≤ S4096x128.size a := fun v637 k0_hw16 r => k0_hw16.2 r

def k0_off19 (v643 : BitVec 32) (c8_i32_662 : BitVec 32) : Fin 2 → Nat :=
  let v666 : BitVec 32 := Scalar.addi c8_i32_662 v643
  let c128_i32_663 : BitVec 32 := 128#32
  let v667 : BitVec 32 := Scalar.muli v666 c128_i32_663
  let v668 : Index := Scalar.indexCast v667
  let c0_664 : Index := 0#32
  ![v668.toNat, 0]

def k0_chk17 (v643 : BitVec 32) : Prop :=
  (∀ a, (k0_off17 v643) a + S128x128.size a ≤ S4096x128.size a) ∧
  (∀ (r : Fin 3), ∀ a, (k0_off19 v643 (BitVec.ofNat 32 (8 + 8 * r.val))) a + S128x128.size a ≤ S4096x128.size a)
theorem k0_off17_inb : ∀ (v643 : BitVec 32) (k0_hw17 : k0_chk17 v643), ∀ a, (k0_off17 v643) a + S128x128.size a ≤ S4096x128.size a := fun v643 k0_hw17 => k0_hw17.1
theorem k0_off19_inb : ∀ (v643 : BitVec 32) (k0_hw17 : k0_chk17 v643), ∀ (r : Fin 3), ∀ a, (k0_off19 v643 (BitVec.ofNat 32 (8 + 8 * r.val))) a + S128x128.size a ≤ S4096x128.size a := fun v643 k0_hw17 r => k0_hw17.2 r

def k0_dev34 (v2 : BitVec 32) : Nat :=
  let c0_i32_699 : BitVec 32 := 0#32
  let c1_i32_698 : BitVec 32 := 1#32
  let v690 : BitVec 32 := Scalar.muli v2 c1_i32_698
  let v691 : BitVec 32 := Scalar.addi c0_i32_699 v690
  v691.toNat
def k0_dev35 (v3 : BitVec 32) : Nat :=
  let c0_i32_735 : BitVec 32 := 0#32
  let c1_i32_734 : BitVec 32 := 1#32
  let v716 : BitVec 32 := Scalar.muli v3 c1_i32_734
  let v717 : BitVec 32 := Scalar.addi c0_i32_735 v716
  v717.toNat
def k0_dev36 (v2 : BitVec 32) : Nat :=
  let c0_i32_783 : BitVec 32 := 0#32
  let c1_i32_782 : BitVec 32 := 1#32
  let v758 : BitVec 32 := Scalar.muli v2 c1_i32_782
  let v759 : BitVec 32 := Scalar.addi c0_i32_783 v758
  v759.toNat
def k0_dev37 (v3 : BitVec 32) : Nat :=
  let c0_i32_819 : BitVec 32 := 0#32
  let c1_i32_818 : BitVec 32 := 1#32
  let v784 : BitVec 32 := Scalar.muli v3 c1_i32_818
  let v785 : BitVec 32 := Scalar.addi c0_i32_819 v784
  v785.toNat
def k0_dev38 (v2 : BitVec 32) : Nat :=
  let c0_i32_867 : BitVec 32 := 0#32
  let c1_i32_866 : BitVec 32 := 1#32
  let v826 : BitVec 32 := Scalar.muli v2 c1_i32_866
  let v827 : BitVec 32 := Scalar.addi c0_i32_867 v826
  v827.toNat
def k0_dev39 (v3 : BitVec 32) : Nat :=
  let c0_i32_903 : BitVec 32 := 0#32
  let c1_i32_902 : BitVec 32 := 1#32
  let v852 : BitVec 32 := Scalar.muli v3 c1_i32_902
  let v853 : BitVec 32 := Scalar.addi c0_i32_903 v852
  v853.toNat
def k0_dev40 (v2 : BitVec 32) : Nat :=
  let c0_i32_939 : BitVec 32 := 0#32
  let c1_i32_938 : BitVec 32 := 1#32
  let v878 : BitVec 32 := Scalar.muli v2 c1_i32_938
  let v879 : BitVec 32 := Scalar.addi c0_i32_939 v878
  v879.toNat
def k0_dev41 (v3 : BitVec 32) : Nat :=
  let c0_i32_975 : BitVec 32 := 0#32
  let c1_i32_974 : BitVec 32 := 1#32
  let v904 : BitVec 32 := Scalar.muli v3 c1_i32_974
  let v905 : BitVec 32 := Scalar.addi c0_i32_975 v904
  v905.toNat
def k0_off20 (v1 : BitVec 32) : Fin 1 → Nat :=
  let c6_i32_983 : BitVec 32 := 6#32
  let c15_i32_980 : BitVec 32 := 15#32
  let v914 : BitVec 32 := Scalar.addi v1 c15_i32_980
  let c2_i32_981 : BitVec 32 := 2#32
  let v915 : BitVec 32 := Scalar.subi v914 c2_i32_981
  let c8_i32_982 : BitVec 32 := 8#32
  let v916 : BitVec 32 := Scalar.remsi v915 c8_i32_982
  let v917 : BitVec 32 := Scalar.addi c6_i32_983 v916
  let v918 : Index := Scalar.indexCast v917
  ![v918.toNat]
def k0_off21 (v1 : BitVec 32) : Fin 1 → Nat :=
  let c6_i32_987 : BitVec 32 := 6#32
  let c2_i32_984 : BitVec 32 := 2#32
  let v920 : BitVec 32 := Scalar.addi v1 c2_i32_984
  let c1_i32_985 : BitVec 32 := 1#32
  let v921 : BitVec 32 := Scalar.addi v920 c1_i32_985
  let c8_i32_986 : BitVec 32 := 8#32
  let v922 : BitVec 32 := Scalar.remsi v921 c8_i32_986
  let v923 : BitVec 32 := Scalar.addi c6_i32_987 v922
  let v924 : Index := Scalar.indexCast v923
  ![v924.toNat]
def k0_off22 (v919 : BitVec 32) : Fin 2 → Nat :=
  let c128_i32_988 : BitVec 32 := 128#32
  let v926 : BitVec 32 := Scalar.muli v919 c128_i32_988
  let v927 : Index := Scalar.indexCast v926
  let c0_989 : Index := 0#32
  ![v927.toNat, 0]

def k0_off23 (v925 : BitVec 32) : Fin 2 → Nat :=
  let c128_i32_993 : BitVec 32 := 128#32
  let v933 : BitVec 32 := Scalar.muli v925 c128_i32_993
  let v934 : Index := Scalar.indexCast v933
  let c0_994 : Index := 0#32
  ![v934.toNat, 0]

def k0_off24 (v919 : BitVec 32) (c8_i32_998 : BitVec 32) : Fin 2 → Nat :=
  let v940 : BitVec 32 := Scalar.addi c8_i32_998 v919
  let c128_i32_999 : BitVec 32 := 128#32
  let v941 : BitVec 32 := Scalar.muli v940 c128_i32_999
  let v942 : Index := Scalar.indexCast v941
  let c0_1000 : Index := 0#32
  ![v942.toNat, 0]

def k0_chk18 (v919 : BitVec 32) : Prop :=
  (∀ a, (k0_off22 v919) a + S128x128.size a ≤ S4096x128.size a) ∧
  (∀ (r : Fin 3), ∀ a, (k0_off24 v919 (BitVec.ofNat 32 (8 + 8 * r.val))) a + S128x128.size a ≤ S4096x128.size a)
theorem k0_off22_inb : ∀ (v919 : BitVec 32) (k0_hw18 : k0_chk18 v919), ∀ a, (k0_off22 v919) a + S128x128.size a ≤ S4096x128.size a := fun v919 k0_hw18 => k0_hw18.1
theorem k0_off24_inb : ∀ (v919 : BitVec 32) (k0_hw18 : k0_chk18 v919), ∀ (r : Fin 3), ∀ a, (k0_off24 v919 (BitVec.ofNat 32 (8 + 8 * r.val))) a + S128x128.size a ≤ S4096x128.size a := fun v919 k0_hw18 r => k0_hw18.2 r

def k0_off25 (v925 : BitVec 32) (c8_i32_1004 : BitVec 32) : Fin 2 → Nat :=
  let v948 : BitVec 32 := Scalar.addi c8_i32_1004 v925
  let c128_i32_1005 : BitVec 32 := 128#32
  let v949 : BitVec 32 := Scalar.muli v948 c128_i32_1005
  let v950 : Index := Scalar.indexCast v949
  let c0_1006 : Index := 0#32
  ![v950.toNat, 0]

def k0_chk19 (v925 : BitVec 32) : Prop :=
  (∀ a, (k0_off23 v925) a + S128x128.size a ≤ S4096x128.size a) ∧
  (∀ (r : Fin 3), ∀ a, (k0_off25 v925 (BitVec.ofNat 32 (8 + 8 * r.val))) a + S128x128.size a ≤ S4096x128.size a)
theorem k0_off23_inb : ∀ (v925 : BitVec 32) (k0_hw19 : k0_chk19 v925), ∀ a, (k0_off23 v925) a + S128x128.size a ≤ S4096x128.size a := fun v925 k0_hw19 => k0_hw19.1
theorem k0_off25_inb : ∀ (v925 : BitVec 32) (k0_hw19 : k0_chk19 v925), ∀ (r : Fin 3), ∀ a, (k0_off25 v925 (BitVec.ofNat 32 (8 + 8 * r.val))) a + S128x128.size a ≤ S4096x128.size a := fun v925 k0_hw19 r => k0_hw19.2 r

def k0_dev42 (v2 : BitVec 32) : Nat :=
  let c0_i32_1041 : BitVec 32 := 0#32
  let c1_i32_1040 : BitVec 32 := 1#32
  let v972 : BitVec 32 := Scalar.muli v2 c1_i32_1040
  let v973 : BitVec 32 := Scalar.addi c0_i32_1041 v972
  v973.toNat
def k0_dev43 (v3 : BitVec 32) : Nat :=
  let c0_i32_1077 : BitVec 32 := 0#32
  let c1_i32_1076 : BitVec 32 := 1#32
  let v998 : BitVec 32 := Scalar.muli v3 c1_i32_1076
  let v999 : BitVec 32 := Scalar.addi c0_i32_1077 v998
  v999.toNat
def k0_dev44 (v2 : BitVec 32) : Nat :=
  let c0_i32_1125 : BitVec 32 := 0#32
  let c1_i32_1124 : BitVec 32 := 1#32
  let v1040 : BitVec 32 := Scalar.muli v2 c1_i32_1124
  let v1041 : BitVec 32 := Scalar.addi c0_i32_1125 v1040
  v1041.toNat
def k0_dev45 (v3 : BitVec 32) : Nat :=
  let c0_i32_1161 : BitVec 32 := 0#32
  let c1_i32_1160 : BitVec 32 := 1#32
  let v1066 : BitVec 32 := Scalar.muli v3 c1_i32_1160
  let v1067 : BitVec 32 := Scalar.addi c0_i32_1161 v1066
  v1067.toNat
def k0_dev46 (v2 : BitVec 32) : Nat :=
  let c0_i32_1209 : BitVec 32 := 0#32
  let c1_i32_1208 : BitVec 32 := 1#32
  let v1108 : BitVec 32 := Scalar.muli v2 c1_i32_1208
  let v1109 : BitVec 32 := Scalar.addi c0_i32_1209 v1108
  v1109.toNat
def k0_dev47 (v3 : BitVec 32) : Nat :=
  let c0_i32_1245 : BitVec 32 := 0#32
  let c1_i32_1244 : BitVec 32 := 1#32
  let v1134 : BitVec 32 := Scalar.muli v3 c1_i32_1244
  let v1135 : BitVec 32 := Scalar.addi c0_i32_1245 v1134
  v1135.toNat
def k0_dev48 (v2 : BitVec 32) : Nat :=
  let c0_i32_1281 : BitVec 32 := 0#32
  let c1_i32_1280 : BitVec 32 := 1#32
  let v1160 : BitVec 32 := Scalar.muli v2 c1_i32_1280
  let v1161 : BitVec 32 := Scalar.addi c0_i32_1281 v1160
  v1161.toNat
def k0_dev49 (v3 : BitVec 32) : Nat :=
  let c0_i32_1317 : BitVec 32 := 0#32
  let c1_i32_1316 : BitVec 32 := 1#32
  let v1186 : BitVec 32 := Scalar.muli v3 c1_i32_1316
  let v1187 : BitVec 32 := Scalar.addi c0_i32_1317 v1186
  v1187.toNat
def k0_off26 (v0 : BitVec 32) : Fin 2 → Nat :=
  let c7_i32_1322 : BitVec 32 := 7#32
  let v1196 : BitVec 32 := Scalar.addi v0 c7_i32_1322
  let c1_i32_1323 : BitVec 32 := 1#32
  let v1197 : BitVec 32 := Scalar.subi v1196 c1_i32_1323
  let c4_i32_1324 : BitVec 32 := 4#32
  let v1198 : BitVec 32 := Scalar.remsi v1197 c4_i32_1324
  let c8_i32_1328 : BitVec 32 := 8#32
  let v1202 : BitVec 32 := Scalar.muli v1198 c8_i32_1328
  let c128_i32_1329 : BitVec 32 := 128#32
  let v1203 : BitVec 32 := Scalar.muli v1202 c128_i32_1329
  let v1204 : Index := Scalar.indexCast v1203
  let c0_1330 : Index := 0#32
  ![v1204.toNat, 0]
def k0_off27 (v0 : BitVec 32) : Fin 2 → Nat :=
  let c1_i32_1325 : BitVec 32 := 1#32
  let v1199 : BitVec 32 := Scalar.addi v0 c1_i32_1325
  let c1_i32_1326 : BitVec 32 := 1#32
  let v1200 : BitVec 32 := Scalar.addi v1199 c1_i32_1326
  let c4_i32_1327 : BitVec 32 := 4#32
  let v1201 : BitVec 32 := Scalar.remsi v1200 c4_i32_1327
  let c8_i32_1334 : BitVec 32 := 8#32
  let v1210 : BitVec 32 := Scalar.muli v1201 c8_i32_1334
  let c128_i32_1335 : BitVec 32 := 128#32
  let v1211 : BitVec 32 := Scalar.muli v1210 c128_i32_1335
  let v1212 : Index := Scalar.indexCast v1211
  let c0_1336 : Index := 0#32
  ![v1212.toNat, 0]
def k0_off28 (v0 : BitVec 32) (c0_i32_1341 : BitVec 32) : Fin 2 → Nat :=
  let c7_i32_1322 : BitVec 32 := 7#32
  let v1196 : BitVec 32 := Scalar.addi v0 c7_i32_1322
  let c1_i32_1323 : BitVec 32 := 1#32
  let v1197 : BitVec 32 := Scalar.subi v1196 c1_i32_1323
  let c4_i32_1324 : BitVec 32 := 4#32
  let v1198 : BitVec 32 := Scalar.remsi v1197 c4_i32_1324
  let c8_i32_1340 : BitVec 32 := 8#32
  let v1218 : BitVec 32 := Scalar.muli v1198 c8_i32_1340
  let v1219 : BitVec 32 := Scalar.addi v1218 c0_i32_1341
  let c1_i32_1342 : BitVec 32 := 1#32
  let v1220 : BitVec 32 := Scalar.addi v1219 c1_i32_1342
  let c128_i32_1343 : BitVec 32 := 128#32
  let v1221 : BitVec 32 := Scalar.muli v1220 c128_i32_1343
  let v1222 : Index := Scalar.indexCast v1221
  let c0_1344 : Index := 0#32
  ![v1222.toNat, 0]
def k0_off29 (v0 : BitVec 32) (c0_i32_1349 : BitVec 32) : Fin 2 → Nat :=
  let c1_i32_1325 : BitVec 32 := 1#32
  let v1199 : BitVec 32 := Scalar.addi v0 c1_i32_1325
  let c1_i32_1326 : BitVec 32 := 1#32
  let v1200 : BitVec 32 := Scalar.addi v1199 c1_i32_1326
  let c4_i32_1327 : BitVec 32 := 4#32
  let v1201 : BitVec 32 := Scalar.remsi v1200 c4_i32_1327
  let c8_i32_1348 : BitVec 32 := 8#32
  let v1228 : BitVec 32 := Scalar.muli v1201 c8_i32_1348
  let v1229 : BitVec 32 := Scalar.addi v1228 c0_i32_1349
  let c1_i32_1350 : BitVec 32 := 1#32
  let v1230 : BitVec 32 := Scalar.addi v1229 c1_i32_1350
  let c128_i32_1351 : BitVec 32 := 128#32
  let v1231 : BitVec 32 := Scalar.muli v1230 c128_i32_1351
  let v1232 : Index := Scalar.indexCast v1231
  let c0_1352 : Index := 0#32
  ![v1232.toNat, 0]
def k0_dev50 (v4 : BitVec 32) : Nat :=
  let c0_i32_1387 : BitVec 32 := 0#32
  let c1_i32_1386 : BitVec 32 := 1#32
  let v1254 : BitVec 32 := Scalar.muli v4 c1_i32_1386
  let v1255 : BitVec 32 := Scalar.addi c0_i32_1387 v1254
  v1255.toNat
def k0_dev51 (v5 : BitVec 32) : Nat :=
  let c0_i32_1423 : BitVec 32 := 0#32
  let c1_i32_1422 : BitVec 32 := 1#32
  let v1280 : BitVec 32 := Scalar.muli v5 c1_i32_1422
  let v1281 : BitVec 32 := Scalar.addi c0_i32_1423 v1280
  v1281.toNat
def k0_dev52 (v4 : BitVec 32) : Nat :=
  let c0_i32_1475 : BitVec 32 := 0#32
  let c1_i32_1474 : BitVec 32 := 1#32
  let v1326 : BitVec 32 := Scalar.muli v4 c1_i32_1474
  let v1327 : BitVec 32 := Scalar.addi c0_i32_1475 v1326
  v1327.toNat
def k0_dev53 (v5 : BitVec 32) : Nat :=
  let c0_i32_1511 : BitVec 32 := 0#32
  let c1_i32_1510 : BitVec 32 := 1#32
  let v1352 : BitVec 32 := Scalar.muli v5 c1_i32_1510
  let v1353 : BitVec 32 := Scalar.addi c0_i32_1511 v1352
  v1353.toNat
def k0_dev54 (v4 : BitVec 32) : Nat :=
  let c0_i32_1563 : BitVec 32 := 0#32
  let c1_i32_1562 : BitVec 32 := 1#32
  let v1398 : BitVec 32 := Scalar.muli v4 c1_i32_1562
  let v1399 : BitVec 32 := Scalar.addi c0_i32_1563 v1398
  v1399.toNat
def k0_dev55 (v5 : BitVec 32) : Nat :=
  let c0_i32_1599 : BitVec 32 := 0#32
  let c1_i32_1598 : BitVec 32 := 1#32
  let v1424 : BitVec 32 := Scalar.muli v5 c1_i32_1598
  let v1425 : BitVec 32 := Scalar.addi c0_i32_1599 v1424
  v1425.toNat
def k0_dev56 (v4 : BitVec 32) : Nat :=
  let c0_i32_1651 : BitVec 32 := 0#32
  let c1_i32_1650 : BitVec 32 := 1#32
  let v1470 : BitVec 32 := Scalar.muli v4 c1_i32_1650
  let v1471 : BitVec 32 := Scalar.addi c0_i32_1651 v1470
  v1471.toNat
def k0_dev57 (v5 : BitVec 32) : Nat :=
  let c0_i32_1687 : BitVec 32 := 0#32
  let c1_i32_1686 : BitVec 32 := 1#32
  let v1496 : BitVec 32 := Scalar.muli v5 c1_i32_1686
  let v1497 : BitVec 32 := Scalar.addi c0_i32_1687 v1496
  v1497.toNat
def k0_dev58 (v4 : BitVec 32) : Nat :=
  let c0_i32_1739 : BitVec 32 := 0#32
  let c1_i32_1738 : BitVec 32 := 1#32
  let v1542 : BitVec 32 := Scalar.muli v4 c1_i32_1738
  let v1543 : BitVec 32 := Scalar.addi c0_i32_1739 v1542
  v1543.toNat
def k0_dev59 (v5 : BitVec 32) : Nat :=
  let c0_i32_1775 : BitVec 32 := 0#32
  let c1_i32_1774 : BitVec 32 := 1#32
  let v1568 : BitVec 32 := Scalar.muli v5 c1_i32_1774
  let v1569 : BitVec 32 := Scalar.addi c0_i32_1775 v1568
  v1569.toNat
def k0_dev60 (v4 : BitVec 32) : Nat :=
  let c0_i32_1827 : BitVec 32 := 0#32
  let c1_i32_1826 : BitVec 32 := 1#32
  let v1614 : BitVec 32 := Scalar.muli v4 c1_i32_1826
  let v1615 : BitVec 32 := Scalar.addi c0_i32_1827 v1614
  v1615.toNat
def k0_dev61 (v5 : BitVec 32) : Nat :=
  let c0_i32_1863 : BitVec 32 := 0#32
  let c1_i32_1862 : BitVec 32 := 1#32
  let v1640 : BitVec 32 := Scalar.muli v5 c1_i32_1862
  let v1641 : BitVec 32 := Scalar.addi c0_i32_1863 v1640
  v1641.toNat
def k0_dev62 (v4 : BitVec 32) : Nat :=
  let c0_i32_1915 : BitVec 32 := 0#32
  let c1_i32_1914 : BitVec 32 := 1#32
  let v1686 : BitVec 32 := Scalar.muli v4 c1_i32_1914
  let v1687 : BitVec 32 := Scalar.addi c0_i32_1915 v1686
  v1687.toNat
def k0_dev63 (v5 : BitVec 32) : Nat :=
  let c0_i32_1951 : BitVec 32 := 0#32
  let c1_i32_1950 : BitVec 32 := 1#32
  let v1712 : BitVec 32 := Scalar.muli v5 c1_i32_1950
  let v1713 : BitVec 32 := Scalar.addi c0_i32_1951 v1712
  v1713.toNat
def k0_dev64 (v4 : BitVec 32) : Nat :=
  let c0_i32_1987 : BitVec 32 := 0#32
  let c1_i32_1986 : BitVec 32 := 1#32
  let v1738 : BitVec 32 := Scalar.muli v4 c1_i32_1986
  let v1739 : BitVec 32 := Scalar.addi c0_i32_1987 v1738
  v1739.toNat
def k0_dev65 (v5 : BitVec 32) : Nat :=
  let c0_i32_2023 : BitVec 32 := 0#32
  let c1_i32_2022 : BitVec 32 := 1#32
  let v1764 : BitVec 32 := Scalar.muli v5 c1_i32_2022
  let v1765 : BitVec 32 := Scalar.addi c0_i32_2023 v1764
  v1765.toNat
def k0_off30 (v1 : BitVec 32) : Fin 1 → Nat :=
  let c6_i32_2031 : BitVec 32 := 6#32
  let c15_i32_2028 : BitVec 32 := 15#32
  let v1774 : BitVec 32 := Scalar.addi v1 c15_i32_2028
  let c3_i32_2029 : BitVec 32 := 3#32
  let v1775 : BitVec 32 := Scalar.subi v1774 c3_i32_2029
  let c8_i32_2030 : BitVec 32 := 8#32
  let v1776 : BitVec 32 := Scalar.remsi v1775 c8_i32_2030
  let v1777 : BitVec 32 := Scalar.addi c6_i32_2031 v1776
  let v1778 : Index := Scalar.indexCast v1777
  ![v1778.toNat]
def k0_off31 (v1 : BitVec 32) : Fin 1 → Nat :=
  let c6_i32_2035 : BitVec 32 := 6#32
  let c3_i32_2032 : BitVec 32 := 3#32
  let v1780 : BitVec 32 := Scalar.addi v1 c3_i32_2032
  let c1_i32_2033 : BitVec 32 := 1#32
  let v1781 : BitVec 32 := Scalar.addi v1780 c1_i32_2033
  let c8_i32_2034 : BitVec 32 := 8#32
  let v1782 : BitVec 32 := Scalar.remsi v1781 c8_i32_2034
  let v1783 : BitVec 32 := Scalar.addi c6_i32_2035 v1782
  let v1784 : Index := Scalar.indexCast v1783
  ![v1784.toNat]
def k0_off32 (v1779 : BitVec 32) : Fin 2 → Nat :=
  let c128_i32_2036 : BitVec 32 := 128#32
  let v1786 : BitVec 32 := Scalar.muli v1779 c128_i32_2036
  let v1787 : Index := Scalar.indexCast v1786
  let c0_2037 : Index := 0#32
  ![v1787.toNat, 0]

def k0_off33 (v1785 : BitVec 32) : Fin 2 → Nat :=
  let c128_i32_2041 : BitVec 32 := 128#32
  let v1793 : BitVec 32 := Scalar.muli v1785 c128_i32_2041
  let v1794 : Index := Scalar.indexCast v1793
  let c0_2042 : Index := 0#32
  ![v1794.toNat, 0]

def k0_off34 (v1779 : BitVec 32) (c8_i32_2046 : BitVec 32) : Fin 2 → Nat :=
  let v1800 : BitVec 32 := Scalar.addi c8_i32_2046 v1779
  let c128_i32_2047 : BitVec 32 := 128#32
  let v1801 : BitVec 32 := Scalar.muli v1800 c128_i32_2047
  let v1802 : Index := Scalar.indexCast v1801
  let c0_2048 : Index := 0#32
  ![v1802.toNat, 0]

def k0_chk20 (v1779 : BitVec 32) : Prop :=
  (∀ a, (k0_off32 v1779) a + S128x128.size a ≤ S4096x128.size a) ∧
  (∀ (r : Fin 3), ∀ a, (k0_off34 v1779 (BitVec.ofNat 32 (8 + 8 * r.val))) a + S128x128.size a ≤ S4096x128.size a)
theorem k0_off32_inb : ∀ (v1779 : BitVec 32) (k0_hw20 : k0_chk20 v1779), ∀ a, (k0_off32 v1779) a + S128x128.size a ≤ S4096x128.size a := fun v1779 k0_hw20 => k0_hw20.1
theorem k0_off34_inb : ∀ (v1779 : BitVec 32) (k0_hw20 : k0_chk20 v1779), ∀ (r : Fin 3), ∀ a, (k0_off34 v1779 (BitVec.ofNat 32 (8 + 8 * r.val))) a + S128x128.size a ≤ S4096x128.size a := fun v1779 k0_hw20 r => k0_hw20.2 r

def k0_off35 (v1785 : BitVec 32) (c8_i32_2052 : BitVec 32) : Fin 2 → Nat :=
  let v1808 : BitVec 32 := Scalar.addi c8_i32_2052 v1785
  let c128_i32_2053 : BitVec 32 := 128#32
  let v1809 : BitVec 32 := Scalar.muli v1808 c128_i32_2053
  let v1810 : Index := Scalar.indexCast v1809
  let c0_2054 : Index := 0#32
  ![v1810.toNat, 0]

def k0_chk21 (v1785 : BitVec 32) : Prop :=
  (∀ a, (k0_off33 v1785) a + S128x128.size a ≤ S4096x128.size a) ∧
  (∀ (r : Fin 3), ∀ a, (k0_off35 v1785 (BitVec.ofNat 32 (8 + 8 * r.val))) a + S128x128.size a ≤ S4096x128.size a)
theorem k0_off33_inb : ∀ (v1785 : BitVec 32) (k0_hw21 : k0_chk21 v1785), ∀ a, (k0_off33 v1785) a + S128x128.size a ≤ S4096x128.size a := fun v1785 k0_hw21 => k0_hw21.1
theorem k0_off35_inb : ∀ (v1785 : BitVec 32) (k0_hw21 : k0_chk21 v1785), ∀ (r : Fin 3), ∀ a, (k0_off35 v1785 (BitVec.ofNat 32 (8 + 8 * r.val))) a + S128x128.size a ≤ S4096x128.size a := fun v1785 k0_hw21 r => k0_hw21.2 r

def k0_dev66 (v2 : BitVec 32) : Nat :=
  let c0_i32_2089 : BitVec 32 := 0#32
  let c1_i32_2088 : BitVec 32 := 1#32
  let v1832 : BitVec 32 := Scalar.muli v2 c1_i32_2088
  let v1833 : BitVec 32 := Scalar.addi c0_i32_2089 v1832
  v1833.toNat
def k0_dev67 (v3 : BitVec 32) : Nat :=
  let c0_i32_2125 : BitVec 32 := 0#32
  let c1_i32_2124 : BitVec 32 := 1#32
  let v1858 : BitVec 32 := Scalar.muli v3 c1_i32_2124
  let v1859 : BitVec 32 := Scalar.addi c0_i32_2125 v1858
  v1859.toNat
def k0_dev68 (v2 : BitVec 32) : Nat :=
  let c0_i32_2173 : BitVec 32 := 0#32
  let c1_i32_2172 : BitVec 32 := 1#32
  let v1900 : BitVec 32 := Scalar.muli v2 c1_i32_2172
  let v1901 : BitVec 32 := Scalar.addi c0_i32_2173 v1900
  v1901.toNat
def k0_dev69 (v3 : BitVec 32) : Nat :=
  let c0_i32_2209 : BitVec 32 := 0#32
  let c1_i32_2208 : BitVec 32 := 1#32
  let v1926 : BitVec 32 := Scalar.muli v3 c1_i32_2208
  let v1927 : BitVec 32 := Scalar.addi c0_i32_2209 v1926
  v1927.toNat
def k0_dev70 (v2 : BitVec 32) : Nat :=
  let c0_i32_2257 : BitVec 32 := 0#32
  let c1_i32_2256 : BitVec 32 := 1#32
  let v1968 : BitVec 32 := Scalar.muli v2 c1_i32_2256
  let v1969 : BitVec 32 := Scalar.addi c0_i32_2257 v1968
  v1969.toNat
def k0_dev71 (v3 : BitVec 32) : Nat :=
  let c0_i32_2293 : BitVec 32 := 0#32
  let c1_i32_2292 : BitVec 32 := 1#32
  let v1994 : BitVec 32 := Scalar.muli v3 c1_i32_2292
  let v1995 : BitVec 32 := Scalar.addi c0_i32_2293 v1994
  v1995.toNat
def k0_dev72 (v2 : BitVec 32) : Nat :=
  let c0_i32_2329 : BitVec 32 := 0#32
  let c1_i32_2328 : BitVec 32 := 1#32
  let v2020 : BitVec 32 := Scalar.muli v2 c1_i32_2328
  let v2021 : BitVec 32 := Scalar.addi c0_i32_2329 v2020
  v2021.toNat
def k0_dev73 (v3 : BitVec 32) : Nat :=
  let c0_i32_2365 : BitVec 32 := 0#32
  let c1_i32_2364 : BitVec 32 := 1#32
  let v2046 : BitVec 32 := Scalar.muli v3 c1_i32_2364
  let v2047 : BitVec 32 := Scalar.addi c0_i32_2365 v2046
  v2047.toNat
def k0_off36 (v1 : BitVec 32) : Fin 1 → Nat :=
  let c6_i32_2373 : BitVec 32 := 6#32
  let c15_i32_2370 : BitVec 32 := 15#32
  let v2056 : BitVec 32 := Scalar.addi v1 c15_i32_2370
  let c4_i32_2371 : BitVec 32 := 4#32
  let v2057 : BitVec 32 := Scalar.subi v2056 c4_i32_2371
  let c8_i32_2372 : BitVec 32 := 8#32
  let v2058 : BitVec 32 := Scalar.remsi v2057 c8_i32_2372
  let v2059 : BitVec 32 := Scalar.addi c6_i32_2373 v2058
  let v2060 : Index := Scalar.indexCast v2059
  ![v2060.toNat]
def k0_off37 (v1 : BitVec 32) : Fin 1 → Nat :=
  let c6_i32_2377 : BitVec 32 := 6#32
  let c4_i32_2374 : BitVec 32 := 4#32
  let v2062 : BitVec 32 := Scalar.addi v1 c4_i32_2374
  let c1_i32_2375 : BitVec 32 := 1#32
  let v2063 : BitVec 32 := Scalar.addi v2062 c1_i32_2375
  let c8_i32_2376 : BitVec 32 := 8#32
  let v2064 : BitVec 32 := Scalar.remsi v2063 c8_i32_2376
  let v2065 : BitVec 32 := Scalar.addi c6_i32_2377 v2064
  let v2066 : Index := Scalar.indexCast v2065
  ![v2066.toNat]
def k0_off38 (v2061 : BitVec 32) : Fin 2 → Nat :=
  let c128_i32_2378 : BitVec 32 := 128#32
  let v2068 : BitVec 32 := Scalar.muli v2061 c128_i32_2378
  let v2069 : Index := Scalar.indexCast v2068
  let c0_2379 : Index := 0#32
  ![v2069.toNat, 0]

def k0_off39 (v2067 : BitVec 32) : Fin 2 → Nat :=
  let c128_i32_2383 : BitVec 32 := 128#32
  let v2075 : BitVec 32 := Scalar.muli v2067 c128_i32_2383
  let v2076 : Index := Scalar.indexCast v2075
  let c0_2384 : Index := 0#32
  ![v2076.toNat, 0]

def k0_off40 (v2061 : BitVec 32) (c8_i32_2388 : BitVec 32) : Fin 2 → Nat :=
  let v2082 : BitVec 32 := Scalar.addi c8_i32_2388 v2061
  let c128_i32_2389 : BitVec 32 := 128#32
  let v2083 : BitVec 32 := Scalar.muli v2082 c128_i32_2389
  let v2084 : Index := Scalar.indexCast v2083
  let c0_2390 : Index := 0#32
  ![v2084.toNat, 0]

def k0_chk22 (v2061 : BitVec 32) : Prop :=
  (∀ a, (k0_off38 v2061) a + S128x128.size a ≤ S4096x128.size a) ∧
  (∀ (r : Fin 3), ∀ a, (k0_off40 v2061 (BitVec.ofNat 32 (8 + 8 * r.val))) a + S128x128.size a ≤ S4096x128.size a)
theorem k0_off38_inb : ∀ (v2061 : BitVec 32) (k0_hw22 : k0_chk22 v2061), ∀ a, (k0_off38 v2061) a + S128x128.size a ≤ S4096x128.size a := fun v2061 k0_hw22 => k0_hw22.1
theorem k0_off40_inb : ∀ (v2061 : BitVec 32) (k0_hw22 : k0_chk22 v2061), ∀ (r : Fin 3), ∀ a, (k0_off40 v2061 (BitVec.ofNat 32 (8 + 8 * r.val))) a + S128x128.size a ≤ S4096x128.size a := fun v2061 k0_hw22 r => k0_hw22.2 r

def k0_off41 (v2067 : BitVec 32) (c8_i32_2394 : BitVec 32) : Fin 2 → Nat :=
  let v2090 : BitVec 32 := Scalar.addi c8_i32_2394 v2067
  let c128_i32_2395 : BitVec 32 := 128#32
  let v2091 : BitVec 32 := Scalar.muli v2090 c128_i32_2395
  let v2092 : Index := Scalar.indexCast v2091
  let c0_2396 : Index := 0#32
  ![v2092.toNat, 0]

def k0_chk23 (v2067 : BitVec 32) : Prop :=
  (∀ a, (k0_off39 v2067) a + S128x128.size a ≤ S4096x128.size a) ∧
  (∀ (r : Fin 3), ∀ a, (k0_off41 v2067 (BitVec.ofNat 32 (8 + 8 * r.val))) a + S128x128.size a ≤ S4096x128.size a)
theorem k0_off39_inb : ∀ (v2067 : BitVec 32) (k0_hw23 : k0_chk23 v2067), ∀ a, (k0_off39 v2067) a + S128x128.size a ≤ S4096x128.size a := fun v2067 k0_hw23 => k0_hw23.1
theorem k0_off41_inb : ∀ (v2067 : BitVec 32) (k0_hw23 : k0_chk23 v2067), ∀ (r : Fin 3), ∀ a, (k0_off41 v2067 (BitVec.ofNat 32 (8 + 8 * r.val))) a + S128x128.size a ≤ S4096x128.size a := fun v2067 k0_hw23 r => k0_hw23.2 r

def k0_dev74 (v2 : BitVec 32) : Nat :=
  let c0_i32_2431 : BitVec 32 := 0#32
  let c1_i32_2430 : BitVec 32 := 1#32
  let v2114 : BitVec 32 := Scalar.muli v2 c1_i32_2430
  let v2115 : BitVec 32 := Scalar.addi c0_i32_2431 v2114
  v2115.toNat
def k0_dev75 (v3 : BitVec 32) : Nat :=
  let c0_i32_2467 : BitVec 32 := 0#32
  let c1_i32_2466 : BitVec 32 := 1#32
  let v2140 : BitVec 32 := Scalar.muli v3 c1_i32_2466
  let v2141 : BitVec 32 := Scalar.addi c0_i32_2467 v2140
  v2141.toNat
def k0_dev76 (v2 : BitVec 32) : Nat :=
  let c0_i32_2515 : BitVec 32 := 0#32
  let c1_i32_2514 : BitVec 32 := 1#32
  let v2182 : BitVec 32 := Scalar.muli v2 c1_i32_2514
  let v2183 : BitVec 32 := Scalar.addi c0_i32_2515 v2182
  v2183.toNat
def k0_dev77 (v3 : BitVec 32) : Nat :=
  let c0_i32_2551 : BitVec 32 := 0#32
  let c1_i32_2550 : BitVec 32 := 1#32
  let v2208 : BitVec 32 := Scalar.muli v3 c1_i32_2550
  let v2209 : BitVec 32 := Scalar.addi c0_i32_2551 v2208
  v2209.toNat
def k0_dev78 (v2 : BitVec 32) : Nat :=
  let c0_i32_2599 : BitVec 32 := 0#32
  let c1_i32_2598 : BitVec 32 := 1#32
  let v2250 : BitVec 32 := Scalar.muli v2 c1_i32_2598
  let v2251 : BitVec 32 := Scalar.addi c0_i32_2599 v2250
  v2251.toNat
def k0_dev79 (v3 : BitVec 32) : Nat :=
  let c0_i32_2635 : BitVec 32 := 0#32
  let c1_i32_2634 : BitVec 32 := 1#32
  let v2276 : BitVec 32 := Scalar.muli v3 c1_i32_2634
  let v2277 : BitVec 32 := Scalar.addi c0_i32_2635 v2276
  v2277.toNat
def k0_dev80 (v2 : BitVec 32) : Nat :=
  let c0_i32_2671 : BitVec 32 := 0#32
  let c1_i32_2670 : BitVec 32 := 1#32
  let v2302 : BitVec 32 := Scalar.muli v2 c1_i32_2670
  let v2303 : BitVec 32 := Scalar.addi c0_i32_2671 v2302
  v2303.toNat
def k0_dev81 (v3 : BitVec 32) : Nat :=
  let c0_i32_2707 : BitVec 32 := 0#32
  let c1_i32_2706 : BitVec 32 := 1#32
  let v2328 : BitVec 32 := Scalar.muli v3 c1_i32_2706
  let v2329 : BitVec 32 := Scalar.addi c0_i32_2707 v2328
  v2329.toNat
def k0_off42 (v0 : BitVec 32) : Fin 2 → Nat :=
  let c7_i32_2712 : BitVec 32 := 7#32
  let v2338 : BitVec 32 := Scalar.addi v0 c7_i32_2712
  let c2_i32_2713 : BitVec 32 := 2#32
  let v2339 : BitVec 32 := Scalar.subi v2338 c2_i32_2713
  let c4_i32_2714 : BitVec 32 := 4#32
  let v2340 : BitVec 32 := Scalar.remsi v2339 c4_i32_2714
  let c8_i32_2718 : BitVec 32 := 8#32
  let v2344 : BitVec 32 := Scalar.muli v2340 c8_i32_2718
  let c128_i32_2719 : BitVec 32 := 128#32
  let v2345 : BitVec 32 := Scalar.muli v2344 c128_i32_2719
  let v2346 : Index := Scalar.indexCast v2345
  let c0_2720 : Index := 0#32
  ![v2346.toNat, 0]
def k0_off43 (v0 : BitVec 32) : Fin 2 → Nat :=
  let c2_i32_2715 : BitVec 32 := 2#32
  let v2341 : BitVec 32 := Scalar.addi v0 c2_i32_2715
  let c1_i32_2716 : BitVec 32 := 1#32
  let v2342 : BitVec 32 := Scalar.addi v2341 c1_i32_2716
  let c4_i32_2717 : BitVec 32 := 4#32
  let v2343 : BitVec 32 := Scalar.remsi v2342 c4_i32_2717
  let c8_i32_2724 : BitVec 32 := 8#32
  let v2352 : BitVec 32 := Scalar.muli v2343 c8_i32_2724
  let c128_i32_2725 : BitVec 32 := 128#32
  let v2353 : BitVec 32 := Scalar.muli v2352 c128_i32_2725
  let v2354 : Index := Scalar.indexCast v2353
  let c0_2726 : Index := 0#32
  ![v2354.toNat, 0]
def k0_off44 (v0 : BitVec 32) (c0_i32_2731 : BitVec 32) : Fin 2 → Nat :=
  let c7_i32_2712 : BitVec 32 := 7#32
  let v2338 : BitVec 32 := Scalar.addi v0 c7_i32_2712
  let c2_i32_2713 : BitVec 32 := 2#32
  let v2339 : BitVec 32 := Scalar.subi v2338 c2_i32_2713
  let c4_i32_2714 : BitVec 32 := 4#32
  let v2340 : BitVec 32 := Scalar.remsi v2339 c4_i32_2714
  let c8_i32_2730 : BitVec 32 := 8#32
  let v2360 : BitVec 32 := Scalar.muli v2340 c8_i32_2730
  let v2361 : BitVec 32 := Scalar.addi v2360 c0_i32_2731
  let c1_i32_2732 : BitVec 32 := 1#32
  let v2362 : BitVec 32 := Scalar.addi v2361 c1_i32_2732
  let c128_i32_2733 : BitVec 32 := 128#32
  let v2363 : BitVec 32 := Scalar.muli v2362 c128_i32_2733
  let v2364 : Index := Scalar.indexCast v2363
  let c0_2734 : Index := 0#32
  ![v2364.toNat, 0]
def k0_off45 (v0 : BitVec 32) (c0_i32_2739 : BitVec 32) : Fin 2 → Nat :=
  let c2_i32_2715 : BitVec 32 := 2#32
  let v2341 : BitVec 32 := Scalar.addi v0 c2_i32_2715
  let c1_i32_2716 : BitVec 32 := 1#32
  let v2342 : BitVec 32 := Scalar.addi v2341 c1_i32_2716
  let c4_i32_2717 : BitVec 32 := 4#32
  let v2343 : BitVec 32 := Scalar.remsi v2342 c4_i32_2717
  let c8_i32_2738 : BitVec 32 := 8#32
  let v2370 : BitVec 32 := Scalar.muli v2343 c8_i32_2738
  let v2371 : BitVec 32 := Scalar.addi v2370 c0_i32_2739
  let c1_i32_2740 : BitVec 32 := 1#32
  let v2372 : BitVec 32 := Scalar.addi v2371 c1_i32_2740
  let c128_i32_2741 : BitVec 32 := 128#32
  let v2373 : BitVec 32 := Scalar.muli v2372 c128_i32_2741
  let v2374 : Index := Scalar.indexCast v2373
  let c0_2742 : Index := 0#32
  ![v2374.toNat, 0]
def k0_dev82 (v4 : BitVec 32) : Nat :=
  let c0_i32_2777 : BitVec 32 := 0#32
  let c1_i32_2776 : BitVec 32 := 1#32
  let v2396 : BitVec 32 := Scalar.muli v4 c1_i32_2776
  let v2397 : BitVec 32 := Scalar.addi c0_i32_2777 v2396
  v2397.toNat
def k0_dev83 (v5 : BitVec 32) : Nat :=
  let c0_i32_2813 : BitVec 32 := 0#32
  let c1_i32_2812 : BitVec 32 := 1#32
  let v2422 : BitVec 32 := Scalar.muli v5 c1_i32_2812
  let v2423 : BitVec 32 := Scalar.addi c0_i32_2813 v2422
  v2423.toNat
def k0_dev84 (v4 : BitVec 32) : Nat :=
  let c0_i32_2865 : BitVec 32 := 0#32
  let c1_i32_2864 : BitVec 32 := 1#32
  let v2468 : BitVec 32 := Scalar.muli v4 c1_i32_2864
  let v2469 : BitVec 32 := Scalar.addi c0_i32_2865 v2468
  v2469.toNat
def k0_dev85 (v5 : BitVec 32) : Nat :=
  let c0_i32_2901 : BitVec 32 := 0#32
  let c1_i32_2900 : BitVec 32 := 1#32
  let v2494 : BitVec 32 := Scalar.muli v5 c1_i32_2900
  let v2495 : BitVec 32 := Scalar.addi c0_i32_2901 v2494
  v2495.toNat
def k0_dev86 (v4 : BitVec 32) : Nat :=
  let c0_i32_2953 : BitVec 32 := 0#32
  let c1_i32_2952 : BitVec 32 := 1#32
  let v2540 : BitVec 32 := Scalar.muli v4 c1_i32_2952
  let v2541 : BitVec 32 := Scalar.addi c0_i32_2953 v2540
  v2541.toNat
def k0_dev87 (v5 : BitVec 32) : Nat :=
  let c0_i32_2989 : BitVec 32 := 0#32
  let c1_i32_2988 : BitVec 32 := 1#32
  let v2566 : BitVec 32 := Scalar.muli v5 c1_i32_2988
  let v2567 : BitVec 32 := Scalar.addi c0_i32_2989 v2566
  v2567.toNat
def k0_dev88 (v4 : BitVec 32) : Nat :=
  let c0_i32_3041 : BitVec 32 := 0#32
  let c1_i32_3040 : BitVec 32 := 1#32
  let v2612 : BitVec 32 := Scalar.muli v4 c1_i32_3040
  let v2613 : BitVec 32 := Scalar.addi c0_i32_3041 v2612
  v2613.toNat
def k0_dev89 (v5 : BitVec 32) : Nat :=
  let c0_i32_3077 : BitVec 32 := 0#32
  let c1_i32_3076 : BitVec 32 := 1#32
  let v2638 : BitVec 32 := Scalar.muli v5 c1_i32_3076
  let v2639 : BitVec 32 := Scalar.addi c0_i32_3077 v2638
  v2639.toNat
def k0_dev90 (v4 : BitVec 32) : Nat :=
  let c0_i32_3129 : BitVec 32 := 0#32
  let c1_i32_3128 : BitVec 32 := 1#32
  let v2684 : BitVec 32 := Scalar.muli v4 c1_i32_3128
  let v2685 : BitVec 32 := Scalar.addi c0_i32_3129 v2684
  v2685.toNat
def k0_dev91 (v5 : BitVec 32) : Nat :=
  let c0_i32_3165 : BitVec 32 := 0#32
  let c1_i32_3164 : BitVec 32 := 1#32
  let v2710 : BitVec 32 := Scalar.muli v5 c1_i32_3164
  let v2711 : BitVec 32 := Scalar.addi c0_i32_3165 v2710
  v2711.toNat
def k0_dev92 (v4 : BitVec 32) : Nat :=
  let c0_i32_3217 : BitVec 32 := 0#32
  let c1_i32_3216 : BitVec 32 := 1#32
  let v2756 : BitVec 32 := Scalar.muli v4 c1_i32_3216
  let v2757 : BitVec 32 := Scalar.addi c0_i32_3217 v2756
  v2757.toNat
def k0_dev93 (v5 : BitVec 32) : Nat :=
  let c0_i32_3253 : BitVec 32 := 0#32
  let c1_i32_3252 : BitVec 32 := 1#32
  let v2782 : BitVec 32 := Scalar.muli v5 c1_i32_3252
  let v2783 : BitVec 32 := Scalar.addi c0_i32_3253 v2782
  v2783.toNat
def k0_dev94 (v4 : BitVec 32) : Nat :=
  let c0_i32_3305 : BitVec 32 := 0#32
  let c1_i32_3304 : BitVec 32 := 1#32
  let v2828 : BitVec 32 := Scalar.muli v4 c1_i32_3304
  let v2829 : BitVec 32 := Scalar.addi c0_i32_3305 v2828
  v2829.toNat
def k0_dev95 (v5 : BitVec 32) : Nat :=
  let c0_i32_3341 : BitVec 32 := 0#32
  let c1_i32_3340 : BitVec 32 := 1#32
  let v2854 : BitVec 32 := Scalar.muli v5 c1_i32_3340
  let v2855 : BitVec 32 := Scalar.addi c0_i32_3341 v2854
  v2855.toNat
def k0_dev96 (v4 : BitVec 32) : Nat :=
  let c0_i32_3377 : BitVec 32 := 0#32
  let c1_i32_3376 : BitVec 32 := 1#32
  let v2880 : BitVec 32 := Scalar.muli v4 c1_i32_3376
  let v2881 : BitVec 32 := Scalar.addi c0_i32_3377 v2880
  v2881.toNat
def k0_dev97 (v5 : BitVec 32) : Nat :=
  let c0_i32_3413 : BitVec 32 := 0#32
  let c1_i32_3412 : BitVec 32 := 1#32
  let v2906 : BitVec 32 := Scalar.muli v5 c1_i32_3412
  let v2907 : BitVec 32 := Scalar.addi c0_i32_3413 v2906
  v2907.toNat
def k0_off46 (v1 : BitVec 32) : Fin 1 → Nat :=
  let c6_i32_3421 : BitVec 32 := 6#32
  let c15_i32_3418 : BitVec 32 := 15#32
  let v2916 : BitVec 32 := Scalar.addi v1 c15_i32_3418
  let c5_i32_3419 : BitVec 32 := 5#32
  let v2917 : BitVec 32 := Scalar.subi v2916 c5_i32_3419
  let c8_i32_3420 : BitVec 32 := 8#32
  let v2918 : BitVec 32 := Scalar.remsi v2917 c8_i32_3420
  let v2919 : BitVec 32 := Scalar.addi c6_i32_3421 v2918
  let v2920 : Index := Scalar.indexCast v2919
  ![v2920.toNat]
def k0_off47 (v1 : BitVec 32) : Fin 1 → Nat :=
  let c6_i32_3425 : BitVec 32 := 6#32
  let c5_i32_3422 : BitVec 32 := 5#32
  let v2922 : BitVec 32 := Scalar.addi v1 c5_i32_3422
  let c1_i32_3423 : BitVec 32 := 1#32
  let v2923 : BitVec 32 := Scalar.addi v2922 c1_i32_3423
  let c8_i32_3424 : BitVec 32 := 8#32
  let v2924 : BitVec 32 := Scalar.remsi v2923 c8_i32_3424
  let v2925 : BitVec 32 := Scalar.addi c6_i32_3425 v2924
  let v2926 : Index := Scalar.indexCast v2925
  ![v2926.toNat]
def k0_off48 (v2921 : BitVec 32) : Fin 2 → Nat :=
  let c128_i32_3426 : BitVec 32 := 128#32
  let v2928 : BitVec 32 := Scalar.muli v2921 c128_i32_3426
  let v2929 : Index := Scalar.indexCast v2928
  let c0_3427 : Index := 0#32
  ![v2929.toNat, 0]

def k0_off49 (v2927 : BitVec 32) : Fin 2 → Nat :=
  let c128_i32_3431 : BitVec 32 := 128#32
  let v2935 : BitVec 32 := Scalar.muli v2927 c128_i32_3431
  let v2936 : Index := Scalar.indexCast v2935
  let c0_3432 : Index := 0#32
  ![v2936.toNat, 0]

def k0_off50 (v2921 : BitVec 32) (c8_i32_3436 : BitVec 32) : Fin 2 → Nat :=
  let v2942 : BitVec 32 := Scalar.addi c8_i32_3436 v2921
  let c128_i32_3437 : BitVec 32 := 128#32
  let v2943 : BitVec 32 := Scalar.muli v2942 c128_i32_3437
  let v2944 : Index := Scalar.indexCast v2943
  let c0_3438 : Index := 0#32
  ![v2944.toNat, 0]

def k0_chk24 (v2921 : BitVec 32) : Prop :=
  (∀ a, (k0_off48 v2921) a + S128x128.size a ≤ S4096x128.size a) ∧
  (∀ (r : Fin 3), ∀ a, (k0_off50 v2921 (BitVec.ofNat 32 (8 + 8 * r.val))) a + S128x128.size a ≤ S4096x128.size a)
theorem k0_off48_inb : ∀ (v2921 : BitVec 32) (k0_hw24 : k0_chk24 v2921), ∀ a, (k0_off48 v2921) a + S128x128.size a ≤ S4096x128.size a := fun v2921 k0_hw24 => k0_hw24.1
theorem k0_off50_inb : ∀ (v2921 : BitVec 32) (k0_hw24 : k0_chk24 v2921), ∀ (r : Fin 3), ∀ a, (k0_off50 v2921 (BitVec.ofNat 32 (8 + 8 * r.val))) a + S128x128.size a ≤ S4096x128.size a := fun v2921 k0_hw24 r => k0_hw24.2 r

def k0_off51 (v2927 : BitVec 32) (c8_i32_3442 : BitVec 32) : Fin 2 → Nat :=
  let v2950 : BitVec 32 := Scalar.addi c8_i32_3442 v2927
  let c128_i32_3443 : BitVec 32 := 128#32
  let v2951 : BitVec 32 := Scalar.muli v2950 c128_i32_3443
  let v2952 : Index := Scalar.indexCast v2951
  let c0_3444 : Index := 0#32
  ![v2952.toNat, 0]

def k0_chk25 (v2927 : BitVec 32) : Prop :=
  (∀ a, (k0_off49 v2927) a + S128x128.size a ≤ S4096x128.size a) ∧
  (∀ (r : Fin 3), ∀ a, (k0_off51 v2927 (BitVec.ofNat 32 (8 + 8 * r.val))) a + S128x128.size a ≤ S4096x128.size a)
theorem k0_off49_inb : ∀ (v2927 : BitVec 32) (k0_hw25 : k0_chk25 v2927), ∀ a, (k0_off49 v2927) a + S128x128.size a ≤ S4096x128.size a := fun v2927 k0_hw25 => k0_hw25.1
theorem k0_off51_inb : ∀ (v2927 : BitVec 32) (k0_hw25 : k0_chk25 v2927), ∀ (r : Fin 3), ∀ a, (k0_off51 v2927 (BitVec.ofNat 32 (8 + 8 * r.val))) a + S128x128.size a ≤ S4096x128.size a := fun v2927 k0_hw25 r => k0_hw25.2 r

def k0_dev98 (v2 : BitVec 32) : Nat :=
  let c0_i32_3479 : BitVec 32 := 0#32
  let c1_i32_3478 : BitVec 32 := 1#32
  let v2974 : BitVec 32 := Scalar.muli v2 c1_i32_3478
  let v2975 : BitVec 32 := Scalar.addi c0_i32_3479 v2974
  v2975.toNat
def k0_dev99 (v3 : BitVec 32) : Nat :=
  let c0_i32_3515 : BitVec 32 := 0#32
  let c1_i32_3514 : BitVec 32 := 1#32
  let v3000 : BitVec 32 := Scalar.muli v3 c1_i32_3514
  let v3001 : BitVec 32 := Scalar.addi c0_i32_3515 v3000
  v3001.toNat
def k0_dev100 (v2 : BitVec 32) : Nat :=
  let c0_i32_3563 : BitVec 32 := 0#32
  let c1_i32_3562 : BitVec 32 := 1#32
  let v3042 : BitVec 32 := Scalar.muli v2 c1_i32_3562
  let v3043 : BitVec 32 := Scalar.addi c0_i32_3563 v3042
  v3043.toNat
def k0_dev101 (v3 : BitVec 32) : Nat :=
  let c0_i32_3599 : BitVec 32 := 0#32
  let c1_i32_3598 : BitVec 32 := 1#32
  let v3068 : BitVec 32 := Scalar.muli v3 c1_i32_3598
  let v3069 : BitVec 32 := Scalar.addi c0_i32_3599 v3068
  v3069.toNat
def k0_dev102 (v2 : BitVec 32) : Nat :=
  let c0_i32_3647 : BitVec 32 := 0#32
  let c1_i32_3646 : BitVec 32 := 1#32
  let v3110 : BitVec 32 := Scalar.muli v2 c1_i32_3646
  let v3111 : BitVec 32 := Scalar.addi c0_i32_3647 v3110
  v3111.toNat
def k0_dev103 (v3 : BitVec 32) : Nat :=
  let c0_i32_3683 : BitVec 32 := 0#32
  let c1_i32_3682 : BitVec 32 := 1#32
  let v3136 : BitVec 32 := Scalar.muli v3 c1_i32_3682
  let v3137 : BitVec 32 := Scalar.addi c0_i32_3683 v3136
  v3137.toNat
def k0_dev104 (v2 : BitVec 32) : Nat :=
  let c0_i32_3719 : BitVec 32 := 0#32
  let c1_i32_3718 : BitVec 32 := 1#32
  let v3162 : BitVec 32 := Scalar.muli v2 c1_i32_3718
  let v3163 : BitVec 32 := Scalar.addi c0_i32_3719 v3162
  v3163.toNat
def k0_dev105 (v3 : BitVec 32) : Nat :=
  let c0_i32_3755 : BitVec 32 := 0#32
  let c1_i32_3754 : BitVec 32 := 1#32
  let v3188 : BitVec 32 := Scalar.muli v3 c1_i32_3754
  let v3189 : BitVec 32 := Scalar.addi c0_i32_3755 v3188
  v3189.toNat
def k0_off52 (v1 : BitVec 32) : Fin 1 → Nat :=
  let c6_i32_3763 : BitVec 32 := 6#32
  let c15_i32_3760 : BitVec 32 := 15#32
  let v3198 : BitVec 32 := Scalar.addi v1 c15_i32_3760
  let c6_i32_3761 : BitVec 32 := 6#32
  let v3199 : BitVec 32 := Scalar.subi v3198 c6_i32_3761
  let c8_i32_3762 : BitVec 32 := 8#32
  let v3200 : BitVec 32 := Scalar.remsi v3199 c8_i32_3762
  let v3201 : BitVec 32 := Scalar.addi c6_i32_3763 v3200
  let v3202 : Index := Scalar.indexCast v3201
  ![v3202.toNat]
def k0_off53 (v1 : BitVec 32) : Fin 1 → Nat :=
  let c6_i32_3767 : BitVec 32 := 6#32
  let c6_i32_3764 : BitVec 32 := 6#32
  let v3204 : BitVec 32 := Scalar.addi v1 c6_i32_3764
  let c1_i32_3765 : BitVec 32 := 1#32
  let v3205 : BitVec 32 := Scalar.addi v3204 c1_i32_3765
  let c8_i32_3766 : BitVec 32 := 8#32
  let v3206 : BitVec 32 := Scalar.remsi v3205 c8_i32_3766
  let v3207 : BitVec 32 := Scalar.addi c6_i32_3767 v3206
  let v3208 : Index := Scalar.indexCast v3207
  ![v3208.toNat]
def k0_off54 (v3203 : BitVec 32) : Fin 2 → Nat :=
  let c128_i32_3768 : BitVec 32 := 128#32
  let v3210 : BitVec 32 := Scalar.muli v3203 c128_i32_3768
  let v3211 : Index := Scalar.indexCast v3210
  let c0_3769 : Index := 0#32
  ![v3211.toNat, 0]

def k0_off55 (v3209 : BitVec 32) : Fin 2 → Nat :=
  let c128_i32_3773 : BitVec 32 := 128#32
  let v3217 : BitVec 32 := Scalar.muli v3209 c128_i32_3773
  let v3218 : Index := Scalar.indexCast v3217
  let c0_3774 : Index := 0#32
  ![v3218.toNat, 0]

def k0_off56 (v3203 : BitVec 32) (c8_i32_3778 : BitVec 32) : Fin 2 → Nat :=
  let v3224 : BitVec 32 := Scalar.addi c8_i32_3778 v3203
  let c128_i32_3779 : BitVec 32 := 128#32
  let v3225 : BitVec 32 := Scalar.muli v3224 c128_i32_3779
  let v3226 : Index := Scalar.indexCast v3225
  let c0_3780 : Index := 0#32
  ![v3226.toNat, 0]

def k0_chk26 (v3203 : BitVec 32) : Prop :=
  (∀ a, (k0_off54 v3203) a + S128x128.size a ≤ S4096x128.size a) ∧
  (∀ (r : Fin 3), ∀ a, (k0_off56 v3203 (BitVec.ofNat 32 (8 + 8 * r.val))) a + S128x128.size a ≤ S4096x128.size a)
theorem k0_off54_inb : ∀ (v3203 : BitVec 32) (k0_hw26 : k0_chk26 v3203), ∀ a, (k0_off54 v3203) a + S128x128.size a ≤ S4096x128.size a := fun v3203 k0_hw26 => k0_hw26.1
theorem k0_off56_inb : ∀ (v3203 : BitVec 32) (k0_hw26 : k0_chk26 v3203), ∀ (r : Fin 3), ∀ a, (k0_off56 v3203 (BitVec.ofNat 32 (8 + 8 * r.val))) a + S128x128.size a ≤ S4096x128.size a := fun v3203 k0_hw26 r => k0_hw26.2 r

def k0_off57 (v3209 : BitVec 32) (c8_i32_3784 : BitVec 32) : Fin 2 → Nat :=
  let v3232 : BitVec 32 := Scalar.addi c8_i32_3784 v3209
  let c128_i32_3785 : BitVec 32 := 128#32
  let v3233 : BitVec 32 := Scalar.muli v3232 c128_i32_3785
  let v3234 : Index := Scalar.indexCast v3233
  let c0_3786 : Index := 0#32
  ![v3234.toNat, 0]

def k0_chk27 (v3209 : BitVec 32) : Prop :=
  (∀ a, (k0_off55 v3209) a + S128x128.size a ≤ S4096x128.size a) ∧
  (∀ (r : Fin 3), ∀ a, (k0_off57 v3209 (BitVec.ofNat 32 (8 + 8 * r.val))) a + S128x128.size a ≤ S4096x128.size a)
theorem k0_off55_inb : ∀ (v3209 : BitVec 32) (k0_hw27 : k0_chk27 v3209), ∀ a, (k0_off55 v3209) a + S128x128.size a ≤ S4096x128.size a := fun v3209 k0_hw27 => k0_hw27.1
theorem k0_off57_inb : ∀ (v3209 : BitVec 32) (k0_hw27 : k0_chk27 v3209), ∀ (r : Fin 3), ∀ a, (k0_off57 v3209 (BitVec.ofNat 32 (8 + 8 * r.val))) a + S128x128.size a ≤ S4096x128.size a := fun v3209 k0_hw27 r => k0_hw27.2 r

def k0_dev106 (v2 : BitVec 32) : Nat :=
  let c0_i32_3821 : BitVec 32 := 0#32
  let c1_i32_3820 : BitVec 32 := 1#32
  let v3256 : BitVec 32 := Scalar.muli v2 c1_i32_3820
  let v3257 : BitVec 32 := Scalar.addi c0_i32_3821 v3256
  v3257.toNat
def k0_dev107 (v3 : BitVec 32) : Nat :=
  let c0_i32_3857 : BitVec 32 := 0#32
  let c1_i32_3856 : BitVec 32 := 1#32
  let v3282 : BitVec 32 := Scalar.muli v3 c1_i32_3856
  let v3283 : BitVec 32 := Scalar.addi c0_i32_3857 v3282
  v3283.toNat
def k0_dev108 (v2 : BitVec 32) : Nat :=
  let c0_i32_3905 : BitVec 32 := 0#32
  let c1_i32_3904 : BitVec 32 := 1#32
  let v3324 : BitVec 32 := Scalar.muli v2 c1_i32_3904
  let v3325 : BitVec 32 := Scalar.addi c0_i32_3905 v3324
  v3325.toNat
def k0_dev109 (v3 : BitVec 32) : Nat :=
  let c0_i32_3941 : BitVec 32 := 0#32
  let c1_i32_3940 : BitVec 32 := 1#32
  let v3350 : BitVec 32 := Scalar.muli v3 c1_i32_3940
  let v3351 : BitVec 32 := Scalar.addi c0_i32_3941 v3350
  v3351.toNat
def k0_dev110 (v2 : BitVec 32) : Nat :=
  let c0_i32_3989 : BitVec 32 := 0#32
  let c1_i32_3988 : BitVec 32 := 1#32
  let v3392 : BitVec 32 := Scalar.muli v2 c1_i32_3988
  let v3393 : BitVec 32 := Scalar.addi c0_i32_3989 v3392
  v3393.toNat
def k0_dev111 (v3 : BitVec 32) : Nat :=
  let c0_i32_4025 : BitVec 32 := 0#32
  let c1_i32_4024 : BitVec 32 := 1#32
  let v3418 : BitVec 32 := Scalar.muli v3 c1_i32_4024
  let v3419 : BitVec 32 := Scalar.addi c0_i32_4025 v3418
  v3419.toNat
def k0_dev112 (v2 : BitVec 32) : Nat :=
  let c0_i32_4061 : BitVec 32 := 0#32
  let c1_i32_4060 : BitVec 32 := 1#32
  let v3444 : BitVec 32 := Scalar.muli v2 c1_i32_4060
  let v3445 : BitVec 32 := Scalar.addi c0_i32_4061 v3444
  v3445.toNat

def k0_chk12 (v2 : BitVec 32) : Prop :=
  ((k0_dev10 v2) < nD) ∧
  ((k0_dev12 v2) < nD) ∧
  ((k0_dev14 v2) < nD) ∧
  ((k0_dev16 v2) < nD) ∧
  ((k0_dev34 v2) < nD) ∧
  ((k0_dev36 v2) < nD) ∧
  ((k0_dev38 v2) < nD) ∧
  ((k0_dev40 v2) < nD) ∧
  ((k0_dev42 v2) < nD) ∧
  ((k0_dev44 v2) < nD) ∧
  ((k0_dev46 v2) < nD) ∧
  ((k0_dev48 v2) < nD) ∧
  ((k0_dev66 v2) < nD) ∧
  ((k0_dev68 v2) < nD) ∧
  ((k0_dev70 v2) < nD) ∧
  ((k0_dev72 v2) < nD) ∧
  ((k0_dev74 v2) < nD) ∧
  ((k0_dev76 v2) < nD) ∧
  ((k0_dev78 v2) < nD) ∧
  ((k0_dev80 v2) < nD) ∧
  ((k0_dev98 v2) < nD) ∧
  ((k0_dev100 v2) < nD) ∧
  ((k0_dev102 v2) < nD) ∧
  ((k0_dev104 v2) < nD) ∧
  ((k0_dev106 v2) < nD) ∧
  ((k0_dev108 v2) < nD) ∧
  ((k0_dev110 v2) < nD) ∧
  ((k0_dev112 v2) < nD)
theorem k0_dev10_lt : ∀ (v2 : BitVec 32) (k0_hw12 : k0_chk12 v2), (k0_dev10 v2) < nD := fun v2 k0_hw12 => k0_hw12.1
theorem k0_dev12_lt : ∀ (v2 : BitVec 32) (k0_hw12 : k0_chk12 v2), (k0_dev12 v2) < nD := fun v2 k0_hw12 => k0_hw12.2.1
theorem k0_dev14_lt : ∀ (v2 : BitVec 32) (k0_hw12 : k0_chk12 v2), (k0_dev14 v2) < nD := fun v2 k0_hw12 => k0_hw12.2.2.1
theorem k0_dev16_lt : ∀ (v2 : BitVec 32) (k0_hw12 : k0_chk12 v2), (k0_dev16 v2) < nD := fun v2 k0_hw12 => k0_hw12.2.2.2.1
theorem k0_dev34_lt : ∀ (v2 : BitVec 32) (k0_hw12 : k0_chk12 v2), (k0_dev34 v2) < nD := fun v2 k0_hw12 => k0_hw12.2.2.2.2.1
theorem k0_dev36_lt : ∀ (v2 : BitVec 32) (k0_hw12 : k0_chk12 v2), (k0_dev36 v2) < nD := fun v2 k0_hw12 => k0_hw12.2.2.2.2.2.1
theorem k0_dev38_lt : ∀ (v2 : BitVec 32) (k0_hw12 : k0_chk12 v2), (k0_dev38 v2) < nD := fun v2 k0_hw12 => k0_hw12.2.2.2.2.2.2.1
theorem k0_dev40_lt : ∀ (v2 : BitVec 32) (k0_hw12 : k0_chk12 v2), (k0_dev40 v2) < nD := fun v2 k0_hw12 => k0_hw12.2.2.2.2.2.2.2.1
theorem k0_dev42_lt : ∀ (v2 : BitVec 32) (k0_hw12 : k0_chk12 v2), (k0_dev42 v2) < nD := fun v2 k0_hw12 => k0_hw12.2.2.2.2.2.2.2.2.1
theorem k0_dev44_lt : ∀ (v2 : BitVec 32) (k0_hw12 : k0_chk12 v2), (k0_dev44 v2) < nD := fun v2 k0_hw12 => k0_hw12.2.2.2.2.2.2.2.2.2.1
theorem k0_dev46_lt : ∀ (v2 : BitVec 32) (k0_hw12 : k0_chk12 v2), (k0_dev46 v2) < nD := fun v2 k0_hw12 => k0_hw12.2.2.2.2.2.2.2.2.2.2.1
theorem k0_dev48_lt : ∀ (v2 : BitVec 32) (k0_hw12 : k0_chk12 v2), (k0_dev48 v2) < nD := fun v2 k0_hw12 => k0_hw12.2.2.2.2.2.2.2.2.2.2.2.1
theorem k0_dev66_lt : ∀ (v2 : BitVec 32) (k0_hw12 : k0_chk12 v2), (k0_dev66 v2) < nD := fun v2 k0_hw12 => k0_hw12.2.2.2.2.2.2.2.2.2.2.2.2.1
theorem k0_dev68_lt : ∀ (v2 : BitVec 32) (k0_hw12 : k0_chk12 v2), (k0_dev68 v2) < nD := fun v2 k0_hw12 => k0_hw12.2.2.2.2.2.2.2.2.2.2.2.2.2.1
theorem k0_dev70_lt : ∀ (v2 : BitVec 32) (k0_hw12 : k0_chk12 v2), (k0_dev70 v2) < nD := fun v2 k0_hw12 => k0_hw12.2.2.2.2.2.2.2.2.2.2.2.2.2.2.1
theorem k0_dev72_lt : ∀ (v2 : BitVec 32) (k0_hw12 : k0_chk12 v2), (k0_dev72 v2) < nD := fun v2 k0_hw12 => k0_hw12.2.2.2.2.2.2.2.2.2.2.2.2.2.2.2.1
theorem k0_dev74_lt : ∀ (v2 : BitVec 32) (k0_hw12 : k0_chk12 v2), (k0_dev74 v2) < nD := fun v2 k0_hw12 => k0_hw12.2.2.2.2.2.2.2.2.2.2.2.2.2.2.2.2.1
theorem k0_dev76_lt : ∀ (v2 : BitVec 32) (k0_hw12 : k0_chk12 v2), (k0_dev76 v2) < nD := fun v2 k0_hw12 => k0_hw12.2.2.2.2.2.2.2.2.2.2.2.2.2.2.2.2.2.1
theorem k0_dev78_lt : ∀ (v2 : BitVec 32) (k0_hw12 : k0_chk12 v2), (k0_dev78 v2) < nD := fun v2 k0_hw12 => k0_hw12.2.2.2.2.2.2.2.2.2.2.2.2.2.2.2.2.2.2.1
theorem k0_dev80_lt : ∀ (v2 : BitVec 32) (k0_hw12 : k0_chk12 v2), (k0_dev80 v2) < nD := fun v2 k0_hw12 => k0_hw12.2.2.2.2.2.2.2.2.2.2.2.2.2.2.2.2.2.2.2.1
theorem k0_dev98_lt : ∀ (v2 : BitVec 32) (k0_hw12 : k0_chk12 v2), (k0_dev98 v2) < nD := fun v2 k0_hw12 => k0_hw12.2.2.2.2.2.2.2.2.2.2.2.2.2.2.2.2.2.2.2.2.1
theorem k0_dev100_lt : ∀ (v2 : BitVec 32) (k0_hw12 : k0_chk12 v2), (k0_dev100 v2) < nD := fun v2 k0_hw12 => k0_hw12.2.2.2.2.2.2.2.2.2.2.2.2.2.2.2.2.2.2.2.2.2.1
theorem k0_dev102_lt : ∀ (v2 : BitVec 32) (k0_hw12 : k0_chk12 v2), (k0_dev102 v2) < nD := fun v2 k0_hw12 => k0_hw12.2.2.2.2.2.2.2.2.2.2.2.2.2.2.2.2.2.2.2.2.2.2.1
theorem k0_dev104_lt : ∀ (v2 : BitVec 32) (k0_hw12 : k0_chk12 v2), (k0_dev104 v2) < nD := fun v2 k0_hw12 => k0_hw12.2.2.2.2.2.2.2.2.2.2.2.2.2.2.2.2.2.2.2.2.2.2.2.1
theorem k0_dev106_lt : ∀ (v2 : BitVec 32) (k0_hw12 : k0_chk12 v2), (k0_dev106 v2) < nD := fun v2 k0_hw12 => k0_hw12.2.2.2.2.2.2.2.2.2.2.2.2.2.2.2.2.2.2.2.2.2.2.2.2.1
theorem k0_dev108_lt : ∀ (v2 : BitVec 32) (k0_hw12 : k0_chk12 v2), (k0_dev108 v2) < nD := fun v2 k0_hw12 => k0_hw12.2.2.2.2.2.2.2.2.2.2.2.2.2.2.2.2.2.2.2.2.2.2.2.2.2.1
theorem k0_dev110_lt : ∀ (v2 : BitVec 32) (k0_hw12 : k0_chk12 v2), (k0_dev110 v2) < nD := fun v2 k0_hw12 => k0_hw12.2.2.2.2.2.2.2.2.2.2.2.2.2.2.2.2.2.2.2.2.2.2.2.2.2.2.1
theorem k0_dev112_lt : ∀ (v2 : BitVec 32) (k0_hw12 : k0_chk12 v2), (k0_dev112 v2) < nD := fun v2 k0_hw12 => k0_hw12.2.2.2.2.2.2.2.2.2.2.2.2.2.2.2.2.2.2.2.2.2.2.2.2.2.2.2

def k0_dev113 (v3 : BitVec 32) : Nat :=
  let c0_i32_4097 : BitVec 32 := 0#32
  let c1_i32_4096 : BitVec 32 := 1#32
  let v3470 : BitVec 32 := Scalar.muli v3 c1_i32_4096
  let v3471 : BitVec 32 := Scalar.addi c0_i32_4097 v3470
  v3471.toNat

def k0_chk14 (v3 : BitVec 32) : Prop :=
  ((k0_dev11 v3) < nD) ∧
  ((k0_dev13 v3) < nD) ∧
  ((k0_dev15 v3) < nD) ∧
  ((k0_dev17 v3) < nD) ∧
  ((k0_dev35 v3) < nD) ∧
  ((k0_dev37 v3) < nD) ∧
  ((k0_dev39 v3) < nD) ∧
  ((k0_dev41 v3) < nD) ∧
  ((k0_dev43 v3) < nD) ∧
  ((k0_dev45 v3) < nD) ∧
  ((k0_dev47 v3) < nD) ∧
  ((k0_dev49 v3) < nD) ∧
  ((k0_dev67 v3) < nD) ∧
  ((k0_dev69 v3) < nD) ∧
  ((k0_dev71 v3) < nD) ∧
  ((k0_dev73 v3) < nD) ∧
  ((k0_dev75 v3) < nD) ∧
  ((k0_dev77 v3) < nD) ∧
  ((k0_dev79 v3) < nD) ∧
  ((k0_dev81 v3) < nD) ∧
  ((k0_dev99 v3) < nD) ∧
  ((k0_dev101 v3) < nD) ∧
  ((k0_dev103 v3) < nD) ∧
  ((k0_dev105 v3) < nD) ∧
  ((k0_dev107 v3) < nD) ∧
  ((k0_dev109 v3) < nD) ∧
  ((k0_dev111 v3) < nD) ∧
  ((k0_dev113 v3) < nD)
theorem k0_dev11_lt : ∀ (v3 : BitVec 32) (k0_hw14 : k0_chk14 v3), (k0_dev11 v3) < nD := fun v3 k0_hw14 => k0_hw14.1
theorem k0_dev13_lt : ∀ (v3 : BitVec 32) (k0_hw14 : k0_chk14 v3), (k0_dev13 v3) < nD := fun v3 k0_hw14 => k0_hw14.2.1
theorem k0_dev15_lt : ∀ (v3 : BitVec 32) (k0_hw14 : k0_chk14 v3), (k0_dev15 v3) < nD := fun v3 k0_hw14 => k0_hw14.2.2.1
theorem k0_dev17_lt : ∀ (v3 : BitVec 32) (k0_hw14 : k0_chk14 v3), (k0_dev17 v3) < nD := fun v3 k0_hw14 => k0_hw14.2.2.2.1
theorem k0_dev35_lt : ∀ (v3 : BitVec 32) (k0_hw14 : k0_chk14 v3), (k0_dev35 v3) < nD := fun v3 k0_hw14 => k0_hw14.2.2.2.2.1
theorem k0_dev37_lt : ∀ (v3 : BitVec 32) (k0_hw14 : k0_chk14 v3), (k0_dev37 v3) < nD := fun v3 k0_hw14 => k0_hw14.2.2.2.2.2.1
theorem k0_dev39_lt : ∀ (v3 : BitVec 32) (k0_hw14 : k0_chk14 v3), (k0_dev39 v3) < nD := fun v3 k0_hw14 => k0_hw14.2.2.2.2.2.2.1
theorem k0_dev41_lt : ∀ (v3 : BitVec 32) (k0_hw14 : k0_chk14 v3), (k0_dev41 v3) < nD := fun v3 k0_hw14 => k0_hw14.2.2.2.2.2.2.2.1
theorem k0_dev43_lt : ∀ (v3 : BitVec 32) (k0_hw14 : k0_chk14 v3), (k0_dev43 v3) < nD := fun v3 k0_hw14 => k0_hw14.2.2.2.2.2.2.2.2.1
theorem k0_dev45_lt : ∀ (v3 : BitVec 32) (k0_hw14 : k0_chk14 v3), (k0_dev45 v3) < nD := fun v3 k0_hw14 => k0_hw14.2.2.2.2.2.2.2.2.2.1
theorem k0_dev47_lt : ∀ (v3 : BitVec 32) (k0_hw14 : k0_chk14 v3), (k0_dev47 v3) < nD := fun v3 k0_hw14 => k0_hw14.2.2.2.2.2.2.2.2.2.2.1
theorem k0_dev49_lt : ∀ (v3 : BitVec 32) (k0_hw14 : k0_chk14 v3), (k0_dev49 v3) < nD := fun v3 k0_hw14 => k0_hw14.2.2.2.2.2.2.2.2.2.2.2.1
theorem k0_dev67_lt : ∀ (v3 : BitVec 32) (k0_hw14 : k0_chk14 v3), (k0_dev67 v3) < nD := fun v3 k0_hw14 => k0_hw14.2.2.2.2.2.2.2.2.2.2.2.2.1
theorem k0_dev69_lt : ∀ (v3 : BitVec 32) (k0_hw14 : k0_chk14 v3), (k0_dev69 v3) < nD := fun v3 k0_hw14 => k0_hw14.2.2.2.2.2.2.2.2.2.2.2.2.2.1
theorem k0_dev71_lt : ∀ (v3 : BitVec 32) (k0_hw14 : k0_chk14 v3), (k0_dev71 v3) < nD := fun v3 k0_hw14 => k0_hw14.2.2.2.2.2.2.2.2.2.2.2.2.2.2.1
theorem k0_dev73_lt : ∀ (v3 : BitVec 32) (k0_hw14 : k0_chk14 v3), (k0_dev73 v3) < nD := fun v3 k0_hw14 => k0_hw14.2.2.2.2.2.2.2.2.2.2.2.2.2.2.2.1
theorem k0_dev75_lt : ∀ (v3 : BitVec 32) (k0_hw14 : k0_chk14 v3), (k0_dev75 v3) < nD := fun v3 k0_hw14 => k0_hw14.2.2.2.2.2.2.2.2.2.2.2.2.2.2.2.2.1
theorem k0_dev77_lt : ∀ (v3 : BitVec 32) (k0_hw14 : k0_chk14 v3), (k0_dev77 v3) < nD := fun v3 k0_hw14 => k0_hw14.2.2.2.2.2.2.2.2.2.2.2.2.2.2.2.2.2.1
theorem k0_dev79_lt : ∀ (v3 : BitVec 32) (k0_hw14 : k0_chk14 v3), (k0_dev79 v3) < nD := fun v3 k0_hw14 => k0_hw14.2.2.2.2.2.2.2.2.2.2.2.2.2.2.2.2.2.2.1
theorem k0_dev81_lt : ∀ (v3 : BitVec 32) (k0_hw14 : k0_chk14 v3), (k0_dev81 v3) < nD := fun v3 k0_hw14 => k0_hw14.2.2.2.2.2.2.2.2.2.2.2.2.2.2.2.2.2.2.2.1
theorem k0_dev99_lt : ∀ (v3 : BitVec 32) (k0_hw14 : k0_chk14 v3), (k0_dev99 v3) < nD := fun v3 k0_hw14 => k0_hw14.2.2.2.2.2.2.2.2.2.2.2.2.2.2.2.2.2.2.2.2.1
theorem k0_dev101_lt : ∀ (v3 : BitVec 32) (k0_hw14 : k0_chk14 v3), (k0_dev101 v3) < nD := fun v3 k0_hw14 => k0_hw14.2.2.2.2.2.2.2.2.2.2.2.2.2.2.2.2.2.2.2.2.2.1
theorem k0_dev103_lt : ∀ (v3 : BitVec 32) (k0_hw14 : k0_chk14 v3), (k0_dev103 v3) < nD := fun v3 k0_hw14 => k0_hw14.2.2.2.2.2.2.2.2.2.2.2.2.2.2.2.2.2.2.2.2.2.2.1
theorem k0_dev105_lt : ∀ (v3 : BitVec 32) (k0_hw14 : k0_chk14 v3), (k0_dev105 v3) < nD := fun v3 k0_hw14 => k0_hw14.2.2.2.2.2.2.2.2.2.2.2.2.2.2.2.2.2.2.2.2.2.2.2.1
theorem k0_dev107_lt : ∀ (v3 : BitVec 32) (k0_hw14 : k0_chk14 v3), (k0_dev107 v3) < nD := fun v3 k0_hw14 => k0_hw14.2.2.2.2.2.2.2.2.2.2.2.2.2.2.2.2.2.2.2.2.2.2.2.2.1
theorem k0_dev109_lt : ∀ (v3 : BitVec 32) (k0_hw14 : k0_chk14 v3), (k0_dev109 v3) < nD := fun v3 k0_hw14 => k0_hw14.2.2.2.2.2.2.2.2.2.2.2.2.2.2.2.2.2.2.2.2.2.2.2.2.2.1
theorem k0_dev111_lt : ∀ (v3 : BitVec 32) (k0_hw14 : k0_chk14 v3), (k0_dev111 v3) < nD := fun v3 k0_hw14 => k0_hw14.2.2.2.2.2.2.2.2.2.2.2.2.2.2.2.2.2.2.2.2.2.2.2.2.2.2.1
theorem k0_dev113_lt : ∀ (v3 : BitVec 32) (k0_hw14 : k0_chk14 v3), (k0_dev113 v3) < nD := fun v3 k0_hw14 => k0_hw14.2.2.2.2.2.2.2.2.2.2.2.2.2.2.2.2.2.2.2.2.2.2.2.2.2.2.2

def k0_off58 (v0 : BitVec 32) : Fin 2 → Nat :=
  let c7_i32_4102 : BitVec 32 := 7#32
  let v3480 : BitVec 32 := Scalar.addi v0 c7_i32_4102
  let c3_i32_4103 : BitVec 32 := 3#32
  let v3481 : BitVec 32 := Scalar.subi v3480 c3_i32_4103
  let c4_i32_4104 : BitVec 32 := 4#32
  let v3482 : BitVec 32 := Scalar.remsi v3481 c4_i32_4104
  let c8_i32_4108 : BitVec 32 := 8#32
  let v3486 : BitVec 32 := Scalar.muli v3482 c8_i32_4108
  let c128_i32_4109 : BitVec 32 := 128#32
  let v3487 : BitVec 32 := Scalar.muli v3486 c128_i32_4109
  let v3488 : Index := Scalar.indexCast v3487
  let c0_4110 : Index := 0#32
  ![v3488.toNat, 0]
def k0_off59 (v0 : BitVec 32) : Fin 2 → Nat :=
  let c3_i32_4105 : BitVec 32 := 3#32
  let v3483 : BitVec 32 := Scalar.addi v0 c3_i32_4105
  let c1_i32_4106 : BitVec 32 := 1#32
  let v3484 : BitVec 32 := Scalar.addi v3483 c1_i32_4106
  let c4_i32_4107 : BitVec 32 := 4#32
  let v3485 : BitVec 32 := Scalar.remsi v3484 c4_i32_4107
  let c8_i32_4114 : BitVec 32 := 8#32
  let v3494 : BitVec 32 := Scalar.muli v3485 c8_i32_4114
  let c128_i32_4115 : BitVec 32 := 128#32
  let v3495 : BitVec 32 := Scalar.muli v3494 c128_i32_4115
  let v3496 : Index := Scalar.indexCast v3495
  let c0_4116 : Index := 0#32
  ![v3496.toNat, 0]
def k0_off60 (v0 : BitVec 32) (c0_i32_4121 : BitVec 32) : Fin 2 → Nat :=
  let c7_i32_4102 : BitVec 32 := 7#32
  let v3480 : BitVec 32 := Scalar.addi v0 c7_i32_4102
  let c3_i32_4103 : BitVec 32 := 3#32
  let v3481 : BitVec 32 := Scalar.subi v3480 c3_i32_4103
  let c4_i32_4104 : BitVec 32 := 4#32
  let v3482 : BitVec 32 := Scalar.remsi v3481 c4_i32_4104
  let c8_i32_4120 : BitVec 32 := 8#32
  let v3502 : BitVec 32 := Scalar.muli v3482 c8_i32_4120
  let v3503 : BitVec 32 := Scalar.addi v3502 c0_i32_4121
  let c1_i32_4122 : BitVec 32 := 1#32
  let v3504 : BitVec 32 := Scalar.addi v3503 c1_i32_4122
  let c128_i32_4123 : BitVec 32 := 128#32
  let v3505 : BitVec 32 := Scalar.muli v3504 c128_i32_4123
  let v3506 : Index := Scalar.indexCast v3505
  let c0_4124 : Index := 0#32
  ![v3506.toNat, 0]
def k0_off61 (v0 : BitVec 32) (c0_i32_4129 : BitVec 32) : Fin 2 → Nat :=
  let c3_i32_4105 : BitVec 32 := 3#32
  let v3483 : BitVec 32 := Scalar.addi v0 c3_i32_4105
  let c1_i32_4106 : BitVec 32 := 1#32
  let v3484 : BitVec 32 := Scalar.addi v3483 c1_i32_4106
  let c4_i32_4107 : BitVec 32 := 4#32
  let v3485 : BitVec 32 := Scalar.remsi v3484 c4_i32_4107
  let c8_i32_4128 : BitVec 32 := 8#32
  let v3512 : BitVec 32 := Scalar.muli v3485 c8_i32_4128
  let v3513 : BitVec 32 := Scalar.addi v3512 c0_i32_4129
  let c1_i32_4130 : BitVec 32 := 1#32
  let v3514 : BitVec 32 := Scalar.addi v3513 c1_i32_4130
  let c128_i32_4131 : BitVec 32 := 128#32
  let v3515 : BitVec 32 := Scalar.muli v3514 c128_i32_4131
  let v3516 : Index := Scalar.indexCast v3515
  let c0_4132 : Index := 0#32
  ![v3516.toNat, 0]
def k0_off62 (v1 : BitVec 32) : Fin 1 → Nat :=
  let c6_i32_4586 : BitVec 32 := 6#32
  let c1_i32_4584 : BitVec 32 := 1#32
  let v3898 : BitVec 32 := Scalar.addi v1 c1_i32_4584
  let c8_i32_4585 : BitVec 32 := 8#32
  let v3899 : BitVec 32 := Scalar.remsi v3898 c8_i32_4585
  let v3900 : BitVec 32 := Scalar.addi c6_i32_4586 v3899
  let v3901 : Index := Scalar.indexCast v3900
  ![v3901.toNat]
def k0_off63 (v3902 : BitVec 32) : Fin 4 → Nat :=
  let c3_i32_4588 : BitVec 32 := 3#32
  let c0_i32_4596 : BitVec 32 := 0#32
  let c0_i32_4597 : BitVec 32 := 0#32
  ![3, v3902.toNat, 0, 0]

def k0_dev114 (v0 : BitVec 32) (v3902 : BitVec 32) : Nat :=
  let c0_i32_4593 : BitVec 32 := 0#32
  let c8_i32_4587 : BitVec 32 := 8#32
  let v3903 : BitVec 32 := Scalar.muli v0 c8_i32_4587
  let v3904 : BitVec 32 := Scalar.addi v3903 v3902
  let c1_i32_4592 : BitVec 32 := 1#32
  let v3905 : BitVec 32 := Scalar.muli v3904 c1_i32_4592
  let v3906 : BitVec 32 := Scalar.addi c0_i32_4593 v3905
  v3906.toNat
def k0_dev115 (v0 : BitVec 32) (v3902 : BitVec 32) : Nat :=
  let c0_i32_4603 : BitVec 32 := 0#32
  let c8_i32_4587 : BitVec 32 := 8#32
  let v3903 : BitVec 32 := Scalar.muli v0 c8_i32_4587
  let v3904 : BitVec 32 := Scalar.addi v3903 v3902
  let c1_i32_4602 : BitVec 32 := 1#32
  let v3915 : BitVec 32 := Scalar.muli v3904 c1_i32_4602
  let v3916 : BitVec 32 := Scalar.addi c0_i32_4603 v3915
  v3916.toNat

def k0_chk28 (v0 : BitVec 32) (v3902 : BitVec 32) : Prop :=
  (∀ a, (k0_off63 v3902) a + S1x1x128x384.size a ≤ S4x8x128x384.size a) ∧
  (∀ (hinb : ∀ a, (k0_off63 v3902) a + S1x1x128x384.size a ≤ S4x8x128x384.size a), (Rect.unit (s := S4x8x128x384) (k0_off63 v3902) S1x1x128x384.size hinb).WholeWords (EltTy.packing .bf16)) ∧
  ((k0_dev114 v0 v3902) < nD) ∧
  ((k0_dev115 v0 v3902) < nD)
theorem k0_off63_inb : ∀ (v0 : BitVec 32) (v3902 : BitVec 32) (k0_hw28 : k0_chk28 v0 v3902), ∀ a, (k0_off63 v3902) a + S1x1x128x384.size a ≤ S4x8x128x384.size a := fun v0 v3902 k0_hw28 => k0_hw28.1
theorem k0_off63_wordsbf16 : ∀ (v0 : BitVec 32) (v3902 : BitVec 32) (k0_hw28 : k0_chk28 v0 v3902), (Rect.unit (s := S4x8x128x384) (k0_off63 v3902) S1x1x128x384.size (k0_off63_inb v0 v3902 k0_hw28)).WholeWords (EltTy.packing .bf16) := fun v0 v3902 k0_hw28 => k0_hw28.2.1 (k0_off63_inb v0 v3902 k0_hw28)
theorem k0_dev114_lt : ∀ (v0 : BitVec 32) (v3902 : BitVec 32) (k0_hw28 : k0_chk28 v0 v3902), (k0_dev114 v0 v3902) < nD := fun v0 v3902 k0_hw28 => k0_hw28.2.2.1
theorem k0_dev115_lt : ∀ (v0 : BitVec 32) (v3902 : BitVec 32) (k0_hw28 : k0_chk28 v0 v3902), (k0_dev115 v0 v3902) < nD := fun v0 v3902 k0_hw28 => k0_hw28.2.2.2

def k0_off64 (v1 : BitVec 32) : Fin 1 → Nat :=
  let c6_i32_4610 : BitVec 32 := 6#32
  let c2_i32_4608 : BitVec 32 := 2#32
  let v3925 : BitVec 32 := Scalar.addi v1 c2_i32_4608
  let c8_i32_4609 : BitVec 32 := 8#32
  let v3926 : BitVec 32 := Scalar.remsi v3925 c8_i32_4609
  let v3927 : BitVec 32 := Scalar.addi c6_i32_4610 v3926
  let v3928 : Index := Scalar.indexCast v3927
  ![v3928.toNat]
def k0_off65 (v3929 : BitVec 32) : Fin 4 → Nat :=
  let c3_i32_4612 : BitVec 32 := 3#32
  let c0_i32_4620 : BitVec 32 := 0#32
  let c0_i32_4621 : BitVec 32 := 0#32
  ![3, v3929.toNat, 0, 0]

def k0_dev116 (v0 : BitVec 32) (v3929 : BitVec 32) : Nat :=
  let c0_i32_4617 : BitVec 32 := 0#32
  let c8_i32_4611 : BitVec 32 := 8#32
  let v3930 : BitVec 32 := Scalar.muli v0 c8_i32_4611
  let v3931 : BitVec 32 := Scalar.addi v3930 v3929
  let c1_i32_4616 : BitVec 32 := 1#32
  let v3932 : BitVec 32 := Scalar.muli v3931 c1_i32_4616
  let v3933 : BitVec 32 := Scalar.addi c0_i32_4617 v3932
  v3933.toNat
def k0_dev117 (v0 : BitVec 32) (v3929 : BitVec 32) : Nat :=
  let c0_i32_4627 : BitVec 32 := 0#32
  let c8_i32_4611 : BitVec 32 := 8#32
  let v3930 : BitVec 32 := Scalar.muli v0 c8_i32_4611
  let v3931 : BitVec 32 := Scalar.addi v3930 v3929
  let c1_i32_4626 : BitVec 32 := 1#32
  let v3942 : BitVec 32 := Scalar.muli v3931 c1_i32_4626
  let v3943 : BitVec 32 := Scalar.addi c0_i32_4627 v3942
  v3943.toNat

def k0_chk29 (v0 : BitVec 32) (v3929 : BitVec 32) : Prop :=
  (∀ a, (k0_off65 v3929) a + S1x1x128x384.size a ≤ S4x8x128x384.size a) ∧
  (∀ (hinb : ∀ a, (k0_off65 v3929) a + S1x1x128x384.size a ≤ S4x8x128x384.size a), (Rect.unit (s := S4x8x128x384) (k0_off65 v3929) S1x1x128x384.size hinb).WholeWords (EltTy.packing .bf16)) ∧
  ((k0_dev116 v0 v3929) < nD) ∧
  ((k0_dev117 v0 v3929) < nD)
theorem k0_off65_inb : ∀ (v0 : BitVec 32) (v3929 : BitVec 32) (k0_hw29 : k0_chk29 v0 v3929), ∀ a, (k0_off65 v3929) a + S1x1x128x384.size a ≤ S4x8x128x384.size a := fun v0 v3929 k0_hw29 => k0_hw29.1
theorem k0_off65_wordsbf16 : ∀ (v0 : BitVec 32) (v3929 : BitVec 32) (k0_hw29 : k0_chk29 v0 v3929), (Rect.unit (s := S4x8x128x384) (k0_off65 v3929) S1x1x128x384.size (k0_off65_inb v0 v3929 k0_hw29)).WholeWords (EltTy.packing .bf16) := fun v0 v3929 k0_hw29 => k0_hw29.2.1 (k0_off65_inb v0 v3929 k0_hw29)
theorem k0_dev116_lt : ∀ (v0 : BitVec 32) (v3929 : BitVec 32) (k0_hw29 : k0_chk29 v0 v3929), (k0_dev116 v0 v3929) < nD := fun v0 v3929 k0_hw29 => k0_hw29.2.2.1
theorem k0_dev117_lt : ∀ (v0 : BitVec 32) (v3929 : BitVec 32) (k0_hw29 : k0_chk29 v0 v3929), (k0_dev117 v0 v3929) < nD := fun v0 v3929 k0_hw29 => k0_hw29.2.2.2

def k0_off66 (v1 : BitVec 32) : Fin 1 → Nat :=
  let c6_i32_4634 : BitVec 32 := 6#32
  let c3_i32_4632 : BitVec 32 := 3#32
  let v3952 : BitVec 32 := Scalar.addi v1 c3_i32_4632
  let c8_i32_4633 : BitVec 32 := 8#32
  let v3953 : BitVec 32 := Scalar.remsi v3952 c8_i32_4633
  let v3954 : BitVec 32 := Scalar.addi c6_i32_4634 v3953
  let v3955 : Index := Scalar.indexCast v3954
  ![v3955.toNat]
def k0_off67 (v3956 : BitVec 32) : Fin 4 → Nat :=
  let c3_i32_4636 : BitVec 32 := 3#32
  let c0_i32_4644 : BitVec 32 := 0#32
  let c0_i32_4645 : BitVec 32 := 0#32
  ![3, v3956.toNat, 0, 0]

def k0_dev118 (v0 : BitVec 32) (v3956 : BitVec 32) : Nat :=
  let c0_i32_4641 : BitVec 32 := 0#32
  let c8_i32_4635 : BitVec 32 := 8#32
  let v3957 : BitVec 32 := Scalar.muli v0 c8_i32_4635
  let v3958 : BitVec 32 := Scalar.addi v3957 v3956
  let c1_i32_4640 : BitVec 32 := 1#32
  let v3959 : BitVec 32 := Scalar.muli v3958 c1_i32_4640
  let v3960 : BitVec 32 := Scalar.addi c0_i32_4641 v3959
  v3960.toNat
def k0_dev119 (v0 : BitVec 32) (v3956 : BitVec 32) : Nat :=
  let c0_i32_4651 : BitVec 32 := 0#32
  let c8_i32_4635 : BitVec 32 := 8#32
  let v3957 : BitVec 32 := Scalar.muli v0 c8_i32_4635
  let v3958 : BitVec 32 := Scalar.addi v3957 v3956
  let c1_i32_4650 : BitVec 32 := 1#32
  let v3969 : BitVec 32 := Scalar.muli v3958 c1_i32_4650
  let v3970 : BitVec 32 := Scalar.addi c0_i32_4651 v3969
  v3970.toNat

def k0_chk30 (v0 : BitVec 32) (v3956 : BitVec 32) : Prop :=
  (∀ a, (k0_off67 v3956) a + S1x1x128x384.size a ≤ S4x8x128x384.size a) ∧
  (∀ (hinb : ∀ a, (k0_off67 v3956) a + S1x1x128x384.size a ≤ S4x8x128x384.size a), (Rect.unit (s := S4x8x128x384) (k0_off67 v3956) S1x1x128x384.size hinb).WholeWords (EltTy.packing .bf16)) ∧
  ((k0_dev118 v0 v3956) < nD) ∧
  ((k0_dev119 v0 v3956) < nD)
theorem k0_off67_inb : ∀ (v0 : BitVec 32) (v3956 : BitVec 32) (k0_hw30 : k0_chk30 v0 v3956), ∀ a, (k0_off67 v3956) a + S1x1x128x384.size a ≤ S4x8x128x384.size a := fun v0 v3956 k0_hw30 => k0_hw30.1
theorem k0_off67_wordsbf16 : ∀ (v0 : BitVec 32) (v3956 : BitVec 32) (k0_hw30 : k0_chk30 v0 v3956), (Rect.unit (s := S4x8x128x384) (k0_off67 v3956) S1x1x128x384.size (k0_off67_inb v0 v3956 k0_hw30)).WholeWords (EltTy.packing .bf16) := fun v0 v3956 k0_hw30 => k0_hw30.2.1 (k0_off67_inb v0 v3956 k0_hw30)
theorem k0_dev118_lt : ∀ (v0 : BitVec 32) (v3956 : BitVec 32) (k0_hw30 : k0_chk30 v0 v3956), (k0_dev118 v0 v3956) < nD := fun v0 v3956 k0_hw30 => k0_hw30.2.2.1
theorem k0_dev119_lt : ∀ (v0 : BitVec 32) (v3956 : BitVec 32) (k0_hw30 : k0_chk30 v0 v3956), (k0_dev119 v0 v3956) < nD := fun v0 v3956 k0_hw30 => k0_hw30.2.2.2

def k0_off68 (v1 : BitVec 32) : Fin 1 → Nat :=
  let c6_i32_4658 : BitVec 32 := 6#32
  let c4_i32_4656 : BitVec 32 := 4#32
  let v3979 : BitVec 32 := Scalar.addi v1 c4_i32_4656
  let c8_i32_4657 : BitVec 32 := 8#32
  let v3980 : BitVec 32 := Scalar.remsi v3979 c8_i32_4657
  let v3981 : BitVec 32 := Scalar.addi c6_i32_4658 v3980
  let v3982 : Index := Scalar.indexCast v3981
  ![v3982.toNat]
def k0_off69 (v3983 : BitVec 32) : Fin 4 → Nat :=
  let c3_i32_4660 : BitVec 32 := 3#32
  let c0_i32_4668 : BitVec 32 := 0#32
  let c0_i32_4669 : BitVec 32 := 0#32
  ![3, v3983.toNat, 0, 0]

def k0_dev120 (v0 : BitVec 32) (v3983 : BitVec 32) : Nat :=
  let c0_i32_4665 : BitVec 32 := 0#32
  let c8_i32_4659 : BitVec 32 := 8#32
  let v3984 : BitVec 32 := Scalar.muli v0 c8_i32_4659
  let v3985 : BitVec 32 := Scalar.addi v3984 v3983
  let c1_i32_4664 : BitVec 32 := 1#32
  let v3986 : BitVec 32 := Scalar.muli v3985 c1_i32_4664
  let v3987 : BitVec 32 := Scalar.addi c0_i32_4665 v3986
  v3987.toNat
def k0_dev121 (v0 : BitVec 32) (v3983 : BitVec 32) : Nat :=
  let c0_i32_4675 : BitVec 32 := 0#32
  let c8_i32_4659 : BitVec 32 := 8#32
  let v3984 : BitVec 32 := Scalar.muli v0 c8_i32_4659
  let v3985 : BitVec 32 := Scalar.addi v3984 v3983
  let c1_i32_4674 : BitVec 32 := 1#32
  let v3996 : BitVec 32 := Scalar.muli v3985 c1_i32_4674
  let v3997 : BitVec 32 := Scalar.addi c0_i32_4675 v3996
  v3997.toNat

def k0_chk31 (v0 : BitVec 32) (v3983 : BitVec 32) : Prop :=
  (∀ a, (k0_off69 v3983) a + S1x1x128x384.size a ≤ S4x8x128x384.size a) ∧
  (∀ (hinb : ∀ a, (k0_off69 v3983) a + S1x1x128x384.size a ≤ S4x8x128x384.size a), (Rect.unit (s := S4x8x128x384) (k0_off69 v3983) S1x1x128x384.size hinb).WholeWords (EltTy.packing .bf16)) ∧
  ((k0_dev120 v0 v3983) < nD) ∧
  ((k0_dev121 v0 v3983) < nD)
theorem k0_off69_inb : ∀ (v0 : BitVec 32) (v3983 : BitVec 32) (k0_hw31 : k0_chk31 v0 v3983), ∀ a, (k0_off69 v3983) a + S1x1x128x384.size a ≤ S4x8x128x384.size a := fun v0 v3983 k0_hw31 => k0_hw31.1
theorem k0_off69_wordsbf16 : ∀ (v0 : BitVec 32) (v3983 : BitVec 32) (k0_hw31 : k0_chk31 v0 v3983), (Rect.unit (s := S4x8x128x384) (k0_off69 v3983) S1x1x128x384.size (k0_off69_inb v0 v3983 k0_hw31)).WholeWords (EltTy.packing .bf16) := fun v0 v3983 k0_hw31 => k0_hw31.2.1 (k0_off69_inb v0 v3983 k0_hw31)
theorem k0_dev120_lt : ∀ (v0 : BitVec 32) (v3983 : BitVec 32) (k0_hw31 : k0_chk31 v0 v3983), (k0_dev120 v0 v3983) < nD := fun v0 v3983 k0_hw31 => k0_hw31.2.2.1
theorem k0_dev121_lt : ∀ (v0 : BitVec 32) (v3983 : BitVec 32) (k0_hw31 : k0_chk31 v0 v3983), (k0_dev121 v0 v3983) < nD := fun v0 v3983 k0_hw31 => k0_hw31.2.2.2

def k0_off70 (v1 : BitVec 32) : Fin 1 → Nat :=
  let c6_i32_4682 : BitVec 32 := 6#32
  let c5_i32_4680 : BitVec 32 := 5#32
  let v4006 : BitVec 32 := Scalar.addi v1 c5_i32_4680
  let c8_i32_4681 : BitVec 32 := 8#32
  let v4007 : BitVec 32 := Scalar.remsi v4006 c8_i32_4681
  let v4008 : BitVec 32 := Scalar.addi c6_i32_4682 v4007
  let v4009 : Index := Scalar.indexCast v4008
  ![v4009.toNat]
def k0_off71 (v4010 : BitVec 32) : Fin 4 → Nat :=
  let c3_i32_4684 : BitVec 32 := 3#32
  let c0_i32_4692 : BitVec 32 := 0#32
  let c0_i32_4693 : BitVec 32 := 0#32
  ![3, v4010.toNat, 0, 0]

def k0_dev122 (v0 : BitVec 32) (v4010 : BitVec 32) : Nat :=
  let c0_i32_4689 : BitVec 32 := 0#32
  let c8_i32_4683 : BitVec 32 := 8#32
  let v4011 : BitVec 32 := Scalar.muli v0 c8_i32_4683
  let v4012 : BitVec 32 := Scalar.addi v4011 v4010
  let c1_i32_4688 : BitVec 32 := 1#32
  let v4013 : BitVec 32 := Scalar.muli v4012 c1_i32_4688
  let v4014 : BitVec 32 := Scalar.addi c0_i32_4689 v4013
  v4014.toNat
def k0_dev123 (v0 : BitVec 32) (v4010 : BitVec 32) : Nat :=
  let c0_i32_4699 : BitVec 32 := 0#32
  let c8_i32_4683 : BitVec 32 := 8#32
  let v4011 : BitVec 32 := Scalar.muli v0 c8_i32_4683
  let v4012 : BitVec 32 := Scalar.addi v4011 v4010
  let c1_i32_4698 : BitVec 32 := 1#32
  let v4023 : BitVec 32 := Scalar.muli v4012 c1_i32_4698
  let v4024 : BitVec 32 := Scalar.addi c0_i32_4699 v4023
  v4024.toNat

def k0_chk32 (v0 : BitVec 32) (v4010 : BitVec 32) : Prop :=
  (∀ a, (k0_off71 v4010) a + S1x1x128x384.size a ≤ S4x8x128x384.size a) ∧
  (∀ (hinb : ∀ a, (k0_off71 v4010) a + S1x1x128x384.size a ≤ S4x8x128x384.size a), (Rect.unit (s := S4x8x128x384) (k0_off71 v4010) S1x1x128x384.size hinb).WholeWords (EltTy.packing .bf16)) ∧
  ((k0_dev122 v0 v4010) < nD) ∧
  ((k0_dev123 v0 v4010) < nD)
theorem k0_off71_inb : ∀ (v0 : BitVec 32) (v4010 : BitVec 32) (k0_hw32 : k0_chk32 v0 v4010), ∀ a, (k0_off71 v4010) a + S1x1x128x384.size a ≤ S4x8x128x384.size a := fun v0 v4010 k0_hw32 => k0_hw32.1
theorem k0_off71_wordsbf16 : ∀ (v0 : BitVec 32) (v4010 : BitVec 32) (k0_hw32 : k0_chk32 v0 v4010), (Rect.unit (s := S4x8x128x384) (k0_off71 v4010) S1x1x128x384.size (k0_off71_inb v0 v4010 k0_hw32)).WholeWords (EltTy.packing .bf16) := fun v0 v4010 k0_hw32 => k0_hw32.2.1 (k0_off71_inb v0 v4010 k0_hw32)
theorem k0_dev122_lt : ∀ (v0 : BitVec 32) (v4010 : BitVec 32) (k0_hw32 : k0_chk32 v0 v4010), (k0_dev122 v0 v4010) < nD := fun v0 v4010 k0_hw32 => k0_hw32.2.2.1
theorem k0_dev123_lt : ∀ (v0 : BitVec 32) (v4010 : BitVec 32) (k0_hw32 : k0_chk32 v0 v4010), (k0_dev123 v0 v4010) < nD := fun v0 v4010 k0_hw32 => k0_hw32.2.2.2

def k0_off72 (v1 : BitVec 32) : Fin 1 → Nat :=
  let c6_i32_4706 : BitVec 32 := 6#32
  let c6_i32_4704 : BitVec 32 := 6#32
  let v4033 : BitVec 32 := Scalar.addi v1 c6_i32_4704
  let c8_i32_4705 : BitVec 32 := 8#32
  let v4034 : BitVec 32 := Scalar.remsi v4033 c8_i32_4705
  let v4035 : BitVec 32 := Scalar.addi c6_i32_4706 v4034
  let v4036 : Index := Scalar.indexCast v4035
  ![v4036.toNat]
def k0_off73 (v4037 : BitVec 32) : Fin 4 → Nat :=
  let c3_i32_4708 : BitVec 32 := 3#32
  let c0_i32_4716 : BitVec 32 := 0#32
  let c0_i32_4717 : BitVec 32 := 0#32
  ![3, v4037.toNat, 0, 0]

def k0_dev124 (v0 : BitVec 32) (v4037 : BitVec 32) : Nat :=
  let c0_i32_4713 : BitVec 32 := 0#32
  let c8_i32_4707 : BitVec 32 := 8#32
  let v4038 : BitVec 32 := Scalar.muli v0 c8_i32_4707
  let v4039 : BitVec 32 := Scalar.addi v4038 v4037
  let c1_i32_4712 : BitVec 32 := 1#32
  let v4040 : BitVec 32 := Scalar.muli v4039 c1_i32_4712
  let v4041 : BitVec 32 := Scalar.addi c0_i32_4713 v4040
  v4041.toNat
def k0_dev125 (v0 : BitVec 32) (v4037 : BitVec 32) : Nat :=
  let c0_i32_4723 : BitVec 32 := 0#32
  let c8_i32_4707 : BitVec 32 := 8#32
  let v4038 : BitVec 32 := Scalar.muli v0 c8_i32_4707
  let v4039 : BitVec 32 := Scalar.addi v4038 v4037
  let c1_i32_4722 : BitVec 32 := 1#32
  let v4050 : BitVec 32 := Scalar.muli v4039 c1_i32_4722
  let v4051 : BitVec 32 := Scalar.addi c0_i32_4723 v4050
  v4051.toNat

def k0_chk33 (v0 : BitVec 32) (v4037 : BitVec 32) : Prop :=
  (∀ a, (k0_off73 v4037) a + S1x1x128x384.size a ≤ S4x8x128x384.size a) ∧
  (∀ (hinb : ∀ a, (k0_off73 v4037) a + S1x1x128x384.size a ≤ S4x8x128x384.size a), (Rect.unit (s := S4x8x128x384) (k0_off73 v4037) S1x1x128x384.size hinb).WholeWords (EltTy.packing .bf16)) ∧
  ((k0_dev124 v0 v4037) < nD) ∧
  ((k0_dev125 v0 v4037) < nD)
theorem k0_off73_inb : ∀ (v0 : BitVec 32) (v4037 : BitVec 32) (k0_hw33 : k0_chk33 v0 v4037), ∀ a, (k0_off73 v4037) a + S1x1x128x384.size a ≤ S4x8x128x384.size a := fun v0 v4037 k0_hw33 => k0_hw33.1
theorem k0_off73_wordsbf16 : ∀ (v0 : BitVec 32) (v4037 : BitVec 32) (k0_hw33 : k0_chk33 v0 v4037), (Rect.unit (s := S4x8x128x384) (k0_off73 v4037) S1x1x128x384.size (k0_off73_inb v0 v4037 k0_hw33)).WholeWords (EltTy.packing .bf16) := fun v0 v4037 k0_hw33 => k0_hw33.2.1 (k0_off73_inb v0 v4037 k0_hw33)
theorem k0_dev124_lt : ∀ (v0 : BitVec 32) (v4037 : BitVec 32) (k0_hw33 : k0_chk33 v0 v4037), (k0_dev124 v0 v4037) < nD := fun v0 v4037 k0_hw33 => k0_hw33.2.2.1
theorem k0_dev125_lt : ∀ (v0 : BitVec 32) (v4037 : BitVec 32) (k0_hw33 : k0_chk33 v0 v4037), (k0_dev125 v0 v4037) < nD := fun v0 v4037 k0_hw33 => k0_hw33.2.2.2

def k0_off74 (v1 : BitVec 32) : Fin 1 → Nat :=
  let c6_i32_4730 : BitVec 32 := 6#32
  let c7_i32_4728 : BitVec 32 := 7#32
  let v4060 : BitVec 32 := Scalar.addi v1 c7_i32_4728
  let c8_i32_4729 : BitVec 32 := 8#32
  let v4061 : BitVec 32 := Scalar.remsi v4060 c8_i32_4729
  let v4062 : BitVec 32 := Scalar.addi c6_i32_4730 v4061
  let v4063 : Index := Scalar.indexCast v4062
  ![v4063.toNat]
def k0_off75 (v4064 : BitVec 32) : Fin 4 → Nat :=
  let c3_i32_4732 : BitVec 32 := 3#32
  let c0_i32_4740 : BitVec 32 := 0#32
  let c0_i32_4741 : BitVec 32 := 0#32
  ![3, v4064.toNat, 0, 0]

def k0_dev126 (v0 : BitVec 32) (v4064 : BitVec 32) : Nat :=
  let c0_i32_4737 : BitVec 32 := 0#32
  let c8_i32_4731 : BitVec 32 := 8#32
  let v4065 : BitVec 32 := Scalar.muli v0 c8_i32_4731
  let v4066 : BitVec 32 := Scalar.addi v4065 v4064
  let c1_i32_4736 : BitVec 32 := 1#32
  let v4067 : BitVec 32 := Scalar.muli v4066 c1_i32_4736
  let v4068 : BitVec 32 := Scalar.addi c0_i32_4737 v4067
  v4068.toNat
def k0_dev127 (v0 : BitVec 32) (v4064 : BitVec 32) : Nat :=
  let c0_i32_4747 : BitVec 32 := 0#32
  let c8_i32_4731 : BitVec 32 := 8#32
  let v4065 : BitVec 32 := Scalar.muli v0 c8_i32_4731
  let v4066 : BitVec 32 := Scalar.addi v4065 v4064
  let c1_i32_4746 : BitVec 32 := 1#32
  let v4077 : BitVec 32 := Scalar.muli v4066 c1_i32_4746
  let v4078 : BitVec 32 := Scalar.addi c0_i32_4747 v4077
  v4078.toNat

def k0_chk34 (v0 : BitVec 32) (v4064 : BitVec 32) : Prop :=
  (∀ a, (k0_off75 v4064) a + S1x1x128x384.size a ≤ S4x8x128x384.size a) ∧
  (∀ (hinb : ∀ a, (k0_off75 v4064) a + S1x1x128x384.size a ≤ S4x8x128x384.size a), (Rect.unit (s := S4x8x128x384) (k0_off75 v4064) S1x1x128x384.size hinb).WholeWords (EltTy.packing .bf16)) ∧
  ((k0_dev126 v0 v4064) < nD) ∧
  ((k0_dev127 v0 v4064) < nD)
theorem k0_off75_inb : ∀ (v0 : BitVec 32) (v4064 : BitVec 32) (k0_hw34 : k0_chk34 v0 v4064), ∀ a, (k0_off75 v4064) a + S1x1x128x384.size a ≤ S4x8x128x384.size a := fun v0 v4064 k0_hw34 => k0_hw34.1
theorem k0_off75_wordsbf16 : ∀ (v0 : BitVec 32) (v4064 : BitVec 32) (k0_hw34 : k0_chk34 v0 v4064), (Rect.unit (s := S4x8x128x384) (k0_off75 v4064) S1x1x128x384.size (k0_off75_inb v0 v4064 k0_hw34)).WholeWords (EltTy.packing .bf16) := fun v0 v4064 k0_hw34 => k0_hw34.2.1 (k0_off75_inb v0 v4064 k0_hw34)
theorem k0_dev126_lt : ∀ (v0 : BitVec 32) (v4064 : BitVec 32) (k0_hw34 : k0_chk34 v0 v4064), (k0_dev126 v0 v4064) < nD := fun v0 v4064 k0_hw34 => k0_hw34.2.2.1
theorem k0_dev127_lt : ∀ (v0 : BitVec 32) (v4064 : BitVec 32) (k0_hw34 : k0_chk34 v0 v4064), (k0_dev127 v0 v4064) < nD := fun v0 v4064 k0_hw34 => k0_hw34.2.2.2

def k0_off76 (v1 : BitVec 32) : Fin 1 → Nat :=
  let c6_i32_4755 : BitVec 32 := 6#32
  let c15_i32_4752 : BitVec 32 := 15#32
  let v4087 : BitVec 32 := Scalar.addi v1 c15_i32_4752
  let c7_i32_4753 : BitVec 32 := 7#32
  let v4088 : BitVec 32 := Scalar.subi v4087 c7_i32_4753
  let c8_i32_4754 : BitVec 32 := 8#32
  let v4089 : BitVec 32 := Scalar.remsi v4088 c8_i32_4754
  let v4090 : BitVec 32 := Scalar.addi c6_i32_4755 v4089
  let v4091 : Index := Scalar.indexCast v4090
  ![v4091.toNat]
def k0_off77 (v1 : BitVec 32) : Fin 1 → Nat :=
  let c6_i32_4759 : BitVec 32 := 6#32
  let c7_i32_4756 : BitVec 32 := 7#32
  let v4093 : BitVec 32 := Scalar.addi v1 c7_i32_4756
  let c1_i32_4757 : BitVec 32 := 1#32
  let v4094 : BitVec 32 := Scalar.addi v4093 c1_i32_4757
  let c8_i32_4758 : BitVec 32 := 8#32
  let v4095 : BitVec 32 := Scalar.remsi v4094 c8_i32_4758
  let v4096 : BitVec 32 := Scalar.addi c6_i32_4759 v4095
  let v4097 : Index := Scalar.indexCast v4096
  ![v4097.toNat]
def k0_off78 (v4092 : BitVec 32) : Fin 2 → Nat :=
  let c128_i32_4760 : BitVec 32 := 128#32
  let v4099 : BitVec 32 := Scalar.muli v4092 c128_i32_4760
  let v4100 : Index := Scalar.indexCast v4099
  let c0_4761 : Index := 0#32
  ![v4100.toNat, 0]

def k0_off79 (v4098 : BitVec 32) : Fin 2 → Nat :=
  let c128_i32_4765 : BitVec 32 := 128#32
  let v4106 : BitVec 32 := Scalar.muli v4098 c128_i32_4765
  let v4107 : Index := Scalar.indexCast v4106
  let c0_4766 : Index := 0#32
  ![v4107.toNat, 0]

def k0_off80 (v4092 : BitVec 32) (c8_i32_4770 : BitVec 32) : Fin 2 → Nat :=
  let v4113 : BitVec 32 := Scalar.addi c8_i32_4770 v4092
  let c128_i32_4771 : BitVec 32 := 128#32
  let v4114 : BitVec 32 := Scalar.muli v4113 c128_i32_4771
  let v4115 : Index := Scalar.indexCast v4114
  let c0_4772 : Index := 0#32
  ![v4115.toNat, 0]

def k0_chk35 (v4092 : BitVec 32) : Prop :=
  (∀ a, (k0_off78 v4092) a + S128x128.size a ≤ S4096x128.size a) ∧
  (∀ (r : Fin 3), ∀ a, (k0_off80 v4092 (BitVec.ofNat 32 (8 + 8 * r.val))) a + S128x128.size a ≤ S4096x128.size a)
theorem k0_off78_inb : ∀ (v4092 : BitVec 32) (k0_hw35 : k0_chk35 v4092), ∀ a, (k0_off78 v4092) a + S128x128.size a ≤ S4096x128.size a := fun v4092 k0_hw35 => k0_hw35.1
theorem k0_off80_inb : ∀ (v4092 : BitVec 32) (k0_hw35 : k0_chk35 v4092), ∀ (r : Fin 3), ∀ a, (k0_off80 v4092 (BitVec.ofNat 32 (8 + 8 * r.val))) a + S128x128.size a ≤ S4096x128.size a := fun v4092 k0_hw35 r => k0_hw35.2 r

def k0_off81 (v4098 : BitVec 32) (c8_i32_4776 : BitVec 32) : Fin 2 → Nat :=
  let v4121 : BitVec 32 := Scalar.addi c8_i32_4776 v4098
  let c128_i32_4777 : BitVec 32 := 128#32
  let v4122 : BitVec 32 := Scalar.muli v4121 c128_i32_4777
  let v4123 : Index := Scalar.indexCast v4122
  let c0_4778 : Index := 0#32
  ![v4123.toNat, 0]

def k0_chk36 (v4098 : BitVec 32) : Prop :=
  (∀ a, (k0_off79 v4098) a + S128x128.size a ≤ S4096x128.size a) ∧
  (∀ (r : Fin 3), ∀ a, (k0_off81 v4098 (BitVec.ofNat 32 (8 + 8 * r.val))) a + S128x128.size a ≤ S4096x128.size a)
theorem k0_off79_inb : ∀ (v4098 : BitVec 32) (k0_hw36 : k0_chk36 v4098), ∀ a, (k0_off79 v4098) a + S128x128.size a ≤ S4096x128.size a := fun v4098 k0_hw36 => k0_hw36.1
theorem k0_off81_inb : ∀ (v4098 : BitVec 32) (k0_hw36 : k0_chk36 v4098), ∀ (r : Fin 3), ∀ a, (k0_off81 v4098 (BitVec.ofNat 32 (8 + 8 * r.val))) a + S128x128.size a ≤ S4096x128.size a := fun v4098 k0_hw36 r => k0_hw36.2 r

def k0_dev128 (v4 : BitVec 32) : Nat :=
  let c0_i32_6955 : BitVec 32 := 0#32
  let c1_i32_6954 : BitVec 32 := 1#32
  let v5450 : BitVec 32 := Scalar.muli v4 c1_i32_6954
  let v5451 : BitVec 32 := Scalar.addi c0_i32_6955 v5450
  v5451.toNat
def k0_cond1 (v0 : BitVec 32) : BitVec 1 :=
  let c3_i32_4826 : BitVec 32 := 3#32
  let v4161 : BitVec 32 := Scalar.addi v0 c3_i32_4826
  let c4_i32_4827 : BitVec 32 := 4#32
  let v4162 : BitVec 32 := Scalar.remsi v4161 c4_i32_4827
  let c0_i32_4828 : BitVec 32 := 0#32
  let v4163 : BitVec 1 := Scalar.cmpi .eq v4162 c0_i32_4828
  let v4164 : BitVec 32 := Scalar.extui v4163
  let c0_i32_4829 : BitVec 32 := 0#32
  let v4165 : BitVec 1 := Scalar.cmpi .ne v4164 c0_i32_4829
  v4165

def k0_dev129 (v5 : BitVec 32) : Nat :=
  let c0_i32_6955 : BitVec 32 := 0#32
  let c1_i32_6954 : BitVec 32 := 1#32
  let v5450 : BitVec 32 := Scalar.muli v5 c1_i32_6954
  let v5451 : BitVec 32 := Scalar.addi c0_i32_6955 v5450
  v5451.toNat
def k0_cond2 (v0 : BitVec 32) : BitVec 1 :=
  let c1_i32_4830 : BitVec 32 := 1#32
  let v4166 : BitVec 32 := Scalar.addi v0 c1_i32_4830
  let c4_i32_4831 : BitVec 32 := 4#32
  let v4167 : BitVec 32 := Scalar.remsi v4166 c4_i32_4831
  let c0_i32_4832 : BitVec 32 := 0#32
  let v4168 : BitVec 1 := Scalar.cmpi .eq v4167 c0_i32_4832
  let v4169 : BitVec 32 := Scalar.extui v4168
  let c0_i32_4833 : BitVec 32 := 0#32
  let v4170 : BitVec 1 := Scalar.cmpi .ne v4169 c0_i32_4833
  v4170

def k0_dev130 (v4 : BitVec 32) : Nat :=
  let c0_i32_6955 : BitVec 32 := 0#32
  let c1_i32_6954 : BitVec 32 := 1#32
  let v5450 : BitVec 32 := Scalar.muli v4 c1_i32_6954
  let v5451 : BitVec 32 := Scalar.addi c0_i32_6955 v5450
  v5451.toNat
def k0_cond3 (v0 : BitVec 32) : BitVec 1 :=
  let c3_i32_4890 : BitVec 32 := 3#32
  let v4219 : BitVec 32 := Scalar.addi v0 c3_i32_4890
  let c4_i32_4891 : BitVec 32 := 4#32
  let v4220 : BitVec 32 := Scalar.remsi v4219 c4_i32_4891
  let c1_i32_4892 : BitVec 32 := 1#32
  let v4221 : BitVec 1 := Scalar.cmpi .eq v4220 c1_i32_4892
  let v4222 : BitVec 32 := Scalar.extui v4221
  let c0_i32_4893 : BitVec 32 := 0#32
  let v4223 : BitVec 1 := Scalar.cmpi .ne v4222 c0_i32_4893
  v4223

def k0_dev131 (v5 : BitVec 32) : Nat :=
  let c0_i32_6955 : BitVec 32 := 0#32
  let c1_i32_6954 : BitVec 32 := 1#32
  let v5450 : BitVec 32 := Scalar.muli v5 c1_i32_6954
  let v5451 : BitVec 32 := Scalar.addi c0_i32_6955 v5450
  v5451.toNat
def k0_cond4 (v0 : BitVec 32) : BitVec 1 :=
  let c1_i32_4894 : BitVec 32 := 1#32
  let v4224 : BitVec 32 := Scalar.addi v0 c1_i32_4894
  let c4_i32_4895 : BitVec 32 := 4#32
  let v4225 : BitVec 32 := Scalar.remsi v4224 c4_i32_4895
  let c1_i32_4896 : BitVec 32 := 1#32
  let v4226 : BitVec 1 := Scalar.cmpi .eq v4225 c1_i32_4896
  let v4227 : BitVec 32 := Scalar.extui v4226
  let c0_i32_4897 : BitVec 32 := 0#32
  let v4228 : BitVec 1 := Scalar.cmpi .ne v4227 c0_i32_4897
  v4228

def k0_dev132 (v4 : BitVec 32) : Nat :=
  let c0_i32_6955 : BitVec 32 := 0#32
  let c1_i32_6954 : BitVec 32 := 1#32
  let v5450 : BitVec 32 := Scalar.muli v4 c1_i32_6954
  let v5451 : BitVec 32 := Scalar.addi c0_i32_6955 v5450
  v5451.toNat
def k0_cond5 (v0 : BitVec 32) : BitVec 1 :=
  let c3_i32_4954 : BitVec 32 := 3#32
  let v4277 : BitVec 32 := Scalar.addi v0 c3_i32_4954
  let c4_i32_4955 : BitVec 32 := 4#32
  let v4278 : BitVec 32 := Scalar.remsi v4277 c4_i32_4955
  let c2_i32_4956 : BitVec 32 := 2#32
  let v4279 : BitVec 1 := Scalar.cmpi .eq v4278 c2_i32_4956
  let v4280 : BitVec 32 := Scalar.extui v4279
  let c0_i32_4957 : BitVec 32 := 0#32
  let v4281 : BitVec 1 := Scalar.cmpi .ne v4280 c0_i32_4957
  v4281

def k0_dev133 (v5 : BitVec 32) : Nat :=
  let c0_i32_6955 : BitVec 32 := 0#32
  let c1_i32_6954 : BitVec 32 := 1#32
  let v5450 : BitVec 32 := Scalar.muli v5 c1_i32_6954
  let v5451 : BitVec 32 := Scalar.addi c0_i32_6955 v5450
  v5451.toNat
def k0_cond6 (v0 : BitVec 32) : BitVec 1 :=
  let c1_i32_4958 : BitVec 32 := 1#32
  let v4282 : BitVec 32 := Scalar.addi v0 c1_i32_4958
  let c4_i32_4959 : BitVec 32 := 4#32
  let v4283 : BitVec 32 := Scalar.remsi v4282 c4_i32_4959
  let c2_i32_4960 : BitVec 32 := 2#32
  let v4284 : BitVec 1 := Scalar.cmpi .eq v4283 c2_i32_4960
  let v4285 : BitVec 32 := Scalar.extui v4284
  let c0_i32_4961 : BitVec 32 := 0#32
  let v4286 : BitVec 1 := Scalar.cmpi .ne v4285 c0_i32_4961
  v4286

def k0_dev134 (v4 : BitVec 32) : Nat :=
  let c0_i32_6955 : BitVec 32 := 0#32
  let c1_i32_6954 : BitVec 32 := 1#32
  let v5450 : BitVec 32 := Scalar.muli v4 c1_i32_6954
  let v5451 : BitVec 32 := Scalar.addi c0_i32_6955 v5450
  v5451.toNat
def k0_cond7 (v0 : BitVec 32) : BitVec 1 :=
  let c3_i32_5006 : BitVec 32 := 3#32
  let v4319 : BitVec 32 := Scalar.addi v0 c3_i32_5006
  let c4_i32_5007 : BitVec 32 := 4#32
  let v4320 : BitVec 32 := Scalar.remsi v4319 c4_i32_5007
  let c3_i32_5008 : BitVec 32 := 3#32
  let v4321 : BitVec 1 := Scalar.cmpi .eq v4320 c3_i32_5008
  let v4322 : BitVec 32 := Scalar.extui v4321
  let c0_i32_5009 : BitVec 32 := 0#32
  let v4323 : BitVec 1 := Scalar.cmpi .ne v4322 c0_i32_5009
  v4323

def k0_dev135 (v5 : BitVec 32) : Nat :=
  let c0_i32_6955 : BitVec 32 := 0#32
  let c1_i32_6954 : BitVec 32 := 1#32
  let v5450 : BitVec 32 := Scalar.muli v5 c1_i32_6954
  let v5451 : BitVec 32 := Scalar.addi c0_i32_6955 v5450
  v5451.toNat
def k0_cond8 (v0 : BitVec 32) : BitVec 1 :=
  let c1_i32_5010 : BitVec 32 := 1#32
  let v4324 : BitVec 32 := Scalar.addi v0 c1_i32_5010
  let c4_i32_5011 : BitVec 32 := 4#32
  let v4325 : BitVec 32 := Scalar.remsi v4324 c4_i32_5011
  let c3_i32_5012 : BitVec 32 := 3#32
  let v4326 : BitVec 1 := Scalar.cmpi .eq v4325 c3_i32_5012
  let v4327 : BitVec 32 := Scalar.extui v4326
  let c0_i32_5013 : BitVec 32 := 0#32
  let v4328 : BitVec 1 := Scalar.cmpi .ne v4327 c0_i32_5013
  v4328

def k0_off82 (v1 : BitVec 32) : Fin 1 → Nat :=
  let c6_i32_5016 : BitVec 32 := 6#32
  let v4332 : BitVec 32 := Scalar.addi c6_i32_5016 v1
  let v4333 : Index := Scalar.indexCast v4332
  ![v4333.toNat]

def k0_chk1 (v1 : BitVec 32) : Prop :=
  (∀ a, (k0_off1 v1) a + S1.size a ≤ S14.size a) ∧
  (∀ a, (k0_off2 v1) a + S1.size a ≤ S14.size a) ∧
  (∀ a, (k0_off3 v1) a + S1.size a ≤ S14.size a) ∧
  (∀ a, (k0_off4 v1) a + S1.size a ≤ S14.size a) ∧
  (∀ a, (k0_off5 v1) a + S1.size a ≤ S14.size a) ∧
  (∀ a, (k0_off6 v1) a + S1.size a ≤ S14.size a) ∧
  (∀ a, (k0_off7 v1) a + S1.size a ≤ S14.size a) ∧
  (∀ (r : Fin 2), ∀ a, (k0_off8 v1 (BitVec.ofNat 32 (1 + 6 * r.val))) a + S1.size a ≤ S14.size a) ∧
  (∀ a, (k0_off14 v1) a + S1.size a ≤ S14.size a) ∧
  (∀ a, (k0_off15 v1) a + S1.size a ≤ S14.size a) ∧
  (∀ a, (k0_off20 v1) a + S1.size a ≤ S14.size a) ∧
  (∀ a, (k0_off21 v1) a + S1.size a ≤ S14.size a) ∧
  (∀ a, (k0_off30 v1) a + S1.size a ≤ S14.size a) ∧
  (∀ a, (k0_off31 v1) a + S1.size a ≤ S14.size a) ∧
  (∀ a, (k0_off36 v1) a + S1.size a ≤ S14.size a) ∧
  (∀ a, (k0_off37 v1) a + S1.size a ≤ S14.size a) ∧
  (∀ a, (k0_off46 v1) a + S1.size a ≤ S14.size a) ∧
  (∀ a, (k0_off47 v1) a + S1.size a ≤ S14.size a) ∧
  (∀ a, (k0_off52 v1) a + S1.size a ≤ S14.size a) ∧
  (∀ a, (k0_off53 v1) a + S1.size a ≤ S14.size a) ∧
  (∀ a, (k0_off62 v1) a + S1.size a ≤ S14.size a) ∧
  (∀ a, (k0_off64 v1) a + S1.size a ≤ S14.size a) ∧
  (∀ a, (k0_off66 v1) a + S1.size a ≤ S14.size a) ∧
  (∀ a, (k0_off68 v1) a + S1.size a ≤ S14.size a) ∧
  (∀ a, (k0_off70 v1) a + S1.size a ≤ S14.size a) ∧
  (∀ a, (k0_off72 v1) a + S1.size a ≤ S14.size a) ∧
  (∀ a, (k0_off74 v1) a + S1.size a ≤ S14.size a) ∧
  (∀ a, (k0_off76 v1) a + S1.size a ≤ S14.size a) ∧
  (∀ a, (k0_off77 v1) a + S1.size a ≤ S14.size a) ∧
  (∀ a, (k0_off82 v1) a + S1.size a ≤ S14.size a)
theorem k0_off1_inb : ∀ (v1 : BitVec 32) (k0_hw1 : k0_chk1 v1), ∀ a, (k0_off1 v1) a + S1.size a ≤ S14.size a := fun v1 k0_hw1 => k0_hw1.1
theorem k0_off2_inb : ∀ (v1 : BitVec 32) (k0_hw1 : k0_chk1 v1), ∀ a, (k0_off2 v1) a + S1.size a ≤ S14.size a := fun v1 k0_hw1 => k0_hw1.2.1
theorem k0_off3_inb : ∀ (v1 : BitVec 32) (k0_hw1 : k0_chk1 v1), ∀ a, (k0_off3 v1) a + S1.size a ≤ S14.size a := fun v1 k0_hw1 => k0_hw1.2.2.1
theorem k0_off4_inb : ∀ (v1 : BitVec 32) (k0_hw1 : k0_chk1 v1), ∀ a, (k0_off4 v1) a + S1.size a ≤ S14.size a := fun v1 k0_hw1 => k0_hw1.2.2.2.1
theorem k0_off5_inb : ∀ (v1 : BitVec 32) (k0_hw1 : k0_chk1 v1), ∀ a, (k0_off5 v1) a + S1.size a ≤ S14.size a := fun v1 k0_hw1 => k0_hw1.2.2.2.2.1
theorem k0_off6_inb : ∀ (v1 : BitVec 32) (k0_hw1 : k0_chk1 v1), ∀ a, (k0_off6 v1) a + S1.size a ≤ S14.size a := fun v1 k0_hw1 => k0_hw1.2.2.2.2.2.1
theorem k0_off7_inb : ∀ (v1 : BitVec 32) (k0_hw1 : k0_chk1 v1), ∀ a, (k0_off7 v1) a + S1.size a ≤ S14.size a := fun v1 k0_hw1 => k0_hw1.2.2.2.2.2.2.1
theorem k0_off8_inb : ∀ (v1 : BitVec 32) (k0_hw1 : k0_chk1 v1), ∀ (r : Fin 2), ∀ a, (k0_off8 v1 (BitVec.ofNat 32 (1 + 6 * r.val))) a + S1.size a ≤ S14.size a := fun v1 k0_hw1 r => k0_hw1.2.2.2.2.2.2.2.1 r
theorem k0_off14_inb : ∀ (v1 : BitVec 32) (k0_hw1 : k0_chk1 v1), ∀ a, (k0_off14 v1) a + S1.size a ≤ S14.size a := fun v1 k0_hw1 => k0_hw1.2.2.2.2.2.2.2.2.1
theorem k0_off15_inb : ∀ (v1 : BitVec 32) (k0_hw1 : k0_chk1 v1), ∀ a, (k0_off15 v1) a + S1.size a ≤ S14.size a := fun v1 k0_hw1 => k0_hw1.2.2.2.2.2.2.2.2.2.1
theorem k0_off20_inb : ∀ (v1 : BitVec 32) (k0_hw1 : k0_chk1 v1), ∀ a, (k0_off20 v1) a + S1.size a ≤ S14.size a := fun v1 k0_hw1 => k0_hw1.2.2.2.2.2.2.2.2.2.2.1
theorem k0_off21_inb : ∀ (v1 : BitVec 32) (k0_hw1 : k0_chk1 v1), ∀ a, (k0_off21 v1) a + S1.size a ≤ S14.size a := fun v1 k0_hw1 => k0_hw1.2.2.2.2.2.2.2.2.2.2.2.1
theorem k0_off30_inb : ∀ (v1 : BitVec 32) (k0_hw1 : k0_chk1 v1), ∀ a, (k0_off30 v1) a + S1.size a ≤ S14.size a := fun v1 k0_hw1 => k0_hw1.2.2.2.2.2.2.2.2.2.2.2.2.1
theorem k0_off31_inb : ∀ (v1 : BitVec 32) (k0_hw1 : k0_chk1 v1), ∀ a, (k0_off31 v1) a + S1.size a ≤ S14.size a := fun v1 k0_hw1 => k0_hw1.2.2.2.2.2.2.2.2.2.2.2.2.2.1
theorem k0_off36_inb : ∀ (v1 : BitVec 32) (k0_hw1 : k0_chk1 v1), ∀ a, (k0_off36 v1) a + S1.size a ≤ S14.size a := fun v1 k0_hw1 => k0_hw1.2.2.2.2.2.2.2.2.2.2.2.2.2.2.1
theorem k0_off37_inb : ∀ (v1 : BitVec 32) (k0_hw1 : k0_chk1 v1), ∀ a, (k0_off37 v1) a + S1.size a ≤ S14.size a := fun v1 k0_hw1 => k0_hw1.2.2.2.2.2.2.2.2.2.2.2.2.2.2.2.1
theorem k0_off46_inb : ∀ (v1 : BitVec 32) (k0_hw1 : k0_chk1 v1), ∀ a, (k0_off46 v1) a + S1.size a ≤ S14.size a := fun v1 k0_hw1 => k0_hw1.2.2.2.2.2.2.2.2.2.2.2.2.2.2.2.2.1
theorem k0_off47_inb : ∀ (v1 : BitVec 32) (k0_hw1 : k0_chk1 v1), ∀ a, (k0_off47 v1) a + S1.size a ≤ S14.size a := fun v1 k0_hw1 => k0_hw1.2.2.2.2.2.2.2.2.2.2.2.2.2.2.2.2.2.1
theorem k0_off52_inb : ∀ (v1 : BitVec 32) (k0_hw1 : k0_chk1 v1), ∀ a, (k0_off52 v1) a + S1.size a ≤ S14.size a := fun v1 k0_hw1 => k0_hw1.2.2.2.2.2.2.2.2.2.2.2.2.2.2.2.2.2.2.1
theorem k0_off53_inb : ∀ (v1 : BitVec 32) (k0_hw1 : k0_chk1 v1), ∀ a, (k0_off53 v1) a + S1.size a ≤ S14.size a := fun v1 k0_hw1 => k0_hw1.2.2.2.2.2.2.2.2.2.2.2.2.2.2.2.2.2.2.2.1
theorem k0_off62_inb : ∀ (v1 : BitVec 32) (k0_hw1 : k0_chk1 v1), ∀ a, (k0_off62 v1) a + S1.size a ≤ S14.size a := fun v1 k0_hw1 => k0_hw1.2.2.2.2.2.2.2.2.2.2.2.2.2.2.2.2.2.2.2.2.1
theorem k0_off64_inb : ∀ (v1 : BitVec 32) (k0_hw1 : k0_chk1 v1), ∀ a, (k0_off64 v1) a + S1.size a ≤ S14.size a := fun v1 k0_hw1 => k0_hw1.2.2.2.2.2.2.2.2.2.2.2.2.2.2.2.2.2.2.2.2.2.1
theorem k0_off66_inb : ∀ (v1 : BitVec 32) (k0_hw1 : k0_chk1 v1), ∀ a, (k0_off66 v1) a + S1.size a ≤ S14.size a := fun v1 k0_hw1 => k0_hw1.2.2.2.2.2.2.2.2.2.2.2.2.2.2.2.2.2.2.2.2.2.2.1
theorem k0_off68_inb : ∀ (v1 : BitVec 32) (k0_hw1 : k0_chk1 v1), ∀ a, (k0_off68 v1) a + S1.size a ≤ S14.size a := fun v1 k0_hw1 => k0_hw1.2.2.2.2.2.2.2.2.2.2.2.2.2.2.2.2.2.2.2.2.2.2.2.1
theorem k0_off70_inb : ∀ (v1 : BitVec 32) (k0_hw1 : k0_chk1 v1), ∀ a, (k0_off70 v1) a + S1.size a ≤ S14.size a := fun v1 k0_hw1 => k0_hw1.2.2.2.2.2.2.2.2.2.2.2.2.2.2.2.2.2.2.2.2.2.2.2.2.1
theorem k0_off72_inb : ∀ (v1 : BitVec 32) (k0_hw1 : k0_chk1 v1), ∀ a, (k0_off72 v1) a + S1.size a ≤ S14.size a := fun v1 k0_hw1 => k0_hw1.2.2.2.2.2.2.2.2.2.2.2.2.2.2.2.2.2.2.2.2.2.2.2.2.2.1
theorem k0_off74_inb : ∀ (v1 : BitVec 32) (k0_hw1 : k0_chk1 v1), ∀ a, (k0_off74 v1) a + S1.size a ≤ S14.size a := fun v1 k0_hw1 => k0_hw1.2.2.2.2.2.2.2.2.2.2.2.2.2.2.2.2.2.2.2.2.2.2.2.2.2.2.1
theorem k0_off76_inb : ∀ (v1 : BitVec 32) (k0_hw1 : k0_chk1 v1), ∀ a, (k0_off76 v1) a + S1.size a ≤ S14.size a := fun v1 k0_hw1 => k0_hw1.2.2.2.2.2.2.2.2.2.2.2.2.2.2.2.2.2.2.2.2.2.2.2.2.2.2.2.1
theorem k0_off77_inb : ∀ (v1 : BitVec 32) (k0_hw1 : k0_chk1 v1), ∀ a, (k0_off77 v1) a + S1.size a ≤ S14.size a := fun v1 k0_hw1 => k0_hw1.2.2.2.2.2.2.2.2.2.2.2.2.2.2.2.2.2.2.2.2.2.2.2.2.2.2.2.2.1
theorem k0_off82_inb : ∀ (v1 : BitVec 32) (k0_hw1 : k0_chk1 v1), ∀ a, (k0_off82 v1) a + S1.size a ≤ S14.size a := fun v1 k0_hw1 => k0_hw1.2.2.2.2.2.2.2.2.2.2.2.2.2.2.2.2.2.2.2.2.2.2.2.2.2.2.2.2.2

def k0_off83 (v4334 : BitVec 32) : Fin 4 → Nat :=
  let c3_5017 : Index := 3#32
  let v4335 : Index := Scalar.indexCast v4334
  let c0_5018 : Index := 0#32
  let c0_5019 : Index := 0#32
  ![3, v4335.toNat, 0, 0]

def k0_chk37 (v4334 : BitVec 32) : Prop :=
  (∀ a, (k0_off83 v4334) a + S1x1x128x384.size a ≤ S4x8x128x384.size a)
theorem k0_off83_inb : ∀ (v4334 : BitVec 32) (k0_hw37 : k0_chk37 v4334), ∀ a, (k0_off83 v4334) a + S1x1x128x384.size a ≤ S4x8x128x384.size a := fun v4334 k0_hw37 => k0_hw37

def k0_off84 (v0 : BitVec 32) (c1_i32_5024 : BitVec 32) : Fin 4 → Nat :=
  let c7_5026 : Index := 7#32
  let c7_i32_5023 : BitVec 32 := 7#32
  let v4343 : BitVec 32 := Scalar.addi v0 c7_i32_5023
  let v4344 : BitVec 32 := Scalar.subi v4343 c1_i32_5024
  let c4_i32_5025 : BitVec 32 := 4#32
  let v4345 : BitVec 32 := Scalar.remsi v4344 c4_i32_5025
  let v4346 : Index := Scalar.indexCast v4345
  let c0_5027 : Index := 0#32
  let c0_5028 : Index := 0#32
  ![7, v4346.toNat, 0, 0]
def k0_off85 (v0 : BitVec 32) (c1_i32_5029 : BitVec 32) : Fin 4 → Nat :=
  let c7_5032 : Index := 7#32
  let v4350 : BitVec 32 := Scalar.addi v0 c1_i32_5029
  let c1_i32_5030 : BitVec 32 := 1#32
  let v4351 : BitVec 32 := Scalar.addi v4350 c1_i32_5030
  let c4_i32_5031 : BitVec 32 := 4#32
  let v4352 : BitVec 32 := Scalar.remsi v4351 c4_i32_5031
  let v4353 : Index := Scalar.indexCast v4352
  let c0_5033 : Index := 0#32
  let c0_5034 : Index := 0#32
  ![7, v4353.toNat, 0, 0]

def k0_chk15 (v0 : BitVec 32) : Prop :=
  (∀ (r₁ : Fin 2) (r₂ : Fin 8), ∀ a, (k0_off13 v0 (BitVec.ofNat 32 (1 + 2 * r₁.val)) (BitVec.ofNat 32 r₂.val)) a + S128x128.size a ≤ S4096x128.size a) ∧
  (∀ a, (k0_off26 v0) a + S128x128.size a ≤ S4096x128.size a) ∧
  (∀ a, (k0_off27 v0) a + S128x128.size a ≤ S4096x128.size a) ∧
  (∀ (r : Fin 7), ∀ a, (k0_off28 v0 (BitVec.ofNat 32 r.val)) a + S128x128.size a ≤ S4096x128.size a) ∧
  (∀ (r : Fin 7), ∀ a, (k0_off29 v0 (BitVec.ofNat 32 r.val)) a + S128x128.size a ≤ S4096x128.size a) ∧
  (∀ a, (k0_off42 v0) a + S128x128.size a ≤ S4096x128.size a) ∧
  (∀ a, (k0_off43 v0) a + S128x128.size a ≤ S4096x128.size a) ∧
  (∀ (r : Fin 7), ∀ a, (k0_off44 v0 (BitVec.ofNat 32 r.val)) a + S128x128.size a ≤ S4096x128.size a) ∧
  (∀ (r : Fin 7), ∀ a, (k0_off45 v0 (BitVec.ofNat 32 r.val)) a + S128x128.size a ≤ S4096x128.size a) ∧
  (∀ a, (k0_off58 v0) a + S128x128.size a ≤ S4096x128.size a) ∧
  (∀ a, (k0_off59 v0) a + S128x128.size a ≤ S4096x128.size a) ∧
  (∀ (r : Fin 7), ∀ a, (k0_off60 v0 (BitVec.ofNat 32 r.val)) a + S128x128.size a ≤ S4096x128.size a) ∧
  (∀ (r : Fin 7), ∀ a, (k0_off61 v0 (BitVec.ofNat 32 r.val)) a + S128x128.size a ≤ S4096x128.size a) ∧
  (∀ (r : Fin 3), ∀ a, (k0_off84 v0 (BitVec.ofNat 32 (1 + r.val))) a + S1x1x128x640.size a ≤ S8x4x128x640.size a) ∧
  (∀ (r : Fin 3), ∀ a, (k0_off85 v0 (BitVec.ofNat 32 (1 + r.val))) a + S1x1x128x640.size a ≤ S8x4x128x640.size a)
theorem k0_off13_inb : ∀ (v0 : BitVec 32) (k0_hw15 : k0_chk15 v0), ∀ (r₁ : Fin 2) (r₂ : Fin 8), ∀ a, (k0_off13 v0 (BitVec.ofNat 32 (1 + 2 * r₁.val)) (BitVec.ofNat 32 r₂.val)) a + S128x128.size a ≤ S4096x128.size a := fun v0 k0_hw15 r₁ r₂ => k0_hw15.1 r₁ r₂
theorem k0_off26_inb : ∀ (v0 : BitVec 32) (k0_hw15 : k0_chk15 v0), ∀ a, (k0_off26 v0) a + S128x128.size a ≤ S4096x128.size a := fun v0 k0_hw15 => k0_hw15.2.1
theorem k0_off27_inb : ∀ (v0 : BitVec 32) (k0_hw15 : k0_chk15 v0), ∀ a, (k0_off27 v0) a + S128x128.size a ≤ S4096x128.size a := fun v0 k0_hw15 => k0_hw15.2.2.1
theorem k0_off28_inb : ∀ (v0 : BitVec 32) (k0_hw15 : k0_chk15 v0), ∀ (r : Fin 7), ∀ a, (k0_off28 v0 (BitVec.ofNat 32 r.val)) a + S128x128.size a ≤ S4096x128.size a := fun v0 k0_hw15 r => k0_hw15.2.2.2.1 r
theorem k0_off29_inb : ∀ (v0 : BitVec 32) (k0_hw15 : k0_chk15 v0), ∀ (r : Fin 7), ∀ a, (k0_off29 v0 (BitVec.ofNat 32 r.val)) a + S128x128.size a ≤ S4096x128.size a := fun v0 k0_hw15 r => k0_hw15.2.2.2.2.1 r
theorem k0_off42_inb : ∀ (v0 : BitVec 32) (k0_hw15 : k0_chk15 v0), ∀ a, (k0_off42 v0) a + S128x128.size a ≤ S4096x128.size a := fun v0 k0_hw15 => k0_hw15.2.2.2.2.2.1
theorem k0_off43_inb : ∀ (v0 : BitVec 32) (k0_hw15 : k0_chk15 v0), ∀ a, (k0_off43 v0) a + S128x128.size a ≤ S4096x128.size a := fun v0 k0_hw15 => k0_hw15.2.2.2.2.2.2.1
theorem k0_off44_inb : ∀ (v0 : BitVec 32) (k0_hw15 : k0_chk15 v0), ∀ (r : Fin 7), ∀ a, (k0_off44 v0 (BitVec.ofNat 32 r.val)) a + S128x128.size a ≤ S4096x128.size a := fun v0 k0_hw15 r => k0_hw15.2.2.2.2.2.2.2.1 r
theorem k0_off45_inb : ∀ (v0 : BitVec 32) (k0_hw15 : k0_chk15 v0), ∀ (r : Fin 7), ∀ a, (k0_off45 v0 (BitVec.ofNat 32 r.val)) a + S128x128.size a ≤ S4096x128.size a := fun v0 k0_hw15 r => k0_hw15.2.2.2.2.2.2.2.2.1 r
theorem k0_off58_inb : ∀ (v0 : BitVec 32) (k0_hw15 : k0_chk15 v0), ∀ a, (k0_off58 v0) a + S128x128.size a ≤ S4096x128.size a := fun v0 k0_hw15 => k0_hw15.2.2.2.2.2.2.2.2.2.1
theorem k0_off59_inb : ∀ (v0 : BitVec 32) (k0_hw15 : k0_chk15 v0), ∀ a, (k0_off59 v0) a + S128x128.size a ≤ S4096x128.size a := fun v0 k0_hw15 => k0_hw15.2.2.2.2.2.2.2.2.2.2.1
theorem k0_off60_inb : ∀ (v0 : BitVec 32) (k0_hw15 : k0_chk15 v0), ∀ (r : Fin 7), ∀ a, (k0_off60 v0 (BitVec.ofNat 32 r.val)) a + S128x128.size a ≤ S4096x128.size a := fun v0 k0_hw15 r => k0_hw15.2.2.2.2.2.2.2.2.2.2.2.1 r
theorem k0_off61_inb : ∀ (v0 : BitVec 32) (k0_hw15 : k0_chk15 v0), ∀ (r : Fin 7), ∀ a, (k0_off61 v0 (BitVec.ofNat 32 r.val)) a + S128x128.size a ≤ S4096x128.size a := fun v0 k0_hw15 r => k0_hw15.2.2.2.2.2.2.2.2.2.2.2.2.1 r
theorem k0_off84_inb : ∀ (v0 : BitVec 32) (k0_hw15 : k0_chk15 v0), ∀ (r : Fin 3), ∀ a, (k0_off84 v0 (BitVec.ofNat 32 (1 + r.val))) a + S1x1x128x640.size a ≤ S8x4x128x640.size a := fun v0 k0_hw15 r => k0_hw15.2.2.2.2.2.2.2.2.2.2.2.2.2.1 r
theorem k0_off85_inb : ∀ (v0 : BitVec 32) (k0_hw15 : k0_chk15 v0), ∀ (r : Fin 3), ∀ a, (k0_off85 v0 (BitVec.ofNat 32 (1 + r.val))) a + S1x1x128x640.size a ≤ S8x4x128x640.size a := fun v0 k0_hw15 r => k0_hw15.2.2.2.2.2.2.2.2.2.2.2.2.2.2 r

def k0_dev136 (v4 : BitVec 32) : Nat :=
  let c0_i32_5056 : BitVec 32 := 0#32
  let c1_i32_5055 : BitVec 32 := 1#32
  let v4373 : BitVec 32 := Scalar.muli v4 c1_i32_5055
  let v4374 : BitVec 32 := Scalar.addi c0_i32_5056 v4373
  v4374.toNat
def k0_dev137 (v5 : BitVec 32) : Nat :=
  let c0_i32_5082 : BitVec 32 := 0#32
  let c1_i32_5081 : BitVec 32 := 1#32
  let v4399 : BitVec 32 := Scalar.muli v5 c1_i32_5081
  let v4400 : BitVec 32 := Scalar.addi c0_i32_5082 v4399
  v4400.toNat
def k0_dev138 (v4 : BitVec 32) : Nat :=
  let c0_i32_5176 : BitVec 32 := 0#32
  let c1_i32_5175 : BitVec 32 := 1#32
  let v4487 : BitVec 32 := Scalar.muli v4 c1_i32_5175
  let v4488 : BitVec 32 := Scalar.addi c0_i32_5176 v4487
  v4488.toNat

def k0_chk9 (v0 : BitVec 32) (v4 : BitVec 32) : Prop :=
  ((k0_dev8 v4) < nD) ∧
  ((k0_dev18 v4) < nD) ∧
  ((k0_dev20 v4) < nD) ∧
  ((k0_dev22 v4) < nD) ∧
  ((k0_dev24 v4) < nD) ∧
  ((k0_dev26 v4) < nD) ∧
  ((k0_dev28 v4) < nD) ∧
  ((k0_dev30 v4) < nD) ∧
  ((k0_dev32 v4) < nD) ∧
  ((k0_dev50 v4) < nD) ∧
  ((k0_dev52 v4) < nD) ∧
  ((k0_dev54 v4) < nD) ∧
  ((k0_dev56 v4) < nD) ∧
  ((k0_dev58 v4) < nD) ∧
  ((k0_dev60 v4) < nD) ∧
  ((k0_dev62 v4) < nD) ∧
  ((k0_dev64 v4) < nD) ∧
  ((k0_dev82 v4) < nD) ∧
  ((k0_dev84 v4) < nD) ∧
  ((k0_dev86 v4) < nD) ∧
  ((k0_dev88 v4) < nD) ∧
  ((k0_dev90 v4) < nD) ∧
  ((k0_dev92 v4) < nD) ∧
  ((k0_dev94 v4) < nD) ∧
  ((k0_dev96 v4) < nD) ∧
  (∀ (k0_h1 : k0_cond1 v0 = 1#1), (k0_dev128 v4) < nD) ∧
  (∀ (k0_h3 : k0_cond3 v0 = 1#1), (k0_dev130 v4) < nD) ∧
  (∀ (k0_h5 : k0_cond5 v0 = 1#1), (k0_dev132 v4) < nD) ∧
  (∀ (k0_h7 : k0_cond7 v0 = 1#1), (k0_dev134 v4) < nD) ∧
  ((k0_dev136 v4) < nD) ∧
  ((k0_dev138 v4) < nD)
theorem k0_dev8_lt : ∀ (v0 : BitVec 32) (v4 : BitVec 32) (k0_hw9 : k0_chk9 v0 v4), (k0_dev8 v4) < nD := fun v0 v4 k0_hw9 => k0_hw9.1
theorem k0_dev18_lt : ∀ (v0 : BitVec 32) (v4 : BitVec 32) (k0_hw9 : k0_chk9 v0 v4), (k0_dev18 v4) < nD := fun v0 v4 k0_hw9 => k0_hw9.2.1
theorem k0_dev20_lt : ∀ (v0 : BitVec 32) (v4 : BitVec 32) (k0_hw9 : k0_chk9 v0 v4), (k0_dev20 v4) < nD := fun v0 v4 k0_hw9 => k0_hw9.2.2.1
theorem k0_dev22_lt : ∀ (v0 : BitVec 32) (v4 : BitVec 32) (k0_hw9 : k0_chk9 v0 v4), (k0_dev22 v4) < nD := fun v0 v4 k0_hw9 => k0_hw9.2.2.2.1
theorem k0_dev24_lt : ∀ (v0 : BitVec 32) (v4 : BitVec 32) (k0_hw9 : k0_chk9 v0 v4), (k0_dev24 v4) < nD := fun v0 v4 k0_hw9 => k0_hw9.2.2.2.2.1
theorem k0_dev26_lt : ∀ (v0 : BitVec 32) (v4 : BitVec 32) (k0_hw9 : k0_chk9 v0 v4), (k0_dev26 v4) < nD := fun v0 v4 k0_hw9 => k0_hw9.2.2.2.2.2.1
theorem k0_dev28_lt : ∀ (v0 : BitVec 32) (v4 : BitVec 32) (k0_hw9 : k0_chk9 v0 v4), (k0_dev28 v4) < nD := fun v0 v4 k0_hw9 => k0_hw9.2.2.2.2.2.2.1
theorem k0_dev30_lt : ∀ (v0 : BitVec 32) (v4 : BitVec 32) (k0_hw9 : k0_chk9 v0 v4), (k0_dev30 v4) < nD := fun v0 v4 k0_hw9 => k0_hw9.2.2.2.2.2.2.2.1
theorem k0_dev32_lt : ∀ (v0 : BitVec 32) (v4 : BitVec 32) (k0_hw9 : k0_chk9 v0 v4), (k0_dev32 v4) < nD := fun v0 v4 k0_hw9 => k0_hw9.2.2.2.2.2.2.2.2.1
theorem k0_dev50_lt : ∀ (v0 : BitVec 32) (v4 : BitVec 32) (k0_hw9 : k0_chk9 v0 v4), (k0_dev50 v4) < nD := fun v0 v4 k0_hw9 => k0_hw9.2.2.2.2.2.2.2.2.2.1
theorem k0_dev52_lt : ∀ (v0 : BitVec 32) (v4 : BitVec 32) (k0_hw9 : k0_chk9 v0 v4), (k0_dev52 v4) < nD := fun v0 v4 k0_hw9 => k0_hw9.2.2.2.2.2.2.2.2.2.2.1
theorem k0_dev54_lt : ∀ (v0 : BitVec 32) (v4 : BitVec 32) (k0_hw9 : k0_chk9 v0 v4), (k0_dev54 v4) < nD := fun v0 v4 k0_hw9 => k0_hw9.2.2.2.2.2.2.2.2.2.2.2.1
theorem k0_dev56_lt : ∀ (v0 : BitVec 32) (v4 : BitVec 32) (k0_hw9 : k0_chk9 v0 v4), (k0_dev56 v4) < nD := fun v0 v4 k0_hw9 => k0_hw9.2.2.2.2.2.2.2.2.2.2.2.2.1
theorem k0_dev58_lt : ∀ (v0 : BitVec 32) (v4 : BitVec 32) (k0_hw9 : k0_chk9 v0 v4), (k0_dev58 v4) < nD := fun v0 v4 k0_hw9 => k0_hw9.2.2.2.2.2.2.2.2.2.2.2.2.2.1
theorem k0_dev60_lt : ∀ (v0 : BitVec 32) (v4 : BitVec 32) (k0_hw9 : k0_chk9 v0 v4), (k0_dev60 v4) < nD := fun v0 v4 k0_hw9 => k0_hw9.2.2.2.2.2.2.2.2.2.2.2.2.2.2.1
theorem k0_dev62_lt : ∀ (v0 : BitVec 32) (v4 : BitVec 32) (k0_hw9 : k0_chk9 v0 v4), (k0_dev62 v4) < nD := fun v0 v4 k0_hw9 => k0_hw9.2.2.2.2.2.2.2.2.2.2.2.2.2.2.2.1
theorem k0_dev64_lt : ∀ (v0 : BitVec 32) (v4 : BitVec 32) (k0_hw9 : k0_chk9 v0 v4), (k0_dev64 v4) < nD := fun v0 v4 k0_hw9 => k0_hw9.2.2.2.2.2.2.2.2.2.2.2.2.2.2.2.2.1
theorem k0_dev82_lt : ∀ (v0 : BitVec 32) (v4 : BitVec 32) (k0_hw9 : k0_chk9 v0 v4), (k0_dev82 v4) < nD := fun v0 v4 k0_hw9 => k0_hw9.2.2.2.2.2.2.2.2.2.2.2.2.2.2.2.2.2.1
theorem k0_dev84_lt : ∀ (v0 : BitVec 32) (v4 : BitVec 32) (k0_hw9 : k0_chk9 v0 v4), (k0_dev84 v4) < nD := fun v0 v4 k0_hw9 => k0_hw9.2.2.2.2.2.2.2.2.2.2.2.2.2.2.2.2.2.2.1
theorem k0_dev86_lt : ∀ (v0 : BitVec 32) (v4 : BitVec 32) (k0_hw9 : k0_chk9 v0 v4), (k0_dev86 v4) < nD := fun v0 v4 k0_hw9 => k0_hw9.2.2.2.2.2.2.2.2.2.2.2.2.2.2.2.2.2.2.2.1
theorem k0_dev88_lt : ∀ (v0 : BitVec 32) (v4 : BitVec 32) (k0_hw9 : k0_chk9 v0 v4), (k0_dev88 v4) < nD := fun v0 v4 k0_hw9 => k0_hw9.2.2.2.2.2.2.2.2.2.2.2.2.2.2.2.2.2.2.2.2.1
theorem k0_dev90_lt : ∀ (v0 : BitVec 32) (v4 : BitVec 32) (k0_hw9 : k0_chk9 v0 v4), (k0_dev90 v4) < nD := fun v0 v4 k0_hw9 => k0_hw9.2.2.2.2.2.2.2.2.2.2.2.2.2.2.2.2.2.2.2.2.2.1
theorem k0_dev92_lt : ∀ (v0 : BitVec 32) (v4 : BitVec 32) (k0_hw9 : k0_chk9 v0 v4), (k0_dev92 v4) < nD := fun v0 v4 k0_hw9 => k0_hw9.2.2.2.2.2.2.2.2.2.2.2.2.2.2.2.2.2.2.2.2.2.2.1
theorem k0_dev94_lt : ∀ (v0 : BitVec 32) (v4 : BitVec 32) (k0_hw9 : k0_chk9 v0 v4), (k0_dev94 v4) < nD := fun v0 v4 k0_hw9 => k0_hw9.2.2.2.2.2.2.2.2.2.2.2.2.2.2.2.2.2.2.2.2.2.2.2.1
theorem k0_dev96_lt : ∀ (v0 : BitVec 32) (v4 : BitVec 32) (k0_hw9 : k0_chk9 v0 v4), (k0_dev96 v4) < nD := fun v0 v4 k0_hw9 => k0_hw9.2.2.2.2.2.2.2.2.2.2.2.2.2.2.2.2.2.2.2.2.2.2.2.2.1
theorem k0_dev128_lt : ∀ (v0 : BitVec 32) (v4 : BitVec 32) (k0_hw9 : k0_chk9 v0 v4), ∀ (k0_h1 : k0_cond1 v0 = 1#1), (k0_dev128 v4) < nD := fun v0 v4 k0_hw9 k0_h1 => k0_hw9.2.2.2.2.2.2.2.2.2.2.2.2.2.2.2.2.2.2.2.2.2.2.2.2.2.1 k0_h1
theorem k0_dev130_lt : ∀ (v0 : BitVec 32) (v4 : BitVec 32) (k0_hw9 : k0_chk9 v0 v4), ∀ (k0_h3 : k0_cond3 v0 = 1#1), (k0_dev130 v4) < nD := fun v0 v4 k0_hw9 k0_h3 => k0_hw9.2.2.2.2.2.2.2.2.2.2.2.2.2.2.2.2.2.2.2.2.2.2.2.2.2.2.1 k0_h3
theorem k0_dev132_lt : ∀ (v0 : BitVec 32) (v4 : BitVec 32) (k0_hw9 : k0_chk9 v0 v4), ∀ (k0_h5 : k0_cond5 v0 = 1#1), (k0_dev132 v4) < nD := fun v0 v4 k0_hw9 k0_h5 => k0_hw9.2.2.2.2.2.2.2.2.2.2.2.2.2.2.2.2.2.2.2.2.2.2.2.2.2.2.2.1 k0_h5
theorem k0_dev134_lt : ∀ (v0 : BitVec 32) (v4 : BitVec 32) (k0_hw9 : k0_chk9 v0 v4), ∀ (k0_h7 : k0_cond7 v0 = 1#1), (k0_dev134 v4) < nD := fun v0 v4 k0_hw9 k0_h7 => k0_hw9.2.2.2.2.2.2.2.2.2.2.2.2.2.2.2.2.2.2.2.2.2.2.2.2.2.2.2.2.1 k0_h7
theorem k0_dev136_lt : ∀ (v0 : BitVec 32) (v4 : BitVec 32) (k0_hw9 : k0_chk9 v0 v4), (k0_dev136 v4) < nD := fun v0 v4 k0_hw9 => k0_hw9.2.2.2.2.2.2.2.2.2.2.2.2.2.2.2.2.2.2.2.2.2.2.2.2.2.2.2.2.2.1
theorem k0_dev138_lt : ∀ (v0 : BitVec 32) (v4 : BitVec 32) (k0_hw9 : k0_chk9 v0 v4), (k0_dev138 v4) < nD := fun v0 v4 k0_hw9 => k0_hw9.2.2.2.2.2.2.2.2.2.2.2.2.2.2.2.2.2.2.2.2.2.2.2.2.2.2.2.2.2.2

def k0_dev139 (v5 : BitVec 32) : Nat :=
  let c0_i32_5202 : BitVec 32 := 0#32
  let c1_i32_5201 : BitVec 32 := 1#32
  let v4513 : BitVec 32 := Scalar.muli v5 c1_i32_5201
  let v4514 : BitVec 32 := Scalar.addi c0_i32_5202 v4513
  v4514.toNat

def k0_chk10 (v0 : BitVec 32) (v5 : BitVec 32) : Prop :=
  ((k0_dev9 v5) < nD) ∧
  ((k0_dev19 v5) < nD) ∧
  ((k0_dev21 v5) < nD) ∧
  ((k0_dev23 v5) < nD) ∧
  ((k0_dev25 v5) < nD) ∧
  ((k0_dev27 v5) < nD) ∧
  ((k0_dev29 v5) < nD) ∧
  ((k0_dev31 v5) < nD) ∧
  ((k0_dev33 v5) < nD) ∧
  ((k0_dev51 v5) < nD) ∧
  ((k0_dev53 v5) < nD) ∧
  ((k0_dev55 v5) < nD) ∧
  ((k0_dev57 v5) < nD) ∧
  ((k0_dev59 v5) < nD) ∧
  ((k0_dev61 v5) < nD) ∧
  ((k0_dev63 v5) < nD) ∧
  ((k0_dev65 v5) < nD) ∧
  ((k0_dev83 v5) < nD) ∧
  ((k0_dev85 v5) < nD) ∧
  ((k0_dev87 v5) < nD) ∧
  ((k0_dev89 v5) < nD) ∧
  ((k0_dev91 v5) < nD) ∧
  ((k0_dev93 v5) < nD) ∧
  ((k0_dev95 v5) < nD) ∧
  ((k0_dev97 v5) < nD) ∧
  (∀ (k0_h2 : k0_cond2 v0 = 1#1), (k0_dev129 v5) < nD) ∧
  (∀ (k0_h4 : k0_cond4 v0 = 1#1), (k0_dev131 v5) < nD) ∧
  (∀ (k0_h6 : k0_cond6 v0 = 1#1), (k0_dev133 v5) < nD) ∧
  (∀ (k0_h8 : k0_cond8 v0 = 1#1), (k0_dev135 v5) < nD) ∧
  ((k0_dev137 v5) < nD) ∧
  ((k0_dev139 v5) < nD)
theorem k0_dev9_lt : ∀ (v0 : BitVec 32) (v5 : BitVec 32) (k0_hw10 : k0_chk10 v0 v5), (k0_dev9 v5) < nD := fun v0 v5 k0_hw10 => k0_hw10.1
theorem k0_dev19_lt : ∀ (v0 : BitVec 32) (v5 : BitVec 32) (k0_hw10 : k0_chk10 v0 v5), (k0_dev19 v5) < nD := fun v0 v5 k0_hw10 => k0_hw10.2.1
theorem k0_dev21_lt : ∀ (v0 : BitVec 32) (v5 : BitVec 32) (k0_hw10 : k0_chk10 v0 v5), (k0_dev21 v5) < nD := fun v0 v5 k0_hw10 => k0_hw10.2.2.1
theorem k0_dev23_lt : ∀ (v0 : BitVec 32) (v5 : BitVec 32) (k0_hw10 : k0_chk10 v0 v5), (k0_dev23 v5) < nD := fun v0 v5 k0_hw10 => k0_hw10.2.2.2.1
theorem k0_dev25_lt : ∀ (v0 : BitVec 32) (v5 : BitVec 32) (k0_hw10 : k0_chk10 v0 v5), (k0_dev25 v5) < nD := fun v0 v5 k0_hw10 => k0_hw10.2.2.2.2.1
theorem k0_dev27_lt : ∀ (v0 : BitVec 32) (v5 : BitVec 32) (k0_hw10 : k0_chk10 v0 v5), (k0_dev27 v5) < nD := fun v0 v5 k0_hw10 => k0_hw10.2.2.2.2.2.1
theorem k0_dev29_lt : ∀ (v0 : BitVec 32) (v5 : BitVec 32) (k0_hw10 : k0_chk10 v0 v5), (k0_dev29 v5) < nD := fun v0 v5 k0_hw10 => k0_hw10.2.2.2.2.2.2.1
theorem k0_dev31_lt : ∀ (v0 : BitVec 32) (v5 : BitVec 32) (k0_hw10 : k0_chk10 v0 v5), (k0_dev31 v5) < nD := fun v0 v5 k0_hw10 => k0_hw10.2.2.2.2.2.2.2.1
theorem k0_dev33_lt : ∀ (v0 : BitVec 32) (v5 : BitVec 32) (k0_hw10 : k0_chk10 v0 v5), (k0_dev33 v5) < nD := fun v0 v5 k0_hw10 => k0_hw10.2.2.2.2.2.2.2.2.1
theorem k0_dev51_lt : ∀ (v0 : BitVec 32) (v5 : BitVec 32) (k0_hw10 : k0_chk10 v0 v5), (k0_dev51 v5) < nD := fun v0 v5 k0_hw10 => k0_hw10.2.2.2.2.2.2.2.2.2.1
theorem k0_dev53_lt : ∀ (v0 : BitVec 32) (v5 : BitVec 32) (k0_hw10 : k0_chk10 v0 v5), (k0_dev53 v5) < nD := fun v0 v5 k0_hw10 => k0_hw10.2.2.2.2.2.2.2.2.2.2.1
theorem k0_dev55_lt : ∀ (v0 : BitVec 32) (v5 : BitVec 32) (k0_hw10 : k0_chk10 v0 v5), (k0_dev55 v5) < nD := fun v0 v5 k0_hw10 => k0_hw10.2.2.2.2.2.2.2.2.2.2.2.1
theorem k0_dev57_lt : ∀ (v0 : BitVec 32) (v5 : BitVec 32) (k0_hw10 : k0_chk10 v0 v5), (k0_dev57 v5) < nD := fun v0 v5 k0_hw10 => k0_hw10.2.2.2.2.2.2.2.2.2.2.2.2.1
theorem k0_dev59_lt : ∀ (v0 : BitVec 32) (v5 : BitVec 32) (k0_hw10 : k0_chk10 v0 v5), (k0_dev59 v5) < nD := fun v0 v5 k0_hw10 => k0_hw10.2.2.2.2.2.2.2.2.2.2.2.2.2.1
theorem k0_dev61_lt : ∀ (v0 : BitVec 32) (v5 : BitVec 32) (k0_hw10 : k0_chk10 v0 v5), (k0_dev61 v5) < nD := fun v0 v5 k0_hw10 => k0_hw10.2.2.2.2.2.2.2.2.2.2.2.2.2.2.1
theorem k0_dev63_lt : ∀ (v0 : BitVec 32) (v5 : BitVec 32) (k0_hw10 : k0_chk10 v0 v5), (k0_dev63 v5) < nD := fun v0 v5 k0_hw10 => k0_hw10.2.2.2.2.2.2.2.2.2.2.2.2.2.2.2.1
theorem k0_dev65_lt : ∀ (v0 : BitVec 32) (v5 : BitVec 32) (k0_hw10 : k0_chk10 v0 v5), (k0_dev65 v5) < nD := fun v0 v5 k0_hw10 => k0_hw10.2.2.2.2.2.2.2.2.2.2.2.2.2.2.2.2.1
theorem k0_dev83_lt : ∀ (v0 : BitVec 32) (v5 : BitVec 32) (k0_hw10 : k0_chk10 v0 v5), (k0_dev83 v5) < nD := fun v0 v5 k0_hw10 => k0_hw10.2.2.2.2.2.2.2.2.2.2.2.2.2.2.2.2.2.1
theorem k0_dev85_lt : ∀ (v0 : BitVec 32) (v5 : BitVec 32) (k0_hw10 : k0_chk10 v0 v5), (k0_dev85 v5) < nD := fun v0 v5 k0_hw10 => k0_hw10.2.2.2.2.2.2.2.2.2.2.2.2.2.2.2.2.2.2.1
theorem k0_dev87_lt : ∀ (v0 : BitVec 32) (v5 : BitVec 32) (k0_hw10 : k0_chk10 v0 v5), (k0_dev87 v5) < nD := fun v0 v5 k0_hw10 => k0_hw10.2.2.2.2.2.2.2.2.2.2.2.2.2.2.2.2.2.2.2.1
theorem k0_dev89_lt : ∀ (v0 : BitVec 32) (v5 : BitVec 32) (k0_hw10 : k0_chk10 v0 v5), (k0_dev89 v5) < nD := fun v0 v5 k0_hw10 => k0_hw10.2.2.2.2.2.2.2.2.2.2.2.2.2.2.2.2.2.2.2.2.1
theorem k0_dev91_lt : ∀ (v0 : BitVec 32) (v5 : BitVec 32) (k0_hw10 : k0_chk10 v0 v5), (k0_dev91 v5) < nD := fun v0 v5 k0_hw10 => k0_hw10.2.2.2.2.2.2.2.2.2.2.2.2.2.2.2.2.2.2.2.2.2.1
theorem k0_dev93_lt : ∀ (v0 : BitVec 32) (v5 : BitVec 32) (k0_hw10 : k0_chk10 v0 v5), (k0_dev93 v5) < nD := fun v0 v5 k0_hw10 => k0_hw10.2.2.2.2.2.2.2.2.2.2.2.2.2.2.2.2.2.2.2.2.2.2.1
theorem k0_dev95_lt : ∀ (v0 : BitVec 32) (v5 : BitVec 32) (k0_hw10 : k0_chk10 v0 v5), (k0_dev95 v5) < nD := fun v0 v5 k0_hw10 => k0_hw10.2.2.2.2.2.2.2.2.2.2.2.2.2.2.2.2.2.2.2.2.2.2.2.1
theorem k0_dev97_lt : ∀ (v0 : BitVec 32) (v5 : BitVec 32) (k0_hw10 : k0_chk10 v0 v5), (k0_dev97 v5) < nD := fun v0 v5 k0_hw10 => k0_hw10.2.2.2.2.2.2.2.2.2.2.2.2.2.2.2.2.2.2.2.2.2.2.2.2.1
theorem k0_dev129_lt : ∀ (v0 : BitVec 32) (v5 : BitVec 32) (k0_hw10 : k0_chk10 v0 v5), ∀ (k0_h2 : k0_cond2 v0 = 1#1), (k0_dev129 v5) < nD := fun v0 v5 k0_hw10 k0_h2 => k0_hw10.2.2.2.2.2.2.2.2.2.2.2.2.2.2.2.2.2.2.2.2.2.2.2.2.2.1 k0_h2
theorem k0_dev131_lt : ∀ (v0 : BitVec 32) (v5 : BitVec 32) (k0_hw10 : k0_chk10 v0 v5), ∀ (k0_h4 : k0_cond4 v0 = 1#1), (k0_dev131 v5) < nD := fun v0 v5 k0_hw10 k0_h4 => k0_hw10.2.2.2.2.2.2.2.2.2.2.2.2.2.2.2.2.2.2.2.2.2.2.2.2.2.2.1 k0_h4
theorem k0_dev133_lt : ∀ (v0 : BitVec 32) (v5 : BitVec 32) (k0_hw10 : k0_chk10 v0 v5), ∀ (k0_h6 : k0_cond6 v0 = 1#1), (k0_dev133 v5) < nD := fun v0 v5 k0_hw10 k0_h6 => k0_hw10.2.2.2.2.2.2.2.2.2.2.2.2.2.2.2.2.2.2.2.2.2.2.2.2.2.2.2.1 k0_h6
theorem k0_dev135_lt : ∀ (v0 : BitVec 32) (v5 : BitVec 32) (k0_hw10 : k0_chk10 v0 v5), ∀ (k0_h8 : k0_cond8 v0 = 1#1), (k0_dev135 v5) < nD := fun v0 v5 k0_hw10 k0_h8 => k0_hw10.2.2.2.2.2.2.2.2.2.2.2.2.2.2.2.2.2.2.2.2.2.2.2.2.2.2.2.2.1 k0_h8
theorem k0_dev137_lt : ∀ (v0 : BitVec 32) (v5 : BitVec 32) (k0_hw10 : k0_chk10 v0 v5), (k0_dev137 v5) < nD := fun v0 v5 k0_hw10 => k0_hw10.2.2.2.2.2.2.2.2.2.2.2.2.2.2.2.2.2.2.2.2.2.2.2.2.2.2.2.2.2.1
theorem k0_dev139_lt : ∀ (v0 : BitVec 32) (v5 : BitVec 32) (k0_hw10 : k0_chk10 v0 v5), (k0_dev139 v5) < nD := fun v0 v5 k0_hw10 => k0_hw10.2.2.2.2.2.2.2.2.2.2.2.2.2.2.2.2.2.2.2.2.2.2.2.2.2.2.2.2.2.2

abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S14 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.Values.lean ====
/- The values the ring kernel moves, and the transfers it makes.

   A device is `8 * z + i`: a plane `z` of four, a place `i` in the plane; the eight places of a plane lie on a cycle
   (`cyc` lists the places along it, `posn` is its inverse). The 2048 columns are in four parts: `A` 0 (0..639), `A` 1
   (640..1279), `B` 0 (1280..1663) and `B` 1 (1664..2047); part 0 of each kind goes round one way, part 1 the other way.

   * stage a1 (columns A): a partial sum goes round the cycle of its plane, seven hops, each device adding the product for
     its own columns of x to what it gets. One lane for each of the four planes whose rows are being summed.
   * stage b1 (columns B): the same round the four planes, three hops, one lane for each place.
   * stage a2: what a1 left goes round the four planes, three hops.
   * stage b2: what b1 left goes straight from each device to the seven others of its plane. -/
module

public import proofs.«01_k».proof.Proof.Gen.KernelIdeal

@[expose] public section

noncomputable section

namespace Cert.KernelIdeal.Ring

open Idealize.ShloMosaic
open Cert.KernelIdeal Cert.KernelIdeal.Gen

/-! ## Devices -/

/-- The place at a point of the plane's cycle. -/
def cyc : ℕ → ℕ
  | 0 => 0 | 1 => 1 | 2 => 2 | 3 => 5 | 4 => 6 | 5 => 7 | 6 => 4 | _ => 3
/-- The point of the cycle a place is at. -/
def posn : ℕ → ℕ
  | 0 => 0 | 1 => 1 | 2 => 2 | 3 => 7 | 4 => 6 | 5 => 3 | 6 => 4 | _ => 5

/-- The device `k` places on along the plane's cycle. -/
def plane (k : ℕ) (c : Dev nD) : Dev nD := Fin.ofNat 32 (8 * (c.val / 8) + cyc ((posn (c.val % 8) + k) % 8))
/-- The device at the same place, `k` planes on. -/
def zmv (k : ℕ) (c : Dev nD) : Dev nD := Fin.ofNat 32 (8 * ((c.val / 8 + k) % 4) + c.val % 8)

/-- The nine moves a transfer, or a barrier signal, goes by. -/
def mv (j : Fin 9) (c : Dev nD) : Dev nD :=
  bif j.val.ble 6 then plane (j.val + 1) c else bif j.val.ble 7 then zmv 1 c else zmv 3 c
/-- The move back. -/
def mvI (j : Fin 9) (c : Dev nD) : Dev nD :=
  bif j.val.ble 6 then plane (7 - j.val) c else bif j.val.ble 7 then zmv 3 c else zmv 1 c

theorem mvI_mv : ∀ j c, mvI j (mv j c) = c := by decide +kernel
theorem mv_mvI : ∀ j c, mv j (mvI j c) = c := by decide +kernel
def mvE (j : Fin 9) : Dev nD ≃ Dev nD := ⟨mv j, mvI j, mvI_mv j, mv_mvI j⟩

/-- The words the host hands the kernel: plane, point of the cycle, the four neighbours, the cycle. -/
def metaN (n : ℕ) (c : Dev nD) : ℕ :=
  match n with
  | 0 => c.val / 8
  | 1 => posn (c.val % 8)
  | 2 => (plane 1 c).val
  | 3 => (plane 7 c).val
  | 4 => (zmv 1 c).val
  | 5 => (zmv 3 c).val
  | n + 6 => cyc n
def metaW (c : Dev nD) (n : ℕ) : BitVec 32 := BitVec.ofNat 32 (metaN n c)

/-! ## Transfers -/

/-- The transfers a device makes: stage, part of the columns, hop, lane. -/
inductive Tr
  | a1 (d : Fin 2) (h : Fin 7) (z : Fin 4)
  | b1 (d : Fin 2) (t : Fin 3) (i : Fin 8)
  | a2 (d : Fin 2) (t : Fin 3)
  | b2 (d : Fin 2) (k : Fin 7)
deriving DecidableEq

/-- The transfers, as a sum of products. -/
abbrev TrS : Type := (Fin 2 × Fin 7 × Fin 4) ⊕ (Fin 2 × Fin 3 × Fin 8) ⊕ (Fin 2 × Fin 3) ⊕ (Fin 2 × Fin 7)
def trE : TrS ≃ Tr where
  toFun
    | .inl x => .a1 x.1 x.2.1 x.2.2
    | .inr (.inl x) => .b1 x.1 x.2.1 x.2.2
    | .inr (.inr (.inl x)) => .a2 x.1 x.2
    | .inr (.inr (.inr x)) => .b2 x.1 x.2
  invFun
    | .a1 d h z => .inl (d, h, z)
    | .b1 d t i => .inr (.inl (d, t, i))
    | .a2 d t => .inr (.inr (.inl (d, t)))
    | .b2 d k => .inr (.inr (.inr (d, k)))
  left_inv x := by rcases x with x | x | x | x <;> rfl
  right_inv x := by cases x <;> rfl
instance : Fintype Tr := Fintype.ofEquiv TrS trE

/-- Which move a transfer goes by. -/
def grp : Tr → Fin 9
  | .a1 d _ _ => bif d.val.beq 0 then 0 else 6
  | .b1 d _ _ => bif d.val.beq 0 then 7 else 8
  | .a2 d _ => bif d.val.beq 0 then 7 else 8
  | .b2 _ k => ⟨k.val, by omega⟩
/-- Where device `c` sends transfer `e`, and where device `c` gets transfer `e` from. -/
abbrev tgt (e : Tr) (c : Dev nD) : Dev nD := mv (grp e) c
abbrev from' (e : Tr) (c : Dev nD) : Dev nD := mvI (grp e) c
/-- The barrier signal that tells device `c` that the target of its transfer `e` is ready: signal `j` is sent by the move
    `j`, so it is the one whose move is the transfer's move back. -/
def rdy (j : Fin 9) : Fin 9 := ⟨bif j.val.ble 6 then 6 - j.val else 15 - j.val, by
  revert j; decide⟩
theorem rdy_rdy : ∀ j, rdy (rdy j) = j := by decide
theorem mvI_rdy : ∀ j c, mvI (rdy j) c = mv j c := by decide +kernel

/-- The number of the transfer's semaphores among the DMA semaphores: the sender's (`false`), the receiver's (`true`). -/
def semIx (b : Bool) : Tr → ℕ
  | .a1 d h z => 6 + 28 * (2 * d.val + b.toNat) + (4 * h.val + z.val)
  | .b1 d t i => 130 + 24 * (2 * d.val + b.toNat) + (8 * t.val + i.val)
  | .a2 d t => 118 + 3 * (2 * d.val + b.toNat) + t.val
  | .b2 d k => 226 + 7 * (2 * d.val + b.toNat) + k.val
theorem semIx_lt (b : Bool) (e : Tr) : semIx b e < 254 := by
  have hb : b.toNat ≤ 1 := by cases b <;> decide
  cases e <;> (simp only [semIx]; omega)
theorem semIx_ge (b : Bool) (e : Tr) : 6 ≤ semIx b e := by
  cases e <;> (simp only [semIx]; omega)
/-- The transfer a semaphore belongs to. -/
def semTr (n : ℕ) : Bool × Tr :=
  bif n.ble 117 then ((n - 6) / 28 % 2 == 1, .a1 (Fin.ofNat 2 ((n - 6) / 56)) (Fin.ofNat 7 ((n - 6) % 28 / 4)) (Fin.ofNat 4 ((n - 6) % 28 % 4)))
  else bif n.ble 129 then ((n - 118) / 3 % 2 == 1, .a2 (Fin.ofNat 2 ((n - 118) / 6)) (Fin.ofNat 3 ((n - 118) % 3)))
  else bif n.ble 225 then ((n - 130) / 24 % 2 == 1, .b1 (Fin.ofNat 2 ((n - 130) / 48)) (Fin.ofNat 3 ((n - 130) % 24 / 8)) (Fin.ofNat 8 ((n - 130) % 24 % 8)))
  else ((n - 226) / 7 % 2 == 1, .b2 (Fin.ofNat 2 ((n - 226) / 14)) (Fin.ofNat 7 ((n - 226) % 7)))
theorem semTr_semIx : ∀ b e, semTr (semIx b e) = (b, e) := by decide +kernel

def semS (e : Tr) : DmaSem sig := ⟨semIx false e, semIx_lt false e⟩
def semR (e : Tr) : DmaSem sig := ⟨semIx true e, semIx_lt true e⟩

/-! ## The order of one device's sends, waits and final waits -/

/-- The first number of a group of hops in the order of sends. -/
def baseS : ℕ → ℕ
  | 0 => 0 | 1 => 24 | 2 => 32 | 3 => 56 | 4 => 64 | 5 => 88 | _ => 96
def baseB : ℕ → ℕ
  | 0 => 8 | 1 => 40 | _ => 72
/-- When a device makes transfer `e`; the first transfer of stage a2 is made when its plane number says so. -/
def ts : Tr → ℕ
  | .a1 d h z => baseS h.val + (2 * z.val + d.val)
  | .b1 d t i => baseB t.val + (2 * i.val + d.val)
  | .b2 d k => 104 + (2 * k.val + d.val)
  | .a2 d t => 116 + (2 * t.val + d.val)
def isFire : Tr → Bool
  | .a2 _ t => t.val.beq 0
  | _ => false
def a1At (h n : ℕ) : Tr := .a1 (Fin.ofNat 2 (n % 2)) (Fin.ofNat 7 h) (Fin.ofNat 4 (n / 2))
def b1At (t n : ℕ) : Tr := .b1 (Fin.ofNat 2 (n % 2)) (Fin.ofNat 3 t) (Fin.ofNat 8 (n / 2))
def a2At (t n : ℕ) : Tr := .a2 (Fin.ofNat 2 (n % 2)) (Fin.ofNat 3 t)
def b2At (n : ℕ) : Tr := .b2 (Fin.ofNat 2 (n % 2)) (Fin.ofNat 7 (n / 2))
/-- The `n`-th send. -/
def sndOf (n : ℕ) : Tr :=
  bif n.ble 7 then a1At 0 n else bif n.ble 23 then b1At 0 (n - 8) else bif n.ble 31 then a1At 1 (n - 24)
  else bif n.ble 39 then a1At 2 (n - 32) else bif n.ble 55 then b1At 1 (n - 40) else bif n.ble 63 then a1At 3 (n - 56)
  else bif n.ble 71 then a1At 4 (n - 64) else bif n.ble 87 then b1At 2 (n - 72) else bif n.ble 95 then a1At 5 (n - 88)
  else bif n.ble 103 then a1At 6 (n - 96) else bif n.ble 117 then b2At (n - 104) else bif n.ble 119 then a2At 1 n else a2At 2 n
/-- When a device waits for transfer `e` to arrive. -/
def tr : Tr → ℕ
  | .a1 d h z => (bif h.val.ble 1 then 8 * h.val else bif h.val.ble 3 then 16 + 8 * h.val else bif h.val.ble 5 then 32 + 8 * h.val else 96)
      + (2 * z.val + d.val)
  | .b1 d t i => 16 + 32 * t.val + (2 * i.val + d.val)
  | .a2 d t => 104 + 6 * t.val + d.val
  | .b2 d k => (bif k.val.ble 1 then 106 else bif k.val.ble 3 then 108 else 110) + (2 * k.val + d.val)
/-- The `n`-th arrival waited for. -/
def rcvOf (n : ℕ) : Tr :=
  bif n.ble 7 then a1At 0 n else bif n.ble 15 then a1At 1 (n - 8) else bif n.ble 31 then b1At 0 (n - 16)
  else bif n.ble 39 then a1At 2 (n - 32) else bif n.ble 47 then a1At 3 (n - 40) else bif n.ble 63 then b1At 1 (n - 48)
  else bif n.ble 71 then a1At 4 (n - 64) else bif n.ble 79 then a1At 5 (n - 72) else bif n.ble 95 then b1At 2 (n - 80)
  else bif n.ble 103 then a1At 6 (n - 96) else bif n.ble 105 then a2At 0 n else bif n.ble 109 then b2At (n - 106)
  else bif n.ble 111 then a2At 1 n else bif n.ble 115 then b2At (n - 108) else bif n.ble 117 then a2At 2 n else b2At (n - 110)
/-- When a device waits, at the end, for its own transfer `e` to have left. -/
def td : Tr → ℕ
  | .a1 d h z => 8 * h.val + (2 * z.val + d.val)
  | .b1 d t i => 56 + 16 * t.val + (2 * i.val + d.val)
  | .b2 d k => 104 + (2 * k.val + d.val)
  | .a2 d t => 118 + (2 * t.val + d.val)
def drnOf (n : ℕ) : Tr :=
  bif n.ble 55 then a1At (n / 8) (n % 8) else bif n.ble 103 then b1At ((n - 56) / 16) ((n - 56) % 16)
  else bif n.ble 117 then b2At (n - 104) else a2At ((n - 118) / 2) (n % 2)

theorem sndOf_ts : ∀ e, isFire e = false → sndOf (ts e) = e := by decide +kernel
theorem ts_sndOf : ∀ n : Fin 122, ts (sndOf n) = n ∧ isFire (sndOf n) = false := by decide +kernel
theorem rcvOf_tr : ∀ e, rcvOf (tr e) = e := by decide +kernel
theorem tr_rcvOf : ∀ n : Fin 124, tr (rcvOf n) = n := by decide +kernel
theorem drnOf_td : ∀ e, drnOf (td e) = e := by decide +kernel
theorem td_drnOf : ∀ n : Fin 124, td (drnOf n) = n := by decide +kernel
theorem ts_lt : ∀ e, isFire e = false → ts e < 122 := by decide +kernel
theorem tr_lt : ∀ e, tr e < 124 := by decide +kernel
theorem td_lt : ∀ e, td e < 124 := by decide +kernel

/-! ## Rows and lanes -/

/-- The rows, in blocks of 128, that lane `z` of stage a1 works on at hop `h`. -/
def rowA (d : Fin 2) (h : ℕ) (z : Fin 4) (c : Dev nD) : Fin 32 :=
  Fin.ofNat 32 (8 * z.val + cyc ((posn (c.val % 8) + (bif d.val.beq 0 then 15 - h else h + 1)) % 8))
/-- The plane whose rows stages b1 and a2 work on at hop `t`. -/
def zN (d : Fin 2) (t : ℕ) (c : Dev nD) : ℕ := (c.val / 8 + (bif d.val.beq 0 then 7 - t else t + 1)) % 4
def rowB (d : Fin 2) (t : ℕ) (i : Fin 8) (c : Dev nD) : Fin 32 := Fin.ofNat 32 (8 * zN d t c + i.val)
def zA (d : Fin 2) (t : ℕ) (c : Dev nD) : Fin 4 := Fin.ofNat 4 (zN d t c)
/-- The lane of stage b1's last hop that transfer `k` of stage b2 sends: the place it goes to. -/
def laneK (k : ℕ) (c : Dev nD) : Fin 8 := Fin.ofNat 8 (cyc ((posn (c.val % 8) + (k + 1)) % 8))
def myLane (c : Dev nD) : Fin 8 := Fin.ofNat 8 (c.val % 8)
/-- The rows loaded in the step that waits for `e`; for a first hop, in the step that starts it. -/
def rowR : Tr → Dev nD → Fin 32
  | .a1 d h z, c => rowA d (h.val + 1) z c
  | .b1 d t i, c => rowB d (t.val + 1) i c
  | _, _ => 0
def rowS : Tr → Dev nD → Fin 32
  | .a1 d h z, c => rowA d h.val z c
  | .b1 d t i, c => rowB d t.val i c
  | _, _ => 0

/-! ## Values -/

variable {F : FTy → Type} [FloatOps F]

/-- What the arguments hold, on every device. -/
structure Ins (F : FTy → Type) where
  x : Dev nD → Vec F S4096x128 .fp8e5m2
  w : Dev nD → Vec F S128x2048 .fp8e5m2
  sx : Dev nD → Vec F S1 .f32
  sw : Dev nD → Vec F S1 .f32

theorem inbX (j : Fin 32) : ∀ a, (![128 * j.val, 0] : Fin 2 → ℕ) a + S128x128.size a ≤ S4096x128.size a := by
  revert j; decide +kernel
theorem inbWA (d : Fin 2) : ∀ a, (![0, 640 * d.val] : Fin 2 → ℕ) a + S128x640.size a ≤ S128x2048.size a := by
  revert d; decide +kernel
theorem inbWB (d : Fin 2) : ∀ a, (![0, 1280 + 384 * d.val] : Fin 2 → ℕ) a + S128x384.size a ≤ S128x2048.size a := by
  revert d; decide +kernel
abbrev rectX (j : Fin 32) : Rect S4096x128 := Rect.unit (s := S4096x128) ![128 * j.val, 0] S128x128.size (inbX j)
abbrev rectWA (d : Fin 2) : Rect S128x2048 := Rect.unit (s := S128x2048) ![0, 640 * d.val] S128x640.size (inbWA d)
abbrev rectWB (d : Fin 2) : Rect S128x2048 := Rect.unit (s := S128x2048) ![0, 1280 + 384 * d.val] S128x384.size (inbWB d)

variable (I : Ins F)

def Ins.xb (c : Dev nD) (j : Fin 32) : Vec F S128x128 .fp8e5m2 := fun i => I.x c ((rectX j).emb i)
def Ins.wA (d : Fin 2) (c : Dev nD) : Vec F S128x640 .fp8e5m2 := fun i => I.w c ((rectWA d).emb i)
def Ins.wB (d : Fin 2) (c : Dev nD) : Vec F S128x384 .fp8e5m2 := fun i => I.w c ((rectWB d).emb i)

/-- The product of a block of rows of x and a part of the columns of w. -/
def mmA (x : Vec F S128x128 .fp8e5m2) (w : Vec F S128x640 .fp8e5m2) : FVec F S128x640 .f32 :=
  matmul dot_S128x128_S128x640_S128x640_1_0_0_1_n_n none (shapeCast S128x128 x shapeCasts_S128x128_S128x128)
    (shapeCast S128x640 w shapeCasts_S128x640_S128x640) (constant S128x640 .f32 0x00000000#32)
def mmB (x : Vec F S128x128 .fp8e5m2) (w : Vec F S128x384 .fp8e5m2) : FVec F S128x384 .f32 :=
  matmul dot_S128x128_S128x384_S128x384_1_0_0_1_n_n none (shapeCast S128x128 x shapeCasts_S128x128_S128x128)
    (shapeCast S128x384 w shapeCasts_S128x384_S128x384) (constant S128x384 .f32 0x00000000#32)
def startA (x : Vec F S128x128 .fp8e5m2) (w : Vec F S128x640 .fp8e5m2) : Vec F S1x1x128x640 .bf16 :=
  shapeCast S1x1x128x640 (truncf .bf16 (mmA x w) bitsLt_bf16_f32) shapeCasts_S128x640_S1x1x128x640
def startB (x : Vec F S128x128 .fp8e5m2) (w : Vec F S128x384 .fp8e5m2) : Vec F S1x1x128x384 .bf16 :=
  shapeCast S1x1x128x384 (truncf .bf16 (mmB x w) bitsLt_bf16_f32) shapeCasts_S128x384_S1x1x128x384
/-- What came, widened. -/
def upA (v : Vec F S1x1x128x640 .bf16) : FVec F S128x640 .f32 :=
  extf .f32 (shapeCast S128x640 v shapeCasts_S1x1x128x640_S128x640) bitsLt_bf16_f32
def upB (v : Vec F S1x1x128x384 .bf16) : FVec F S128x384 .f32 :=
  extf .f32 (shapeCast S128x384 v shapeCasts_S1x1x128x384_S128x384) bitsLt_bf16_f32
def upH (v : Vec F S1x128x640 .bf16) : FVec F S128x640 .f32 :=
  extf .f32 (shapeCast S128x640 v shapeCasts_S1x128x640_S128x640) bitsLt_bf16_f32
def upG (v : Vec F S1x128x384 .bf16) : FVec F S128x384 .f32 :=
  extf .f32 (shapeCast S128x384 v shapeCasts_S1x128x384_S128x384) bitsLt_bf16_f32
def hopA (v : Vec F S1x1x128x640 .bf16) (x : Vec F S128x128 .fp8e5m2) (w : Vec F S128x640 .fp8e5m2) : Vec F S1x1x128x640 .bf16 :=
  shapeCast S1x1x128x640 (truncf .bf16 (addf (upA v) (mmA x w)) bitsLt_bf16_f32) shapeCasts_S128x640_S1x1x128x640
def hopB (v : Vec F S1x1x128x384 .bf16) (x : Vec F S128x128 .fp8e5m2) (w : Vec F S128x384 .fp8e5m2) : Vec F S1x1x128x384 .bf16 :=
  shapeCast S1x1x128x384 (truncf .bf16 (addf (upB v) (mmB x w)) bitsLt_bf16_f32) shapeCasts_S128x384_S1x1x128x384
def fireH (v : Vec F S1x1x128x640 .bf16) : Vec F S1x128x640 .bf16 :=
  shapeCast S1x128x640 (shapeCast S128x640 v shapeCasts_S1x1x128x640_S128x640) shapeCasts_S128x640_S1x128x640
def hopH (v : Vec F S1x128x640 .bf16) (u : Vec F S1x1x128x640 .bf16) : Vec F S1x128x640 .bf16 :=
  shapeCast S1x128x640 (truncf .bf16 (addf (upH v) (upA u)) bitsLt_bf16_f32) shapeCasts_S128x640_S1x128x640

/-- Lane `z` of stage a1 after `h` hops, as device `c` holds it. -/
def Ins.valA (d : Fin 2) (z : Fin 4) : ℕ → Dev nD → Vec F S1x1x128x640 .bf16
  | 0, c => startA (I.xb c (rowA d 0 z c)) (I.wA d c)
  | h + 1, c => hopA (Ins.valA d z h (mvI (grp (.a1 d 0 z)) c)) (I.xb c (rowA d (h + 1) z c)) (I.wA d c)
/-- Lane `i` of stage b1 after `t` hops. -/
def Ins.valB (d : Fin 2) (i : Fin 8) : ℕ → Dev nD → Vec F S1x1x128x384 .bf16
  | 0, c => startB (I.xb c (rowB d 0 i c)) (I.wB d c)
  | t + 1, c => hopB (Ins.valB d i t (mvI (grp (.b1 d 0 i)) c)) (I.xb c (rowB d (t + 1) i c)) (I.wB d c)
/-- Stage a2 after `t` hops. -/
def Ins.valH (d : Fin 2) : ℕ → Dev nD → Vec F S1x128x640 .bf16
  | 0, c => fireH (I.valA d (zA d 0 c) 7 c)
  | t + 1, c => hopH (Ins.valH d t (mvI (grp (.a2 d 0)) c)) (I.valA d (zA d (t + 1) c) 7 c)
/-- What transfer `k` of stage b2 lands on device `c`. -/
def Ins.valG (d : Fin 2) (k : Fin 7) (c : Dev nD) : Vec F S1x128x384 .bf16 :=
  shapeCast S1x128x384 (I.valB d (laneK k.val (from' (.b2 d k) c)) 3 (from' (.b2 d k) c)) (by decide)

/-- The product of the two scales. -/
def Ins.scale (c : Dev nD) : F .f32 := Scalar.mulf (I.sx c (Shape.Idx.first (s := S1) (by decide))) (I.sw c (Shape.Idx.first (s := S1) (by decide)))
def finA (a : FVec F S128x640 .f32) (s : F .f32) : Vec F S128x640 .f32 :=
  maximumf (mulf a (broadcast S128x640 s)) (broadcast S128x640 (Scalar.ofBits .f32 0x00000000#32))
def finB (a : FVec F S128x384 .f32) (s : F .f32) : Vec F S128x384 .f32 :=
  maximumf (mulf a (broadcast S128x384 s)) (broadcast S128x384 (Scalar.ofBits .f32 0x00000000#32))
def Ins.outA (d : Fin 2) (c : Dev nD) : Vec F S128x640 .f32 :=
  finA (addf (upH (I.valH d 2 (mvI (grp (.a2 d 0)) c))) (upA (I.valA d (zA d 3 c) 7 c))) (I.scale c)
/-- The sum over the plane of what stage b1 left for this device's rows. -/
def Ins.accB (d : Fin 2) (c : Dev nD) : ℕ → FVec F S128x384 .f32
  | 0 => upB (I.valB d (myLane c) 3 c)
  | k + 1 => addf (Ins.accB d c k) (upG (I.valG d (Fin.ofNat 7 k) c))
def Ins.outB (d : Fin 2) (c : Dev nD) : Vec F S128x384 .f32 := finB (I.accB d c 7) (I.scale c)

end Cert.KernelIdeal.Ring

end
-- ==== Proof.Ring.Protocol.lean ====
/- The protocol of the ring kernel: which semaphore means what, who pays it and with what.

   * The barrier cell of device `d` gets nine signals, duty `j` of them from the device whose move `j` leads to `d`. Signal
     `j` brings the destination slots, on the device that signals, of every transfer `d` sends there, and that the round of
     the arrival cells of those transfers has begun. `d` waits once for all nine, before its first transfer.
   * Every transfer `e` has a departure cell on the sender and an arrival cell on the receiver, one round and one duty each,
     both paid by the copy: the departure cell with the source slot as it was, the arrival cell with the destination slot
     holding what was sent. The sender waits for departures only at the end; the receiver waits for the arrival before it
     adds its own product and sends on.
   * Levels: the barrier 1, the arrival cell of the sender's `n`-th transfer `2 n + 3` (the first of stage a2, whose time
     depends on the plane, 238), all else 0. Every wait is below what its device still owes. -/
module

public import proofs.«01_k».proof.Proof.Ring.Values
public import proofs.«01_k».proof.Proof.Gen.KernelIdeal.Points
public import Idealize.ShloMosaic.Lib.Rounds
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The resource algebra: the pipeline library's copy and this protocol's -/

abbrev UU : Type := UR sig nD τ × URounds (GSem nD τ sig) (Fin 9)

variable {F : FTy → Type}

local notation "𝕄" => MT nD τ sig Unit (Elt F) ℕ UU ℕ

abbrev EP : Emb (UR sig nD τ) (MT nD τ sig Unit (Elt F) ℕ UU ℕ) := embL
abbrev ER : Emb (URounds (GSem nD τ sig) (Fin 9)) (MT nD τ sig Unit (Elt F) ℕ UU ℕ) := embR

/-! ## The buffers' slots -/

def bufA : Fin 2 → Memref sig .tc .vmem S8x4x128x640 .bf16
  | 0 => Memref.whole cc0_scratch0 | 1 => Memref.whole cc0_scratch1
def bufB : Fin 2 → Memref sig .tc .vmem S4x8x128x384 .bf16
  | 0 => Memref.whole cc0_scratch2 | 1 => Memref.whole cc0_scratch3
def bufH : Fin 2 → Memref sig .tc .vmem S4x128x640 .bf16
  | 0 => Memref.whole cc0_scratch4 | 1 => Memref.whole cc0_scratch5
def bufG : Fin 2 → Memref sig .tc .vmem S8x128x384 .bf16
  | 0 => Memref.whole cc0_scratch6 | 1 => Memref.whole cc0_scratch7

theorem inbA (h : Fin 8) (z : Fin 4) : ∀ a, (![h.val, z.val, 0, 0] : Fin 4 → ℕ) a + S1x1x128x640.size a ≤ S8x4x128x640.size a := by
  revert h z; decide +kernel
theorem inbB (t : Fin 4) (i : Fin 8) : ∀ a, (![t.val, i.val, 0, 0] : Fin 4 → ℕ) a + S1x1x128x384.size a ≤ S4x8x128x384.size a := by
  revert t i; decide +kernel
theorem inbH (t : Fin 4) : ∀ a, (![t.val, 0, 0] : Fin 3 → ℕ) a + S1x128x640.size a ≤ S4x128x640.size a := by
  revert t; decide +kernel
theorem inbG (k : Fin 8) : ∀ a, (![k.val, 0, 0] : Fin 3 → ℕ) a + S1x128x384.size a ≤ S8x128x384.size a := by
  revert k; decide +kernel
abbrev rectA (h : Fin 8) (z : Fin 4) : Rect S8x4x128x640 := Rect.unit (s := S8x4x128x640) ![h.val, z.val, 0, 0] S1x1x128x640.size (inbA h z)
abbrev rectB (t : Fin 4) (i : Fin 8) : Rect S4x8x128x384 := Rect.unit (s := S4x8x128x384) ![t.val, i.val, 0, 0] S1x1x128x384.size (inbB t i)
abbrev rectH (t : Fin 4) : Rect S4x128x640 := Rect.unit (s := S4x128x640) ![t.val, 0, 0] S1x128x640.size (inbH t)
abbrev rectG (k : Fin 8) : Rect S8x128x384 := Rect.unit (s := S8x128x384) ![k.val, 0, 0] S1x128x384.size (inbG k)
abbrev mA (d : Fin 2) (h : Fin 8) (z : Fin 4) : Memref sig .tc .vmem S1x1x128x640 .bf16 := (bufA d).slice (rectA h z) (fun _ => rfl)
abbrev mB (d : Fin 2) (t : Fin 4) (i : Fin 8) : Memref sig .tc .vmem S1x1x128x384 .bf16 := (bufB d).slice (rectB t i) (fun _ => rfl)
abbrev mH (d : Fin 2) (t : Fin 4) : Memref sig .tc .vmem S1x128x640 .bf16 := (bufH d).slice (rectH t) (fun _ => rfl)
abbrev mG (d : Fin 2) (k : Fin 8) : Memref sig .tc .vmem S1x128x384 .bf16 := (bufG d).slice (rectG k) (fun _ => rfl)

/-- A slot at contents not chosen. -/
abbrev anyM {s : Shape} (c : Dev nD) (M : Memref sig .tc .vmem s .bf16) : sProp 𝕄 :=
  iprop(∃ X : s.Idx → Elt F .bf16, owns (c : Thread nD τ) M fullShare X)

def dstAny (e : Tr) (c : Dev nD) : sProp 𝕄 := match e with
  | .a1 d h z => anyM c (mA d h.succ z)
  | .b1 d t i => anyM c (mB d t.succ i)
  | .a2 d t => anyM c (mH d t.succ)
  | .b2 d k => anyM c (mG d k.castSucc)
def srcAny (e : Tr) (c : Dev nD) : sProp 𝕄 := match e with
  | .a1 d h z => anyM c (mA d h.castSucc z)
  | .b1 d t i => anyM c (mB d t.castSucc i)
  | .a2 d t => anyM c (mH d t.castSucc)
  | .b2 d k => anyM c (mB d 3 (laneK k.val c))

variable [FloatOps F] (I : Ins F)

/-- What device `c`'s destination slot of transfer `e` holds when it has come. -/
def dstPts (e : Tr) (c : Dev nD) : sProp 𝕄 := match e with
  | .a1 d h z => owns (c : Thread nD τ) (mA d h.succ z) fullShare (I.valA d z h.val (mvI (grp (.a1 d 0 z)) c))
  | .b1 d t i => owns (c : Thread nD τ) (mB d t.succ i) fullShare (I.valB d i t.val (mvI (grp (.b1 d 0 i)) c))
  | .a2 d t => owns (c : Thread nD τ) (mH d t.succ) fullShare (I.valH d t.val (mvI (grp (.a2 d 0)) c))
  | .b2 d k => owns (c : Thread nD τ) (mG d k.castSucc) fullShare (I.valG d k c)
/-- What device `c`'s source slot of transfer `e` holds when it goes. -/
def srcPts (e : Tr) (c : Dev nD) : sProp 𝕄 := match e with
  | .a1 d h z => owns (c : Thread nD τ) (mA d h.castSucc z) fullShare (I.valA d z h.val c)
  | .b1 d t i => owns (c : Thread nD τ) (mB d t.castSucc i) fullShare (I.valB d i t.val c)
  | .a2 d t => owns (c : Thread nD τ) (mH d t.castSucc) fullShare (I.valH d t.val c)
  | .b2 d k => owns (c : Thread nD τ) (mB d 3 (laneK k.val c)) fullShare (I.valB d (laneK k.val c) 3 c)

theorem dstPts_any (e : Tr) (c : Dev nD) : dstPts I e c ⊢ (dstAny e c : sProp 𝕄) := by
  cases e <;> (unfold dstPts dstAny; iintro H; iexists _; iexact H)
theorem srcPts_any (e : Tr) (c : Dev nD) : srcPts I e c ⊢ (srcAny e c : sProp 𝕄) := by
  cases e <;> (unfold srcPts srcAny; iintro H; iexists _; iexact H)

instance dstAny_storable (e : Tr) (c : Dev nD) : BI.Storable (upEmb : UEmb _ 𝕄) (dstAny (F := F) e c) := by
  cases e <;> (unfold dstAny; infer_instance)
instance dstPts_storable (e : Tr) (c : Dev nD) : BI.Storable (upEmb : UEmb _ 𝕄) (dstPts I e c) := by
  cases e <;> (unfold dstPts; infer_instance)
instance srcPts_storable (e : Tr) (c : Dev nD) : BI.Storable (upEmb : UEmb _ 𝕄) (srcPts I e c) := by
  cases e <;> (unfold srcPts; infer_instance)

/-! ## Cells and the schedule -/

abbrev barS : Sem sig := 0
abbrev barCell (c : Dev nD) : GSem nD τ sig := ((c : Thread nD τ), .reg barS)
abbrev cellS (e : Tr) (c : Dev nD) : GSem nD τ sig := ((c : Thread nD τ), .dma (semS e))
abbrev cellR (e : Tr) (c : Dev nD) : GSem nD τ sig := ((c : Thread nD τ), .dma (semR e))

/-- What a transfer adds to its semaphores. -/
def amt : Tr → ℕ
  | .a1 .. => RefSig.tileCredit S128x640 .bf16
  | .a2 .. => RefSig.tileCredit S128x640 .bf16
  | .b1 .. => RefSig.tileCredit S128x384 .bf16
  | .b2 .. => RefSig.tileCredit S128x384 .bf16
theorem amt_pos (e : Tr) : 0 < amt e := by
  cases e <;> exact RefSig.tileCredit_pos _ _ (by decide)

/-- Paid to `d`'s barrier cell with signal `j`. -/
def barPay (j : Fin 9) (d : Dev nD) : sProp 𝕄 :=
  bigSep Finset.univ fun e : Tr => if rdy (grp e) = j then iprop(dstAny e (mvI j d) ∗ reached ER (cellR e (mvI j d)) 0) else iprop(emp)

def dmaPay (n : ℕ) (c : Dev nD) : sProp 𝕄 := match semTr n with
  | (false, e) => srcPts I e c
  | (true, e) => dstPts I e c

def rd : Rounds.Schedule (GSem nD τ sig) (Fin 9) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma s => amt (semTr s.val).2
  payload g _ j := match g.2 with | .reg _ => barPay j g.1.1 | .dma s => dmaPay I s.val g.1.1
  amount_pos g _ _ _ := by rcases g with ⟨_, s | s⟩ <;> first | exact Nat.one_pos | exact amt_pos _

instance barPay_storable (j : Fin 9) (d : Dev nD) : BI.Storable (upEmb : UEmb _ 𝕄) (barPay (F := F) j d) := by
  unfold barPay
  haveI : ∀ e : Tr, BI.Storable (upEmb : UEmb _ 𝕄)
      (if rdy (grp e) = j then iprop(dstAny (F := F) e (mvI j d) ∗ reached ER (cellR e (mvI j d)) 0) else iprop(emp)) := fun e => by
    split <;> infer_instance
  infer_instance
instance rd_payload_storable (g : GSem nD τ sig) (r : ℕ) (j : Fin 9) : BI.Storable (upEmb : UEmb _ 𝕄) ((rd I).payload g r j) := by
  rcases g with ⟨c, s | s⟩
  · show BI.Storable upEmb (barPay (F := F) j c.1); infer_instance
  · show BI.Storable upEmb (dmaPay I s.val c.1)
    unfold dmaPay; split <;> infer_instance

section Sched
variable (e : Tr) (c : Dev nD)

theorem semTr_S : semTr (semS e).val = (false, e) := semTr_semIx false e
theorem semTr_R : semTr (semR e).val = (true, e) := semTr_semIx true e
theorem duties_bar : (rd I).duties (barCell c) 0 = Finset.univ := by dsimp only [rd]; exact if_pos ⟨rfl, rfl⟩
theorem duties_S : (rd I).duties (cellS e c) 0 = {0} := by
  dsimp only [rd]; exact (if_pos ⟨rfl, rfl⟩).trans (if_pos (semIx_ge false e))
theorem duties_R : (rd I).duties (cellR e c) 0 = {0} := by
  dsimp only [rd]; exact (if_pos ⟨rfl, rfl⟩).trans (if_pos (semIx_ge true e))
theorem duties_later (g : GSem nD τ sig) : ∀ r, 1 ≤ r → (rd I).duties g r = ∅ :=
  fun _ hr => if_neg fun h => by omega
theorem amount_bar (j : Fin 9) : (rd I).amount (barCell c) 0 j = 1 := rfl
theorem amount_S (j : Fin 9) : (rd I).amount (cellS e c) 0 j = amt e := congrArg (fun p : Bool × Tr => amt p.2) (semTr_S e)
theorem amount_R (j : Fin 9) : (rd I).amount (cellR e c) 0 j = amt e := congrArg (fun p : Bool × Tr => amt p.2) (semTr_R e)
theorem payload_bar (j : Fin 9) : (rd I).payload (barCell c) 0 j = barPay j c := rfl
theorem payload_S (j : Fin 9) : (rd I).payload (cellS e c) 0 j = srcPts I e c := by
  show dmaPay I (semS e).val c = _
  unfold dmaPay; rw [semTr_S]
theorem payload_R (j : Fin 9) : (rd I).payload (cellR e c) 0 j = dstPts I e c := by
  show dmaPay I (semR e).val c = _
  unfold dmaPay; rw [semTr_R]
theorem expect_bar : (rd I).expect (barCell c) 0 = 9 := by
  unfold Schedule.expect Schedule.amountOf; rw [duties_bar]; rfl
theorem expect_S : (rd I).expect (cellS e c) 0 = amt e := by
  unfold Schedule.expect Schedule.amountOf; rw [duties_S, Finset.sum_singleton, amount_S]
theorem expect_R : (rd I).expect (cellR e c) 0 = amt e := by
  unfold Schedule.expect Schedule.amountOf; rw [duties_R, Finset.sum_singleton, amount_R]
theorem rest_bar : bigSep ((rd I).duties (barCell c) 0 \ ∅) (fun u => (rd I).payload (barCell c) 0 u) = bigSep Finset.univ fun j => barPay (F := F) j c := by
  rw [Finset.sdiff_empty, duties_bar]; rfl
theorem rest_S : bigSep ((rd I).duties (cellS e c) 0 \ ∅) (fun u => (rd I).payload (cellS e c) 0 u) = srcPts I e c := by
  rw [Finset.sdiff_empty, duties_S, bigSep_singleton, payload_S]
theorem rest_R : bigSep ((rd I).duties (cellR e c) 0 \ ∅) (fun u => (rd I).payload (cellR e c) 0 u) = dstPts I e c := by
  rw [Finset.sdiff_empty, duties_R, bigSep_singleton, payload_R]
end Sched

/-! ## What each device owes; the levels -/

/-- Whether device `c` has still to make transfer `e`, after `ns` transfers in order and with the planes asked about for the
    first transfers of stage a2 `zp` and `zm`. -/
def pend (c : Dev nD) (ns zp zm : ℕ) : Tr → Bool
  | .a2 d t => bif t.val.beq 0 then (bif d.val.beq 0 then zp.ble (zN 0 0 c) else zm.ble (zN 1 0 c)) else ns.ble (ts (.a2 d t))
  | e => ns.ble (ts e)

/-- What device `c` owes the arrival cells of the transfers it has still to make. -/
def owedT (c : Dev nD) (p : Tr → Bool) : CellTallies nD τ sig Unit :=
  ∑ e, if p e = true then tallyAt (cellR e (tgt e c)) () (amt e) else 0
/-- What it owes the barrier cells it has still to signal, from the `n`-th on. -/
def owedB (c : Dev nD) (n : ℕ) : CellTallies nD τ sig Unit :=
  ∑ j : Fin 9, if n ≤ j.val then tallyAt (barCell (mv j c)) () 1 else 0

def L (g : GSem nD τ sig) : Finset Unit := if g.1.2 = .tc then {()} else ∅
def lvE : Tr → ℕ
  | .a2 d t => bif t.val.beq 0 then 238 else 2 * ts (.a2 d t) + 3
  | e => 2 * ts e + 3
def lv (g : GSem nD τ sig) (_ : Unit) : ℕ := match g.2 with
  | .reg _ => 1
  | .dma s => if 6 ≤ s.val then (match semTr s.val with | (true, e) => lvE e | _ => 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_R (e : Tr) (c : Dev nD) (u : Unit) : lv (cellR e c) u = lvE e := by
  show (if 6 ≤ (semR e).val then _ else _) = _
  rw [if_pos (show 6 ≤ (semR e).val from semIx_ge true e), semTr_R]
theorem lv_bar (c : Dev nD) (u : Unit) : lv (barCell c) u = 1 := rfl

theorem owedT_pos {c : Dev nD} {p : Tr → Bool} {g : GSem nD τ sig} {u : Unit} (h : 0 < owedT c p g u) :
    ∃ e, p e = true ∧ g = cellR e (tgt e c) := by
  by_contra hne
  rw [not_exists] at hne
  refine absurd h ?_
  unfold owedT
  rw [Finset.sum_apply, Finsupp.finset_sum_apply, Finset.sum_eq_zero]
  · exact Nat.lt_irrefl 0
  · intro e _
    by_cases hp : p e = true
    · rw [if_pos hp, tallyAt_apply, if_neg fun hh => hne e ⟨hp, hh.1⟩]
    · rw [if_neg hp]; rfl

/-- A wait below everything owed. -/
theorem mayWait (c : Dev nD) (sm : SemLoc sig) (p : Tr → Bool) (n : ℕ) (hn : lv ((c : Thread nD τ), sm) () ≤ n)
    (hp : ∀ e, p e = true → n < lvE e) : (levAts L lv : sProp 𝕄) ⊢ MayWait (c : Thread nD τ) sm () (owedT c p) :=
  MayOwe.of_cut (L := L) (lev := lv) n (fun q hq => by rw [Finset.mem_singleton.mp hq, L_tc]; exact Finset.mem_singleton_self _)
    (fun g u hg => by
      obtain ⟨e, -, rfl⟩ := owedT_pos hg
      rw [L_tc]; exact Finset.mem_singleton_self _)
    (fun q hq => by rw [Finset.mem_singleton.mp hq]; exact hn)
    (fun g u hg => by
      obtain ⟨e, he, rfl⟩ := owedT_pos hg
      rw [lv_R]; exact hp e he)

theorem owedT_none {c : Dev nD} {p : Tr → Bool} (h : ∀ e, p e = false) : owedT c p = 0 := by
  unfold owedT; exact Finset.sum_eq_zero fun e _ => if_neg (by rw [h e]; decide)
theorem owedB_none {c : Dev nD} {n : ℕ} (h : 9 ≤ n) : owedB c n = 0 := by
  unfold owedB; exact Finset.sum_eq_zero fun e _ => if_neg (by omega)
/-- Making transfer `e` takes its share off. -/
theorem owedT_step {c : Dev nD} {p p' : Tr → Bool} (e : Tr) (h : p e = true) (h' : p' e = false) (hne : ∀ e', e' ≠ e → p e' = p' e') :
    owedT c p = owedT c p' + tallyAt (cellR e (tgt e c)) () (amt e) := by
  unfold owedT
  rw [← Finset.add_sum_erase _ _ (Finset.mem_univ e), ← Finset.add_sum_erase (a := e) Finset.univ _ (Finset.mem_univ e), if_pos h,
    if_neg (by rw [h']; decide), zero_add, add_comm]
  refine congrArg (· + _) (Finset.sum_congr rfl fun e' he' => ?_)
  rw [hne e' (Finset.ne_of_mem_erase he')]
theorem owedB_step {c : Dev nD} (j : Fin 9) :
    owedB c j.val = owedB c (j.val + 1) + tallyAt (barCell (mv j c)) () 1 := by
  unfold owedB
  rw [← Finset.add_sum_erase _ _ (Finset.mem_univ j), ← Finset.add_sum_erase (a := j) Finset.univ _ (Finset.mem_univ j), if_pos (Nat.le_refl _),
    if_neg (by omega), zero_add, add_comm]
  refine congrArg (· + _) (Finset.sum_congr rfl fun i hi => ?_)
  have : i.val ≠ j.val := fun h => Finset.ne_of_mem_erase hi (Fin.ext h)
  by_cases h : j.val ≤ i.val
  · rw [if_pos h, if_pos (by omega)]
  · rw [if_neg h, if_neg (by omega)]

/-! ## The cells -/

def barEmb : Dev nD ↪ GSem nD τ sig := ⟨fun c => barCell c, fun _ _ h => congrArg (fun g : GSem nD τ sig => g.1.1) h⟩
/-- A device's own scoped semaphores: a departure and an arrival one for each transfer. -/
abbrev Own : Type := Bool × Tr
def osemD (k : Own) : DmaSem sig := ⟨semIx k.1 k.2, semIx_lt k.1 k.2⟩
abbrev osem (k : Own) : SemLoc sig := .dma (osemD k)
theorem osem_inj : Function.Injective osem := fun k k' h => by
  have h1 : osemD k = osemD k' := SemLoc.dma.inj h
  have h2 : semIx k.1 k.2 = semIx k'.1 k'.2 := congrArg Fin.val h1
  have h3 := congrArg semTr h2
  rw [semTr_semIx, semTr_semIx] at h3
  exact h3
def scEmb : Dev nD × Own ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, open from the start; the transfers' cells, opened when the kernel is entered. -/
abbrev barCells : Finset (GSem nD τ sig) := Finset.univ.map barEmb
abbrev scCells : Finset (GSem nD τ sig) := Finset.univ.map scEmb
theorem bar_mem (c : Dev nD) : barCell c ∈ (barCells ∪ scCells : Finset (GSem nD τ sig)) :=
  Finset.mem_union_left _ (Finset.mem_map_of_mem barEmb (Finset.mem_univ c))
theorem S_mem (e : Tr) (c : Dev nD) : cellS e c ∈ (barCells ∪ scCells : Finset (GSem nD τ sig)) :=
  Finset.mem_union_right _ (Finset.mem_map_of_mem scEmb (Finset.mem_univ (c, ((false, e) : Own))))
theorem R_mem (e : Tr) (c : Dev nD) : cellR e c ∈ (barCells ∪ scCells : Finset (GSem nD τ sig)) :=
  Finset.mem_union_right _ (Finset.mem_map_of_mem scEmb (Finset.mem_univ (c, ((true, e) : Own))))

/-- What every device may consult: the invariants of all cells under one map of names; round 0 of every barrier cell reached;
    the levels. -/
def records (K : GSem nD τ sig → ℕ) : sProp 𝕄 :=
  iprop((bigSep (barCells ∪ scCells) fun g => cellInv ER (rd I) (K g) g) ∗ (bigSep barCells fun g => reached ER g 0) ∗ levAts L lv)
instance records_persistent (K : GSem nD τ sig → ℕ) : BI.Persistent (records I K) := by unfold records; infer_instance

theorem inv_at (K : GSem nD τ sig → ℕ) {g : GSem nD τ sig} (hg : g ∈ (barCells ∪ scCells : Finset (GSem nD τ sig))) :
    (bigSep (barCells ∪ scCells) fun g => (cellInv ER (rd I) (K g) g : sProp 𝕄)) ⊢ cellInv ER (rd I) (K g) g :=
  bigSep_elim hg
omit [FloatOps F] in
theorem reached_at (c : Dev nD) : (bigSep barCells fun g => (reached ER g 0 : sProp 𝕄)) ⊢ reached ER (barCell c) 0 :=
  bigSep_elim (Finset.mem_map_of_mem barEmb (Finset.mem_univ c))
theorem rec_inv (K : GSem nD τ sig → ℕ) {g : GSem nD τ sig} (hg : g ∈ (barCells ∪ scCells : Finset (GSem nD τ sig))) :
    records I K ⊢ (cellInv ER (rd I) (K g) g : sProp 𝕄) := by
  unfold records
  iintro ⟨H, -, -⟩
  iapply (inv_at I K hg)
  iexact H
theorem rec_bar (K : GSem nD τ sig → ℕ) (c : Dev nD) : records I K ⊢ (reached ER (barCell c) 0 : sProp 𝕄) := by
  unfold records
  iintro ⟨-, H, -⟩
  iapply (reached_at c)
  iexact H
theorem rec_lev (K : GSem nD τ sig → ℕ) : records I K ⊢ (levAts L lv : sProp 𝕄) := by
  unfold records
  iintro ⟨-, -, H⟩
  iexact H

theorem close (K : GSem nD τ sig → ℕ) (g : GSem nD τ sig) :
    iprop(cellInv ER (rd I) (K g) g ∗ atPos ER g (0 + 1) ∅ 0) ⊢ (|={Set.univ}=> semVal g 0 : sProp 𝕄) :=
  Rounds.cell_close ER (rd I) (Set.mem_univ (K g)) id (duties_later I g)

end Cert.KernelIdeal.Ring

end
-- ==== Proof.Ring.State.lean ====
/- The state of one device between two steps of the ring kernel's body, and one lemma for each kind of step. -/
module

public import proofs.«01_k».proof.Proof.Ring.Protocol
public import proofs.«01_k».proof.Proof.Gen.KernelIdeal.Launch
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ UU ℕ

abbrev 𝒱₀ : Variants := Variants.none

/-! ## Families over the transfers -/

/-- `A e` for the transfers with `b e`, `B e` for the others. -/
def Fam (b : Tr → Bool) (A B : Tr → sProp 𝕄) : sProp 𝕄 := bigSep Finset.univ fun e => if b e = true then A e else B e

theorem Fam_eq {b b' : Tr → Bool} {A B : Tr → sProp 𝕄} (h : ∀ e, b e = b' e) : Fam b A B = Fam b' A B := by
  rw [show b = b' from funext h]
/-- One transfer goes over from `A` to `B`. -/
theorem Fam_step {b b' : Tr → Bool} {A B : Tr → sProp 𝕄} (e : Tr) (h : b e = true) (h' : b' e = false)
    (hne : ∀ e', e' ≠ e → b e' = b' e') : Fam b A B ⊢ iprop(A e ∗ (B e -∗ Fam b' A B)) := by
  unfold Fam
  rw [bigSep_univ_at _ e, bigSep_univ_at (fun e => if b' e = true then A e else B e) e, if_pos h, if_neg (by rw [h']; decide),
    bigSep_congr (s := Finset.univ.erase e) (Ψ := fun e => if b' e = true then A e else B e)
      fun e' he' => by rw [hne e' (Finset.ne_of_mem_erase he')]]
  iintro ⟨HA, HR⟩
  isplitl [HA]; · iexact HA
  iintro HB
  isplitl [HB]; · iexact HB
  iexact HR
/-- One transfer goes over from `B` to `A`. -/
theorem Fam_add {b b' : Tr → Bool} {A B : Tr → sProp 𝕄} (e : Tr) (h : b e = false) (h' : b' e = true)
    (hne : ∀ e', e' ≠ e → b e' = b' e') : Fam b A B ⊢ iprop(B e ∗ (A e -∗ Fam b' A B)) := by
  unfold Fam
  rw [bigSep_univ_at _ e, bigSep_univ_at (fun e => if b' e = true then A e else B e) e, if_pos h', if_neg (by rw [h]; decide),
    bigSep_congr (s := Finset.univ.erase e) (Ψ := fun e => if b' e = true then A e else B e)
      fun e' he' => by rw [hne e' (Finset.ne_of_mem_erase he')]]
  iintro ⟨HA, HR⟩
  isplitl [HA]; · iexact HA
  iintro HB
  isplitl [HB]; · iexact HB
  iexact HR
/-- One transfer's share is looked at. -/
theorem Fam_at {b : Tr → Bool} {A B : Tr → sProp 𝕄} (e : Tr) (h : b e = true) : Fam b A B ⊢ iprop(A e ∗ (A e -∗ Fam b A B)) := by
  unfold Fam
  rw [bigSep_univ_at _ e, if_pos h]
  iintro ⟨HA, HR⟩
  isplitl [HA]; · iexact HA
  iintro HB
  isplitl [HB]; · iexact HB
  iexact HR

/-! ## The state -/

/-- The source slots held from the start: those of first hops not yet begun. -/
def hasSrc (c : Dev nD) (nt yp ym : ℕ) : Tr → Bool
  | .a1 d h z => h.val.beq 0 && nt.ble (ts (.a1 d h z))
  | .b1 d t i => t.val.beq 0 && nt.ble (ts (.b1 d t i))
  | .a2 d t => t.val.beq 0 && (bif d.val.beq 0 then yp.ble (zN 0 0 c) else ym.ble (zN 1 0 c))
  | .b2 _ _ => false
/-- The arrivals whose slot is kept for later. -/
def keeps : Tr → Bool
  | .a1 _ h _ => h.val.beq 6 | .b1 _ t _ => t.val.beq 2 | .a2 _ t => t.val.beq 2 | .b2 _ _ => true
/-- When a kept slot goes away again. -/
def tk (c : Dev nD) : Tr → ℕ
  | .b1 d _ i => bif ((posn i.val + 15 - posn (c.val % 8)) % 8).ble 6 then 104 + (2 * ((posn i.val + 15 - posn (c.val % 8)) % 8) + d.val) else 1000
  | _ => 1000
def kept (c : Dev nD) (ns nk : ℕ) (e : Tr) : Bool := keeps e && (Nat.blt (tr e) nk && ns.ble (tk c e))

def pendTok (c : Dev nD) (e : Tr) : sProp 𝕄 :=
  iprop(dutyTok ER (cellS e c) 0 0 ∗ reached ER (cellS e c) 0 ∗ dutyTok ER (cellR e (tgt e c)) 0 0 ∗ reached ER (cellR e (tgt e c)) 0
    ∗ dstAny e (tgt e c))
def credS (c : Dev nD) (e : Tr) : sProp 𝕄 := cred (tallyAt (cellS e c) () (amt e))
def recvTok (c : Dev nD) (e : Tr) : sProp 𝕄 := iprop(cred (tallyAt (cellR e c) () (amt e)) ∗ atPos ER (cellR e c) 0 ∅ 0)
def recvDone (c : Dev nD) (e : Tr) : sProp 𝕄 := atPos ER (cellR e c) (0 + 1) ∅ 0
def none' (_ : Tr) : sProp 𝕄 := iprop(emp)

/-- The rectangles of the result each part is stored to. -/
theorem inbOA (d : Fin 2) : ∀ a, (![0, 640 * d.val] : Fin 2 → ℕ) a + S128x640.size a ≤ S128x2048.size a := by
  revert d; decide +kernel
abbrev rectOA (d : Fin 2) : Rect S128x2048 := Rect.unit (s := S128x2048) ![0, 640 * d.val] S128x640.size (inbOA d)
abbrev rectOB (d : Fin 2) : Rect S128x2048 := Rect.unit (s := S128x2048) ![0, 1280 + 384 * d.val] S128x384.size (inbWB d)

abbrev stX : Memref sig .tc .vmem S4096x128 .fp8e5m2 := st0_0 t0_0
abbrev stW : Memref sig .tc .vmem S128x2048 .fp8e5m2 := st0_1 t0_0
abbrev stSx : Memref sig .tc .smem S1 .f32 := st0_2 t0_0
abbrev stSw : Memref sig .tc .smem S1 .f32 := st0_3 t0_0
abbrev stM : Memref sig .tc .smem S14 .i32 := st0_4 t0_0
abbrev stO : Memref sig .tc .vmem S128x2048 .f32 := st0_5 t0_0

variable [FloatOps F] (I : Ins F)

/-- The table of words. -/
def metaV (c : Dev nD) : Vec F S14 .i32 := fun i => metaW c (i 0).val

/-- A slot kept for later, at what it holds. -/
def keptPts (c : Dev nD) (e : Tr) : sProp 𝕄 := match e with
  | .a1 d h z => owns (c : Thread nD τ) (mA d h.succ z) fullShare (I.valA d z (h.val + 1) c)
  | .b1 d t i => owns (c : Thread nD τ) (mB d t.succ i) fullShare (I.valB d i (t.val + 1) c)
  | e => dstPts I e c

/-- What part `n` of the result must be. -/
def outPart (c : Dev nD) (Y : Vec F S128x2048 .f32) (n : ℕ) : Prop :=
  (0 < n → (fun i => Y ((rectOA 0).emb i)) = I.outA 0 c) ∧ (1 < n → (fun i => Y ((rectOA 1).emb i)) = I.outA 1 c)
    ∧ (2 < n → (fun i => Y ((rectOB 0).emb i)) = I.outB 0 c) ∧ (3 < n → (fun i => Y ((rectOB 1).emb i)) = I.outB 1 c)

/-- The operands, which no step changes. -/
def ops (c : Dev nD) : sProp 𝕄 :=
  iprop(owns (c : Thread nD τ) stX fullShare (I.x c) ∗ owns (c : Thread nD τ) stW fullShare (I.w c) ∗ owns (c : Thread nD τ) stSx fullShare (I.sx c)
    ∗ owns (c : Thread nD τ) stSw fullShare (I.sw c) ∗ owns (c : Thread nD τ) stM fullShare (metaV (F := F) c))
def outPts (c : Dev nD) (no : ℕ) : sProp 𝕄 := iprop(∃ Y, ⌜outPart I c Y no⌝ ∗ owns (c : Thread nD τ) stO fullShare Y)
/-- What no transfer uses: the last slots of stage b2. -/
def spare (c : Dev nD) : sProp 𝕄 := iprop(anyM (F := F) c (mG 0 7) ∗ anyM (F := F) c (mG 1 7))
/-- The result as far as it is stored; with it, what only the end needs: the barrier cell past its round, the spare slots. -/
def outSt (c : Dev nD) (no : ℕ) : sProp 𝕄 := iprop(outPts I c no ∗ atPos ER (barCell c) (0 + 1) ∅ 0 ∗ spare (F := F) c)

/-- The state after `nl` loads of x, `ns` sends in order, `nt` first hops begun, `nr` arrivals waited for, the arrivals before
    the `nk`-th kept where they are to be kept, `yp`, `ym` planes asked about and `zp`, `zm` planes done with for the first
    transfers of stage a2, `no` parts of the result stored. -/
def St (K : GSem nD τ sig → ℕ) (c : Dev nD) (nl ns nt nr nk yp ym zp zm no : ℕ) : sProp 𝕄 :=
  iprop(records I K
    ∗ Fam (pend c ns zp zm) (pendTok c) (credS c)
    ∗ Fam (hasSrc c nt yp ym) (fun e => srcAny e c) none'
    ∗ Fam (fun e => Nat.ble nr (tr e)) (recvTok c) (recvDone c)
    ∗ Fam (kept c ns nk) (keptPts I c) none'
    ∗ (bigSep Finset.univ fun e => atPos ER (cellS e c) 0 ∅ 0)
    ∗ (∃ W, owes (c : Thread nD τ) (owedT c (pend c ns zp zm)) W)
    ∗ ops I c ∗ outSt I c no ∗ ⌜0 ≤ nl⌝)

variable {I} {K : GSem nD τ sig → ℕ} {c : Dev nD} {nl ns nt nr nk yp ym zp zm no : ℕ}
variable {α : Type} {Q : α → sProp (MT nD τ sig Unit (Elt F) ℕ UU ℕ)}

/-! ## Arithmetic of the counters -/

theorem ble_eq {a b : ℕ} {x y : ℕ} (h : a ≤ b ↔ x ≤ y) : Nat.ble a b = Nat.ble x y := by
  rw [Bool.eq_iff_iff, Nat.ble_eq, Nat.ble_eq]; exact h

theorem fire_of_not {e : Tr} (h : isFire e = false) (c : Dev nD) : pend c ns zp zm e = Nat.ble ns (ts e) := by
  cases e with
  | a2 d t => simp only [isFire] at h; simp only [pend, h, cond_false]
  | _ => rfl

/-- The `ns`-th send. -/
theorem pend_send (c : Dev nD) (hns : ns < 122) :
    pend c ns zp zm (sndOf ns) = true ∧ pend c (ns + 1) zp zm (sndOf ns) = false
      ∧ ∀ e, e ≠ sndOf ns → pend c ns zp zm e = pend c (ns + 1) zp zm e := by
  obtain ⟨h1, h2⟩ := ts_sndOf ⟨ns, hns⟩
  simp only at h1 h2
  refine ⟨?_, ?_, fun e he => ?_⟩
  · rw [fire_of_not h2, h1, Nat.ble_eq]
  · rw [fire_of_not h2, h1, ← Bool.not_eq_true, Nat.ble_eq]; omega
  · by_cases hf : isFire e = true
    · cases e with
      | a2 d t => simp only [isFire] at hf; simp only [pend, hf, cond_true]
      | _ => exact absurd hf (by simp [isFire])
    · have hf' : isFire e = false := by simpa using hf
      rw [fire_of_not hf', fire_of_not hf']
      refine ble_eq ?_
      have : ts e ≠ ns := fun h => he (by rw [← h, sndOf_ts e hf'])
      omega

/-- A transfer of the `n`-th place in an order. -/
theorem ble_step {f : Tr → ℕ} {g : ℕ → Tr} (hg : ∀ e, g (f e) = e) {n : ℕ} (hn : f (g n) = n) :
    Nat.ble n (f (g n)) = true ∧ Nat.ble (n + 1) (f (g n)) = false ∧ ∀ e, e ≠ g n → Nat.ble n (f e) = Nat.ble (n + 1) (f e) := by
  refine ⟨by rw [hn, Nat.ble_eq], by rw [hn, ← Bool.not_eq_true, Nat.ble_eq]; omega, fun e he => ble_eq ?_⟩
  have : f e ≠ n := fun h => he (by rw [← h, hg])
  omega

/-- Below the transfers still to make. -/
def waitOk (ns zp zm : ℕ) (e : Tr) : Bool := (lvE e).blt (2 * ns + 3) && ((lvE e).blt 238 || (Nat.ble 4 zp && Nat.ble 4 zm))
theorem waitOk_lt {e' : Tr} (h : waitOk ns zp zm e' = true) (c : Dev nD) (e : Tr) (he : pend c ns zp zm e = true) : lvE e' < lvE e := by
  simp only [waitOk, Bool.and_eq_true, Bool.or_eq_true, Nat.blt_eq, Nat.ble_eq] at h
  by_cases hf : isFire e = true
  · cases e with
    | a2 d t =>
      simp only [isFire] at hf
      have hl : lvE (.a2 d t) = 238 := by simp only [lvE, hf, cond_true]
      rw [hl]
      rcases h.2 with h2 | h2
      · exact h2
      · simp only [pend, hf, cond_true] at he
        have h1 : ∀ d t, zN d t c < 4 := fun d t => Nat.mod_lt _ (by decide)
        cases hd : d.val.beq 0 <;> simp only [hd, cond_true, cond_false, Nat.ble_eq] at he
        · have := h1 1 0; omega
        · have := h1 0 0; omega
    | _ => exact absurd hf (by simp [isFire])
  · have hf' : isFire e = false := by simpa using hf
    rw [fire_of_not hf', Nat.ble_eq] at he
    have hl : lvE e = 2 * ts e + 3 := by
      cases e with
      | a2 d t => simp only [isFire] at hf'; simp only [lvE, hf', cond_false]
      | _ => rfl
    rw [hl]; omega

/-! ## Steps that change nothing -/

variable (F) in
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The head of the program, seen. -/
theorem head {P : sProp 𝕄} {β : Type} {p : Prog (TpuEff nD τ sig (Elt F) Λ₀ .tc) α} {o : TpuEff nD τ sig (Elt F) Λ₀ .tc β} {k : β → Prog (TpuEff nD τ sig (Elt F) Λ₀ .tc) α}
    (h : p = .op o k) (hk : P ⊢ WP F c (.op o k) Q) : P ⊢ WP F c p Q := by rw [h]; exact hk

theorem step_assume {P : sProp 𝕄} {p : Prop} {dec : Decidable p} {k : PLift p → Prog (TpuEff nD τ sig (Elt F) Λ₀ .tc) α}
    (hp : p) (hk : P ⊢ WP F c (k ⟨hp⟩) Q) : P ⊢ WP F c (.op (.assume p dec) k) Q :=
  hk.trans (wp_assume 𝒱₀ (c : Thread nD τ) none Set.univ hp)

theorem step_load {P : sProp 𝕄} {cs : CoreSpace} {s : Shape} {e : EltTy} {M : Memref sig .tc cs s e} {r : Rect s} {hl : M.view.LoadsAt r.toLoadRect}
    {k : (r.shape.Idx → Elt F e) → Prog (TpuEff nD τ sig (Elt F) Λ₀ .tc) α} {X : s.Idx → Elt F e}
    (hP : P ⊢ iprop(owns (c : Thread nD τ) M fullShare X ∗ (owns (c : Thread nD τ) M fullShare X -∗ P)))
    (hk : P ⊢ WP F c (k fun i => X (r.emb i)) Q) : P ⊢ WP F c (.op (.load M r.toLoadRect hl) k) Q := by
  refine hP.trans ?_
  unfold owns
  iintro ⟨⟨%f, %hf, H⟩, Hb⟩
  iapply (wp_load_rect 𝒱₀ (c : Thread nD τ) none Set.univ (m := M) (r := r) (S := M.view.set) (by rw [View.set_slice]; exact View.setOn_subset_set _ _)) $$ H
  iintro H
  have hv : ((M.access r).read (Elt F) f) = fun i => X (r.emb i) := by
    subst hf; rfl
  rw [hv]
  iapply hk
  iapply Hb
  iexists f
  isplitr; · ipureintro; exact hf
  iexact H

theorem step_loadSlot {P : sProp 𝕄} {cs : CoreSpace} {s : Shape} {e : EltTy} {M : Memref sig .tc cs s e} {r : Rect s} {hr : ∀ a, r.stride a = 1}
    {hl : M.view.LoadsAt r.toLoadRect} {k : (r.shape.Idx → Elt F e) → Prog (TpuEff nD τ sig (Elt F) Λ₀ .tc) α} {X : r.shape.Idx → Elt F e}
    (hP : P ⊢ iprop(owns (c : Thread nD τ) (M.slice r hr) fullShare X ∗ (owns (c : Thread nD τ) (M.slice r hr) fullShare X -∗ P)))
    (hk : P ⊢ WP F c (k X) Q) : P ⊢ WP F c (.op (.load M r.toLoadRect hl) k) Q := by
  refine hP.trans ?_
  unfold owns
  iintro ⟨⟨%f, %hf, H⟩, Hb⟩
  iapply (wp_load_rect 𝒱₀ (c : Thread nD τ) none Set.univ (m := M) (r := r) (S := (M.access r).set) (Finset.Subset.refl _)) $$ H
  iintro H
  have hv : ((M.access r).read (Elt F) f) = X := hf
  rw [hv]
  iapply hk
  iapply Hb
  iexists f
  isplitr; · ipureintro; exact hf
  iexact H

theorem step_storeSlot {P : sProp 𝕄} {cs : CoreSpace} {s : Shape} {e : EltTy} {M : Memref sig .tc cs s e} {r : Rect s} {hr : ∀ a, r.stride a = 1}
    {w : r.shape.Idx → Elt F e} {hx : (M.access r).Stores Finset.univ} {hm : Finset.univ = Finset.univ ∨ ∀ a, r.stride a = 1}
    {k : PUnit → Prog (TpuEff nD τ sig (Elt F) Λ₀ .tc) α} {X : r.shape.Idx → Elt F e}
    (hk : iprop(P ∗ owns (c : Thread nD τ) (M.slice r hr) fullShare w) ⊢ WP F c (k ⟨⟩) Q) :
    iprop(P ∗ owns (c : Thread nD τ) (M.slice r hr) fullShare X) ⊢ WP F c (.op (.store M r w Finset.univ hx hm) k) Q := by
  unfold owns at hk ⊢
  iintro ⟨HP, %f, %hf, H⟩
  iapply (wp_store 𝒱₀ (c : Thread nD τ) none Set.univ (m := M) (r := r) (S := (M.access r).set) (by rw [View.set]; exact Finset.Subset.refl _)) $$ H
  iintro H
  iapply hk
  isplitl [HP]; · iexact HP
  iexists ((M.access r).write (Elt F) f w Finset.univ)
  isplitr; · ipureintro; exact View.read_write_univ (v := M.access r) f w
  iexact H

end Cert.KernelIdeal.Ring

end
-- ==== Proof.Ring.Steps.lean ====
/- The steps of the ring kernel's body on one device: loads, the start of a first hop, waits, copies, the stores of the result. -/
module

public import proofs.«01_k».proof.Proof.Ring.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {I : Ins F}

local notation "𝕄" => MT nD τ sig Unit (Elt F) ℕ UU ℕ

variable {K : GSem nD τ sig → ℕ} {c : Dev nD} {nl ns nt nr nk yp ym zp zm no : ℕ}
variable {α : Type} {Q : α → sProp (MT nD τ sig Unit (Elt F) ℕ UU ℕ)} {A P : sProp (MT nD τ sig Unit (Elt F) ℕ UU ℕ)}

/-! ## The parts of a transfer's name -/

def dOf : Tr → Fin 2
  | .a1 d _ _ => d | .b1 d _ _ => d | .a2 d _ => d | .b2 d _ => d
def hOf : Tr → Fin 7
  | .a1 _ h _ => h | .b2 _ k => k | _ => 0
def tOf : Tr → Fin 3
  | .b1 _ t _ => t | .a2 _ t => t | _ => 0
def zOf : Tr → Fin 4
  | .a1 _ _ z => z | _ => 0
def iOf : Tr → Fin 8
  | .b1 _ _ i => i | _ => 0

/-! ## Operands -/

theorem ops_St : iprop(St I K c nl ns nt nr nk yp ym zp zm no ∗ A)
    ⊢ iprop(ops I c ∗ (ops I c -∗ St I K c nl ns nt nr nk yp ym zp zm no ∗ A)) := by
  unfold St
  iintro ⟨⟨H1, H2, H3, H4, H5, H6, H7, H8, H9, H10⟩, HA⟩
  isplitl [H8]; · iexact H8
  iintro H8
  isplitr [HA]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact HA

theorem ops_x (hP : P ⊢ iprop(ops I c ∗ (ops I c -∗ P))) :
    P ⊢ iprop(owns (c : Thread nD τ) stX fullShare (I.x c) ∗ (owns (c : Thread nD τ) stX fullShare (I.x c) -∗ P)) := by
  refine hP.trans ?_
  unfold ops
  iintro ⟨⟨H1, H2, H3, H4, H5⟩, Hb⟩
  isplitl [H1]; · iexact H1
  iintro H1; iapply Hb
  isplitl [H1]; · iexact H1
  isplitl [H2]; · iexact H2
  isplitl [H3]; · iexact H3
  isplitl [H4]; · iexact H4
  iexact H5
theorem ops_w (hP : P ⊢ iprop(ops I c ∗ (ops I c -∗ P))) :
    P ⊢ iprop(owns (c : Thread nD τ) stW fullShare (I.w c) ∗ (owns (c : Thread nD τ) stW fullShare (I.w c) -∗ P)) := by
  refine hP.trans ?_
  unfold ops
  iintro ⟨⟨H1, H2, H3, H4, H5⟩, Hb⟩
  isplitl [H2]; · iexact H2
  iintro H2; iapply Hb
  isplitl [H1]; · iexact H1
  isplitl [H2]; · iexact H2
  isplitl [H3]; · iexact H3
  isplitl [H4]; · iexact H4
  iexact H5
theorem ops_sx (hP : P ⊢ iprop(ops I c ∗ (ops I c -∗ P))) :
    P ⊢ iprop(owns (c : Thread nD τ) stSx fullShare (I.sx c) ∗ (owns (c : Thread nD τ) stSx fullShare (I.sx c) -∗ P)) := by
  refine hP.trans ?_
  unfold ops
  iintro ⟨⟨H1, H2, H3, H4, H5⟩, Hb⟩
  isplitl [H3]; · iexact H3
  iintro H3; iapply Hb
  isplitl [H1]; · iexact H1
  isplitl [H2]; · iexact H2
  isplitl [H3]; · iexact H3
  isplitl [H4]; · iexact H4
  iexact H5
theorem ops_sw (hP : P ⊢ iprop(ops I c ∗ (ops I c -∗ P))) :
    P ⊢ iprop(owns (c : Thread nD τ) stSw fullShare (I.sw c) ∗ (owns (c : Thread nD τ) stSw fullShare (I.sw c) -∗ P)) := by
  refine hP.trans ?_
  unfold ops
  iintro ⟨⟨H1, H2, H3, H4, H5⟩, Hb⟩
  isplitl [H4]; · iexact H4
  iintro H4; iapply Hb
  isplitl [H1]; · iexact H1
  isplitl [H2]; · iexact H2
  isplitl [H3]; · iexact H3
  isplitl [H4]; · iexact H4
  iexact H5
theorem ops_m (hP : P ⊢ iprop(ops I c ∗ (ops I c -∗ P))) :
    P ⊢ iprop(owns (c : Thread nD τ) stM fullShare (metaV (F := F) c) ∗ (owns (c : Thread nD τ) stM fullShare (metaV (F := F) c) -∗ P)) := by
  refine hP.trans ?_
  unfold ops
  iintro ⟨⟨H1, H2, H3, H4, H5⟩, Hb⟩
  isplitl [H5]; · iexact H5
  iintro H5; iapply Hb
  isplitl [H1]; · iexact H1
  isplitl [H2]; · iexact H2
  isplitl [H3]; · iexact H3
  isplitl [H4]; · iexact H4
  iexact H5

theorem idx1 (i : S1.Idx) (a : Fin 1) : (i a).val = 0 := by
  have := (i a).isLt
  fin_cases a
  exact Nat.lt_one_iff.mp this

/-- A word of the table. -/
theorem step_word (hP : P ⊢ iprop(ops I c ∗ (ops I c -∗ P))) {off : Fin 1 → ℕ} {inb : ∀ a, off a + S1.size a ≤ S14.size a}
    {hl : (stM).view.LoadsAt (Rect.unit (s := S14) off S1.size inb).toLoadRect}
    {k : (S1.Idx → Elt F .i32) → Prog (TpuEff nD τ sig (Elt F) Λ₀ .tc) α}
    (hk : P ⊢ WP F c (k fun _ => metaW c (off 0)) Q) :
    P ⊢ WP F c (.op (.load stM (Rect.unit (s := S14) off S1.size inb).toLoadRect hl) k) Q := by
  refine step_load (ops_m hP) ?_
  rw [show (fun i => metaV (F := F) c ((Rect.unit (s := S14) off S1.size inb).emb i)) = fun _ => metaW c (off 0) from
    funext fun i => by
      show metaW c (off 0 + 1 * (i 0).val) = _
      rw [idx1 i 0]; rfl]
  exact hk
theorem emb1 (off : Fin 1 → ℕ) (hoff : off = ![0]) (inb : ∀ a, off a + S1.size a ≤ S1.size a) (i : S1.Idx) :
    (Rect.unit (s := S1) off S1.size inb).emb i = i := by
  subst hoff
  funext a
  apply Fin.ext
  show (![0] : Fin 1 → ℕ) a + 1 * (i a).val = (i a).val
  fin_cases a
  simp
theorem step_sx (hP : P ⊢ iprop(ops I c ∗ (ops I c -∗ P))) {off : Fin 1 → ℕ} {inb : ∀ a, off a + S1.size a ≤ S1.size a}
    {hl : (stSx).view.LoadsAt (Rect.unit (s := S1) off S1.size inb).toLoadRect}
    {k : (S1.Idx → Elt F .f32) → Prog (TpuEff nD τ sig (Elt F) Λ₀ .tc) α}
    (hoff : off = ![0]) (hk : P ⊢ WP F c (k (I.sx c)) Q) :
    P ⊢ WP F c (.op (.load stSx (Rect.unit (s := S1) off S1.size inb).toLoadRect hl) k) Q := by
  refine step_load (ops_sx hP) ?_
  rw [show (fun i => I.sx c ((Rect.unit (s := S1) off S1.size inb).emb i)) = I.sx c from
    funext fun i => by rw [emb1 off hoff]]
  exact hk
theorem step_sw (hP : P ⊢ iprop(ops I c ∗ (ops I c -∗ P))) {off : Fin 1 → ℕ} {inb : ∀ a, off a + S1.size a ≤ S1.size a}
    {hl : (stSw).view.LoadsAt (Rect.unit (s := S1) off S1.size inb).toLoadRect}
    {k : (S1.Idx → Elt F .f32) → Prog (TpuEff nD τ sig (Elt F) Λ₀ .tc) α}
    (hoff : off = ![0]) (hk : P ⊢ WP F c (k (I.sw c)) Q) :
    P ⊢ WP F c (.op (.load stSw (Rect.unit (s := S1) off S1.size inb).toLoadRect hl) k) Q := by
  refine step_load (ops_sw hP) ?_
  rw [show (fun i => I.sw c ((Rect.unit (s := S1) off S1.size inb).emb i)) = I.sw c from
    funext fun i => by rw [emb1 off hoff]]
  exact hk

/-- The rows of the `n`-th load of x. -/
def rowL (n : ℕ) (c : Dev nD) : Fin 32 := bif n.ble 23 then rowS (sndOf n) c else rowR (rcvOf (n - 24)) c

theorem step_x {off : Fin 2 → ℕ} {inb : ∀ a, off a + S128x128.size a ≤ S4096x128.size a}
    {hl : (stX).view.LoadsAt (Rect.unit (s := S4096x128) off S128x128.size inb).toLoadRect}
    {k : (S128x128.Idx → Elt F .fp8e5m2) → Prog (TpuEff nD τ sig (Elt F) Λ₀ .tc) α}
    (hoff : off = ![128 * (rowL nl c).val, 0])
    (hk : iprop(St I K c (nl + 1) ns nt nr nk yp ym zp zm no ∗ A) ⊢ WP F c (k (I.xb c (rowL nl c))) Q) :
    iprop(St I K c nl ns nt nr nk yp ym zp zm no ∗ A)
      ⊢ WP F c (.op (.load stX (Rect.unit (s := S4096x128) off S128x128.size inb).toLoadRect hl) k) Q := by
  subst hoff
  refine step_load (ops_x ops_St) ?_
  have h : St I K c nl ns nt nr nk yp ym zp zm no = St I K c (nl + 1) ns nt nr nk yp ym zp zm no := by
    unfold St; simp only [Nat.zero_le]
  rw [h]
  exact hk
theorem step_w {P : sProp 𝕄} (hP : P ⊢ iprop(ops I c ∗ (ops I c -∗ P))) {r : Rect S128x2048} {hl : (stW).view.LoadsAt r.toLoadRect}
    {k : (r.shape.Idx → Elt F .fp8e5m2) → Prog (TpuEff nD τ sig (Elt F) Λ₀ .tc) α}
    (hk : P ⊢ WP F c (k fun i => I.w c (r.emb i)) Q) :
    P ⊢ WP F c (.op (.load stW r.toLoadRect hl) k) Q :=
  step_load (ops_w hP) hk

/-! ## Slots kept, slots held from the start -/

theorem St_kept (e : Tr) (he : kept c ns nk e = true) : iprop(St I K c nl ns nt nr nk yp ym zp zm no ∗ A)
    ⊢ iprop(keptPts I c e ∗ (keptPts I c e -∗ St I K c nl ns nt nr nk yp ym zp zm no ∗ A)) := by
  unfold St
  iintro ⟨⟨H1, H2, H3, H4, H5, H6, H7, H8, H9, H10⟩, HA⟩
  icases (Fam_at (A := keptPts I c) (B := none') e he) $$ H5 with ⟨Hs, Hb⟩
  isplitl [Hs]; · iexact Hs
  iintro Hs
  isplitr [HA]
  · isplitl [H1]; · iexact H1
    isplitl [H2]; · iexact H2
    isplitl [H3]; · iexact H3
    isplitl [H4]; · iexact H4
    isplitl [Hb Hs]; · iapply Hb; iexact Hs
    isplitl [H6]; · iexact H6
    isplitl [H7]; · iexact H7
    isplitl [H8]; · iexact H8
    isplitl [H9]; · iexact H9
    iexact H10
  iexact HA

theorem St_take (e : Tr) {nt' yp' ym' : ℕ} (h : hasSrc c nt yp ym e = true) (h' : hasSrc c nt' yp' ym' e = false)
    (hne : ∀ e', e' ≠ e → hasSrc c nt yp ym e' = hasSrc c nt' yp' ym' e') : iprop(St I K c nl ns nt nr nk yp ym zp zm no ∗ emp)
    ⊢ iprop(St I K c nl ns nt' nr nk yp' ym' zp zm no ∗ srcAny e c) := by
  unfold St
  iintro ⟨⟨H1, H2, H3, H4, H5, H6, H7, H8, H9, H10⟩, -⟩
  icases (Fam_step (A := fun e => srcAny (F := F) e c) (B := none') e h h' hne) $$ H3 with ⟨Hs, Hb⟩
  isplitr [Hs]
  · isplitl [H1]; · iexact H1
    isplitl [H2]; · iexact H2
    isplitl [Hb]; · iapply Hb; unfold none'; iempintro
    isplitl [H4]; · iexact H4
    isplitl [H5]; · iexact H5
    isplitl [H6]; · iexact H6
    isplitl [H7]; · iexact H7
    isplitl [H8]; · iexact H8
    isplitl [H9]; · iexact H9
    iexact H10
  iexact Hs

theorem hasSrc_step (c : Dev nD) (hnt : nt < 24) : hasSrc c nt yp ym (sndOf nt) = true ∧ hasSrc c (nt + 1) yp ym (sndOf nt) = false
    ∧ ∀ e, e ≠ sndOf nt → hasSrc c nt yp ym e = hasSrc c (nt + 1) yp ym e := by
  have hk : ∀ n : Fin 24, (match sndOf n with | .a1 _ h _ => h.val.beq 0 | .b1 _ t _ => t.val.beq 0 | _ => false) = true := by decide +kernel
  obtain ⟨h1, h2⟩ := ts_sndOf ⟨nt, by omega⟩
  have hk := hk ⟨nt, hnt⟩
  simp only at h1 h2 hk
  have hne : ∀ e, isFire e = false → e ≠ sndOf nt → Nat.ble nt (ts e) = Nat.ble (nt + 1) (ts e) := fun e hf he => ble_eq (by
    have : ts e ≠ nt := fun h => he (by rw [← h, sndOf_ts e hf])
    omega)
  have h3 : Nat.ble nt nt = true := by rw [Nat.ble_eq]
  have h4 : Nat.ble (nt + 1) nt = false := by rw [← Bool.not_eq_true, Nat.ble_eq]; omega
  refine ⟨?_, ?_, fun e he => ?_⟩
  · cases h : sndOf nt with
    | a1 d h z => rw [h] at hk h1; simp only at hk; simp only [hasSrc, hk, h1, h3, Bool.and_self]
    | b1 d t i => rw [h] at hk h1; simp only at hk; simp only [hasSrc, hk, h1, h3, Bool.and_self]
    | a2 d t => rw [h] at hk; exact absurd hk (by simp)
    | b2 d k => rw [h] at hk; exact absurd hk (by simp)
  · cases h : sndOf nt with
    | a1 d h z => rw [h] at hk h1; simp only at hk; simp only [hasSrc, h1, h4, Bool.and_false]
    | b1 d t i => rw [h] at hk h1; simp only at hk; simp only [hasSrc, h1, h4, Bool.and_false]
    | a2 d t => rw [h] at hk; exact absurd hk (by simp)
    | b2 d k => rw [h] at hk; exact absurd hk (by simp)
  · cases e with
    | a1 d h z => simp only [hasSrc]; rw [hne _ rfl he]
    | b1 d t i => simp only [hasSrc]; rw [hne _ rfl he]
    | _ => rfl

/-- The start of a first hop: the slot is taken, and read for nothing before it is written. -/
theorem step_takeA {s : Shape} {M : Memref sig .tc .vmem s .bf16} {r : Rect s} {hr : ∀ a, r.stride a = 1} {hl : M.view.LoadsAt r.toLoadRect}
    {k : (r.shape.Idx → Elt F .bf16) → Prog (TpuEff nD τ sig (Elt F) Λ₀ .tc) α}
    (hnt : Nat.blt nt 24 = true)
    (hs : iprop(∃ X, owns (c : Thread nD τ) (M.slice r hr) fullShare X) = (srcAny (F := F) (sndOf nt) c))
    (hk : ∀ X, iprop(St I K c nl ns (nt + 1) nr nk yp ym zp zm no ∗ owns (c : Thread nD τ) (M.slice r hr) fullShare X) ⊢ WP F c (k X) Q) :
    iprop(St I K c nl ns nt nr nk yp ym zp zm no ∗ emp) ⊢ WP F c (.op (.load M r.toLoadRect hl) k) Q := by
  obtain ⟨h1, h2, h3⟩ := hasSrc_step (yp := yp) (ym := ym) c (Nat.blt_eq.mp hnt)
  refine (St_take (sndOf nt) h1 h2 h3).trans ?_
  rw [← hs]
  iintro ⟨H, %X, HX⟩
  iapply (step_loadSlot (P := iprop(St I K c nl ns (nt + 1) nr nk yp ym zp zm no ∗ owns (c : Thread nD τ) (M.slice r hr) fullShare X)) (hr := hr) (X := X) (by
    iintro ⟨H, HX⟩
    isplitl [HX]; · iexact HX
    iintro HX
    isplitl [H] <;> iassumption) (hk X))
  isplitl [H] <;> iassumption

/-- A slot in hand is read. -/
theorem step_held {P : sProp 𝕄} {cs : CoreSpace} {s : Shape} {e : EltTy} {M : Memref sig .tc cs s e} {r : Rect s} {hr : ∀ a, r.stride a = 1}
    {hl : M.view.LoadsAt r.toLoadRect} {k : (r.shape.Idx → Elt F e) → Prog (TpuEff nD τ sig (Elt F) Λ₀ .tc) α} {X : r.shape.Idx → Elt F e}
    (hk : iprop(P ∗ owns (c : Thread nD τ) (M.slice r hr) fullShare X) ⊢ WP F c (k X) Q) :
    iprop(P ∗ owns (c : Thread nD τ) (M.slice r hr) fullShare X) ⊢ WP F c (.op (.load M r.toLoadRect hl) k) Q :=
  step_loadSlot (hr := hr) (X := X) (by
    iintro ⟨H, HX⟩
    isplitl [HX]; · iexact HX
    iintro HX
    isplitl [H] <;> iassumption) hk

/-! ## Waits -/

theorem wait_lev {e : Tr} (hw : waitOk ns zp zm e = true) :
    records I K ⊢ (MayWait (c : Thread nD τ) (.dma (semR e)) () (owedT c (pend c ns zp zm)) : sProp 𝕄) := by
  have h1 : lv ((c : Thread nD τ), .dma (semR e)) () ≤ lvE e := le_of_eq (lv_R e c ())
  have h2 : ∀ e', pend c ns zp zm e' = true → lvE e < lvE e' := fun e' => waitOk_lt hw c e'
  have h3 := mayWait (F := F) c (.dma (semR e)) (pend c ns zp zm) (lvE e) h1 h2
  have h4 := @rec_lev F _ I K
  exact h4.trans h3

/-- The wait for the `nr`-th arrival. -/
theorem wait_core {s : Shape} {sp sp' : Space} {s' : Shape} {e e' : EltTy} {κ' : Kind} {src : Memref sig .tc sp' s' e'} {dst : Memref sig κ' sp s e} {hs1 : src.view.WordExact}
    {hs2 : dst.view.WordExact} {sm : DmaSem sig} {k : PUnit → Prog (TpuEff nD τ sig (Elt F) Λ₀ .tc) α}
    (hnr : Nat.blt nr 124 = true) (hsm : sm = semR (rcvOf nr)) (hN : dst.view.dmaCredit = amt (rcvOf nr)) (hw : waitOk ns zp zm (rcvOf nr) = true)
    (hk : iprop(St I K c nl ns nt (nr + 1) nk yp ym zp zm no ∗ dstPts I (rcvOf nr) c) ⊢ WP F c (k ⟨⟩) Q) :
    iprop(St I K c nl ns nt nr nk yp ym zp zm no ∗ emp) ⊢ WP F c (.op (.waitDma2 sm src dst hs1 hs2) k) Q := by
  subst hsm
  obtain ⟨h1, h2, h3⟩ := ble_step (f := tr) (g := rcvOf) rcvOf_tr (tr_rcvOf ⟨nr, Nat.blt_eq.mp hnr⟩)
  unfold St at hk ⊢
  iintro ⟨⟨#H1, H2, H3, H4, H5, H6, ⟨%W, H7⟩, H8, H9, H10⟩, -⟩
  icases (Fam_step (b' := fun e => Nat.ble (nr + 1) (tr e)) (A := recvTok (F := F) c) (B := recvDone c) (rcvOf nr) h1 h2 h3) $$ H4 with ⟨Hs, Hb⟩
  unfold recvTok
  icases Hs with ⟨Hc, Hat⟩
  iapply (Rounds.wp_wait_rest_token 𝒱₀ ER (rd I) (c : Thread nD τ) none (κ := K (cellR (rcvOf nr) c))
      (wpE_waitDma2_eq 𝒱₀ (c : Thread nD τ) none Set.univ) (Set.mem_univ _) () (O := owedT c (pend c ns zp zm)) (W := W) (R := 0) (m := 0) (T := ∅)
      ((Nat.zero_add _).trans (hN.trans (expect_R I (rcvOf nr) c).symm))) $$ [Hc H7 Hat]
  · isplitr; · iapply (rec_inv I K (R_mem (rcvOf nr) c)); iexact H1
    isplitl [Hc]; · rw [hN]; iexact Hc
    isplitl [H7]; · iexact H7
    isplitr
    · iapply (wait_lev (I := I) (K := K) hw); iexact H1
    iexact Hat
  iintro ⟨HO, Hat, -, Hpay⟩
  ihave Hp := (Entails.of_eq (rest_R I (rcvOf nr) c)) $$ Hpay
  iapply hk
  isplitr [Hp]
  · isplitr; · iexact H1
    isplitl [H2]; · iexact H2
    isplitl [H3]; · iexact H3
    isplitl [Hb Hat]; · iapply Hb; unfold recvDone; iexact Hat
    isplitl [H5]; · iexact H5
    isplitl [H6]; · iexact H6
    isplitl [HO]; · iexists _; iexact HO
    isplitl [H8]; · iexact H8
    isplitl [H9]; · iexact H9
    iexact H10
  iexact Hp

/-- What is in hand goes to the kept slots. -/
theorem St_keep (e : Tr) {nk' : ℕ} (h : kept c ns nk e = false) (h' : kept c ns nk' e = true)
    (hne : ∀ e', e' ≠ e → kept c ns nk e' = kept c ns nk' e') :
    iprop(St I K c nl ns nt nr nk yp ym zp zm no ∗ keptPts I c e) ⊢ iprop(St I K c nl ns nt nr nk' yp ym zp zm no ∗ emp) := by
  unfold St
  iintro ⟨⟨H1, H2, H3, H4, H5, H6, H7, H8, H9, H10⟩, HA⟩
  icases (Fam_add (b' := kept c ns nk') (A := keptPts I c) (B := none') e h h' hne) $$ H5 with ⟨-, Hb⟩
  isplitl
  · isplitl [H1]; · iexact H1
    isplitl [H2]; · iexact H2
    isplitl [H3]; · iexact H3
    isplitl [H4]; · iexact H4
    isplitl [Hb HA]; · iapply Hb; iexact HA
    isplitl [H6]; · iexact H6
    isplitl [H7]; · iexact H7
    isplitl [H8]; · iexact H8
    isplitl [H9]; · iexact H9
    iexact H10
  iempintro

/-- Between arrivals `nk` and `n` only the last is kept. -/
def keepOk (nk n : ℕ) : Bool :=
  (Nat.ble nk n && Nat.blt n 124) && (keeps (rcvOf n) && decide (∀ j : Fin 124, nk ≤ j.val → j.val < n → keeps (rcvOf j.val) = false))
theorem tk_cases : ∀ (c : Dev nD) (e : Tr), tk c e = 1000 ∨ (104 ≤ tk c e ∧ tk c e < 118) := by
  intro c e
  cases e with
  | b1 d t i =>
    simp only [tk]
    cases h : ((posn i.val + 15 - posn (c.val % 8)) % 8).ble 6
    · left; rfl
    · right; rw [Nat.ble_eq] at h; simp only [cond_true]; have := d.isLt; omega
  | _ => left; rfl
theorem kept_step (c : Dev nD) {n : ℕ} (h : keepOk nk n = true) (htk : ns ≤ tk c (rcvOf n)) :
    kept c ns nk (rcvOf n) = false ∧ kept c ns (n + 1) (rcvOf n) = true ∧ ∀ e, e ≠ rcvOf n → kept c ns nk e = kept c ns (n + 1) e := by
  simp only [keepOk, Bool.and_eq_true, Nat.ble_eq, Nat.blt_eq, decide_eq_true_eq] at h
  obtain ⟨⟨h1, h2⟩, h3, h4⟩ := h
  have ht := tr_rcvOf ⟨n, h2⟩
  simp only at ht
  refine ⟨?_, ?_, fun e he => ?_⟩
  · have : Nat.blt n nk = false := by rw [← Bool.not_eq_true, Nat.blt_eq]; omega
    simp only [kept, ht, this, Bool.false_and, Bool.and_false]
  · have : Nat.blt n (n + 1) = true := by rw [Nat.blt_eq]; omega
    have h5 : Nat.ble ns (tk c (rcvOf n)) = true := by rw [Nat.ble_eq]; exact htk
    simp only [kept, ht, this, h3, h5, Bool.and_self]
  · by_cases hk : keeps e = true
    · have hn : tr e ≠ n := fun h => he (by rw [← h, rcvOf_tr])
      have : Nat.blt (tr e) nk = Nat.blt (tr e) (n + 1) := by
        rw [Bool.eq_iff_iff, Nat.blt_eq, Nat.blt_eq]
        constructor
        · omega
        · intro hlt
          by_contra hge
          have := h4 ⟨tr e, tr_lt e⟩ (by simp only; omega) (by simp only; omega)
          simp only [rcvOf_tr] at this
          rw [hk] at this; exact absurd this (by decide)
      simp only [kept, this]
    · have hk' : keeps e = false := by simpa using hk
      simp only [kept, hk', Bool.false_and]

/-- The slot in hand is done with. -/
theorem step_keep {n : ℕ} {s : Shape} {M : Memref sig .tc .vmem s .bf16} {X : s.Idx → Elt F .bf16} {p : Prog (TpuEff nD τ sig (Elt F) Λ₀ .tc) α}
    (hok : keepOk nk n = true) (htk : ns ≤ tk c (rcvOf n)) (hM : owns (c : Thread nD τ) M fullShare X = keptPts I c (rcvOf n))
    (hk : iprop(St I K c nl ns nt (n + 1) (n + 1) yp ym zp zm no ∗ emp) ⊢ WP F c p Q) :
    iprop(St I K c nl ns nt (n + 1) nk yp ym zp zm no ∗ owns (c : Thread nD τ) M fullShare X) ⊢ WP F c p Q := by
  rw [hM]
  obtain ⟨h1, h2, h3⟩ := kept_step (ns := ns) c hok htk
  exact (St_keep _ h1 h2 h3).trans hk

/-- A wait whose slot is kept as it came. -/
theorem step_waitKeep {s : Shape} {sp sp' : Space} {s' : Shape} {e e' : EltTy} {κ' : Kind} {src : Memref sig .tc sp' s' e'} {dst : Memref sig κ' sp s e} {hs1 : src.view.WordExact}
    {hs2 : dst.view.WordExact} {sm : DmaSem sig} {k : PUnit → Prog (TpuEff nD τ sig (Elt F) Λ₀ .tc) α}
    (hnr : Nat.blt nr 124 = true) (hsm : sm = semR (rcvOf nr)) (hN : dst.view.dmaCredit = amt (rcvOf nr)) (hw : waitOk ns zp zm (rcvOf nr) = true)
    (hok : keepOk nk nr = true) (htk : ns ≤ tk c (rcvOf nr)) (hM : dstPts I (rcvOf nr) c = keptPts I c (rcvOf nr))
    (hk : iprop(St I K c nl ns nt (nr + 1) (nr + 1) yp ym zp zm no ∗ emp) ⊢ WP F c (k ⟨⟩) Q) :
    iprop(St I K c nl ns nt nr nk yp ym zp zm no ∗ emp) ⊢ WP F c (.op (.waitDma2 sm src dst hs1 hs2) k) Q := by
  refine wait_core hnr hsm hN hw ?_
  rw [hM]
  obtain ⟨h1, h2, h3⟩ := kept_step (ns := ns) c hok htk
  exact (St_keep _ h1 h2 h3).trans hk

/-- A wait whose slot is worked on next. -/
theorem step_wait {s : Shape} {sp sp' : Space} {s' s₁ : Shape} {e e' : EltTy} {κ' : Kind} {src : Memref sig .tc sp' s' e'} {dst : Memref sig κ' sp s e} {hs1 : src.view.WordExact}
    {hs2 : dst.view.WordExact} {sm : DmaSem sig} {k : PUnit → Prog (TpuEff nD τ sig (Elt F) Λ₀ .tc) α}
    {M : Memref sig .tc .vmem s₁ .bf16} {X : s₁.Idx → Elt F .bf16}
    (hnr : Nat.blt nr 124 = true) (hsm : sm = semR (rcvOf nr)) (hN : dst.view.dmaCredit = amt (rcvOf nr)) (hw : waitOk ns zp zm (rcvOf nr) = true)
    (hM : dstPts I (rcvOf nr) c = owns (c : Thread nD τ) M fullShare X)
    (hk : iprop(St I K c nl ns nt (nr + 1) nk yp ym zp zm no ∗ owns (c : Thread nD τ) M fullShare X) ⊢ WP F c (k ⟨⟩) Q) :
    iprop(St I K c nl ns nt nr nk yp ym zp zm no ∗ emp) ⊢ WP F c (.op (.waitDma2 sm src dst hs1 hs2) k) Q :=
  wait_core hnr hsm hN hw (by rw [hM]; exact hk)

/-! ## Copies -/

omit [FloatOps F] in
theorem owns_squeeze (c : Dev nD) {s t : Shape} (M : Memref sig .tc .vmem s .bf16) (h : s.Squeezes t) (f : M.view.ty.Contents (Elt F)) :
    (M.view.loc (c : Thread nD τ) ↦[M.view.set]{fullShare} f : sProp 𝕄)
      = ((M.squeeze t h).view.loc (c : Thread nD τ) ↦[(M.squeeze t h).view.set]{fullShare} f) := by
  rw [show (M.squeeze t h).view.set = M.view.set from View.set_reshape M.view h.numel_eq]

/-- What a squeezed slot is given, read unsqueezed. -/
theorem squeeze_read {s₁ s₂ t : Shape} (M₁ : Memref sig .tc .vmem s₁ .bf16) (M₂ : Memref sig .tc .vmem s₂ .bf16) (h₁ : s₁.Squeezes t) (h₂ : s₂.Squeezes t)
    (h : s₁.ShapeCasts s₂)
    (fs : M₁.view.ty.Contents (Elt F)) (fd : M₂.view.ty.Contents (Elt F)) :
    M₂.view.read (Elt F) ((M₂.squeeze t h₂).view.write (Elt F) fd ((M₁.squeeze t h₁).view.read (Elt F) fs) Finset.univ)
      = shapeCast s₂ (M₁.view.read (Elt F) fs) h := by
  have e : ∀ g : M₂.view.ty.Contents (Elt F), M₂.view.read (Elt F) g
      = fun i => (M₂.squeeze t h₂).view.read (Elt F) g (Shape.reshapeEquiv h₂.numel_eq.symm i) := fun g => funext fun i => by
    show M₂.view.read (Elt F) g i = M₂.view.read (Elt F) g (Shape.reshapeEquiv h₂.numel_eq (Shape.reshapeEquiv h₂.numel_eq.symm i))
    rw [Shape.reshapeEquiv_reshapeEquiv, Shape.reshapeEquiv_self]
  rw [e, View.read_write_univ]
  funext i
  show M₁.view.read (Elt F) fs (Shape.reshapeEquiv h₁.numel_eq (Shape.reshapeEquiv h₂.numel_eq.symm i)) = _
  rw [Shape.reshapeEquiv_reshapeEquiv]
  rfl

omit [FloatOps F] in
theorem owns_open (c : Dev nD) {s t : Shape} (M : Memref sig .tc .vmem s .bf16) (h : s.Squeezes t) (X : s.Idx → Elt F .bf16) :
    owns (c : Thread nD τ) M fullShare X
      ⊢ (iprop(∃ f, ⌜M.view.read (Elt F) f = X⌝ ∗ ((M.squeeze t h).view.loc (c : Thread nD τ) ↦[(M.squeeze t h).view.set]{fullShare} f)) : sProp 𝕄) := by
  unfold owns
  iintro ⟨%f, %hf, H⟩
  iexists f
  isplitr; · ipureintro; exact hf
  rw [← owns_squeeze c M h]
  iexact H
theorem pendTok_open (e : Tr) {s t : Shape} (M : Memref sig .tc .vmem s .bf16) (h : s.Squeezes t)
    (hany : dstAny (F := F) e (tgt e c) = iprop(∃ Y, owns (tgt e c : Thread nD τ) M fullShare Y)) :
    pendTok c e ⊢ (iprop(dutyTok ER (cellS e c) 0 0 ∗ reached ER (cellS e c) 0 ∗ dutyTok ER (cellR e (tgt e c)) 0 0 ∗ reached ER (cellR e (tgt e c)) 0
      ∗ ∃ f, ((M.squeeze t h).view.loc (tgt e c : Thread nD τ) ↦[(M.squeeze t h).view.set]{fullShare} f)) : sProp 𝕄) := by
  unfold pendTok
  rw [hany]
  iintro ⟨H1, H2, H3, H4, %Y, H5⟩
  icases (owns_open (tgt e c) M h Y) $$ H5 with ⟨%f, -, H5⟩
  isplitl [H1]; · iexact H1
  isplitl [H2]; · iexact H2
  isplitl [H3]; · iexact H3
  isplitl [H4]; · iexact H4
  iexists f; iexact H5

/-- The state, the transfers to make and the slots kept given outright. -/
def StG (I : Ins F) (K : GSem nD τ sig → ℕ) (c : Dev nD) (pd kp : Tr → Bool) (nl nt nr yp ym no : ℕ) : sProp 𝕄 :=
  iprop(records I K
    ∗ Fam pd (pendTok c) (credS c)
    ∗ Fam (hasSrc c nt yp ym) (fun e => srcAny e c) none'
    ∗ Fam (fun e => Nat.ble nr (tr e)) (recvTok c) (recvDone c)
    ∗ Fam kp (keptPts I c) none'
    ∗ (bigSep Finset.univ fun e => atPos ER (cellS e c) 0 ∅ 0)
    ∗ (∃ W, owes (c : Thread nD τ) (owedT c pd) W)
    ∗ ops I c ∗ outSt I c no ∗ ⌜0 ≤ nl⌝)
theorem St_eq : St I K c nl ns nt nr nk yp ym zp zm no = StG I K c (pend c ns zp zm) (kept c ns nk) nl nt nr yp ym no := rfl

/-- A send, its source in hand. -/
theorem send_core {s₁ s₂ t : Shape} {M₁ : Memref sig .tc .vmem s₁ .bf16} {M₂ : Memref sig .tc .vmem s₂ .bf16} {h₁ : s₁.Squeezes t} {h₂ : s₂.Squeezes t}
    {X : s₁.Idx → Elt F .bf16} {sS sR : DmaSem sig} {hsc : (M₂.squeeze t h₂).view.ref.isScScratch = false}
    {hw1 : (M₁.squeeze t h₁).view.WordExact} {hw2 : (M₂.squeeze t h₂).view.WordExact} (e : Tr) {pd pd' kp : Tr → Bool}
    {hsem : DmaTarget.Typed (nD := nD) (τ := τ) .vmem (.dma sR) (.remote (Dev.tc (tgt e c)) (M₂.squeeze t h₂) (.dma sS) hsc)}
    {k : PUnit → Prog (TpuEff nD τ sig (Elt F) Λ₀ .tc) α}
    (hcast : s₁.ShapeCasts s₂)
    (hp : pd e = true) (hp' : pd' e = false) (hne : ∀ e', e' ≠ e → pd e' = pd' e')
    (hsS : sS = semS e) (hsR : sR = semR e) (hN : (M₂.squeeze t h₂).view.dmaCredit = amt e)
    (hsrc : owns (c : Thread nD τ) M₁ fullShare X = srcPts I e c)
    (hany : dstAny (F := F) e (tgt e c) = iprop(∃ Y, owns (tgt e c : Thread nD τ) M₂ fullShare Y))
    (hdst : owns (tgt e c : Thread nD τ) M₂ fullShare (shapeCast s₂ X hcast) = dstPts I e (tgt e c))
    (hk : iprop(StG I K c pd' kp nl nt nr yp ym no ∗ emp) ⊢ WP F c (k ⟨⟩) Q) :
    iprop(StG I K c pd kp nl nt nr yp ym no ∗ owns (c : Thread nD τ) M₁ fullShare X)
      ⊢ WP F c (.op (.enqueueDma (M₁.squeeze t h₁) (.remote (Dev.tc (tgt e c)) (M₂.squeeze t h₂) (.dma sS) hsc) (.dma sR) hw1 hw2 hsem) k) Q := by
  subst hsS hsR
  unfold StG at hk ⊢
  iintro ⟨⟨#H1, H2, H3, H4, H5, H6, ⟨%W, H7⟩, H8, H9, H10⟩, HX⟩
  icases (Fam_step (b' := pd') (A := pendTok (F := F) c) (B := credS c) e hp hp' hne) $$ H2 with ⟨Hs, Hb⟩
  icases (pendTok_open e M₂ h₂ hany) $$ Hs with ⟨HtS, #HrS, HtR, #HrR, %fd, Hd⟩
  icases (owns_open c M₁ h₁ X) $$ HX with ⟨%fs, %hfs, HX⟩
  iapply (Rounds.wp_send_pointsTo 𝒱₀ ER (rd I) (c : Thread nD τ) none (c' := (tgt e c : Thread nD τ)) (src := M₁.squeeze t h₁) (dst := M₂.squeeze t h₂)
      (sS := .dma (semS e)) (sem := .dma (semR e)) (q := fullShare) (fs := fs) (κ₁ := K (cellS e c)) (κ₂ := K (cellR e (tgt e c)))
      (r₁ := 0) (r₂ := 0) (d₁ := 0) (d₂ := 0) (fd := fd)
      (by rw [duties_S]; exact Finset.mem_singleton_self _) (by rw [duties_R]; exact Finset.mem_singleton_self _)
      () () (amt e) hN (amount_S I e c 0) (amount_R I e (tgt e c) 0) (owedT c pd') (owedT_step e hp hp' hne) (W := W)
      (by
        rw [payload_S, ← hsrc, ← owns_squeeze c M₁ h₁, ← hfs]
        exact owns_intro _ _ _ _)
      (by
        rw [payload_R, ← hdst, ← owns_squeeze (tgt e c) M₂ h₂, ← hfs, ← squeeze_read M₁ M₂ h₁ h₂ hcast fs fd]
        exact owns_intro _ _ _ _)) $$ [HX Hd H7 HtS HtR]
  · isplitr; · iapply (rec_inv I K (S_mem e c)); iexact H1
    isplitr; · iapply (rec_inv I K (R_mem e (tgt e c))); iexact H1
    isplitl [HX]; · iexact HX
    isplitl [Hd]; · iexact Hd
    isplitl [H7]; · iexact H7
    isplitl [HtS]; · iexact HtS
    isplitr; · iexact HrS
    isplitl [HtR]; · iexact HtR
    iexact HrR
  iintro ⟨HcS, HO⟩
  iapply hk
  isplitl
  · isplitr; · iexact H1
    isplitl [Hb HcS]; · iapply Hb; unfold credS; iexact HcS
    isplitl [H3]; · iexact H3
    isplitl [H4]; · iexact H4
    isplitl [H5]; · iexact H5
    isplitl [H6]; · iexact H6
    isplitl [HO]; · iexists _; iexact HO
    isplitl [H8]; · iexact H8
    isplitl [H9]; · iexact H9
    iexact H10
  iempintro

end Cert.KernelIdeal.Ring

end
-- ==== Proof.Ring.Steps2.lean ====
/- More steps of the ring kernel's body: the slot in hand read, written and sent, the first transfers of stage a2, the
   result, and the waits for departures at the end. -/
module

public import proofs.«01_k».proof.Proof.Ring.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {I : Ins F}

local notation "𝕄" => MT nD τ sig Unit (Elt F) ℕ UU ℕ

variable {K : GSem nD τ sig → ℕ} {c : Dev nD} {nl ns nt nr nk yp ym zp zm no : ℕ}
variable {α : Type} {Q : α → sProp (MT nD τ sig Unit (Elt F) ℕ UU ℕ)} {A P : sProp (MT nD τ sig Unit (Elt F) ℕ UU ℕ)}

/-! ## The slot in hand -/

/-- What has come is read. -/
theorem step_loadDst {e : Tr} {s : Shape} {M : Memref sig .tc .vmem s .bf16} {r : Rect s} {hr : ∀ a, r.stride a = 1}
    {hl : M.view.LoadsAt r.toLoadRect} {k : (r.shape.Idx → Elt F .bf16) → Prog (TpuEff nD τ sig (Elt F) Λ₀ .tc) α} {X : r.shape.Idx → Elt F .bf16}
    (hM : dstPts I e c = owns (c : Thread nD τ) (M.slice r hr) fullShare X)
    (hk : iprop(P ∗ dstPts I e c) ⊢ WP F c (k X) Q) :
    iprop(P ∗ dstPts I e c) ⊢ WP F c (.op (.load M r.toLoadRect hl) k) Q := by
  rw [hM] at hk ⊢
  exact step_held hk

/-- The slot in hand is rewritten, to be sent next. -/
theorem step_storeSend {e : Tr} {s : Shape} {M : Memref sig .tc .vmem s .bf16} {r : Rect s} {hr : ∀ a, r.stride a = 1}
    {w X : r.shape.Idx → Elt F .bf16} {hx : (M.access r).Stores Finset.univ} {hm : Finset.univ = Finset.univ ∨ ∀ a, r.stride a = 1}
    {k : PUnit → Prog (TpuEff nD τ sig (Elt F) Λ₀ .tc) α}
    (hM : dstPts I e c = owns (c : Thread nD τ) (M.slice r hr) fullShare X)
    (hw : owns (c : Thread nD τ) (M.slice r hr) fullShare w = srcPts I (sndOf ns) c)
    (hk : iprop(St I K c nl ns nt nr nk yp ym zp zm no ∗ srcPts I (sndOf ns) c) ⊢ WP F c (k ⟨⟩) Q) :
    iprop(St I K c nl ns nt nr nk yp ym zp zm no ∗ dstPts I e c) ⊢ WP F c (.op (.store M r w Finset.univ hx hm) k) Q := by
  rw [hM]
  rw [← hw] at hk
  exact step_storeSlot hk
/-- The slot of a first hop is written, to be sent next. -/
theorem step_storeStart {s : Shape} {M : Memref sig .tc .vmem s .bf16} {r : Rect s} {hr : ∀ a, r.stride a = 1}
    {w X : r.shape.Idx → Elt F .bf16} {hx : (M.access r).Stores Finset.univ} {hm : Finset.univ = Finset.univ ∨ ∀ a, r.stride a = 1}
    {k : PUnit → Prog (TpuEff nD τ sig (Elt F) Λ₀ .tc) α}
    (hw : owns (c : Thread nD τ) (M.slice r hr) fullShare w = srcPts I (sndOf ns) c)
    (hk : iprop(St I K c nl ns nt nr nk yp ym zp zm no ∗ srcPts I (sndOf ns) c) ⊢ WP F c (k ⟨⟩) Q) :
    iprop(St I K c nl ns nt nr nk yp ym zp zm no ∗ owns (c : Thread nD τ) (M.slice r hr) fullShare X) ⊢ WP F c (.op (.store M r w Finset.univ hx hm) k) Q := by
  rw [← hw] at hk
  exact step_storeSlot hk
/-- The slot in hand is rewritten, to be kept. -/
theorem step_storeKeep {n : ℕ} {s : Shape} {M : Memref sig .tc .vmem s .bf16} {r : Rect s} {hr : ∀ a, r.stride a = 1}
    {w X : r.shape.Idx → Elt F .bf16} {hx : (M.access r).Stores Finset.univ} {hm : Finset.univ = Finset.univ ∨ ∀ a, r.stride a = 1}
    {k : PUnit → Prog (TpuEff nD τ sig (Elt F) Λ₀ .tc) α}
    (hM : dstPts I (rcvOf n) c = owns (c : Thread nD τ) (M.slice r hr) fullShare X)
    (hw : owns (c : Thread nD τ) (M.slice r hr) fullShare w = keptPts I c (rcvOf n))
    (hok : keepOk nk n = true) (htk : ns ≤ tk c (rcvOf n))
    (hk : iprop(St I K c nl ns nt (n + 1) (n + 1) yp ym zp zm no ∗ emp) ⊢ WP F c (k ⟨⟩) Q) :
    iprop(St I K c nl ns nt (n + 1) nk yp ym zp zm no ∗ dstPts I (rcvOf n) c) ⊢ WP F c (.op (.store M r w Finset.univ hx hm) k) Q := by
  rw [hM]
  exact step_storeSlot (step_keep hok htk hw hk)

/-- No kept slot goes away with the `n`-th send. -/
theorem kept_send (h : (Nat.blt ns 104 || Nat.ble 118 ns) = true) (h' : Nat.blt ns 122 = true) : kept c ns nk = kept c (ns + 1) nk := funext fun e => by
  have : Nat.ble ns (tk c e) = Nat.ble (ns + 1) (tk c e) := ble_eq (by
    simp only [Bool.or_eq_true, Nat.blt_eq, Nat.ble_eq] at h h'
    have := tk_cases c e
    omega)
  simp only [kept, this]

/-- What transfer `e` of device `c` lands at its target, said from `c`. -/
def sentPts (I : Ins F) (e : Tr) (c : Dev nD) : sProp (MT nD τ sig Unit (Elt F) ℕ UU ℕ) := match e with
  | .a1 d h z => owns (tgt (.a1 d h z) c : Thread nD τ) (mA d h.succ z) fullShare (shapeCast S1x1x128x640 (I.valA d z h.val c) (by decide))
  | .b1 d t i => owns (tgt (.b1 d t i) c : Thread nD τ) (mB d t.succ i) fullShare (shapeCast S1x1x128x384 (I.valB d i t.val c) (by decide))
  | .a2 d t => owns (tgt (.a2 d t) c : Thread nD τ) (mH d t.succ) fullShare (shapeCast S1x128x640 (I.valH d t.val c) (by decide))
  | .b2 d k => owns (tgt (.b2 d k) c : Thread nD τ) (mG d k.castSucc) fullShare (shapeCast S1x128x384 (I.valB d (laneK k.val c) 3 c) (by decide))
theorem sentPts_eq (I : Ins F) (e : Tr) (c : Dev nD) : sentPts I e c = dstPts I e (tgt e c) := by
  cases e with
  | b2 d k =>
    simp only [sentPts, dstPts, Ins.valG]
    rw [show from' (.b2 d k) (tgt (.b2 d k) c) = c from mvI_mv _ _]
  | a1 d h z =>
    simp only [sentPts, dstPts, shapeCast_self]
    rw [show mvI (grp (.a1 d 0 z)) (tgt (.a1 d h z) c) = c from mvI_mv _ _]
  | b1 d t i =>
    simp only [sentPts, dstPts, shapeCast_self]
    rw [show mvI (grp (.b1 d 0 i)) (tgt (.b1 d t i) c) = c from mvI_mv _ _]
  | a2 d t =>
    simp only [sentPts, dstPts, shapeCast_self]
    rw [show mvI (grp (.a2 d 0)) (tgt (.a2 d t) c) = c from mvI_mv _ _]

/-- The `ns`-th send. -/
theorem step_send {s₁ s₂ t : Shape} {M₁ : Memref sig .tc .vmem s₁ .bf16} {M₂ : Memref sig .tc .vmem s₂ .bf16} {h₁ : s₁.Squeezes t} {h₂ : s₂.Squeezes t}
    {X : s₁.Idx → Elt F .bf16} {sS sR : DmaSem sig} {hsc : (M₂.squeeze t h₂).view.ref.isScScratch = false} {D : Dev nD}
    {hw1 : (M₁.squeeze t h₁).view.WordExact} {hw2 : (M₂.squeeze t h₂).view.WordExact}
    {hsem : DmaTarget.Typed (nD := nD) (τ := τ) .vmem (.dma sR) (.remote (Dev.tc D) (M₂.squeeze t h₂) (.dma sS) hsc)}
    {k : PUnit → Prog (TpuEff nD τ sig (Elt F) Λ₀ .tc) α}
    (hD : D.val = (tgt (sndOf ns) c).val) (hcast : s₁.ShapeCasts s₂) (hns : Nat.blt ns 122 = true) (hns' : (Nat.blt ns 104 || Nat.ble 118 ns) = true)
    (hsS : sS = semS (sndOf ns)) (hsR : sR = semR (sndOf ns)) (hN : (M₂.squeeze t h₂).view.dmaCredit = amt (sndOf ns))
    (hsrc : owns (c : Thread nD τ) M₁ fullShare X = srcPts I (sndOf ns) c)
    (hany : dstAny (F := F) (sndOf ns) (tgt (sndOf ns) c) = iprop(∃ Y, owns (tgt (sndOf ns) c : Thread nD τ) M₂ fullShare Y))
    (hdst : owns (tgt (sndOf ns) c : Thread nD τ) M₂ fullShare (shapeCast s₂ X hcast) = sentPts I (sndOf ns) c)
    (hk : iprop(St I K c nl (ns + 1) nt nr nk yp ym zp zm no ∗ emp) ⊢ WP F c (k ⟨⟩) Q) :
    iprop(St I K c nl ns nt nr nk yp ym zp zm no ∗ srcPts I (sndOf ns) c)
      ⊢ WP F c (.op (.enqueueDma (M₁.squeeze t h₁) (.remote (Dev.tc D) (M₂.squeeze t h₂) (.dma sS) hsc) (.dma sR) hw1 hw2 hsem) k) Q := by
  obtain rfl := Fin.ext hD
  rw [sentPts_eq] at hdst
  obtain ⟨hp, hp', hne⟩ := pend_send (zp := zp) (zm := zm) c (Nat.blt_eq.mp hns)
  rw [← hsrc]
  rw [St_eq] at hk ⊢
  rw [← kept_send hns' hns] at hk
  exact send_core (sndOf ns) hcast hp hp' hne hsS hsR hN hsrc hany hdst hk

/-- What transfer `k` of stage b2 sends is the kept slot of lane `laneK k c`. -/
theorem b2_src : ∀ n : Fin 14, (sndOf (104 + n.val) = .b2 (dOf (sndOf (104 + n.val))) (hOf (sndOf (104 + n.val))))
    ∧ ∀ c, keeps (.b1 (dOf (sndOf (104 + n.val))) 2 (laneK (hOf (sndOf (104 + n.val))).val c)) = true
      ∧ tk c (.b1 (dOf (sndOf (104 + n.val))) 2 (laneK (hOf (sndOf (104 + n.val))).val c)) = 104 + n.val := by decide +kernel
theorem tr_b1_lt : ∀ d i, tr (.b1 d 2 i) < 96 := by decide +kernel
theorem tk_inj : ∀ c e e', keeps e = true → keeps e' = true → tk c e = tk c e' → tk c e ≠ 1000 → e = e' := by
  have h : ∀ (c : Fin 8) (d d' : Fin 2) (i i' : Fin 8),
      (posn i.val + 15 - posn c.val) % 8 ≤ 6 → (posn i'.val + 15 - posn c.val) % 8 ≤ 6 →
      2 * ((posn i.val + 15 - posn c.val) % 8) + d.val = 2 * ((posn i'.val + 15 - posn c.val) % 8) + d'.val → d = d' ∧ i = i' := by decide +kernel
  have h2 : ∀ t : Fin 3, t.val.beq 2 = true → t = 2 := by decide
  intro c e e' hk hk' h1 h3
  have hb : ∀ e, keeps e = true → tk c e ≠ 1000 → ∃ d i, e = .b1 d 2 i ∧ (posn i.val + 15 - posn (c.val % 8)) % 8 ≤ 6
      ∧ tk c e = 104 + (2 * ((posn i.val + 15 - posn (c.val % 8)) % 8) + d.val) := by
    intro e hk hn
    cases e with
    | b1 d t i =>
      have ht := h2 t hk
      subst ht
      simp only [tk] at hn ⊢
      cases hb : ((posn i.val + 15 - posn (c.val % 8)) % 8).ble 6
      · rw [hb] at hn; exact absurd rfl hn
      · exact ⟨d, i, rfl, Nat.ble_eq.mp hb, rfl⟩
    | _ => exact absurd rfl hn
  obtain ⟨d, i, rfl, hi, e1⟩ := hb e hk h3
  obtain ⟨d', i', rfl, hi', e2⟩ := hb e' hk' (by rw [← h1]; exact h3)
  obtain ⟨rfl, rfl⟩ := h ⟨c.val % 8, Nat.mod_lt _ (by decide)⟩ d d' i i' hi hi' (by rw [e1, e2] at h1; simp only; omega)
  rfl
theorem kept_src (d : Fin 2) (k : Fin 7) : keptPts I c (.b1 d 2 (laneK k.val c)) = srcPts I (.b2 d k) c := rfl

theorem step_sendB2 {t : Shape} {M₁ : Memref sig .tc .vmem S1x1x128x384 .bf16} {M₂ : Memref sig .tc .vmem S1x128x384 .bf16} {h₁ : S1x1x128x384.Squeezes t} {h₂ : S1x128x384.Squeezes t}
    {X : S1x1x128x384.Idx → Elt F .bf16} {sS sR : DmaSem sig} {hsc : (M₂.squeeze t h₂).view.ref.isScScratch = false} {D : Dev nD}
    {hw1 : (M₁.squeeze t h₁).view.WordExact} {hw2 : (M₂.squeeze t h₂).view.WordExact}
    {hsem : DmaTarget.Typed (nD := nD) (τ := τ) .vmem (.dma sR) (.remote (Dev.tc D) (M₂.squeeze t h₂) (.dma sS) hsc)}
    {k : PUnit → Prog (TpuEff nD τ sig (Elt F) Λ₀ .tc) α}
    (hD : D.val = (tgt (sndOf ns) c).val) (hns : (Nat.blt ns 118 && Nat.ble 104 ns) = true) (hnk : Nat.ble 96 nk = true)
    (hsS : sS = semS (sndOf ns)) (hsR : sR = semR (sndOf ns)) (hN : (M₂.squeeze t h₂).view.dmaCredit = amt (sndOf ns))
    (hsrc : owns (c : Thread nD τ) M₁ fullShare X = srcPts I (sndOf ns) c)
    (hany : dstAny (F := F) (sndOf ns) (tgt (sndOf ns) c) = iprop(∃ Y, owns (tgt (sndOf ns) c : Thread nD τ) M₂ fullShare Y))
    (hdst : owns (tgt (sndOf ns) c : Thread nD τ) M₂ fullShare (shapeCast S1x128x384 X (by decide)) = sentPts I (sndOf ns) c)
    (hk : iprop(St I K c nl (ns + 1) nt nr nk yp ym zp zm no ∗ emp) ⊢ WP F c (k ⟨⟩) Q) :
    iprop(St I K c nl ns nt nr nk yp ym zp zm no ∗ emp)
      ⊢ WP F c (.op (.enqueueDma (M₁.squeeze t h₁) (.remote (Dev.tc D) (M₂.squeeze t h₂) (.dma sS) hsc) (.dma sR) hw1 hw2 hsem) k) Q := by
  obtain rfl := Fin.ext hD
  rw [sentPts_eq] at hdst
  simp only [Bool.and_eq_true, Nat.blt_eq, Nat.ble_eq] at hns hnk
  obtain ⟨n, rfl⟩ : ∃ n, ns = 104 + n := ⟨ns - 104, by omega⟩
  obtain ⟨hs, hc⟩ := b2_src ⟨n, by omega⟩
  obtain ⟨hkp, htk⟩ := hc c
  simp only at hs hkp htk
  obtain ⟨hp, hp', hne⟩ := pend_send (zp := zp) (zm := zm) c (ns := 104 + n) (by omega)
  have hkept : iprop(St I K c nl (104 + n) nt nr nk yp ym zp zm no ∗ emp)
      ⊢ iprop(StG I K c (pend c (104 + n) zp zm) (kept c (104 + n + 1) nk) nl nt nr yp ym no ∗ srcPts I (sndOf (104 + n)) c) := by
    rw [hs, St_eq, ← kept_src]
    generalize dOf (sndOf (104 + n)) = d at *
    generalize hOf (sndOf (104 + n)) = k at *
    have hlt := tr_b1_lt d (laneK k.val c)
    unfold StG
    iintro ⟨⟨H1, H2, H3, H4, H5, H6, H7, H8, H9, H10⟩, -⟩
    icases (Fam_step (b' := kept c (104 + n + 1) nk) (A := keptPts I c) (B := none') (.b1 d 2 (laneK k.val c))
      (by
        have h1 : Nat.blt (tr (.b1 d 2 (laneK k.val c))) nk = true := by rw [Nat.blt_eq]; omega
        have h2 : Nat.ble (104 + n) (tk c (.b1 d 2 (laneK k.val c))) = true := by rw [Nat.ble_eq]; omega
        simp only [kept, hkp, h1, h2, Bool.and_self])
      (by
        have h2 : Nat.ble (104 + n + 1) (tk c (.b1 d 2 (laneK k.val c))) = false := by rw [← Bool.not_eq_true, Nat.ble_eq]; omega
        simp only [kept, h2, Bool.and_false])
      (by
        intro e' he'
        cases hke : keeps e'
        · simp only [kept, hke, Bool.false_and]
        have h2 : Nat.ble (104 + n) (tk c e') = Nat.ble (104 + n + 1) (tk c e') := ble_eq (by
          have : tk c e' ≠ 104 + n := fun h => he' (tk_inj c e' _ hke hkp (h.trans htk.symm) (by omega))
          omega)
        simp only [kept, h2])) $$ H5 with ⟨Hs, Hb⟩
    isplitr [Hs]
    · isplitl [H1]; · iexact H1
      isplitl [H2]; · iexact H2
      isplitl [H3]; · iexact H3
      isplitl [H4]; · iexact H4
      isplitl [Hb]; · iapply Hb; unfold none'; iempintro
      isplitl [H6]; · iexact H6
      isplitl [H7]; · iexact H7
      isplitl [H8]; · iexact H8
      isplitl [H9]; · iexact H9
      iexact H10
    · iexact Hs
  refine hkept.trans ?_
  rw [← hsrc]
  rw [St_eq] at hk
  exact send_core (sndOf (104 + n)) _ hp hp' hne hsS hsR hN hsrc hany hdst hk

/-- A kept slot is read. -/
theorem step_loadKept (e : Tr) {s : Shape} {M : Memref sig .tc .vmem s .bf16} {r : Rect s} {hr : ∀ a, r.stride a = 1}
    {hl : M.view.LoadsAt r.toLoadRect} {k : (r.shape.Idx → Elt F .bf16) → Prog (TpuEff nD τ sig (Elt F) Λ₀ .tc) α} {X : r.shape.Idx → Elt F .bf16}
    (he : kept c ns nk e = true)
    (hM : keptPts I c e = owns (c : Thread nD τ) (M.slice r hr) fullShare X)
    (hk : iprop(St I K c nl ns nt nr nk yp ym zp zm no ∗ A) ⊢ WP F c (k X) Q) :
    iprop(St I K c nl ns nt nr nk yp ym zp zm no ∗ A) ⊢ WP F c (.op (.load M r.toLoadRect hl) k) Q :=
  step_loadSlot (hr := hr) (X := X) (by rw [← hM]; exact St_kept e he) hk
/-- What stage a1 left for plane `zA d t c` is read. -/
theorem step_loadA7 (d : Fin 2) (t : ℕ) {off : Fin 4 → ℕ} {inb : ∀ a, off a + S1x1x128x640.size a ≤ S8x4x128x640.size a}
    {M : Memref sig .tc .vmem S8x4x128x640 .bf16}
    {hl : M.view.LoadsAt (Rect.unit (s := S8x4x128x640) off S1x1x128x640.size inb).toLoadRect}
    {k : (S1x1x128x640.Idx → Elt F .bf16) → Prog (TpuEff nD τ sig (Elt F) Λ₀ .tc) α}
    (hd : M = bufA d) (hoff : off = ![7, (zA d t c).val, 0, 0]) (hnk : Nat.ble 104 nk = true) (hns : Nat.ble ns 1000 = true)
    (hk : iprop(St I K c nl ns nt nr nk yp ym zp zm no ∗ A) ⊢ WP F c (k (I.valA d (zA d t c) 7 c)) Q) :
    iprop(St I K c nl ns nt nr nk yp ym zp zm no ∗ A)
      ⊢ WP F c (.op (.load M (Rect.unit (s := S8x4x128x640) off S1x1x128x640.size inb).toLoadRect hl) k) Q := by
  subst hd hoff
  have h1 : ∀ d z, tr (.a1 d 6 z) < 104 := by decide
  refine step_loadKept (.a1 d 6 (zA d t c)) (hr := fun _ => rfl) ?_ rfl hk
  have h2 : Nat.blt (tr (.a1 d 6 (zA d t c))) nk = true := by rw [Nat.blt_eq]; rw [Nat.ble_eq] at hnk; have := h1 d (zA d t c); omega
  show (keeps (.a1 d 6 (zA d t c)) && (_ && Nat.ble ns 1000)) = true
  rw [h2, hns]; rfl
/-- What stage b1 left for this device's own lane is read. -/
theorem step_loadB3 (d : Fin 2) {off : Fin 4 → ℕ} {inb : ∀ a, off a + S1x1x128x384.size a ≤ S4x8x128x384.size a}
    {M : Memref sig .tc .vmem S4x8x128x384 .bf16}
    {hl : M.view.LoadsAt (Rect.unit (s := S4x8x128x384) off S1x1x128x384.size inb).toLoadRect}
    {k : (S1x1x128x384.Idx → Elt F .bf16) → Prog (TpuEff nD τ sig (Elt F) Λ₀ .tc) α}
    (hd : M = bufB d) (hoff : off = ![3, (myLane c).val, 0, 0]) (hnk : Nat.ble 104 nk = true) (hns : Nat.ble ns 1000 = true)
    (hk : iprop(St I K c nl ns nt nr nk yp ym zp zm no ∗ A) ⊢ WP F c (k (I.valB d (myLane c) 3 c)) Q) :
    iprop(St I K c nl ns nt nr nk yp ym zp zm no ∗ A)
      ⊢ WP F c (.op (.load M (Rect.unit (s := S4x8x128x384) off S1x1x128x384.size inb).toLoadRect hl) k) Q := by
  subst hd hoff
  refine step_loadKept (.b1 d 2 (myLane c)) (hr := fun _ => rfl) ?_ rfl hk
  have h1 := tr_b1_lt d (myLane c)
  have h2 : Nat.blt (tr (.b1 d 2 (myLane c))) nk = true := by rw [Nat.blt_eq]; rw [Nat.ble_eq] at hnk; omega
  have h3 : ∀ d c, tk c (.b1 d 2 (myLane c)) = 1000 := by decide +kernel
  show (keeps (.b1 d 2 (myLane c)) && (_ && Nat.ble ns (tk c (.b1 d 2 (myLane c))))) = true
  rw [h2, h3, hns]; rfl

end Cert.KernelIdeal.Ring

end
-- ==== Proof.Ring.Steps3.lean ====
/- The last kinds of steps of the ring kernel's body: the barrier, the first transfers of stage a2, the stores of the result,
   the waits for departures at the end. -/
module

public import proofs.«01_k».proof.Proof.Ring.Steps2
public import Idealize.ShloMosaic.Lib.ViewIndex
public import Idealize.ShloMosaic.Lib.Exec.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {I : Ins F}

local notation "𝕄" => MT nD τ sig Unit (Elt F) ℕ UU ℕ

variable {K : GSem nD τ sig → ℕ} {c : Dev nD} {nl ns nt nr nk yp ym zp zm no : ℕ}
variable {α : Type} {Q : α → sProp (MT nD τ sig Unit (Elt F) ℕ UU ℕ)} {A P : sProp (MT nD τ sig Unit (Elt F) ℕ UU ℕ)}

/-! ## The barrier -/

/-- The tokens of a transfer before the barrier. -/
def preTok (c : Dev nD) (e : Tr) : sProp 𝕄 :=
  iprop(dutyTok ER (cellS e c) 0 0 ∗ reached ER (cellS e c) 0 ∗ dutyTok ER (cellR e (tgt e c)) 0 0)
def sig1 (c : Dev nD) (n : ℕ) (j : Fin 9) : sProp 𝕄 :=
  if n ≤ j.val then iprop(dutyTok ER (barCell (mv j c)) 0 j ∗ barPay j (mv j c)) else iprop(emp)

variable (I) in
/-- The state after `n` signals. -/
def BSt (K : GSem nD τ sig → ℕ) (c : Dev nD) (n : ℕ) : sProp 𝕄 :=
  iprop(records I K ∗ (bigSep Finset.univ (sig1 (F := F) c n)) ∗ atPos ER (barCell c) 0 ∅ 0 ∗ cred (tallyAt (barCell c) () 9)
    ∗ (∃ W, owes (c : Thread nD τ) (owedT c (fun _ => true) + owedB c n) W)
    ∗ (bigSep Finset.univ (preTok (F := F) c)) ∗ Fam (hasSrc c 0 0 0) (fun e => srcAny e c) none' ∗ (bigSep Finset.univ (recvTok (F := F) c))
    ∗ (bigSep Finset.univ fun e => atPos ER (cellS e c) 0 ∅ 0) ∗ ops I c ∗ outPts I c 0 ∗ spare (F := F) c)

theorem ops_BSt {n : ℕ} : BSt I K c n ⊢ iprop(ops I c ∗ (ops I c -∗ BSt I K c n)) := by
  unfold BSt
  iintro ⟨H1, H2, H3, H4, H5, H6, H7, H8, H9, H10, H11⟩
  isplitl [H10]; · iexact H10
  iintro H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

omit [FloatOps F] in
theorem sig1_step (j : Fin 9) : bigSep Finset.univ (sig1 (F := F) c j.val)
    ⊢ iprop((dutyTok ER (barCell (mv j c)) 0 j ∗ barPay j (mv j c)) ∗ bigSep Finset.univ (sig1 (F := F) c (j.val + 1))) := by
  rw [bigSep_univ_at _ j, bigSep_univ_at (sig1 (F := F) c (j.val + 1)) j,
    bigSep_congr (s := Finset.univ.erase j) (Φ := sig1 (F := F) c j.val) (Ψ := sig1 (F := F) c (j.val + 1)) fun i hi => by
      have : i.val ≠ j.val := fun h => Finset.ne_of_mem_erase hi (Fin.ext h)
      unfold sig1
      by_cases h : j.val ≤ i.val
      · rw [if_pos h, if_pos (by omega)]
      · rw [if_neg h, if_neg (by omega)]]
  rw [show sig1 (F := F) c j.val j = iprop(dutyTok ER (barCell (mv j c)) 0 j ∗ barPay j (mv j c)) from if_pos (Nat.le_refl _),
    show sig1 (F := F) c (j.val + 1) j = iprop(emp) from if_neg (by omega)]
  iintro ⟨H, HR⟩
  isplitl [H]; · iexact H
  isplitr; · iempintro
  iexact HR

/-- Signal `j`. -/
theorem step_signal' (j : Fin 9) {D : Dev nD} {sm : Sem sig} {n : ℤ} {k : PUnit → Prog (TpuEff nD τ sig (Elt F) Λ₀ .tc) α}
    (hD : D = mv j c) (hsm : sm = barS) (hn : n = ((1 : ℕ) : ℤ)) (hk : BSt I K c (j.val + 1) ⊢ WP F c (k ⟨⟩) Q) :
    BSt I K c j.val ⊢ WP F c (.op (.semSignal (D, Proc.tc) sm n) k) Q := by
  subst hD hsm hn
  unfold BSt at hk ⊢
  iintro ⟨#H1, H2, H3, H4, ⟨%W, H5⟩, H6⟩
  icases (sig1_step j) $$ H2 with ⟨⟨Ht, Hp⟩, H2⟩
  iapply (Rounds.wp_signal 𝒱₀ ER (rd I) (c : Thread nD τ) none (dst := (mv j c : Thread nD τ)) (sem := barS) (r := 0) (d := j) (κ := K (barCell (mv j c)))
      (by rw [duties_bar]; exact Finset.mem_univ _) (amount_bar I (mv j c) j) () (owedT c (fun _ => true) + owedB c (j.val + 1))
      (O₀ := owedT c (fun _ => true) + owedB c j.val)
      ((congrArg (owedT c (fun _ => true) + ·) (owedB_step j)).trans (add_assoc _ _ _).symm)) $$ [H5 Ht Hp]
  · isplitr; · iapply (rec_inv I K (bar_mem (mv j c))); iexact H1
    isplitl [H5]; · iexact H5
    isplitl [Ht]; · iexact Ht
    isplitl [Hp]; · rw [payload_bar]; iexact Hp
    iapply (rec_bar I K (mv j c)); iexact H1
  iintro HO
  iapply hk
  isplitr; · iexact H1
  isplitl [H2]; · iexact H2
  isplitl [H3]; · iexact H3
  isplitl [H4]; · iexact H4
  isplitl [HO]; · iexists _; iexact HO
  iexact H6

theorem step_signal {j : ℕ} (hj : j < 9) {D : Dev nD} {sm : Sem sig} {n : ℤ} {k : PUnit → Prog (TpuEff nD τ sig (Elt F) Λ₀ .tc) α}
    (hD : D.val = (mv ⟨j, hj⟩ c).val) (hsm : sm = barS) (hn : n = ((1 : ℕ) : ℤ)) (hk : BSt I K c (j + 1) ⊢ WP F c (k ⟨⟩) Q) :
    BSt I K c j ⊢ WP F c (.op (.semSignal (D, Proc.tc) sm n) k) Q :=
  step_signal' ⟨j, hj⟩ (Fin.ext hD) hsm hn hk

omit [FloatOps F] in
theorem sep_fst (A B : sProp 𝕄) : iprop(A ∗ B) ⊢ A := by
  iintro ⟨H, -⟩
  iexact H
omit [FloatOps F] in
theorem emps {ι : Type} (s : Finset ι) : (bigSep s fun _ => (iprop(emp) : sProp 𝕄)) = iprop(emp) := bigSep_emp_const s
omit [FloatOps F] in
theorem sep_emps {ι : Type} (A : sProp 𝕄) (s : Finset ι) : A ⊢ iprop(A ∗ bigSep s fun _ => iprop(emp)) := by
  rw [emps]
  iintro H
  isplitl; · iexact H
  iempintro

omit [FloatOps F] in
/-- What the nine signals brought, by transfer. -/
theorem bar_in (c : Dev nD) : (bigSep Finset.univ fun j => barPay (F := F) j c)
    ⊢ bigSep Finset.univ fun e => (iprop(dstAny e (tgt e c) ∗ reached ER (cellR e (tgt e c)) 0) : sProp 𝕄) := by
  unfold barPay
  rw [bigSep_univ_comm]
  refine bigSep_mono fun e _ => ?_
  rw [bigSep_univ_at _ (rdy (grp e)), if_pos rfl, bigSep_congr (s := Finset.univ.erase (rdy (grp e))) (Ψ := fun _ => iprop(emp)) fun j hj =>
    if_neg fun h => Finset.ne_of_mem_erase hj h.symm, mvI_rdy]
  exact sep_fst _ _
omit [FloatOps F] in
/-- What a device hands out with its nine signals, by transfer. -/
theorem bar_out (c : Dev nD) : (bigSep Finset.univ fun e => (iprop(dstAny e c ∗ reached ER (cellR e c) 0) : sProp 𝕄))
    ⊢ bigSep Finset.univ fun j => barPay (F := F) j (mv j c) := by
  unfold barPay
  simp only [mvI_mv]
  rw [bigSep_univ_comm]
  refine bigSep_mono fun e _ => ?_
  rw [bigSep_univ_at _ (rdy (grp e)), if_pos rfl, bigSep_congr (s := Finset.univ.erase (rdy (grp e))) (Ψ := fun _ => iprop(emp)) fun j hj =>
    if_neg fun h => Finset.ne_of_mem_erase hj h.symm]
  exact sep_emps _ _

theorem pend_zero (c : Dev nD) : pend c 0 0 0 = fun _ => true := funext fun e => by
  have h : ∀ n, Nat.ble 0 n = true := fun n => Nat.ble_eq.mpr (Nat.zero_le n)
  cases e with
  | a2 d t => simp only [pend, h]; cases t.val.beq 0 <;> cases d.val.beq 0 <;> rfl
  | _ => simp only [pend, h]
theorem kept_zero (c : Dev nD) : kept c 0 0 = fun _ => false := funext fun e => by
  have h : Nat.blt (tr e) 0 = false := by rw [← Bool.not_eq_true, Nat.blt_eq]; omega
  simp only [kept, h, Bool.false_and, Bool.and_false]
theorem lvE_pos (e : Tr) : 1 < lvE e := by
  cases e with
  | a2 d t => simp only [lvE]; cases t.val.beq 0 <;> simp only [cond_true, cond_false] <;> omega
  | _ => simp only [lvE]; omega

theorem bar_lev : records I K ⊢ (MayWait (c : Thread nD τ) (.reg barS) () (owedT c (fun _ => true) + owedB c 9) : sProp 𝕄) := by
  have h1 : lv ((c : Thread nD τ), .reg barS) () ≤ 1 := le_of_eq rfl
  have h3 := mayWait (F := F) c (.reg barS) (fun _ => true) 1 h1 fun e _ => lvE_pos e
  rw [owedB_none (c := c) (n := 9) (Nat.le_refl 9), add_zero]
  exact (@rec_lev F _ I K).trans h3

omit [FloatOps F] in
theorem tok_in (c : Dev nD) (e : Tr) : iprop(preTok (F := F) c e ∗ dstAny e (tgt e c) ∗ reached ER (cellR e (tgt e c)) 0) ⊢ pendTok (F := F) c e := by
  unfold preTok pendTok
  iintro ⟨⟨H1, H2, H3⟩, H4, H5⟩
  isplitl [H1]; · iexact H1
  isplitl [H2]; · iexact H2
  isplitl [H3]; · iexact H3
  isplitl [H5]; · iexact H5
  iexact H4
omit [FloatOps F] in
theorem toks_in (c : Dev nD) : iprop((bigSep Finset.univ (preTok (F := F) c))
      ∗ (bigSep Finset.univ fun e => (iprop(dstAny e (tgt e c) ∗ reached ER (cellR e (tgt e c)) 0) : sProp 𝕄)))
    ⊢ Fam (fun _ => true) (pendTok (F := F) c) (credS c) := by
  unfold Fam
  rw [← bigSep_sep']
  refine bigSep_mono fun e _ => ?_
  rw [if_pos rfl]
  exact tok_in c e
omit [FloatOps F] in
theorem recv_in (c : Dev nD) : bigSep Finset.univ (recvTok (F := F) c) ⊢ Fam (fun e => Nat.ble 0 (tr e)) (recvTok (F := F) c) (recvDone c) := by
  unfold Fam
  refine bigSep_mono fun e _ => ?_
  rw [if_pos (Nat.ble_eq.mpr (Nat.zero_le _))]
  exact (.rfl : recvTok c e ⊢ recvTok c e)
variable (I) in
theorem kept_in (c : Dev nD) : (iprop(emp) : sProp 𝕄) ⊢ Fam (fun _ => false) (keptPts I c) none' := by
  unfold Fam none'
  rw [bigSep_congr (s := Finset.univ) (Ψ := fun _ => iprop(emp)) fun e _ => if_neg Bool.false_ne_true, emps]

/-- All nine signals waited for. -/
theorem step_barrier {sm : Sem sig} {n : ℕ} {k : PUnit → Prog (TpuEff nD τ sig (Elt F) Λ₀ .tc) α}
    (hsm : sm = barS) (hn : n = 9) (hk : iprop(St I K c 0 0 0 0 0 0 0 0 0 0 ∗ emp) ⊢ WP F c (k ⟨⟩) Q) :
    BSt I K c 9 ⊢ WP F c (.op (.semWait sm n) k) Q := by
  subst hsm hn
  unfold BSt
  unfold St outSt at hk
  rw [pend_zero, kept_zero] at hk
  iintro ⟨#H1, -, H3, H4, ⟨%W, H5⟩, H6, H7, H8, H9, H10, H11, H12⟩
  iapply (Rounds.wp_wait_rest_token 𝒱₀ ER (rd I) (c : Thread nD τ) none (κ := K (barCell c))
      (wpE_semWait_eq 𝒱₀ (c : Thread nD τ) none Set.univ) (Set.mem_univ _) () (O := owedT c (fun _ => true) + owedB c 9) (W := W) (R := 0) (m := 0) (T := ∅)
      ((Nat.zero_add 9).trans (expect_bar I c).symm)) $$ [H4 H5 H3]
  · isplitr; · iapply (rec_inv I K (bar_mem c)); iexact H1
    isplitl [H4]; · iexact H4
    isplitl [H5]; · iexact H5
    isplitr; · iapply (bar_lev (I := I) (K := K) (c := c)); iexact H1
    iexact H3
  iintro ⟨HO, H3, -, Hpay⟩
  ihave Hp := (Entails.of_eq (rest_bar I c)) $$ Hpay
  ihave Hd := (bar_in (F := F) c) $$ Hp
  iapply hk
  rw [owedB_none (c := c) (n := 9) (Nat.le_refl 9), add_zero]
  isplitl
  · isplitr; · iexact H1
    isplitl [H6 Hd]
    · iapply (toks_in (F := F) c)
      isplitl [H6]; · iexact H6
      iexact Hd
    isplitl [H7]; · iexact H7
    isplitl [H8]; · iapply (recv_in (F := F) c); iexact H8
    isplitr; · iapply (kept_in I c); iempintro
    isplitl [H9]; · iexact H9
    isplitl [HO]; · iexists _; iexact HO
    isplitl [H10]; · iexact H10
    isplitl
    · isplitl [H11]; · iexact H11
      isplitl [H3]; · iexact H3
      iexact H12
    ipureintro; exact Nat.zero_le _
  iempintro

/-! ## Parts of the program -/

/-- One part, then the rest: what holds when the part has returned `r`. -/
theorem part {β γ : Type} {P P' : sProp (MT nD τ sig Unit (Elt F) ℕ UU ℕ)} {p : Prog (TpuEff nD τ sig (Elt F) Λ₀ .tc) β} {m : Prog (TpuEff nD τ sig (Elt F) Λ₀ .tc) γ}
    {k : γ → Prog (TpuEff nD τ sig (Elt F) Λ₀ .tc) β} {k' : β → Prog (TpuEff nD τ sig (Elt F) Λ₀ .tc) α} {r : γ} (hp : p = Prog.bind m k)
    (h1 : ∀ (k₁ : γ → Prog (TpuEff nD τ sig (Elt F) Λ₀ .tc) α), (P' ⊢ WP F c (k₁ r) Q) → P ⊢ WP F c (Prog.bind m k₁) Q)
    (h2 : P' ⊢ WP F c (Prog.bind (k r) k') Q) : P ⊢ WP F c (Prog.bind p k') Q := by
  subst hp
  have h : Prog.bind (Prog.bind m k) k' = Prog.bind m fun x => Prog.bind (k x) k' := Prog.bind_assoc m k k'
  rw [h]
  exact h1 _ h2

theorem enter {β γ : Type} {p : Prog (TpuEff nD τ sig (Elt F) Λ₀ .tc) β} {m : Prog (TpuEff nD τ sig (Elt F) Λ₀ .tc) γ}
    {k : γ → Prog (TpuEff nD τ sig (Elt F) Λ₀ .tc) β} {k' : β → Prog (TpuEff nD τ sig (Elt F) Λ₀ .tc) α} (hp : p = Prog.bind m k)
    (h : P ⊢ WP F c (Prog.bind m fun x => Prog.bind (k x) k') Q) : P ⊢ WP F c (Prog.bind p k') Q := by
  subst hp
  have h' : Prog.bind (Prog.bind m k) k' = Prog.bind m fun x => Prog.bind (k x) k' := Prog.bind_assoc m k k'
  rw [h']
  exact h
theorem leave {β : Type} {p : Prog (TpuEff nD τ sig (Elt F) Λ₀ .tc) β} {r : β} {k' : β → Prog (TpuEff nD τ sig (Elt F) Λ₀ .tc) α} (hp : p = Prog.ret r)
    (h : P ⊢ WP F c (k' r) Q) : P ⊢ WP F c (Prog.bind p k') Q := by
  subst hp
  exact h

end Cert.KernelIdeal.Ring

end
-- ==== Proof.Ring.Steps4.lean ====
/- The last steps of the ring kernel's body: transfers of stage b2 from a lane picked by the table, the first transfers of
   stage a2, the parts of the result, and the waits for departures. -/
module

public import proofs.«01_k».proof.Proof.Ring.Steps3
public import Idealize.ShloMosaic.Lib.ReshapeSlab

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {I : Ins F}

local notation "𝕄" => MT nD τ sig Unit (Elt F) ℕ UU ℕ

variable {K : GSem nD τ sig → ℕ} {c : Dev nD} {nl ns nt nr nk yp ym zp zm no : ℕ}
variable {α : Type} {Q : α → sProp (MT nD τ sig Unit (Elt F) ℕ UU ℕ)} {A P : sProp (MT nD τ sig Unit (Elt F) ℕ UU ℕ)}

/-! ## Stage b2 -/

/-- A transfer of stage b2, its source named by the table. -/
theorem step_sendLane {t : Shape} {M₀ : Memref sig .tc .vmem S4x8x128x384 .bf16} {off : Fin 4 → ℕ} {inb : ∀ a, off a + S1x1x128x384.size a ≤ S4x8x128x384.size a}
    {hr : ∀ a, (Rect.unit (s := S4x8x128x384) off S1x1x128x384.size inb).stride a = 1}
    {M₂ : Memref sig .tc .vmem S1x128x384 .bf16} {h₁ : (Rect.unit (s := S4x8x128x384) off S1x1x128x384.size inb).shape.Squeezes t} {h₂ : S1x128x384.Squeezes t}
    {sS sR : DmaSem sig} {hsc : (M₂.squeeze t h₂).view.ref.isScScratch = false} {D : Dev nD}
    {hw1 : ((M₀.slice (Rect.unit (s := S4x8x128x384) off S1x1x128x384.size inb) hr).squeeze t h₁).view.WordExact} {hw2 : (M₂.squeeze t h₂).view.WordExact}
    {hsem : DmaTarget.Typed (nD := nD) (τ := τ) .vmem (.dma sR) (.remote (Dev.tc D) (M₂.squeeze t h₂) (.dma sS) hsc)}
    {k : PUnit → Prog (TpuEff nD τ sig (Elt F) Λ₀ .tc) α}
    (hD : D.val = (tgt (sndOf ns) c).val) (hM : M₀ = bufB (dOf (sndOf ns))) (hoff : off = ![3, (laneK (hOf (sndOf ns)).val c).val, 0, 0])
    (hb : sndOf ns = .b2 (dOf (sndOf ns)) (hOf (sndOf ns)))
    (hns : (Nat.blt ns 118 && Nat.ble 104 ns) = true) (hnk : Nat.ble 96 nk = true)
    (hsS : sS = semS (sndOf ns)) (hsR : sR = semR (sndOf ns)) (hN : (M₂.squeeze t h₂).view.dmaCredit = amt (sndOf ns))
    (hany : dstAny (F := F) (sndOf ns) (tgt (sndOf ns) c) = iprop(∃ Y, owns (tgt (sndOf ns) c : Thread nD τ) M₂ fullShare Y))
    (hdst : owns (tgt (sndOf ns) c : Thread nD τ) M₂ fullShare (shapeCast S1x128x384 (I.valB (dOf (sndOf ns)) (laneK (hOf (sndOf ns)).val c) 3 c) (by decide)) = sentPts I (sndOf ns) c)
    (hk : iprop(St I K c nl (ns + 1) nt nr nk yp ym zp zm no ∗ emp) ⊢ WP F c (k ⟨⟩) Q) :
    iprop(St I K c nl ns nt nr nk yp ym zp zm no ∗ emp)
      ⊢ WP F c (.op (.enqueueDma ((M₀.slice (Rect.unit (s := S4x8x128x384) off S1x1x128x384.size inb) hr).squeeze t h₁) (.remote (Dev.tc D) (M₂.squeeze t h₂) (.dma sS) hsc) (.dma sR) hw1 hw2 hsem) k) Q := by
  subst hM hoff
  refine step_sendB2 (X := I.valB (dOf (sndOf ns)) (laneK (hOf (sndOf ns)).val c) 3 c) hD hns hnk hsS hsR hN ?_ hany hdst hk
  conv_rhs => rw [hb]
  rfl

/-- One of the slots that came last and are kept is read. -/
theorem step_loadBack (j : ℕ) {s : Shape} {M : Memref sig .tc .vmem s .bf16} {r : Rect s} {hr : ∀ a, r.stride a = 1}
    {hl : M.view.LoadsAt r.toLoadRect} {k : (r.shape.Idx → Elt F .bf16) → Prog (TpuEff nD τ sig (Elt F) Λ₀ .tc) α} {X : r.shape.Idx → Elt F .bf16}
    (he : kept c ns nk (rcvOf (nk - j)) = true)
    (hM : keptPts I c (rcvOf (nk - j)) = owns (c : Thread nD τ) (M.slice r hr) fullShare X)
    (hk : iprop(St I K c nl ns nt nr nk yp ym zp zm no ∗ A) ⊢ WP F c (k X) Q) :
    iprop(St I K c nl ns nt nr nk yp ym zp zm no ∗ A) ⊢ WP F c (.op (.load M r.toLoadRect hl) k) Q :=
  step_loadKept (rcvOf (nk - j)) he hM hk

/-! ## The first transfers of stage a2 -/

/-- A step done on one condition only, the state after it being the state before where the condition fails. -/
theorem step_if {β : Type} {P P' : sProp (MT nD τ sig Unit (Elt F) ℕ UU ℕ)} {C : Prop} {dec : Decidable C} {T : C → Prog (TpuEff nD τ sig (Elt F) Λ₀ .tc) β}
    {e : Prog (TpuEff nD τ sig (Elt F) Λ₀ .tc) β} {k : β → Prog (TpuEff nD τ sig (Elt F) Λ₀ .tc) α} {p : Prog (TpuEff nD τ sig (Elt F) Λ₀ .tc) α}
    (hp : p = Prog.bind (@dite _ C dec T fun _ => e) k) (hE : ¬ C → P ⊢ P')
    (hT : ∀ h : C, (P' ⊢ WP F c (Prog.bind e k) Q) → P ⊢ WP F c (Prog.bind (T h) k) Q)
    (hk : P' ⊢ WP F c (Prog.bind e k) Q) : P ⊢ WP F c p Q := by
  subst hp
  by_cases h : C
  · rw [dif_pos h]; exact hT h hk
  · rw [dif_neg h]; exact (hE h).trans hk

theorem zA_eq {d : Fin 2} {t z : ℕ} (h : zN d t c = z) : zA d t c = Fin.ofNat 4 z := by subst h; rfl

theorem ble_self (z : ℕ) : z.ble z = true := Nat.ble_eq.mpr (Nat.le_refl _)
theorem ble_succ_self (z : ℕ) : (z + 1).ble z = false := by rw [← Bool.not_eq_true, Nat.ble_eq]; omega
theorem ble_ne {z n : ℕ} (h : n ≠ z) : Nat.ble z n = Nat.ble (z + 1) n := ble_eq (by omega)

theorem a2_ne {d : Fin 2} {t : Fin 3} {d₀ : Fin 2} (h : (.a2 d t : Tr) ≠ .a2 d₀ 0) : t.val.beq 0 = false ∨ d ≠ d₀ := by
  by_cases ht : t.val.beq 0 = true
  · right
    rintro rfl
    exact h (by rw [show t = 0 from Fin.ext (Nat.eq_of_beq_eq_true ht)])
  · left; exact eq_false_of_ne_true ht

theorem hasSrc_p {z : ℕ} (hz : zN 0 0 c = z) : hasSrc c nt z ym (.a2 0 0) = true ∧ hasSrc c nt (z + 1) ym (.a2 0 0) = false
    ∧ ∀ e, e ≠ .a2 0 0 → hasSrc c nt z ym e = hasSrc c nt (z + 1) ym e := by
  subst hz
  refine ⟨ble_self _, ble_succ_self _, fun e he => ?_⟩
  cases e with
  | a2 d t =>
    rcases a2_ne he with h | h
    · simp only [hasSrc, h, Bool.false_and]
    · have : d = 1 := by clear * - h; revert d; decide
      subst this; rfl
  | _ => rfl
theorem hasSrc_m {z : ℕ} (hz : zN 1 0 c = z) : hasSrc c nt yp z (.a2 1 0) = true ∧ hasSrc c nt yp (z + 1) (.a2 1 0) = false
    ∧ ∀ e, e ≠ .a2 1 0 → hasSrc c nt yp z e = hasSrc c nt yp (z + 1) e := by
  subst hz
  refine ⟨ble_self _, ble_succ_self _, fun e he => ?_⟩
  cases e with
  | a2 d t =>
    rcases a2_ne he with h | h
    · simp only [hasSrc, h, Bool.false_and]
    · have : d = 0 := by clear * - h; revert d; decide
      subst this; rfl
  | _ => rfl
theorem pend_p {z : ℕ} (hz : zN 0 0 c = z) : pend c ns z zm (.a2 0 0) = true ∧ pend c ns (z + 1) zm (.a2 0 0) = false
    ∧ ∀ e, e ≠ .a2 0 0 → pend c ns z zm e = pend c ns (z + 1) zm e := by
  subst hz
  refine ⟨ble_self _, ble_succ_self _, fun e he => ?_⟩
  cases e with
  | a2 d t =>
    rcases a2_ne he with h | h
    · simp only [pend, h, cond_false]
    · have : d = 1 := by clear * - h; revert d; decide
      subst this; rfl
  | _ => rfl
theorem pend_m {z : ℕ} (hz : zN 1 0 c = z) : pend c ns zp z (.a2 1 0) = true ∧ pend c ns zp (z + 1) (.a2 1 0) = false
    ∧ ∀ e, e ≠ .a2 1 0 → pend c ns zp z e = pend c ns zp (z + 1) e := by
  subst hz
  refine ⟨ble_self _, ble_succ_self _, fun e he => ?_⟩
  cases e with
  | a2 d t =>
    rcases a2_ne he with h | h
    · simp only [pend, h, cond_false]
    · have : d = 0 := by clear * - h; revert d; decide
      subst this; rfl
  | _ => rfl

/-- Where this is not the plane, nothing is done. -/
theorem skip_p {z : ℕ} (hz : zN 0 0 c ≠ z) : iprop(St I K c nl ns nt nr nk z ym z zm no ∗ emp) ⊢ iprop(St I K c nl ns nt nr nk (z + 1) ym (z + 1) zm no ∗ emp) := by
  have h1 : hasSrc c nt z ym = hasSrc c nt (z + 1) ym := funext fun e => by
    cases e with
    | a2 d t => simp only [hasSrc, ble_ne hz]
    | _ => rfl
  have h2 : pend c ns z zm = pend c ns (z + 1) zm := funext fun e => by
    cases e with
    | a2 d t => simp only [pend, ble_ne hz]
    | _ => rfl
  unfold St
  rw [h1, h2]
theorem skip_m {z : ℕ} (hz : zN 1 0 c ≠ z) : iprop(St I K c nl ns nt nr nk yp z zp z no ∗ emp) ⊢ iprop(St I K c nl ns nt nr nk yp (z + 1) zp (z + 1) no ∗ emp) := by
  have h1 : hasSrc c nt yp z = hasSrc c nt yp (z + 1) := funext fun e => by
    cases e with
    | a2 d t => simp only [hasSrc, ble_ne hz]
    | _ => rfl
  have h2 : pend c ns zp z = pend c ns zp (z + 1) := funext fun e => by
    cases e with
    | a2 d t => simp only [pend, ble_ne hz]
    | _ => rfl
  unfold St
  rw [h1, h2]

/-- The first slot of stage a2 is taken. -/
theorem take_p {z : ℕ} {s : Shape} {M : Memref sig .tc .vmem s .bf16} {r : Rect s} {hr : ∀ a, r.stride a = 1} {hl : M.view.LoadsAt r.toLoadRect}
    {k : (r.shape.Idx → Elt F .bf16) → Prog (TpuEff nD τ sig (Elt F) Λ₀ .tc) α} (hz : zN 0 0 c = z)
    (hs : iprop(∃ X, owns (c : Thread nD τ) (M.slice r hr) fullShare X) = (srcAny (F := F) (.a2 0 0) c))
    (hk : ∀ X, iprop(St I K c nl ns nt nr nk (z + 1) ym zp zm no ∗ owns (c : Thread nD τ) (M.slice r hr) fullShare X) ⊢ WP F c (k X) Q) :
    iprop(St I K c nl ns nt nr nk z ym zp zm no ∗ emp) ⊢ WP F c (.op (.load M r.toLoadRect hl) k) Q := by
  obtain ⟨h1, h2, h3⟩ := hasSrc_p (nt := nt) (ym := ym) hz
  refine (St_take (.a2 0 0) h1 h2 h3).trans ?_
  rw [← hs]
  iintro ⟨H, %X, HX⟩
  iapply (step_held (hl := hl) (hk X))
  isplitl [H] <;> iassumption
theorem take_m {z : ℕ} {s : Shape} {M : Memref sig .tc .vmem s .bf16} {r : Rect s} {hr : ∀ a, r.stride a = 1} {hl : M.view.LoadsAt r.toLoadRect}
    {k : (r.shape.Idx → Elt F .bf16) → Prog (TpuEff nD τ sig (Elt F) Λ₀ .tc) α} (hz : zN 1 0 c = z)
    (hs : iprop(∃ X, owns (c : Thread nD τ) (M.slice r hr) fullShare X) = (srcAny (F := F) (.a2 1 0) c))
    (hk : ∀ X, iprop(St I K c nl ns nt nr nk yp (z + 1) zp zm no ∗ owns (c : Thread nD τ) (M.slice r hr) fullShare X) ⊢ WP F c (k X) Q) :
    iprop(St I K c nl ns nt nr nk yp z zp zm no ∗ emp) ⊢ WP F c (.op (.load M r.toLoadRect hl) k) Q := by
  obtain ⟨h1, h2, h3⟩ := hasSrc_m (nt := nt) (yp := yp) hz
  refine (St_take (.a2 1 0) h1 h2 h3).trans ?_
  rw [← hs]
  iintro ⟨H, %X, HX⟩
  iapply (step_held (hl := hl) (hk X))
  isplitl [H] <;> iassumption

/-- It is written: what stage a1 left for that plane. -/
theorem store_fire (d : Fin 2) {z : ℕ} {s : Shape} {M : Memref sig .tc .vmem s .bf16} {r : Rect s} {hr : ∀ a, r.stride a = 1}
    {w X : r.shape.Idx → Elt F .bf16} {hx : (M.access r).Stores Finset.univ} {hm : Finset.univ = Finset.univ ∨ ∀ a, r.stride a = 1}
    {k : PUnit → Prog (TpuEff nD τ sig (Elt F) Λ₀ .tc) α} (hz : zN d 0 c = z)
    (hw : (owns (c : Thread nD τ) (M.slice r hr) fullShare w : sProp (MT nD τ sig Unit (Elt F) ℕ UU ℕ)) = owns (c : Thread nD τ) (mH d 0) fullShare (fireH (I.valA d (Fin.ofNat 4 z) 7 c)))
    (hk : iprop(St I K c nl ns nt nr nk yp ym zp zm no ∗ srcPts I (.a2 d 0) c) ⊢ WP F c (k ⟨⟩) Q) :
    iprop(St I K c nl ns nt nr nk yp ym zp zm no ∗ owns (c : Thread nD τ) (M.slice r hr) fullShare X) ⊢ WP F c (.op (.store M r w Finset.univ hx hm) k) Q := by
  have h : (owns (c : Thread nD τ) (M.slice r hr) fullShare w : sProp (MT nD τ sig Unit (Elt F) ℕ UU ℕ)) = srcPts I (.a2 d 0) c := by
    rw [hw, ← zA_eq hz]; rfl
  rw [← h] at hk
  exact step_storeSlot hk

theorem send_p {z : ℕ} {s₁ s₂ t : Shape} {M₁ : Memref sig .tc .vmem s₁ .bf16} {M₂ : Memref sig .tc .vmem s₂ .bf16} {h₁ : s₁.Squeezes t} {h₂ : s₂.Squeezes t}
    {X : s₁.Idx → Elt F .bf16} {sS sR : DmaSem sig} {hsc : (M₂.squeeze t h₂).view.ref.isScScratch = false} {D : Dev nD}
    {hw1 : (M₁.squeeze t h₁).view.WordExact} {hw2 : (M₂.squeeze t h₂).view.WordExact}
    {hsem : DmaTarget.Typed (nD := nD) (τ := τ) .vmem (.dma sR) (.remote (Dev.tc D) (M₂.squeeze t h₂) (.dma sS) hsc)}
    {k : PUnit → Prog (TpuEff nD τ sig (Elt F) Λ₀ .tc) α} (hz : zN 0 0 c = z)
    (hD : D.val = (tgt (.a2 0 0) c).val) (hcast : s₁.ShapeCasts s₂)
    (hsS : sS = semS (.a2 0 0)) (hsR : sR = semR (.a2 0 0)) (hN : (M₂.squeeze t h₂).view.dmaCredit = amt (.a2 0 0))
    (hsrc : owns (c : Thread nD τ) M₁ fullShare X = srcPts I (.a2 0 0) c)
    (hany : dstAny (F := F) (.a2 0 0) (tgt (.a2 0 0) c) = iprop(∃ Y, owns (tgt (.a2 0 0) c : Thread nD τ) M₂ fullShare Y))
    (hdst : owns (tgt (.a2 0 0) c : Thread nD τ) M₂ fullShare (shapeCast s₂ X hcast) = sentPts I (.a2 0 0) c)
    (hk : iprop(St I K c nl ns nt nr nk yp ym (z + 1) zm no ∗ emp) ⊢ WP F c (k ⟨⟩) Q) :
    iprop(St I K c nl ns nt nr nk yp ym z zm no ∗ srcPts I (.a2 0 0) c)
      ⊢ WP F c (.op (.enqueueDma (M₁.squeeze t h₁) (.remote (Dev.tc D) (M₂.squeeze t h₂) (.dma sS) hsc) (.dma sR) hw1 hw2 hsem) k) Q := by
  obtain rfl := Fin.ext hD
  rw [sentPts_eq] at hdst
  obtain ⟨hp, hp', hne⟩ := pend_p (ns := ns) (zm := zm) hz
  rw [← hsrc]
  rw [St_eq] at hk ⊢
  exact send_core (.a2 0 0) hcast hp hp' hne hsS hsR hN hsrc hany hdst hk
theorem send_m {z : ℕ} {s₁ s₂ t : Shape} {M₁ : Memref sig .tc .vmem s₁ .bf16} {M₂ : Memref sig .tc .vmem s₂ .bf16} {h₁ : s₁.Squeezes t} {h₂ : s₂.Squeezes t}
    {X : s₁.Idx → Elt F .bf16} {sS sR : DmaSem sig} {hsc : (M₂.squeeze t h₂).view.ref.isScScratch = false} {D : Dev nD}
    {hw1 : (M₁.squeeze t h₁).view.WordExact} {hw2 : (M₂.squeeze t h₂).view.WordExact}
    {hsem : DmaTarget.Typed (nD := nD) (τ := τ) .vmem (.dma sR) (.remote (Dev.tc D) (M₂.squeeze t h₂) (.dma sS) hsc)}
    {k : PUnit → Prog (TpuEff nD τ sig (Elt F) Λ₀ .tc) α} (hz : zN 1 0 c = z)
    (hD : D.val = (tgt (.a2 1 0) c).val) (hcast : s₁.ShapeCasts s₂)
    (hsS : sS = semS (.a2 1 0)) (hsR : sR = semR (.a2 1 0)) (hN : (M₂.squeeze t h₂).view.dmaCredit = amt (.a2 1 0))
    (hsrc : owns (c : Thread nD τ) M₁ fullShare X = srcPts I (.a2 1 0) c)
    (hany : dstAny (F := F) (.a2 1 0) (tgt (.a2 1 0) c) = iprop(∃ Y, owns (tgt (.a2 1 0) c : Thread nD τ) M₂ fullShare Y))
    (hdst : owns (tgt (.a2 1 0) c : Thread nD τ) M₂ fullShare (shapeCast s₂ X hcast) = sentPts I (.a2 1 0) c)
    (hk : iprop(St I K c nl ns nt nr nk yp ym zp (z + 1) no ∗ emp) ⊢ WP F c (k ⟨⟩) Q) :
    iprop(St I K c nl ns nt nr nk yp ym zp z no ∗ srcPts I (.a2 1 0) c)
      ⊢ WP F c (.op (.enqueueDma (M₁.squeeze t h₁) (.remote (Dev.tc D) (M₂.squeeze t h₂) (.dma sS) hsc) (.dma sR) hw1 hw2 hsem) k) Q := by
  obtain rfl := Fin.ext hD
  rw [sentPts_eq] at hdst
  obtain ⟨hp, hp', hne⟩ := pend_m (ns := ns) (zp := zp) hz
  rw [← hsrc]
  rw [St_eq] at hk ⊢
  exact send_core (.a2 1 0) hcast hp hp' hne hsS hsR hN hsrc hany hdst hk

/-! ## The result -/

theorem St_out : iprop(St I K c nl ns nt nr nk yp ym zp zm no ∗ A)
    ⊢ iprop(outPts I c no ∗ (∀ n, outPts I c n -∗ St I K c nl ns nt nr nk yp ym zp zm n ∗ A)) := by
  unfold St outSt
  iintro ⟨⟨H1, H2, H3, H4, H5, H6, H7, H8, ⟨H9, H9'⟩, H10⟩, HA⟩
  isplitl [H9]; · iexact H9
  iintro %n H9
  isplitr [HA]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9 H9']
    · isplitl [H9]; · iexact H9
      iexact H9'
    iexact H10
  iexact HA

/-- The result is read before a part of it is stored; what is read is not used. -/
theorem step_loadOut {r : Rect S128x2048} {hl : (stO).view.LoadsAt r.toLoadRect} {k : (r.shape.Idx → Elt F .f32) → Prog (TpuEff nD τ sig (Elt F) Λ₀ .tc) α}
    (hk : ∀ X, iprop(St I K c nl ns nt nr nk yp ym zp zm no ∗ A) ⊢ WP F c (k X) Q) :
    iprop(St I K c nl ns nt nr nk yp ym zp zm no ∗ A) ⊢ WP F c (.op (.load stO r.toLoadRect hl) k) Q := by
  refine St_out.trans ?_
  unfold outPts
  iintro ⟨⟨%Y, %hY, H⟩, Hb⟩
  iapply (step_load (P := iprop(owns (c : Thread nD τ) stO fullShare Y ∗ (∀ n, (∃ Y, ⌜outPart I c Y n⌝ ∗ owns (c : Thread nD τ) stO fullShare Y) -∗ St I K c nl ns nt nr nk yp ym zp zm n ∗ A)))
    (X := Y) (hl := hl) (by
      iintro ⟨H, Hb⟩
      isplitl [H]; · iexact H
      iintro H
      isplitl [H]; · iexact H
      iexact Hb) (by
      iintro ⟨H, Hb⟩
      iapply (hk _)
      iapply Hb
      iexists Y
      isplitr; · ipureintro; exact hY
      iexact H))
  isplitl [H]; · iexact H
  iexact Hb

/-- A part of the result is stored. -/
theorem step_out {r : Rect S128x2048} {w : r.shape.Idx → Elt F .f32} {hx : ((stO).access r).Stores Finset.univ} {hm : Finset.univ = Finset.univ ∨ ∀ a, r.stride a = 1}
    {k : PUnit → Prog (TpuEff nD τ sig (Elt F) Λ₀ .tc) α} (hs : r.stride 1 = 1)
    (hY : ∀ Y Y' : Vec F S128x2048 .f32, outPart I c Y no → (fun i => Y' (r.emb i)) = w
      → (∀ r' : Rect S128x2048, r'.stride 1 = 1 → (r.off 1 + r.size 1 ≤ r'.off 1 ∨ r'.off 1 + r'.size 1 ≤ r.off 1) → (fun i => Y' (r'.emb i)) = fun i => Y (r'.emb i))
      → outPart I c Y' (no + 1))
    (hk : iprop(St I K c nl ns nt nr nk yp ym zp zm (no + 1) ∗ A) ⊢ WP F c (k ⟨⟩) Q) :
    iprop(St I K c nl ns nt nr nk yp ym zp zm no ∗ A) ⊢ WP F c (.op (.store stO r w Finset.univ hx hm) k) Q := by
  refine St_out.trans ?_
  unfold outPts owns
  iintro ⟨⟨%Y, %hy, %f, %hf, H⟩, Hb⟩
  iapply (wp_store 𝒱₀ (c : Thread nD τ) none Set.univ (m := stO) (r := r) (S := (stO).view.set)
    (by rw [View.setOn_univ, View.set_slice]; exact View.setOn_subset_set _ _)) $$ H
  iintro H
  iapply hk
  iapply Hb
  iexists ((stO).view.read (Elt F) (((stO).access r).write (Elt F) f w Finset.univ))
  isplitr
  · ipureintro
    subst hf
    refine hY _ _ hy (View.read_write_univ (v := (stO).access r) f w) fun r' hs' h => ?_
    funext i
    show _root_.cast _ _ = _root_.cast _ _
    congr 1
    refine View.write_of_not_mem (v := (stO).access r) f w Finset.univ ?_
    rw [View.setOn_univ]
    intro hm
    exact Finset.disjoint_left.mp (View.disjoint_slice_of_sep (stO).view r r' 1 hs hs' h) hm
      (Finset.mem_map.mpr ⟨i, Finset.mem_univ _, rfl⟩)
  iexists _
  isplitr; · ipureintro; rfl
  iexact H

theorem out0 (Y Y' : Vec F S128x2048 .f32) (_ : outPart I c Y 0) (hw : (fun i => Y' ((rectOA 0).emb i)) = I.outA 0 c)
    (_ : ∀ r' : Rect S128x2048, r'.stride 1 = 1 → ((rectOA 0).off 1 + (rectOA 0).size 1 ≤ r'.off 1 ∨ r'.off 1 + r'.size 1 ≤ (rectOA 0).off 1) → (fun i => Y' (r'.emb i)) = fun i => Y (r'.emb i)) :
    outPart I c Y' (0 + 1) := ⟨fun _ => hw, fun h => by omega, fun h => by omega, fun h => by omega⟩
theorem out1 (Y Y' : Vec F S128x2048 .f32) (hY : outPart I c Y (0 + 1)) (hw : (fun i => Y' ((rectOA 1).emb i)) = I.outA 1 c)
    (hr : ∀ r' : Rect S128x2048, r'.stride 1 = 1 → ((rectOA 1).off 1 + (rectOA 1).size 1 ≤ r'.off 1 ∨ r'.off 1 + r'.size 1 ≤ (rectOA 1).off 1) → (fun i => Y' (r'.emb i)) = fun i => Y (r'.emb i)) :
    outPart I c Y' (0 + 1 + 1) :=
  ⟨fun _ => (hr (rectOA 0) rfl (Or.inr (by decide))).trans (hY.1 (by omega)), fun _ => hw, fun h => by omega, fun h => by omega⟩
theorem out2 (Y Y' : Vec F S128x2048 .f32) (hY : outPart I c Y (0 + 1 + 1)) (hw : (fun i => Y' ((rectOB 0).emb i)) = I.outB 0 c)
    (hr : ∀ r' : Rect S128x2048, r'.stride 1 = 1 → ((rectOB 0).off 1 + (rectOB 0).size 1 ≤ r'.off 1 ∨ r'.off 1 + r'.size 1 ≤ (rectOB 0).off 1) → (fun i => Y' (r'.emb i)) = fun i => Y (r'.emb i)) :
    outPart I c Y' (0 + 1 + 1 + 1) :=
  ⟨fun _ => (hr (rectOA 0) rfl (Or.inr (by decide))).trans (hY.1 (by omega)),
    fun _ => (hr (rectOA 1) rfl (Or.inr (by decide))).trans (hY.2.1 (by omega)), fun _ => hw, fun h => by omega⟩
theorem out3 (Y Y' : Vec F S128x2048 .f32) (hY : outPart I c Y (0 + 1 + 1 + 1)) (hw : (fun i => Y' ((rectOB 1).emb i)) = I.outB 1 c)
    (hr : ∀ r' : Rect S128x2048, r'.stride 1 = 1 → ((rectOB 1).off 1 + (rectOB 1).size 1 ≤ r'.off 1 ∨ r'.off 1 + r'.size 1 ≤ (rectOB 1).off 1) → (fun i => Y' (r'.emb i)) = fun i => Y (r'.emb i)) :
    outPart I c Y' (0 + 1 + 1 + 1 + 1) :=
  ⟨fun _ => (hr (rectOA 0) rfl (Or.inr (by decide))).trans (hY.1 (by omega)),
    fun _ => (hr (rectOA 1) rfl (Or.inr (by decide))).trans (hY.2.1 (by omega)),
    fun _ => (hr (rectOB 0) rfl (Or.inr (by decide))).trans (hY.2.2.1 (by omega)), fun _ => hw⟩

/-! ## The waits for departures -/

def drainTok (c : Dev nD) (e : Tr) : sProp 𝕄 := iprop(credS c e ∗ atPos ER (cellS e c) 0 ∅ 0)
def drainDone (c : Dev nD) (e : Tr) : sProp 𝕄 := iprop(atPos ER (cellS e c) (0 + 1) ∅ 0 ∗ srcAny e c)

variable (I K c) in
/-- The state after everything is sent and stored, `n` departures waited for. -/
def DSt (n : ℕ) : sProp (MT nD τ sig Unit (Elt F) ℕ UU ℕ) :=
  iprop(records I K ∗ Fam (fun e => Nat.ble n (td e)) (drainTok c) (drainDone c) ∗ (∃ W, owes (c : Thread nD τ) (0 : CellTallies nD τ sig Unit) W)
    ∗ (bigSep Finset.univ fun e => recvDone (F := F) c e) ∗ Fam (kept c 122 124) (keptPts I c) none' ∗ ops I c ∗ outSt I c 4)

theorem pend_end (c : Dev nD) (e : Tr) : pend c 122 4 4 e = false := by
  have hs : ∀ e, Nat.ble 122 (ts e) = false ∨ isFire e = true := by decide +kernel
  have hz : ∀ d, Nat.ble 4 (zN d 0 c) = false := fun d => by
    have : zN d 0 c < 4 := Nat.mod_lt _ (by decide)
    rw [← Bool.not_eq_true, Nat.ble_eq]; omega
  cases e with
  | a2 d t =>
    rcases hs (.a2 d t) with h | h
    · simp only [pend, h, hz]; cases t.val.beq 0 <;> cases d.val.beq 0 <;> rfl
    · simp only [isFire] at h
      simp only [pend, h, hz]; cases d.val.beq 0 <;> rfl
  | _ => rcases hs _ with h | h <;> first | exact h | exact absurd h (by simp [isFire])

omit [FloatOps F] in
theorem Fam_none {b : Tr → Bool} {A B : Tr → sProp (MT nD τ sig Unit (Elt F) ℕ UU ℕ)} (h : ∀ e, b e = false) : Fam b A B = bigSep Finset.univ B := by
  unfold Fam
  exact bigSep_congr fun e _ => if_neg (by rw [h e]; decide)
omit [FloatOps F] in
theorem Fam_all {b : Tr → Bool} {A B : Tr → sProp (MT nD τ sig Unit (Elt F) ℕ UU ℕ)} (h : ∀ e, b e = true) : Fam b A B = bigSep Finset.univ A := by
  unfold Fam
  exact bigSep_congr fun e _ => if_pos (h e)

theorem toD : iprop(St I K c nl 122 24 124 124 4 4 4 4 4 ∗ emp) ⊢ DSt I K c 0 := by
  have h1 : ∀ e, Nat.ble 124 (tr e) = false := fun e => by
    have := tr_lt e
    rw [← Bool.not_eq_true, Nat.ble_eq]; omega
  have h2 : ∀ e, Nat.ble 0 (td e) = true := fun e => Nat.ble_eq.mpr (Nat.zero_le _)
  unfold St DSt
  rw [owedT_none (pend_end c), Fam_none (pend_end c), Fam_none h1, Fam_all h2]
  iintro ⟨⟨H1, H2, -, H4, H5, H6, H7, H8, H9, -⟩, -⟩
  isplitl [H1]; · iexact H1
  isplitl [H2 H6]
  · unfold drainTok
    rw [bigSep_sep']
    isplitl [H2]; · iexact H2
    iexact H6
  isplitl [H7]; · iexact H7
  isplitl [H4]; · iexact H4
  isplitl [H5]; · iexact H5
  isplitl [H8]; · iexact H8
  iexact H9

/-- The wait for the `n`-th departure. -/
theorem step_drain {n : ℕ} {s : Shape} {sp sp' : Space} {s' : Shape} {e e' : EltTy} {κ' : Kind} {src : Memref sig .tc sp' s' e'} {dst : Memref sig κ' sp s e} {hs1 : src.view.WordExact}
    {hs2 : dst.view.WordExact} {sm : DmaSem sig} {k : PUnit → Prog (TpuEff nD τ sig (Elt F) Λ₀ .tc) α}
    (hn : Nat.blt n 124 = true) (hsm : sm = semS (drnOf n)) (hN : dst.view.dmaCredit = amt (drnOf n))
    (hk : DSt I K c (n + 1) ⊢ WP F c (k ⟨⟩) Q) :
    DSt I K c n ⊢ WP F c (.op (.waitDma2 sm src dst hs1 hs2) k) Q := by
  subst hsm
  obtain ⟨h1, h2, h3⟩ := ble_step (f := td) (g := drnOf) drnOf_td (td_drnOf ⟨n, Nat.blt_eq.mp hn⟩)
  unfold DSt at hk ⊢
  iintro ⟨#H1, H2, ⟨%W, H7⟩, H4, H5, H8, H9⟩
  icases (Fam_step (b' := fun e => Nat.ble (n + 1) (td e)) (A := drainTok (F := F) c) (B := drainDone c) (drnOf n) h1 h2 h3) $$ H2 with ⟨Hs, Hb⟩
  unfold drainTok
  icases Hs with ⟨Hc, Hat⟩
  unfold credS
  iapply (Rounds.wp_wait_rest_token 𝒱₀ ER (rd I) (c : Thread nD τ) none (κ := K (cellS (drnOf n) c))
      (wpE_waitDma2_eq 𝒱₀ (c : Thread nD τ) none Set.univ) (Set.mem_univ _) () (O := 0) (W := W) (R := 0) (m := 0) (T := ∅)
      ((Nat.zero_add _).trans (hN.trans (expect_S I (drnOf n) c).symm))) $$ [Hc H7 Hat]
  · isplitr; · iapply (rec_inv I K (S_mem (drnOf n) c)); iexact H1
    isplitl [Hc]; · rw [hN]; iexact Hc
    isplitl [H7]; · iexact H7
    isplitr
    · rw [MayWait_zero]; iempintro
    iexact Hat
  iintro ⟨HO, Hat, -, Hpay⟩
  ihave Hp := (Entails.of_eq (rest_S I (drnOf n) c)) $$ Hpay
  ihave Hp := (srcPts_any I (drnOf n) c) $$ Hp
  iapply hk
  isplitr; · iexact H1
  isplitl [Hb Hat Hp]
  · iapply Hb
    unfold drainDone
    isplitl [Hat]; · iexact Hat
    iexact Hp
  isplitl [HO]; · iexists _; iexact HO
  isplitl [H4]; · iexact H4
  isplitl [H5]; · iexact H5
  isplitl [H8]; · iexact H8
  iexact H9

end Cert.KernelIdeal.Ring

end
-- ==== Proof.Ring.Slots.lean ====
/- The scratch buffers of the ring kernel taken apart into the slots the transfers use, when it begins, and put together again,
   when it ends. -/
module

public import proofs.«01_k».proof.Proof.Ring.Steps4
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {I : Ins F}

local notation "𝕄" => MT nD τ sig Unit (Elt F) ℕ UU ℕ

variable {K : GSem nD τ sig → ℕ} {c : Dev nD}

/-! ## One buffer and its slots -/

section One

variable {T : Type} [Fintype T] [DecidableEq T]

omit [FloatOps F] in
theorem owns_any {s : Shape} {e : EltTy} (c : Dev nD) (m : Memref sig .tc .vmem s e) (X : s.Idx → Elt F e) :
    (owns (c : Thread nD τ) m fullShare X : sProp 𝕄) ⊢ iprop(∃ X, owns (c : Thread nD τ) m fullShare X) := by
  iintro H; iexists X; iexact H

omit [FloatOps F] in
/-- A buffer held whole at some contents, slot by slot. -/
theorem slots_split {s : Shape} {e : EltTy} (c : Dev nD) (m : Memref sig .tc .vmem s e) (r : T → Rect s) (hr : ∀ t a, (r t).stride a = 1)
    (hd : ∀ t t', t ≠ t' → Disjoint (r t).set (r t').set) (hcov : Finset.univ.biUnion (fun t => (r t).set) = Finset.univ) :
    (iprop(∃ X, owns (c : Thread nD τ) m fullShare X) : sProp 𝕄)
      ⊢ bigSep Finset.univ fun t => iprop(∃ X, owns (c : Thread nD τ) (m.slice (r t) (hr t)) fullShare X) := by
  have h (X : s.Idx → Elt F e) : (owns (c : Thread nD τ) m fullShare X : sProp 𝕄)
      ⊢ bigSep Finset.univ fun t => iprop(∃ X, owns (c : Thread nD τ) (m.slice (r t) (hr t)) fullShare X) := by
    exact (owns_rects (c : Thread nD τ) m fullShare r hr hd hcov X).trans (bigSep_mono fun t _ => owns_any _ _ _)
  iintro ⟨%X, H⟩
  iapply (h X)
  iexact H

theorem slots_join {s : Shape} {e : EltTy} (c : Dev nD) (m : Memref sig .tc .vmem s e) (r : T → Rect s) (hr : ∀ t a, (r t).stride a = 1)
    (hd : ∀ t t', t ≠ t' → Disjoint (r t).set (r t').set) (hcov : Finset.univ.biUnion (fun t => (r t).set) = Finset.univ) :
    (bigSep Finset.univ fun t => iprop(∃ X, owns (c : Thread nD τ) (m.slice (r t) (hr t)) fullShare X))
      ⊢ (iprop(∃ X, owns (c : Thread nD τ) m fullShare X) : sProp 𝕄) := by
  have : ∀ t, Nonempty ((r t).shape.Idx → Elt F e) := fun _ => inferInstance
  refine (Idealize.SL.BI.bigSep_exists_pi Finset.univ fun t (X : (r t).shape.Idx → Elt F e) =>
    (owns (c : Thread nD τ) (m.slice (r t) (hr t)) fullShare X : sProp 𝕄)).trans ?_
  iintro ⟨%fs, H⟩
  obtain ⟨X, hX⟩ : ∃ X : s.Idx → Elt F e, ∀ t j, X ((r t).emb j) = fs t j :=
    ⟨Rect.glue r hcov fs, fun t j => Rect.glue_emb r hcov hd fs t j⟩
  iexists X
  iapply (owns_of_rects (c : Thread nD τ) m fullShare r hr hd hcov X)
  rw [show (fun t => (owns (c : Thread nD τ) (m.slice (r t) (hr t)) fullShare (fun j => X ((r t).emb j)) : sProp 𝕄))
    = fun t => owns (c : Thread nD τ) (m.slice (r t) (hr t)) fullShare (fs t) from funext fun t => congrArg (owns _ _ _) (funext (hX t))]
  iexact H

end One

/-! ## The slots tile the buffers -/

theorem disjA (t t' : Fin 8 × Fin 4) (h : t ≠ t') : Disjoint (rectA t.1 t.2).set (rectA t'.1 t'.2).set := by
  rw [Finset.disjoint_left]
  intro i h1 h2
  rw [Rect.mem_set_unit] at h1 h2
  have a0 := h1 0; have a1 := h1 1; have b0 := h2 0; have b1 := h2 1
  simp only [Matrix.cons_val_zero, Matrix.cons_val_one] at a0 a1 b0 b1
  refine h (Prod.ext (Fin.ext ?_) (Fin.ext ?_))
  · have : S1x1x128x640.size 0 = 1 := rfl
    omega
  · have : S1x1x128x640.size 1 = 1 := rfl
    omega
theorem covA : Finset.univ.biUnion (fun t : Fin 8 × Fin 4 => (rectA t.1 t.2).set) = Finset.univ := by
  ext i
  refine ⟨fun _ => Finset.mem_univ _, fun _ => Finset.mem_biUnion.mpr ⟨(i 0, i 1), Finset.mem_univ _, ?_⟩⟩
  rw [Rect.mem_set_unit]
  intro a
  have := (i a).isLt
  fin_cases a
  · exact ⟨Nat.le_refl _, Nat.lt_succ_self _⟩
  · exact ⟨Nat.le_refl _, Nat.lt_succ_self _⟩
  · exact ⟨Nat.zero_le _, lt_of_lt_of_eq this (Nat.zero_add _).symm⟩
  · exact ⟨Nat.zero_le _, lt_of_lt_of_eq this (Nat.zero_add _).symm⟩
theorem disjB (t t' : Fin 4 × Fin 8) (h : t ≠ t') : Disjoint (rectB t.1 t.2).set (rectB t'.1 t'.2).set := by
  rw [Finset.disjoint_left]
  intro i h1 h2
  rw [Rect.mem_set_unit] at h1 h2
  have a0 := h1 0; have a1 := h1 1; have b0 := h2 0; have b1 := h2 1
  simp only [Matrix.cons_val_zero, Matrix.cons_val_one] at a0 a1 b0 b1
  refine h (Prod.ext (Fin.ext ?_) (Fin.ext ?_))
  · have : S1x1x128x384.size 0 = 1 := rfl
    omega
  · have : S1x1x128x384.size 1 = 1 := rfl
    omega
theorem covB : Finset.univ.biUnion (fun t : Fin 4 × Fin 8 => (rectB t.1 t.2).set) = Finset.univ := by
  ext i
  refine ⟨fun _ => Finset.mem_univ _, fun _ => Finset.mem_biUnion.mpr ⟨(i 0, i 1), Finset.mem_univ _, ?_⟩⟩
  rw [Rect.mem_set_unit]
  intro a
  have := (i a).isLt
  fin_cases a
  · exact ⟨Nat.le_refl _, Nat.lt_succ_self _⟩
  · exact ⟨Nat.le_refl _, Nat.lt_succ_self _⟩
  · exact ⟨Nat.zero_le _, lt_of_lt_of_eq this (Nat.zero_add _).symm⟩
  · exact ⟨Nat.zero_le _, lt_of_lt_of_eq this (Nat.zero_add _).symm⟩
theorem disjH (t t' : Fin 4) (h : t ≠ t') : Disjoint (rectH t).set (rectH t').set := by
  rw [Finset.disjoint_left]
  intro i h1 h2
  rw [Rect.mem_set_unit] at h1 h2
  have a0 := h1 0; have b0 := h2 0
  simp only [Matrix.cons_val_zero] at a0 b0
  have : S1x128x640.size 0 = 1 := rfl
  exact h (Fin.ext (by omega))
theorem covH : Finset.univ.biUnion (fun t : Fin 4 => (rectH t).set) = Finset.univ := by
  ext i
  refine ⟨fun _ => Finset.mem_univ _, fun _ => Finset.mem_biUnion.mpr ⟨i 0, Finset.mem_univ _, ?_⟩⟩
  rw [Rect.mem_set_unit]
  intro a
  have := (i a).isLt
  fin_cases a
  · exact ⟨Nat.le_refl _, Nat.lt_succ_self _⟩
  · exact ⟨Nat.zero_le _, lt_of_lt_of_eq this (Nat.zero_add _).symm⟩
  · exact ⟨Nat.zero_le _, lt_of_lt_of_eq this (Nat.zero_add _).symm⟩
theorem disjG (t t' : Fin 8) (h : t ≠ t') : Disjoint (rectG t).set (rectG t').set := by
  rw [Finset.disjoint_left]
  intro i h1 h2
  rw [Rect.mem_set_unit] at h1 h2
  have a0 := h1 0; have b0 := h2 0
  simp only [Matrix.cons_val_zero] at a0 b0
  have : S1x128x384.size 0 = 1 := rfl
  exact h (Fin.ext (by omega))
theorem covG : Finset.univ.biUnion (fun t : Fin 8 => (rectG t).set) = Finset.univ := by
  ext i
  refine ⟨fun _ => Finset.mem_univ _, fun _ => Finset.mem_biUnion.mpr ⟨i 0, Finset.mem_univ _, ?_⟩⟩
  rw [Rect.mem_set_unit]
  intro a
  have := (i a).isLt
  fin_cases a
  · exact ⟨Nat.le_refl _, Nat.lt_succ_self _⟩
  · exact ⟨Nat.zero_le _, lt_of_lt_of_eq this (Nat.zero_add _).symm⟩
  · exact ⟨Nat.zero_le _, lt_of_lt_of_eq this (Nat.zero_add _).symm⟩

/-! ## All slots, and which transfer leaves which -/

abbrev Sl : Type := (Fin 2 × Fin 8 × Fin 4) ⊕ (Fin 2 × Fin 4 × Fin 8) ⊕ (Fin 2 × Fin 4) ⊕ (Fin 2 × Fin 8)

def slotAny (c : Dev nD) : Sl → sProp 𝕄
  | .inl (d, h, z) => anyM c (mA d h z)
  | .inr (.inl (d, t, i)) => anyM c (mB d t i)
  | .inr (.inr (.inl (d, t))) => anyM c (mH d t)
  | .inr (.inr (.inr (d, k))) => anyM c (mG d k)

def dstSl : Tr → Sl
  | .a1 d h z => .inl (d, h.succ, z)
  | .b1 d t i => .inr (.inl (d, t.succ, i))
  | .a2 d t => .inr (.inr (.inl (d, t.succ)))
  | .b2 d k => .inr (.inr (.inr (d, k.castSucc)))
def srcSl (c : Dev nD) : Tr → Sl
  | .a1 d h z => .inl (d, h.castSucc, z)
  | .b1 d t i => .inr (.inl (d, t.castSucc, i))
  | .a2 d t => .inr (.inr (.inl (d, t.castSucc)))
  | .b2 d k => .inr (.inl (d, 3, laneK k.val c))

omit [FloatOps F] in
theorem dstAny_eq (e : Tr) (c : Dev nD) : dstAny (F := F) e c = slotAny c (dstSl e) := by cases e <;> rfl
omit [FloatOps F] in
theorem srcAny_eq (e : Tr) (c : Dev nD) : srcAny (F := F) e c = slotAny c (srcSl c e) := by cases e <;> rfl
theorem keptPts_any (e : Tr) (c : Dev nD) : keptPts I c e ⊢ (slotAny c (dstSl e) : sProp 𝕄) := by
  rw [← dstAny_eq]; unfold keptPts; cases e with
  | a1 d h z => unfold dstAny; iintro H; iexists _; iexact H
  | b1 d t i => unfold dstAny; iintro H; iexists _; iexact H
  | _ => exact dstPts_any (I := I) _ _

/-- Sources, destinations, spare slots. -/
abbrev Parts : Type := Tr ⊕ Tr ⊕ Fin 2
def partSl (c : Dev nD) : Parts → Sl
  | .inl e => srcSl c e
  | .inr (.inl e) => dstSl e
  | .inr (.inr d) => .inr (.inr (.inr (d, 7)))

def fromS (n : ℕ) (d : Fin 2) (h : Fin 8) (z : Fin 4) : Parts :=
  if hh : h.val < n ∧ h.val < 7 then .inl (.a1 d ⟨h.val, hh.2⟩ z) else .inr (.inl (.a1 d ⟨h.val - 1, by have := h.isLt; omega⟩ z))
def fromB (n : ℕ) (d : Fin 2) (t : Fin 4) (i : Fin 8) : Parts :=
  if hh : t.val < n ∧ t.val < 3 then .inl (.b1 d ⟨t.val, hh.2⟩ i) else .inr (.inl (.b1 d ⟨t.val - 1, by have := t.isLt; omega⟩ i))
def fromH (n : ℕ) (d : Fin 2) (t : Fin 4) : Parts :=
  if hh : t.val < n ∧ t.val < 3 then .inl (.a2 d ⟨t.val, hh.2⟩) else .inr (.inl (.a2 d ⟨t.val - 1, by have := t.isLt; omega⟩))
def fromG (d : Fin 2) (k : Fin 8) : Parts :=
  if hh : k.val < 7 then .inr (.inl (.b2 d ⟨k.val, hh⟩)) else .inr (.inr d)

/-- Which part a slot goes to when the kernel begins. -/
def beginP : Sl → Parts
  | .inl (d, h, z) => fromS 1 d h z
  | .inr (.inl (d, t, i)) => fromB 1 d t i
  | .inr (.inr (.inl (d, t))) => fromH 1 d t
  | .inr (.inr (.inr (d, k))) => fromG d k
def beginB : Parts → Bool
  | .inl e => hasSrc 0 0 0 0 e
  | .inr _ => true
/-- How far along the cycle a lane is, less one. -/
def laneN (c : Dev nD) (i : Fin 8) : ℕ := (posn i.val + 15 - posn (c.val % 8)) % 8
/-- Which part a slot comes from when it ends. -/
def endP (c : Dev nD) : Sl → Parts
  | .inl (d, h, z) => fromS 7 d h z
  | .inr (.inl (d, t, i)) => if hh : t.val = 3 ∧ laneN c i < 7 then .inl (.b2 d ⟨laneN c i, hh.2⟩) else fromB 3 d t i
  | .inr (.inr (.inl (d, t))) => fromH 3 d t
  | .inr (.inr (.inr (d, k))) => fromG d k
def endB (c : Dev nD) : Parts → Bool
  | .inr (.inl e) => kept c 122 124 e
  | _ => true

theorem begin_inv : ∀ x : TrS ⊕ TrS ⊕ Fin 2, beginB (Sum.map trE (Sum.map trE id) x) = true →
    beginP (partSl 0 (Sum.map trE (Sum.map trE id) x)) = Sum.map trE (Sum.map trE id) x := by decide +kernel
theorem end_inv : ∀ (c : Dev nD) (s : Sl), endB c (endP c s) = true ∧ partSl c (endP c s) = s := by decide +kernel

/-! ## Between the slots and the parts -/

omit [FloatOps F] in
/-- Every slot goes to one part; the parts that get none get nothing. -/
theorem slots_begin : (bigSep Finset.univ fun s => slotAny c s : sProp 𝕄)
    ⊢ bigSep Finset.univ fun x => if beginB x = true then slotAny c (partSl c x) else (BI.emp : sProp 𝕄) := by
  rw [← bigSep_filter]
  have hb : ∀ x : Parts, beginB x = true → beginP (partSl c x) = x := by
    intro x hx
    obtain ⟨y, rfl⟩ := (Equiv.sumCongr trE (Equiv.sumCongr trE (Equiv.refl _))).surjective x
    have h0 : partSl c (Sum.map trE (Sum.map trE id) y) = partSl 0 (Sum.map trE (Sum.map trE id) y) := by
      have := hx
      rcases y with y | y | y
      · rcases y with y | y | y | y
        · rfl
        · rfl
        · rfl
        · exact absurd hx (by simp [beginB, trE, hasSrc])
      · rfl
      · rfl
    exact (congrArg beginP h0).trans (begin_inv y hx)
  have hinj : Set.InjOn (partSl c) (Finset.univ.filter fun x => beginB x = true : Finset Parts) := fun x hx y hy h => by
    rw [← hb x (Finset.mem_filter.mp hx).2, ← hb y (Finset.mem_filter.mp hy).2, h]
  rw [← bigSep_image_of_injOn hinj (fun s => slotAny (F := F) c s)]
  exact bigSep_subset (Finset.subset_univ _)

omit [FloatOps F] in
theorem slots_end : (bigSep Finset.univ fun x => if endB c x = true then slotAny c (partSl c x) else (BI.emp : sProp 𝕄))
    ⊢ (bigSep Finset.univ fun s => slotAny c s : sProp 𝕄) := by
  rw [← bigSep_filter]
  have hinj : Set.InjOn (endP c) (Finset.univ : Finset Sl) := fun s _ s' _ h => by
    rw [← (end_inv c s).2, ← (end_inv c s').2, h]
  have h : (bigSep Finset.univ fun s => slotAny (F := F) c s)
      = bigSep (Finset.univ.image (endP c)) fun x => slotAny (F := F) c (partSl c x) := by
    rw [bigSep_image_of_injOn hinj]
    exact bigSep_congr fun s _ => by rw [(end_inv c s).2]
  rw [h]
  refine bigSep_subset fun x hx => ?_
  obtain ⟨s, -, rfl⟩ := Finset.mem_image.mp hx
  exact Finset.mem_filter.mpr ⟨Finset.mem_univ _, (end_inv c s).1⟩

/-! ## Between the buffers and the slots -/

omit [FloatOps F] in
theorem slotAny_sum : (bigSep Finset.univ fun s => slotAny c s : sProp 𝕄)
    = iprop(((bigSep Finset.univ fun t : Fin 8 × Fin 4 => anyM c (mA 0 t.1 t.2)) ∗ (bigSep Finset.univ fun t : Fin 8 × Fin 4 => anyM c (mA 1 t.1 t.2)))
      ∗ ((bigSep Finset.univ fun t : Fin 4 × Fin 8 => anyM c (mB 0 t.1 t.2)) ∗ (bigSep Finset.univ fun t : Fin 4 × Fin 8 => anyM c (mB 1 t.1 t.2)))
      ∗ ((bigSep Finset.univ fun t : Fin 4 => anyM c (mH 0 t)) ∗ (bigSep Finset.univ fun t : Fin 4 => anyM c (mH 1 t)))
      ∗ ((bigSep Finset.univ fun t : Fin 8 => anyM c (mG 0 t)) ∗ (bigSep Finset.univ fun t : Fin 8 => anyM c (mG 1 t)))) := by
  rw [bigSep_univ_sum, bigSep_univ_sum, bigSep_univ_sum]
  rw [bigSep_univ_prod (fun x : Fin 2 × Fin 8 × Fin 4 => slotAny (F := F) c (.inl x)), bigSep_fin_two,
    bigSep_univ_prod (fun x : Fin 2 × Fin 4 × Fin 8 => slotAny (F := F) c (.inr (.inl x))), bigSep_fin_two,
    bigSep_univ_prod (fun x : Fin 2 × Fin 4 => slotAny (F := F) c (.inr (.inr (.inl x)))), bigSep_fin_two,
    bigSep_univ_prod (fun x : Fin 2 × Fin 8 => slotAny (F := F) c (.inr (.inr (.inr x)))), bigSep_fin_two]
  rfl

omit [FloatOps F] in
theorem scratch_split : (Pipeline.scopedRest (Ix := Unit) (Name := ℕ) (U := UU) (Lvl := ℕ) (Val := Elt F) spec0 c : sProp 𝕄)
    ⊢ bigSep Finset.univ fun s => slotAny c s := by
  rw [scopedRest0_eq, slotAny_sum]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  isplitl [H0 H1]
  · isplitl [H0]
    · iapply (slots_split c (bufA 0) (fun t : Fin 8 × Fin 4 => rectA t.1 t.2) (fun _ _ => rfl) disjA covA)
      iexists f0; iapply (Entails.of_eq (owns_whole (c : Thread nD τ) cc0_scratch0 fullShare f0).symm); iexact H0
    · iapply (slots_split c (bufA 1) (fun t : Fin 8 × Fin 4 => rectA t.1 t.2) (fun _ _ => rfl) disjA covA)
      iexists f1; iapply (Entails.of_eq (owns_whole (c : Thread nD τ) cc0_scratch1 fullShare f1).symm); iexact H1
  isplitl [H2 H3]
  · isplitl [H2]
    · iapply (slots_split c (bufB 0) (fun t : Fin 4 × Fin 8 => rectB t.1 t.2) (fun _ _ => rfl) disjB covB)
      iexists f2; iapply (Entails.of_eq (owns_whole (c : Thread nD τ) cc0_scratch2 fullShare f2).symm); iexact H2
    · iapply (slots_split c (bufB 1) (fun t : Fin 4 × Fin 8 => rectB t.1 t.2) (fun _ _ => rfl) disjB covB)
      iexists f3; iapply (Entails.of_eq (owns_whole (c : Thread nD τ) cc0_scratch3 fullShare f3).symm); iexact H3
  isplitl [H4 H5]
  · isplitl [H4]
    · iapply (slots_split c (bufH 0) rectH (fun _ _ => rfl) disjH covH)
      iexists f4; iapply (Entails.of_eq (owns_whole (c : Thread nD τ) cc0_scratch4 fullShare f4).symm); iexact H4
    · iapply (slots_split c (bufH 1) rectH (fun _ _ => rfl) disjH covH)
      iexists f5; iapply (Entails.of_eq (owns_whole (c : Thread nD τ) cc0_scratch5 fullShare f5).symm); iexact H5
  · isplitl [H6]
    · iapply (slots_split c (bufG 0) rectG (fun _ _ => rfl) disjG covG)
      iexists f6; iapply (Entails.of_eq (owns_whole (c : Thread nD τ) cc0_scratch6 fullShare f6).symm); iexact H6
    · iapply (slots_split c (bufG 1) rectG (fun _ _ => rfl) disjG covG)
      iexists f7; iapply (Entails.of_eq (owns_whole (c : Thread nD τ) cc0_scratch7 fullShare f7).symm); iexact H7

theorem joinA (d : Fin 2) : (bigSep Finset.univ fun t : Fin 8 × Fin 4 => anyM c (mA d t.1 t.2)) ⊢ (iprop(∃ X, owns (c : Thread nD τ) (bufA d) fullShare X) : sProp 𝕄) :=
  slots_join c (bufA d) (fun t : Fin 8 × Fin 4 => rectA t.1 t.2) (fun _ _ => rfl) disjA covA
theorem joinB (d : Fin 2) : (bigSep Finset.univ fun t : Fin 4 × Fin 8 => anyM c (mB d t.1 t.2)) ⊢ (iprop(∃ X, owns (c : Thread nD τ) (bufB d) fullShare X) : sProp 𝕄) :=
  slots_join c (bufB d) (fun t : Fin 4 × Fin 8 => rectB t.1 t.2) (fun _ _ => rfl) disjB covB
theorem joinH (d : Fin 2) : (bigSep Finset.univ fun t : Fin 4 => anyM c (mH d t)) ⊢ (iprop(∃ X, owns (c : Thread nD τ) (bufH d) fullShare X) : sProp 𝕄) :=
  slots_join c (bufH d) rectH (fun _ _ => rfl) disjH covH
theorem joinG (d : Fin 2) : (bigSep Finset.univ fun t : Fin 8 => anyM c (mG d t)) ⊢ (iprop(∃ X, owns (c : Thread nD τ) (bufG d) fullShare X) : sProp 𝕄) :=
  slots_join c (bufG d) rectG (fun _ _ => rfl) disjG covG

theorem scratch_join : (bigSep Finset.univ fun s => slotAny c s)
    ⊢ (Pipeline.scopedRest (Ix := Unit) (Name := ℕ) (U := UU) (Lvl := ℕ) (Val := Elt F) spec0 c : sProp 𝕄) := by
  rw [scopedRest0_eq, slotAny_sum]
  iintro ⟨⟨H0, H1⟩, ⟨H2, H3⟩, ⟨H4, H5⟩, H6, H7⟩
  isplitl [H0]
  · ihave H := (joinA (c := c) 0) $$ H0
    icases H with ⟨%X, H⟩
    iexists X; iapply (Entails.of_eq (owns_whole (c : Thread nD τ) cc0_scratch0 fullShare X)); iexact H
  isplitl [H1]
  · ihave H := (joinA (c := c) 1) $$ H1
    icases H with ⟨%X, H⟩
    iexists X; iapply (Entails.of_eq (owns_whole (c : Thread nD τ) cc0_scratch1 fullShare X)); iexact H
  isplitl [H2]
  · ihave H := (joinB (c := c) 0) $$ H2
    icases H with ⟨%X, H⟩
    iexists X; iapply (Entails.of_eq (owns_whole (c : Thread nD τ) cc0_scratch2 fullShare X)); iexact H
  isplitl [H3]
  · ihave H := (joinB (c := c) 1) $$ H3
    icases H with ⟨%X, H⟩
    iexists X; iapply (Entails.of_eq (owns_whole (c : Thread nD τ) cc0_scratch3 fullShare X)); iexact H
  isplitl [H4]
  · ihave H := (joinH (c := c) 0) $$ H4
    icases H with ⟨%X, H⟩
    iexists X; iapply (Entails.of_eq (owns_whole (c : Thread nD τ) cc0_scratch4 fullShare X)); iexact H
  isplitl [H5]
  · ihave H := (joinH (c := c) 1) $$ H5
    icases H with ⟨%X, H⟩
    iexists X; iapply (Entails.of_eq (owns_whole (c : Thread nD τ) cc0_scratch5 fullShare X)); iexact H
  isplitl [H6]
  · ihave H := (joinG (c := c) 0) $$ H6
    icases H with ⟨%X, H⟩
    iexists X; iapply (Entails.of_eq (owns_whole (c : Thread nD τ) cc0_scratch6 fullShare X)); iexact H
  ihave H := (joinG (c := c) 1) $$ H7
  icases H with ⟨%X, H⟩
  iexists X; iapply (Entails.of_eq (owns_whole (c : Thread nD τ) cc0_scratch7 fullShare X)); iexact H

end Cert.KernelIdeal.Ring

end
-- ==== Proof.Ring.Ends.lean ====
/- How the ring kernel begins and ends: the transfers' cells opened, the scratch dealt out; all cells closed, the scratch and the
   result put together. -/
module

public import proofs.«01_k».proof.Proof.Ring.Slots

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {I : Ins F}

local notation "𝕄" => MT nD τ sig Unit (Elt F) ℕ UU ℕ

variable {K : GSem nD τ sig → ℕ} {c : Dev nD}

/-! ## The result -/

def rectO : Fin 4 → Rect S128x2048
  | 0 => rectOA 0 | 1 => rectOA 1 | 2 => rectOB 0 | 3 => rectOB 1
variable (I) in
def partO (c : Dev nD) : (t : Fin 4) → (rectO t).shape.Idx → Elt F .f32
  | 0 => I.outA 0 c | 1 => I.outA 1 c | 2 => I.outB 0 c | 3 => I.outB 1 c

theorem mem_rectO (t : Fin 4) (i : S128x2048.Idx) : i ∈ (rectO t).set ↔ ![0, 640, 1280, 1664] t ≤ (i 1).val ∧ (i 1).val < ![640, 1280, 1664, 2048] t := by
  have h (o w : ℕ) (inb) : i ∈ (Rect.unit (s := S128x2048) ![0, o] ![128, w] inb).set ↔ o ≤ (i 1).val ∧ (i 1).val < o + w := by
    rw [Rect.mem_set_unit]
    refine ⟨fun h => h 1, fun h a => ?_⟩
    have := (i 0).isLt
    fin_cases a
    · exact ⟨Nat.zero_le _, lt_of_lt_of_eq this (Nat.zero_add _).symm⟩
    · exact h
  fin_cases t
  · exact h 0 640 (inbOA 0)
  · exact h 640 640 (inbOA 1)
  · exact h 1280 384 (inbWB 0)
  · exact h 1664 384 (inbWB 1)
theorem disjO (t t' : Fin 4) (h : t ≠ t') : Disjoint (rectO t).set (rectO t').set := by
  rw [Finset.disjoint_left]
  intro i h1 h2
  rw [mem_rectO] at h1 h2
  revert h h1 h2
  fin_cases t <;> fin_cases t' <;> simp <;> omega
theorem covO : Finset.univ.biUnion (fun t => (rectO t).set) = Finset.univ := by
  ext i
  refine ⟨fun _ => Finset.mem_univ _, fun _ => Finset.mem_biUnion.mpr ?_⟩
  have hi : (i 1).val < 2048 := (i 1).isLt
  rcases Nat.lt_or_ge (i 1).val 640 with h | h
  · exact ⟨0, Finset.mem_univ _, (mem_rectO 0 i).mpr ⟨Nat.zero_le _, h⟩⟩
  rcases Nat.lt_or_ge (i 1).val 1280 with h' | h'
  · exact ⟨1, Finset.mem_univ _, (mem_rectO 1 i).mpr ⟨h, h'⟩⟩
  rcases Nat.lt_or_ge (i 1).val 1664 with h'' | h''
  · exact ⟨2, Finset.mem_univ _, (mem_rectO 2 i).mpr ⟨h', h''⟩⟩
  · exact ⟨3, Finset.mem_univ _, (mem_rectO 3 i).mpr ⟨h'', hi⟩⟩

variable (I) in
/-- What device c's result holds at the end: its four parts side by side. -/
def resV (c : Dev nD) : Vec F S128x2048 .f32 := Rect.glue rectO covO (partO I c)
theorem resV_emb (t : Fin 4) (j : (rectO t).shape.Idx) : resV I c ((rectO t).emb j) = partO I c t j :=
  Rect.glue_emb rectO covO disjO (partO I c) t j
theorem exists_part (i : S128x2048.Idx) : ∃ t, ∃ j, (rectO t).emb j = i := by
  obtain ⟨t, -, h⟩ := Finset.mem_biUnion.mp (covO.symm ▸ Finset.mem_univ i)
  rw [← Rect.map_emb_univ] at h
  obtain ⟨j, -, h⟩ := Finset.mem_map.mp h
  exact ⟨t, j, h⟩
theorem resV_of {Y : Vec F S128x2048 .f32} (h : outPart I c Y 4) : Y = resV I c := by
  funext i
  obtain ⟨t, j, rfl⟩ := exists_part i
  rw [resV_emb]
  obtain ⟨h0, h1, h2, h3⟩ := h
  fin_cases t
  · exact congrFun (h0 (by decide)) j
  · exact congrFun (h1 (by decide)) j
  · exact congrFun (h2 (by decide)) j
  · exact congrFun (h3 (by decide)) j
theorem outPart_zero (Y : Vec F S128x2048 .f32) : outPart I c Y 0 :=
  ⟨fun h => absurd h (by decide), fun h => absurd h (by decide), fun h => absurd h (by decide), fun h => absurd h (by decide)⟩

/-! ## What a device starts with -/

abbrev scratch (c : Dev nD) : sProp 𝕄 := Pipeline.scopedRest (Ix := Unit) (Name := ℕ) (U := UU) (Lvl := ℕ) (Val := Elt F) spec0 c

/-- The tokens of the duties device c pays. -/
def dutiesOf (c : Dev nD) : sProp 𝕄 :=
  iprop((bigSep Finset.univ fun j : Fin 9 => dutyTok ER (barCell (mv j c)) 0 j)
    ∗ (bigSep Finset.univ fun e : Tr => dutyTok ER (cellS e c) 0 0) ∗ (bigSep Finset.univ fun e : Tr => dutyTok ER (cellR e (tgt e c)) 0 0))
/-- What device c waits with. -/
def credsOf (c : Dev nD) : sProp 𝕄 :=
  iprop(cred (tallyAt (barCell c) () 9) ∗ (bigSep Finset.univ fun e : Tr => cred (tallyAt (cellR e c) () (amt e))))

variable (I) in
/-- What device c carries from the launch to the kernel. -/
def Tk (c : Dev nD) : sProp 𝕄 :=
  iprop((∃ K, records I K ∗ atPos ER (barCell c) 0 ∅ 0 ∗ (bigSep Finset.univ fun k : Own => openTok ER ((c : Thread nD τ), osem k)) ∗ dutiesOf c)
    ∗ credsOf c)
variable (I) in
/-- The same, the transfers' cells opened. -/
def Xk (c : Dev nD) : sProp 𝕄 :=
  iprop((∃ K, records I K ∗ atPos ER (barCell c) 0 ∅ 0
      ∗ (bigSep Finset.univ fun k : Own => iprop(atPos ER ((c : Thread nD τ), osem k) 0 ∅ 0 ∗ reached ER ((c : Thread nD τ), osem k) 0)) ∗ dutiesOf c)
    ∗ credsOf c)

theorem sc_mem (c : Dev nD) (k : Own) : ((c : Thread nD τ), osem k) ∈ (barCells ∪ scCells : Finset (GSem nD τ sig)) :=
  Finset.mem_union_right _ (Finset.mem_map_of_mem scEmb (Finset.mem_univ (c, k)))

theorem open_one (k : Own) : iprop(records I K ∗ (openTok ER ((c : Thread nD τ), osem k) ∗ semVal ((c : Thread nD τ), osem k) 0))
    ⊢ (|={Set.univ}=> iprop(atPos ER ((c : Thread nD τ), osem k) 0 ∅ 0 ∗ reached ER ((c : Thread nD τ), osem k) 0) : sProp 𝕄) := by
  iintro ⟨HR, Ho, Hs⟩
  ihave HI := (rec_inv I K (sc_mem c k)) $$ HR
  iapply (Rounds.cell_open ER (rd I) (g := ((c : Thread nD τ), osem k)) (Set.mem_univ (K ((c : Thread nD τ), osem k))))
  isplitl [HI]; · iexact HI
  isplitl [Ho] <;> iassumption

theorem hopen0 (c : Dev nD) : iprop(Tk I c ∗ Pipeline.ownSems0 osem c ∗ levAts L lv) ⊢ (|={Set.univ}=> Xk I c : sProp 𝕄) := by
  unfold Tk Xk Pipeline.ownSems0
  iintro ⟨⟨⟨%K, #HR, Hb, Ho, Hd⟩, Hc⟩, Hs, -⟩
  ihave H1 := (show iprop((bigSep Finset.univ fun k : Own => openTok ER ((c : Thread nD τ), osem k)) ∗ (bigSep Finset.univ fun k : Own => semVal ((c : Thread nD τ), osem k) 0))
    ⊢ (bigSep Finset.univ fun k : Own => iprop(openTok ER ((c : Thread nD τ), osem k) ∗ semVal ((c : Thread nD τ), osem k) 0) : sProp 𝕄)
    from Entails.of_eq (bigSep_sep' _ _ _).symm) $$ [Ho Hs]
  · isplitl [Ho] <;> iassumption
  ihave H2 := (show iprop(records I K ∗ (bigSep Finset.univ fun k : Own => iprop(openTok ER ((c : Thread nD τ), osem k) ∗ semVal ((c : Thread nD τ), osem k) 0)))
    ⊢ (|={Set.univ}=> bigSep Finset.univ fun k : Own => iprop(atPos ER ((c : Thread nD τ), osem k) 0 ∅ 0 ∗ reached ER ((c : Thread nD τ), osem k) 0) : sProp 𝕄)
    from (bigSep_with_persistent fun k _ => open_one k).trans (bigSep_fupd _ _)) $$ [H1]
  · isplitr; · iexact HR
    iexact H1
  imod H2
  imodintro
  isplitr [Hc]
  · iexists K
    isplitr; · iexact HR
    isplitl [Hb]; · iexact Hb
    isplitl [H2] <;> iassumption
  iexact Hc

omit [FloatOps F] in
theorem bigSep_own (Φ : Own → sProp 𝕄) : bigSep Finset.univ Φ
    = iprop((bigSep Finset.univ fun e : Tr => Φ (false, e)) ∗ (bigSep Finset.univ fun e : Tr => Φ (true, e))) := by
  rw [bigSep_univ_prod, show (Finset.univ : Finset Bool) = {false, true} from by decide, bigSep_insert (by decide), bigSep_singleton]
  rfl

theorem begin0 (W : Waits sig Unit) :
    iprop(Xk I c ∗ scratch c ∗ owes (c : Thread nD τ) (owedT c (fun _ => true) + owedB c 0) W ∗ ops I c ∗ (∃ Y, owns (c : Thread nD τ) stO fullShare Y))
      ⊢ (iprop(∃ K, BSt I K c 0) : sProp 𝕄) := by
  have hB : (bigSep Finset.univ fun x => if beginB x = true then slotAny c (partSl c x) else (BI.emp : sProp 𝕄))
      = iprop(Fam (hasSrc c 0 0 0) (fun e => srcAny e c) none' ∗ (bigSep Finset.univ fun e => dstAny e c) ∗ spare c) := by
    rw [bigSep_univ_sum, bigSep_univ_sum, bigSep_fin_two (fun d : Fin 2 => if beginB (.inr (.inr d)) = true then slotAny c (partSl c (.inr (.inr d))) else (BI.emp : sProp 𝕄))]
    unfold Fam
    exact congrArg₂ BI.sep (bigSep_congr fun e _ => by
        show (if hasSrc 0 0 0 0 e = true then slotAny c (srcSl c e) else _) = if hasSrc c 0 0 0 e = true then srcAny e c else _
        rw [srcAny_eq, show hasSrc c 0 0 0 e = hasSrc 0 0 0 0 e from by revert e; revert c; decide +kernel]; rfl)
      (congrArg₂ BI.sep (bigSep_congr fun e _ => by rw [dstAny_eq]; rfl) rfl)
  unfold Xk
  rw [bigSep_own, bigSep_sep', bigSep_sep']
  unfold dutiesOf credsOf
  iintro ⟨⟨⟨%K, #HR, Hb, ⟨⟨HaS, #HrS⟩, ⟨HaR, #HrR⟩⟩, Hd, HdS, HdR⟩, Hcb, HcR⟩, Hs, HO, Hops, %Y, HY⟩
  ihave Hs1 := (scratch_split (F := F) (c := c)) $$ Hs
  ihave Hs2 := (slots_begin (F := F) (c := c)) $$ Hs1
  ihave Hs3 := (Entails.of_eq hB) $$ Hs2
  icases Hs3 with ⟨Hsrc, Hdst, Hsp⟩
  iexists K
  unfold BSt
  isplitr; · iexact HR
  isplitl [Hd Hdst]
  · ihave Hp := (show iprop((bigSep Finset.univ fun e : Tr => dstAny e c) ∗ (bigSep Finset.univ fun e : Tr => reached ER (cellR e c) 0))
        ⊢ (bigSep Finset.univ fun j => barPay j (mv j c) : sProp 𝕄) from (Entails.of_eq (bigSep_sep' _ _ _).symm).trans (bar_out c)) $$ [Hdst]
    · isplitl [Hdst]; · iexact Hdst
      iexact HrR
    iapply (show iprop((bigSep Finset.univ fun j : Fin 9 => dutyTok ER (barCell (mv j c)) 0 j) ∗ (bigSep Finset.univ fun j : Fin 9 => barPay j (mv j c)))
        ⊢ (bigSep Finset.univ (sig1 c 0) : sProp 𝕄) from Entails.of_eq ((bigSep_sep' _ _ _).symm.trans (bigSep_congr fun j _ => (if_pos (Nat.zero_le _)).symm)))
    isplitl [Hd] <;> iassumption
  isplitl [Hb]; · iexact Hb
  isplitl [Hcb]; · iexact Hcb
  isplitl [HO]; · iexists W; iexact HO
  isplitl [HdS HdR]
  · unfold preTok
    rw [bigSep_sep', bigSep_sep']
    isplitl [HdS]; · iexact HdS
    isplitr; · iexact HrS
    iexact HdR
  isplitl [Hsrc]; · iexact Hsrc
  isplitl [HcR HaR]
  · unfold recvTok
    rw [bigSep_sep']
    isplitl [HcR]; · iexact HcR
    iexact HaR
  isplitl [HaS]; · iexact HaS
  isplitl [Hops]; · iexact Hops
  isplitl [HY]
  · unfold outPts
    iexists Y
    isplitr; · ipureintro; exact outPart_zero Y
    iexact HY
  iexact Hsp

/-! ## What it ends with -/

theorem close_one (g : GSem nD τ sig) (hg : g ∈ (barCells ∪ scCells : Finset (GSem nD τ sig))) :
    iprop(records I K ∗ atPos ER g (0 + 1) ∅ 0) ⊢ (|={Set.univ}=> semVal g 0 : sProp 𝕄) := by
  iintro ⟨HR, Ha⟩
  ihave HI := (rec_inv I K hg) $$ HR
  iapply (close I K g)
  isplitl [HI] <;> iassumption

theorem ends : DSt I K c 124 ⊢ (|={Set.univ}=> iprop(scratch c ∗ Pipeline.ownSems0 osem c ∗ semVal (barCell c) 0 ∗ ops I c
    ∗ owns (c : Thread nD τ) stO fullShare (resV I c) ∗ ∃ W, owes (c : Thread nD τ) 0 W) : sProp 𝕄) := by
  have hE : iprop((bigSep Finset.univ fun e => srcAny e c) ∗ Fam (kept c 122 124) (keptPts I c) none' ∗ spare c)
      ⊢ (bigSep Finset.univ fun x => if endB c x = true then slotAny c (partSl c x) else (BI.emp : sProp 𝕄)) := by
    rw [bigSep_univ_sum, bigSep_univ_sum, bigSep_fin_two (fun d : Fin 2 => if endB c (.inr (.inr d)) = true then slotAny c (partSl c (.inr (.inr d))) else (BI.emp : sProp 𝕄))]
    unfold Fam
    refine sep_mono (Entails.of_eq (bigSep_congr fun e _ => by rw [srcAny_eq]; rfl)) (sep_mono (bigSep_mono fun e _ => ?_) (Entails.of_eq rfl))
    show _ ⊢ (if kept c 122 124 e = true then slotAny c (dstSl e) else (BI.emp : sProp 𝕄))
    by_cases h : kept c 122 124 e = true
    · rw [if_pos h, if_pos h]; exact keptPts_any e c
    · rw [if_neg h, if_neg h]; exact .rfl
  unfold DSt drainDone recvDone outSt outPts
  rw [Fam_none (A := drainTok c) (by decide +kernel), bigSep_sep']
  iintro ⟨#HR, ⟨HaS, Hsrc⟩, HO, HaR, Hk, Hops, ⟨%Y, %hY, HY⟩, Hb, Hsp⟩
  imod (close_one (I := I) (K := K) (barCell c) (bar_mem c)) $$ [Hb] with Hb0
  · isplitr; · iexact HR
    iexact Hb
  ihave H2 := (show iprop(records I K ∗ (bigSep Finset.univ fun k : Own => atPos ER ((c : Thread nD τ), osem k) (0 + 1) ∅ 0))
    ⊢ (|={Set.univ}=> bigSep Finset.univ fun k : Own => semVal ((c : Thread nD τ), osem k) 0 : sProp 𝕄)
    from (bigSep_with_persistent fun k _ => close_one _ (sc_mem c k)).trans (bigSep_fupd _ _)) $$ [HaS HaR]
  · isplitr; · iexact HR
    rw [bigSep_own]
    isplitl [HaS]; · iexact HaS
    iexact HaR
  imod H2
  imodintro
  isplitl [Hsrc Hk Hsp]
  · iapply (scratch_join (F := F) (c := c))
    iapply (slots_end (F := F) (c := c))
    iapply hE
    isplitl [Hsrc]; · iexact Hsrc
    isplitl [Hk] <;> iassumption
  isplitl [H2]; · unfold Pipeline.ownSems0; iexact H2
  isplitl [Hb0]; · iexact Hb0
  isplitl [Hops]; · iexact Hops
  isplitl [HY]; · rw [← resV_of hY]; iexact HY
  iexact HO

end Cert.KernelIdeal.Ring

end
-- ==== Proof.Ring.Body1.lean ====
module
public import proofs.«01_k».proof.Proof.Ring.Steps3
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt
variable (I : Ins F) (K : GSem nD τ sig → ℕ) (c : Dev nD)
set_option maxRecDepth 10000 in
set_option maxHeartbeats 4000000 in
/-- The barrier and the first hops. -/
def seg1 : { p : Prog (TpuEff nD τ sig (Elt F) Λ₀ .tc) PUnit // ∀ (Q : PUnit → sProp 𝕄),
    (iprop(St I K c 24 24 24 0 0 0 0 0 0 0 ∗ emp) ⊢ WP F c p Q) → BSt I K c 0 ⊢ WP F c (Prog.bind (bodyAt0 (F := F) t0_0) Prog.ret) Q } := by
  refine ⟨?p, fun Q hend => ?q⟩
  case q =>
    refine enter rfl ?_
    iterate 2
      apply part rfl
      · intro k h
        repeat (refine head rfl ?_; first
        | refine step_assume (by clear * -; dsimp only; revert c; decide +kernel) ?_
        | refine step_word ops_BSt ?_
        | refine step_signal (by decide) (by clear * -; dsimp only; revert c; decide +kernel) rfl rfl ?_)
        exact h
    apply part rfl
    · intro k h
      iterate 6 (refine head rfl ?_; first
        | refine step_assume (by clear * -; dsimp only; revert c; decide +kernel) ?_
        | refine step_word ops_BSt ?_
        | refine step_signal (by decide) (by clear * -; dsimp only; revert c; decide +kernel) rfl rfl ?_)
      refine head rfl ?_
      refine step_barrier rfl rfl ?_
      iterate 4 (refine head rfl ?_; first
        | refine step_assume (by clear * -; dsimp only; revert c; decide +kernel) ?_
        | refine step_word ops_St ?_)
      exact h
    iterate 20
      apply part rfl
      · intro k h
        repeat (refine head rfl ?_; first
        | refine step_assume (by clear * -; dsimp only; revert c; decide +kernel) ?_
        | refine step_word ops_St ?_
        | refine step_x (by clear * -; dsimp only; revert c; decide +kernel) ?_
        | refine step_w ops_St ?_
        | refine step_takeA rfl rfl (fun X => ?_)
        | refine step_storeStart rfl ?_
        | refine step_send (by clear * -; dsimp only; revert c; decide +kernel) (by decide) rfl rfl rfl rfl rfl rfl rfl rfl ?_)
        exact h
    exact hend
end Cert.KernelIdeal.Ring
end
-- ==== Proof.Ring.Body2.lean ====
module
public import proofs.«01_k».proof.Proof.Ring.Body1
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt
variable (I : Ins F) (K : GSem nD τ sig → ℕ) (c : Dev nD)
set_option maxRecDepth 10000 in
set_option maxHeartbeats 4000000 in
/-- The hops, up to the end of the first third. -/
def seg2 : { p : Prog (TpuEff nD τ sig (Elt F) Λ₀ .tc) PUnit // ∀ (Q : PUnit → sProp 𝕄),
    (iprop(St I K c 54 50 24 27 0 0 0 0 0 0 ∗ dstPts I (rcvOf 26) c) ⊢ WP F c p Q) → iprop(St I K c 24 24 24 0 0 0 0 0 0 0 ∗ emp) ⊢ WP F c (seg1 I K c).1 Q } := by
  refine ⟨?p, fun Q hend => ?q⟩
  case q =>
    iterate 37
      apply part rfl
      · intro k h
        repeat (refine head rfl ?_; first
          | refine step_assume (by clear * -; dsimp only; revert c; decide +kernel) ?_
          | refine step_word ops_St ?_
          | refine step_x (by clear * -; dsimp only; revert c; decide +kernel) ?_
          | refine step_w ops_St ?_
          | refine wait_core rfl rfl rfl rfl ?_
          | refine step_loadDst rfl ?_
          | refine step_storeSend rfl rfl ?_
          | refine step_send (by clear * -; dsimp only; revert c; decide +kernel) (by decide) rfl rfl rfl rfl rfl rfl rfl rfl ?_)
        exact h
    refine leave rfl ?_
    exact hend
end Cert.KernelIdeal.Ring
end
-- ==== Proof.Ring.Body3.lean ====
module
public import proofs.«01_k».proof.Proof.Ring.Body2
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt
variable (I : Ins F) (K : GSem nD τ sig → ℕ) (c : Dev nD)
set_option maxRecDepth 10000 in
set_option maxHeartbeats 4000000 in
/-- The hops, a part of the second third. -/
def seg3 : { p : Prog (TpuEff nD τ sig (Elt F) Λ₀ .tc) PUnit // ∀ (Q : PUnit → sProp 𝕄),
    (iprop(St I K c 76 72 24 48 0 0 0 0 0 0 ∗ emp) ⊢ WP F c p Q) → iprop(St I K c 54 50 24 27 0 0 0 0 0 0 ∗ dstPts I (rcvOf 26) c) ⊢ WP F c (seg2 I K c).1 Q } := by
  refine ⟨?p, fun Q hend => ?q⟩
  case q =>
    refine enter rfl ?_
    iterate 30
      apply part rfl
      · intro k h
        repeat (refine head rfl ?_; first
          | refine step_assume (by clear * -; dsimp only; revert c; decide +kernel) ?_
          | refine step_word ops_St ?_
          | refine step_x (by clear * -; dsimp only; revert c; decide +kernel) ?_
          | refine step_w ops_St ?_
          | refine wait_core rfl rfl rfl rfl ?_
          | refine step_loadDst rfl ?_
          | refine step_storeSend rfl rfl ?_
          | refine step_send (by clear * -; dsimp only; revert c; decide +kernel) (by decide) rfl rfl rfl rfl rfl rfl rfl rfl ?_)
        exact h
    exact hend
end Cert.KernelIdeal.Ring
end
-- ==== Proof.Ring.Body4.lean ====
module
public import proofs.«01_k».proof.Proof.Ring.Body3
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt
variable (I : Ins F) (K : GSem nD τ sig → ℕ) (c : Dev nD)
set_option maxRecDepth 10000 in
set_option maxHeartbeats 4000000 in
/-- The hops, the rest of the second third. -/
def seg4 : { p : Prog (TpuEff nD τ sig (Elt F) Λ₀ .tc) PUnit // ∀ (Q : PUnit → sProp 𝕄),
    (iprop(St I K c 96 94 24 71 0 0 0 0 0 0 ∗ srcPts I (sndOf 94) c) ⊢ WP F c p Q) → iprop(St I K c 76 72 24 48 0 0 0 0 0 0 ∗ emp) ⊢ WP F c (seg3 I K c).1 Q } := by
  refine ⟨?p, fun Q hend => ?q⟩
  case q =>
    iterate 30
      apply part rfl
      · intro k h
        repeat (refine head rfl ?_; first
          | refine step_assume (by clear * -; dsimp only; revert c; decide +kernel) ?_
          | refine step_word ops_St ?_
          | refine step_x (by clear * -; dsimp only; revert c; decide +kernel) ?_
          | refine step_w ops_St ?_
          | refine wait_core rfl rfl rfl rfl ?_
          | refine step_loadDst rfl ?_
          | refine step_storeSend rfl rfl ?_
          | refine step_send (by clear * -; dsimp only; revert c; decide +kernel) (by decide) rfl rfl rfl rfl rfl rfl rfl rfl ?_)
        exact h
    refine leave rfl ?_
    exact hend
end Cert.KernelIdeal.Ring
end
-- ==== Proof.Ring.Body5.lean ====
module
public import proofs.«01_k».proof.Proof.Ring.Body4
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt
variable (I : Ins F) (K : GSem nD τ sig → ℕ) (c : Dev nD)
set_option maxRecDepth 10000 in
set_option maxHeartbeats 4000000 in
/-- The last hops of stage b1, whose slots are kept. -/
def seg5 : { p : Prog (TpuEff nD τ sig (Elt F) Λ₀ .tc) PUnit // ∀ (Q : PUnit → sProp 𝕄),
    (iprop(St I K c 120 104 24 96 96 0 0 0 0 0 ∗ emp) ⊢ WP F c p Q) → iprop(St I K c 96 94 24 71 0 0 0 0 0 0 ∗ srcPts I (sndOf 94) c) ⊢ WP F c (seg4 I K c).1 Q } := by
  refine ⟨?p, fun Q hend => ?q⟩
  case q =>
    refine enter rfl ?_
    iterate 13
      apply part rfl
      · intro k h
        repeat (refine head rfl ?_; first
          | refine step_assume (by clear * -; dsimp only; revert c; decide +kernel) ?_
          | refine step_word ops_St ?_
          | refine step_x (by clear * -; dsimp only; revert c; decide +kernel) ?_
          | refine step_w ops_St ?_
          | refine wait_core rfl rfl rfl rfl ?_
          | refine step_loadDst rfl ?_
          | refine step_storeSend rfl rfl ?_
          | refine step_send (by clear * -; dsimp only; revert c; decide +kernel) (by decide) rfl rfl rfl rfl rfl rfl rfl rfl ?_)
        exact h
    iterate 15
      apply part rfl
      · intro k h
        repeat (refine head rfl ?_; first
          | refine step_assume (by clear * -; dsimp only; revert c; decide +kernel) ?_
          | refine step_word ops_St ?_
          | refine step_x (by clear * -; dsimp only; revert c; decide +kernel) ?_
          | refine step_w ops_St ?_
          | refine wait_core rfl rfl rfl rfl ?_
          | refine step_loadDst rfl ?_
          | refine step_storeKeep rfl rfl (by decide +kernel) (by clear * -; revert c; decide +kernel) ?_)
        exact h
    exact hend
end Cert.KernelIdeal.Ring
end
-- ==== Proof.Ring.Body6.lean ====
module
public import proofs.«01_k».proof.Proof.Ring.Steps4
public import proofs.«01_k».proof.Proof.Ring.Body5
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt
variable (I : Ins F) (K : GSem nD τ sig → ℕ) (c : Dev nD)
set_option maxRecDepth 10000 in
set_option maxHeartbeats 4000000 in
/-- The transfers of stage b2, the last hops of stage a1, and the first transfers of stage a2. -/
def seg6 : { p : Prog (TpuEff nD τ sig (Elt F) Λ₀ .tc) PUnit // ∀ (Q : PUnit → sProp 𝕄),
    (iprop(St I K c 128 118 24 104 104 4 4 4 4 0 ∗ emp) ⊢ WP F c p Q) → iprop(St I K c 120 104 24 96 96 0 0 0 0 0 ∗ emp) ⊢ WP F c (seg5 I K c).1 Q } := by
  refine ⟨?p, fun Q hend => ?q⟩
  case q =>
    iterate 8
      apply part rfl
      · intro k h
        repeat (refine head rfl ?_; first
          | refine step_assume (by clear * -; dsimp only; revert c; decide +kernel) ?_
          | refine step_word ops_St ?_
          | refine step_x (by clear * -; dsimp only; revert c; decide +kernel) ?_
          | refine step_w ops_St ?_
          | refine wait_core rfl rfl rfl rfl ?_
          | refine step_loadDst rfl ?_
          | refine step_storeKeep rfl rfl (by decide +kernel) (by clear * -; revert c; decide +kernel) ?_
          | refine step_sendLane (by clear * -; dsimp only; revert c; decide +kernel) rfl (by clear * -; dsimp only; revert c; decide +kernel) rfl rfl rfl rfl rfl rfl rfl rfl ?_)
        exact h
    apply part rfl
    · intro k h
      iterate 4 (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      refine step_if rfl (fun h => skip_p (z := 0) fun e => h ?_) (fun h hk => ?_) ?_
      · revert e; clear * -; dsimp only; revert c; decide +kernel
      · have hz : zN 0 0 c = 0 := by revert h; clear * -; dsimp only; revert c; decide +kernel
        refine head rfl (step_loadKept (.a1 0 6 0) rfl rfl ?_)
        refine head rfl (take_p hz rfl fun X => ?_)
        refine head rfl (store_fire 0 hz rfl ?_)
        refine head rfl (send_p hz (by clear * -; dsimp only; revert c; decide +kernel) (by decide) rfl rfl rfl rfl rfl rfl ?_)
        exact hk
      refine step_if rfl (fun h => skip_m (z := 0) fun e => h ?_) (fun h hk => ?_) ?_
      · revert e; clear * -; dsimp only; revert c; decide +kernel
      · have hz : zN 1 0 c = 0 := by revert h; clear * -; dsimp only; revert c; decide +kernel
        refine head rfl (step_loadKept (.a1 1 6 0) rfl rfl ?_)
        refine head rfl (take_m hz rfl fun X => ?_)
        refine head rfl (store_fire 1 hz rfl ?_)
        refine head rfl (send_m hz (by clear * -; dsimp only; revert c; decide +kernel) (by decide) rfl rfl rfl rfl rfl rfl ?_)
        exact hk
      exact h
    apply part rfl
    · intro k h
      repeat (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      exact h
    apply part rfl
    · intro k h
      iterate 6 (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      refine step_if rfl (fun h => skip_p (z := 1) fun e => h ?_) (fun h hk => ?_) ?_
      · revert e; clear * -; dsimp only; revert c; decide +kernel
      · have hz : zN 0 0 c = 1 := by revert h; clear * -; dsimp only; revert c; decide +kernel
        refine head rfl (step_loadKept (.a1 0 6 1) rfl rfl ?_)
        refine head rfl (take_p hz rfl fun X => ?_)
        refine head rfl (store_fire 0 hz rfl ?_)
        refine head rfl (send_p hz (by clear * -; dsimp only; revert c; decide +kernel) (by decide) rfl rfl rfl rfl rfl rfl ?_)
        exact hk
      exact h
    apply part rfl
    · intro k h
      refine step_if rfl (fun h => skip_m (z := 1) fun e => h ?_) (fun h hk => ?_) ?_
      · revert e; clear * -; dsimp only; revert c; decide +kernel
      · have hz : zN 1 0 c = 1 := by revert h; clear * -; dsimp only; revert c; decide +kernel
        refine head rfl (step_loadKept (.a1 1 6 1) rfl rfl ?_)
        refine head rfl (take_m hz rfl fun X => ?_)
        refine head rfl (store_fire 1 hz rfl ?_)
        refine head rfl (send_m hz (by clear * -; dsimp only; revert c; decide +kernel) (by decide) rfl rfl rfl rfl rfl rfl ?_)
        exact hk
      repeat (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      exact h
    apply part rfl
    · intro k h
      repeat (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      exact h
    apply part rfl
    · intro k h
      refine step_if rfl (fun h => skip_p (z := 2) fun e => h ?_) (fun h hk => ?_) ?_
      · revert e; clear * -; dsimp only; revert c; decide +kernel
      · have hz : zN 0 0 c = 2 := by revert h; clear * -; dsimp only; revert c; decide +kernel
        refine head rfl (step_loadKept (.a1 0 6 2) rfl rfl ?_)
        refine head rfl (take_p hz rfl fun X => ?_)
        refine head rfl (store_fire 0 hz rfl ?_)
        refine head rfl (send_p hz (by clear * -; dsimp only; revert c; decide +kernel) (by decide) rfl rfl rfl rfl rfl rfl ?_)
        exact hk
      refine step_if rfl (fun h => skip_m (z := 2) fun e => h ?_) (fun h hk => ?_) ?_
      · revert e; clear * -; dsimp only; revert c; decide +kernel
      · have hz : zN 1 0 c = 2 := by revert h; clear * -; dsimp only; revert c; decide +kernel
        refine head rfl (step_loadKept (.a1 1 6 2) rfl rfl ?_)
        refine head rfl (take_m hz rfl fun X => ?_)
        refine head rfl (store_fire 1 hz rfl ?_)
        refine head rfl (send_m hz (by clear * -; dsimp only; revert c; decide +kernel) (by decide) rfl rfl rfl rfl rfl rfl ?_)
        exact hk
      repeat (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      exact h
    apply part rfl
    · intro k h
      iterate 4 (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      refine step_if rfl (fun h => skip_p (z := 3) fun e => h ?_) (fun h hk => ?_) ?_
      · revert e; clear * -; dsimp only; revert c; decide +kernel
      · have hz : zN 0 0 c = 3 := by revert h; clear * -; dsimp only; revert c; decide +kernel
        refine head rfl (step_loadKept (.a1 0 6 3) rfl rfl ?_)
        refine head rfl (take_p hz rfl fun X => ?_)
        refine head rfl (store_fire 0 hz rfl ?_)
        refine head rfl (send_p hz (by clear * -; dsimp only; revert c; decide +kernel) (by decide) rfl rfl rfl rfl rfl rfl ?_)
        exact hk
      refine step_if rfl (fun h => skip_m (z := 3) fun e => h ?_) (fun h hk => ?_) ?_
      · revert e; clear * -; dsimp only; revert c; decide +kernel
      · have hz : zN 1 0 c = 3 := by revert h; clear * -; dsimp only; revert c; decide +kernel
        refine head rfl (step_loadKept (.a1 1 6 3) rfl rfl ?_)
        refine head rfl (take_m hz rfl fun X => ?_)
        refine head rfl (store_fire 1 hz rfl ?_)
        refine head rfl (send_m hz (by clear * -; dsimp only; revert c; decide +kernel) (by decide) rfl rfl rfl rfl rfl rfl ?_)
        exact hk
      repeat (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      exact h
    exact hend
end Cert.KernelIdeal.Ring
end
-- ==== Proof.Ring.Body7.lean ====
module
public import proofs.«01_k».proof.Proof.Ring.Body6
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt DSt
variable (I : Ins F) (K : GSem nD τ sig → ℕ) (c : Dev nD)
set_option maxRecDepth 10000 in
set_option maxHeartbeats 4000000 in
/-- The last hops of stage a2, the arrivals of stage b2, the result, and the first departures. -/
def seg7 : { p : Prog (TpuEff nD τ sig (Elt F) Λ₀ .tc) PUnit // ∀ (Q : PUnit → sProp 𝕄),
    (iprop(DSt I K c 11) ⊢ WP F c p Q) → iprop(St I K c 128 118 24 104 104 4 4 4 4 0 ∗ emp) ⊢ WP F c (seg6 I K c).1 Q } := by
  refine ⟨?p, fun Q hend => ?q⟩
  case q =>
    apply part rfl
    · intro k h
      iterate 2 (refine head rfl ?_; first
        | refine step_assume (by clear * -; dsimp only; revert c; decide +kernel) ?_
        | refine step_sx ops_St rfl ?_
        | refine step_sw ops_St rfl ?_
        | refine step_word ops_St ?_
        | refine step_x (by clear * -; dsimp only; revert c; decide +kernel) ?_
        | refine step_w ops_St ?_
        | refine wait_core rfl rfl rfl rfl ?_
        | refine step_loadDst rfl ?_
        | refine step_storeKeep rfl rfl (by decide +kernel) (by clear * -; revert c; decide +kernel) ?_
        | refine step_sendLane (by clear * -; dsimp only; revert c; decide +kernel) rfl (by clear * -; dsimp only; revert c; decide +kernel) rfl rfl rfl rfl rfl rfl rfl rfl ?_)
      refine head rfl (step_loadB3 0 rfl (by clear * -; dsimp only; revert c; decide +kernel) rfl rfl ?_)
      refine head rfl (step_loadB3 1 rfl (by clear * -; dsimp only; revert c; decide +kernel) rfl rfl ?_)
      refine head rfl (step_loadA7 0 1 rfl (by clear * -; dsimp only; revert c; decide +kernel) rfl rfl ?_)
      refine head rfl (step_loadA7 1 1 rfl (by clear * -; dsimp only; revert c; decide +kernel) rfl rfl ?_)
      exact h
    apply part rfl
    · intro k h
      repeat (refine head rfl ?_; first
        | refine step_assume (by clear * -; dsimp only; revert c; decide +kernel) ?_
        | refine step_word ops_St ?_
        | refine step_x (by clear * -; dsimp only; revert c; decide +kernel) ?_
        | refine step_w ops_St ?_
        | refine wait_core rfl rfl rfl rfl ?_
        | refine step_loadDst rfl ?_
        | refine step_storeSend rfl rfl ?_
        | refine step_send (by clear * -; dsimp only; revert c; decide +kernel) (by decide) rfl rfl rfl rfl rfl rfl rfl rfl ?_)
      exact h
    apply part rfl
    · intro k h
      iterate 4 (refine head rfl ?_; first
        | refine step_assume (by clear * -; dsimp only; revert c; decide +kernel) ?_
        | refine step_word ops_St ?_
        | refine step_x (by clear * -; dsimp only; revert c; decide +kernel) ?_
        | refine step_w ops_St ?_
        | refine wait_core rfl rfl rfl rfl ?_
        | refine step_loadDst rfl ?_
        | refine step_storeSend rfl rfl ?_
        | refine step_send (by clear * -; dsimp only; revert c; decide +kernel) (by decide) rfl rfl rfl rfl rfl rfl rfl rfl ?_)
      refine head rfl (step_waitKeep rfl rfl rfl rfl rfl (by clear * -; revert c; decide +kernel) rfl ?_)
      exact h
    apply part rfl
    · intro k h
      refine head rfl (step_waitKeep rfl rfl rfl rfl rfl (by clear * -; revert c; decide +kernel) rfl ?_)
      refine head rfl (step_loadBack 2 rfl rfl ?_)
      refine head rfl (step_loadBack 1 rfl rfl ?_)
      refine head rfl (step_waitKeep rfl rfl rfl rfl rfl (by clear * -; revert c; decide +kernel) rfl ?_)
      exact h
    apply part rfl
    · intro k h
      refine head rfl (step_waitKeep rfl rfl rfl rfl rfl (by clear * -; revert c; decide +kernel) rfl ?_)
      refine head rfl (step_loadBack 2 rfl rfl ?_)
      refine head rfl (step_loadBack 1 rfl rfl ?_)
      refine head rfl (step_loadA7 0 2 rfl (by clear * -; dsimp only; revert c; decide +kernel) rfl rfl ?_)
      refine head rfl (step_loadA7 1 2 rfl (by clear * -; dsimp only; revert c; decide +kernel) rfl rfl ?_)
      exact h
    apply part rfl
    · intro k h
      repeat (refine head rfl ?_; first
        | refine step_assume (by clear * -; dsimp only; revert c; decide +kernel) ?_
        | refine step_word ops_St ?_
        | refine step_x (by clear * -; dsimp only; revert c; decide +kernel) ?_
        | refine step_w ops_St ?_
        | refine wait_core rfl rfl rfl rfl ?_
        | refine step_loadDst rfl ?_
        | refine step_storeSend rfl rfl ?_
        | refine step_send (by clear * -; dsimp only; revert c; decide +kernel) (by decide) rfl rfl rfl rfl rfl rfl rfl rfl ?_)
      exact h
    apply part rfl
    · intro k h
      iterate 5 (refine head rfl ?_; first
        | refine step_assume (by clear * -; dsimp only; revert c; decide +kernel) ?_
        | refine step_word ops_St ?_
        | refine step_x (by clear * -; dsimp only; revert c; decide +kernel) ?_
        | refine step_w ops_St ?_
        | refine wait_core rfl rfl rfl rfl ?_
        | refine step_loadDst rfl ?_
        | refine step_storeSend rfl rfl ?_
        | refine step_send (by clear * -; dsimp only; revert c; decide +kernel) (by decide) rfl rfl rfl rfl rfl rfl rfl rfl ?_)
      refine head rfl (step_waitKeep rfl rfl rfl rfl rfl (by clear * -; revert c; decide +kernel) rfl ?_)
      exact h
    apply part rfl
    · intro k h
      refine head rfl (step_waitKeep rfl rfl rfl rfl rfl (by clear * -; revert c; decide +kernel) rfl ?_)
      refine head rfl (step_loadBack 2 rfl rfl ?_)
      refine head rfl (step_loadBack 1 rfl rfl ?_)
      refine head rfl (step_waitKeep rfl rfl rfl rfl rfl (by clear * -; revert c; decide +kernel) rfl ?_)
      exact h
    apply part rfl
    · intro k h
      refine head rfl (step_waitKeep rfl rfl rfl rfl rfl (by clear * -; revert c; decide +kernel) rfl ?_)
      refine head rfl (step_loadBack 2 rfl rfl ?_)
      refine head rfl (step_loadBack 1 rfl rfl ?_)
      refine head rfl (step_loadA7 0 3 rfl (by clear * -; dsimp only; revert c; decide +kernel) rfl rfl ?_)
      refine head rfl (step_loadA7 1 3 rfl (by clear * -; dsimp only; revert c; decide +kernel) rfl rfl ?_)
      exact h
    apply part rfl
    · intro k h
      refine head rfl (step_waitKeep rfl rfl rfl rfl rfl (by clear * -; revert c; decide +kernel) rfl ?_)
      refine head rfl (step_loadBack 1 rfl rfl ?_)
      refine head rfl (step_loadOut fun X => ?_)
      refine head rfl (step_out rfl out0 ?_)
      refine head rfl (step_waitKeep rfl rfl rfl rfl rfl (by clear * -; revert c; decide +kernel) rfl ?_)
      refine head rfl (step_loadBack 1 rfl rfl ?_)
      exact h
    apply part rfl
    · intro k h
      refine head rfl (step_loadOut fun X => ?_)
      refine head rfl (step_out rfl out1 ?_)
      refine head rfl (step_waitKeep rfl rfl rfl rfl rfl (by clear * -; revert c; decide +kernel) rfl ?_)
      refine head rfl (step_waitKeep rfl rfl rfl rfl rfl (by clear * -; revert c; decide +kernel) rfl ?_)
      refine head rfl (step_loadBack 2 rfl rfl ?_)
      refine head rfl (step_loadBack 1 rfl rfl ?_)
      exact h
    apply part rfl
    · intro k h
      refine head rfl (step_waitKeep rfl rfl rfl rfl rfl (by clear * -; revert c; decide +kernel) rfl ?_)
      refine head rfl (step_waitKeep rfl rfl rfl rfl rfl (by clear * -; revert c; decide +kernel) rfl ?_)
      refine head rfl (step_loadBack 2 rfl rfl ?_)
      refine head rfl (step_loadBack 1 rfl rfl ?_)
      exact h
    apply part rfl
    · intro k h
      refine head rfl (step_waitKeep rfl rfl rfl rfl rfl (by clear * -; revert c; decide +kernel) rfl ?_)
      refine head rfl (step_waitKeep rfl rfl rfl rfl rfl (by clear * -; revert c; decide +kernel) rfl ?_)
      refine head rfl (step_loadBack 2 rfl rfl ?_)
      refine head rfl (step_loadBack 1 rfl rfl ?_)
      refine head rfl (step_loadOut fun X => ?_)
      refine head rfl (step_out rfl out2 ?_)
      exact h
    apply part rfl
    · intro k h
      refine head rfl (step_loadOut fun X => ?_)
      refine head rfl (step_out rfl out3 ?_)
      refine toD.trans ?_
      refine head rfl (step_drain rfl rfl rfl ?_)
      refine head rfl (step_drain rfl rfl rfl ?_)
      exact h
    iterate 3
      apply part rfl
      · intro k h
        repeat (refine head rfl ?_; refine step_drain rfl rfl rfl ?_)
        exact h
    refine leave rfl ?_
    exact hend
end Cert.KernelIdeal.Ring
end
-- ==== Proof.Ring.Body8.lean ====
module
public import proofs.«01_k».proof.Proof.Ring.Body7
public import proofs.«01_k».proof.Proof.Gen.KernelIdeal.Points
@[expose] public section
noncomputable section
namespace Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]
local notation "𝕄" => MT nD τ sig Unit (Elt F) ℕ UU ℕ
attribute [local irreducible] wp St BSt DSt
variable (I : Ins F) (K : GSem nD τ sig → ℕ) (c : Dev nD)

theorem finish (Q : PUnit → sProp 𝕄) (hend : DSt I K c 124 ⊢ (|={Set.univ}=> Q ⟨⟩ : sProp 𝕄)) : DSt I K c 124 ⊢ WP F c (Prog.ret ⟨⟩) Q := by
  unfold WP
  rw [wp_ret]
  exact hend

set_option maxRecDepth 10000 in
set_option maxHeartbeats 4000000 in
/-- The remaining departures. -/
theorem seg8 (Q : PUnit → sProp 𝕄) (hend : DSt I K c 124 ⊢ (|={Set.univ}=> Q ⟨⟩ : sProp 𝕄)) : DSt I K c 11 ⊢ WP F c (seg7 I K c).1 Q := by
  iterate 36
    apply part rfl
    · intro k h
      repeat (refine head rfl ?_; refine step_drain rfl rfl rfl ?_)
      exact h
  refine head rfl (step_drain rfl rfl rfl ?_)
  exact finish I K c Q hend

/-- The whole body. -/
theorem bodyRun (Q : PUnit → sProp 𝕄) (hend : DSt I K c 124 ⊢ (|={Set.univ}=> Q ⟨⟩ : sProp 𝕄)) : BSt I K c 0 ⊢ WP F c (bodyAt0 (F := F) t0_0) Q := by
  have h := (seg1 I K c).2 Q ((seg2 I K c).2 Q ((seg3 I K c).2 Q ((seg4 I K c).2 Q ((seg5 I K c).2 Q ((seg6 I K c).2 Q ((seg7 I K c).2 Q (seg8 I K c Q hend)))))))
  rw [show Prog.bind (bodyAt0 (F := F) t0_0) Prog.ret = bodyAt0 (F := F) t0_0 from Prog.bind_pure _] at h
  exact h
end Cert.KernelIdeal.Ring
end
-- ==== Proof.Ring.Region.lean ====
/- The ring kernel as a region of the program: its arrays, what it holds between its points, what it leaves. -/
module

public import proofs.«01_k».proof.Proof.Ring.Ends
public import proofs.«01_k».proof.Proof.Ring.Body8
public import Idealize.ShloMosaic.Lib.Pipeline.RegionTalk
public import Idealize.ShloMosaic.Lib.Pipeline.RegionArrays
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F)) (c : Dev nD)

/-- The devices' inputs, as the region finds them. -/
def insOf : Ins F where
  x c := V c main_arg0
  w c := V c main_arg1
  sx c := V c main_arg2
  sw c := V c main_arg3

def O₀ (c : Dev nD) : CellTallies nD τ sig Unit := owedT c (fun _ => true) + owedB c 0

/-- The program's buffers after the region. -/
def Vout (c : Dev nD) : Valuation τ sig (Elt F) := Function.update (V c) main_v46 (resV (insOf V) c)

/-- The region's data: its arrays as found, its windows' contents after the body, what it holds before and after its one point. -/
def dat0 (c : Dev nD) : Pipeline.Dat τ (Elt F) Unit ℕ UU ℕ cfg0 c where
  A w := V c (Proc.devRef .tc (Pipeline.arrRef spec0 w))
  after w _ := match w with
    | ⟨0, _⟩ => (insOf V).x c
    | ⟨1, _⟩ => (insOf V).w c
    | ⟨2, _⟩ => (insOf V).sx c
    | ⟨3, _⟩ => (insOf V).sw c
    | ⟨4, _⟩ => metaV (F := F) c
    | ⟨5, _⟩ => resV (insOf V) c
  Φ t := if t.val = 0 then iprop(Xk (insOf V) c ∗ scratch (F := F) c ∗ ∃ r, prngReg c r)
    else iprop(semVal (barCell c) 0 ∗ Pipeline.ownSems0 osem c ∗ scratch (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 V

/-! ## The body at the one point -/

/-- What the body leaves. -/
def leaves (I : Ins F) (c : Dev nD) : sProp 𝕄 :=
  iprop(scratch (F := F) c ∗ Pipeline.ownSems0 osem c ∗ semVal (barCell c) 0 ∗ ops I c ∗ owns (c : Thread nD τ) stO fullShare (resV I c)
    ∗ ∃ W, owes (c : Thread nD τ) 0 W)

theorem whole (I : Ins F) (c : Dev nD) (W : Waits sig Unit) (Q : PUnit → sProp 𝕄) :
    iprop((Xk I c ∗ scratch (F := F) c ∗ owes (c : Thread nD τ) (O₀ c) W ∗ ops I c ∗ (∃ Y, owns (c : Thread nD τ) stO fullShare Y))
      ∗ (leaves I c -∗ Q ⟨⟩)) ⊢ WP F c (bodyAt0 (F := F) t0_0) Q := by
  have hrun : iprop(Xk I c ∗ scratch (F := F) c ∗ owes (c : Thread nD τ) (O₀ c) W ∗ ops I c ∗ (∃ Y, owns (c : Thread nD τ) stO fullShare Y))
      ⊢ WP F c (bodyAt0 (F := F) t0_0) (fun _ => leaves I c) := by
    refine (begin0 (I := I) (c := c) W).trans ?_
    iintro ⟨%K, H⟩
    iapply (bodyRun (I := I) (K := K) (c := c) (fun _ => leaves I c) ends)
    iexact H
  have hw : (iprop(leaves I c -∗ Q ⟨⟩) : sProp 𝕄) ⊢ iprop(∀ a : PUnit, leaves I c -∗ Q a) := by
    iintro H
    iintro %a
    iexact H
  exact (show _ ⊢ _ from sep_mono hrun hw).trans (wp_wand_r frame (wpE defs₀ 𝒱₀ c none) Set.univ (p := bodyAt0 (F := F) t0_0) (Q := fun _ => leaves I c) (Q' := Q))

/-- A window whose one block is its whole array is fetched whole. -/
theorem fetched_at (w : Fin cfg0.W) (d : (cfg0.win w).block.Idx → Elt F (cfg0.win w).elt)
    (h : ∀ a, (cfg0.win w).index t0_0 a = 0 ∧ (cfg0.win w).clip (cfg0.grid.coords t0_0) a = none) (j : (cfg0.win w).block.Idx) :
    ∃ y : ((cfg0.win w).xblock (cfg0.grid.coords t0_0)).Idx, (∀ a, ((((cfg0.win w).rect t0_0).emb y) a : ℕ) = (j a : ℕ))
      ∧ (dat0 V c).fetched w t0_0 d j = (dat0 V c).blockOf w t0_0 y := by
  have hm : (cfg0.win w).moved (cfg0.grid.coords t0_0) j = true :=
    ((cfg0.win w).moved_iff _ j).mpr fun a => by have := (j a).isLt; unfold Pipeline.Window.xsize; rw [(h a).2]; exact this
  refine ⟨_, fun a => ?_, by unfold Pipeline.Dat.fetched Pipeline.Window.fill; rw [dif_pos hm]⟩
  rw [Pipeline.Window.rect_emb_val_of_index_zero _ _ _ (h a).1]

theorem before0_0 (d : (cfg0.win 0).block.Idx → Elt F (cfg0.win 0).elt) : (dat0 V c).before 0 t0_0 d = (insOf V).x c := by
  unfold Pipeline.Dat.before; rw [if_pos (fetch0_0 t0_0)]
  funext j
  obtain ⟨y, hy, e⟩ := fetched_at V c 0 d (by decide +kernel) j
  rw [e]
  show V c main_arg0 (((cfg0.win 0).rect t0_0).emb y) = _
  rw [show ((cfg0.win 0).rect t0_0).emb y = j from funext fun a => Fin.ext (hy a)]
  rfl
theorem before0_1 (d : (cfg0.win 1).block.Idx → Elt F (cfg0.win 1).elt) : (dat0 V c).before 1 t0_0 d = (insOf V).w c := by
  unfold Pipeline.Dat.before; rw [if_pos (fetch0_1 t0_0)]
  funext j
  obtain ⟨y, hy, e⟩ := fetched_at V c 1 d (by decide +kernel) j
  rw [e]
  show V c main_arg1 (((cfg0.win 1).rect t0_0).emb y) = _
  rw [show ((cfg0.win 1).rect t0_0).emb y = j from funext fun a => Fin.ext (hy a)]
  rfl
theorem before0_2 (d : (cfg0.win 2).block.Idx → Elt F (cfg0.win 2).elt) : (dat0 V c).before 2 t0_0 d = (insOf V).sx c := by
  unfold Pipeline.Dat.before; rw [if_pos (fetch0_2 t0_0)]
  funext j
  obtain ⟨y, hy, e⟩ := fetched_at V c 2 d (by decide +kernel) j
  rw [e]
  show V c main_arg2 (((cfg0.win 2).rect t0_0).emb y) = _
  rw [show ((cfg0.win 2).rect t0_0).emb y = j from funext fun a => Fin.ext (hy a)]
  rfl
theorem before0_3 (d : (cfg0.win 3).block.Idx → Elt F (cfg0.win 3).elt) : (dat0 V c).before 3 t0_0 d = (insOf V).sw c := by
  unfold Pipeline.Dat.before; rw [if_pos (fetch0_3 t0_0)]
  funext j
  obtain ⟨y, hy, e⟩ := fetched_at V c 3 d (by decide +kernel) j
  rw [e]
  show V c main_arg3 (((cfg0.win 3).rect t0_0).emb y) = _
  rw [show ((cfg0.win 3).rect t0_0).emb y = j from funext fun a => Fin.ext (hy a)]
  rfl
theorem before0_4 (hT : (V c main_v45 : (⟨S14, .i32⟩ : BufTy).Contents (Elt F)) = metaV (F := F) c) (d : (cfg0.win 4).block.Idx → Elt F (cfg0.win 4).elt) : (dat0 V c).before 4 t0_0 d = metaV (F := F) c := by
  unfold Pipeline.Dat.before; rw [if_pos (fetch0_4 t0_0)]
  funext j
  obtain ⟨y, hy, e⟩ := fetched_at V c 4 d (by decide +kernel) j
  rw [e]
  show V c main_v45 (((cfg0.win 4).rect t0_0).emb y) = _
  rw [show ((cfg0.win 4).rect t0_0).emb y = j from funext fun a => Fin.ext (hy a)]
  exact congrFun hT j

theorem owed_first : (dat0 V c).owed t0_0.castSucc = O₀ c := by
  show (if (t0_0.castSucc : Fin (cfg0.N + 1)).val = 0 then O₀ c else 0) = O₀ c; exact if_pos rfl
theorem owed_last : (dat0 V c).owed t0_0.succ = 0 := by
  show (if (t0_0.succ : Fin (cfg0.N + 1)).val = 0 then O₀ c else 0) = 0; exact if_neg (by decide)
theorem phi_first : (dat0 V c).Φ t0_0.castSucc = iprop(Xk (insOf V) c ∗ scratch (F := F) c ∗ ∃ r, prngReg c r) := by
  dsimp only [dat0]; exact if_pos rfl
theorem phi_last : (dat0 V c).Φ t0_0.succ
    = iprop(semVal (barCell c) 0 ∗ Pipeline.ownSems0 osem c ∗ scratch (F := F) c ∗ ∃ r, prngReg c r) := by
  dsimp only [dat0]; exact if_neg (show ¬ (t0_0.succ : Fin (cfg0.N + 1)).val = 0 by decide)

theorem owes_in (t : Fin (cfg0.N + 1)) (O : CellTallies nD τ sig Unit) (h0 : (dat0 V c).owed t = O) (W : Waits sig Unit) :
    (owes (c : Thread nD τ) O W : sProp 𝕄) ⊢ (dat0 V c).owesAt () t := by
  unfold Pipeline.Dat.owesAt Pipeline.owesWithin Pipeline.Dat.bound
  rw [h0]
  iintro HO
  iexists W
  isplitr
  · ipureintro; exact fun _ _ => Or.inl trivial
  iexact HO
theorem owes_out (t : Fin (cfg0.N + 1)) (O : CellTallies nD τ sig Unit) (h0 : (dat0 V c).owed t = O) :
    (dat0 V c).owesAt () t ⊢ (iprop(∃ W, owes (c : Thread nD τ) O W) : sProp 𝕄) := by
  unfold Pipeline.Dat.owesAt Pipeline.owesWithin
  rw [h0]
  iintro ⟨%W, -, HO⟩
  iexists W
  iexact HO

/-- The body obligation of the region. -/
theorem body0 (hT : ∀ c, (V c main_v45 : (⟨S14, .i32⟩ : BufTy).Contents (Elt F)) = metaV (F := F) c) :
    Pipeline.BodyObligation (dat0 V c) defs₀ 𝒱₀ () Set.univ := fun t => by
  obtain rfl := fin_N0 t
  rw [bigSep_W0, bigSep_W0, phi_first, phi_last]
  simp only [before0_0, before0_1, before0_2, before0_3, before0_4 V c (hT c)]
  iintro ⟨⟨HX, Hs, Hp⟩, HO, ⟨%d0, H0⟩, ⟨%d1, H1⟩, ⟨%d2, H2⟩, ⟨%d3, H3⟩, ⟨%d4, H4⟩, ⟨%d5, H5⟩⟩
  ihave HO' := (owes_out V c _ (O₀ c) (owed_first V c)) $$ HO
  icases HO' with ⟨%W, HO⟩
  iapply (whole (insOf V) c W _)
  isplitl [HX Hs HO H0 H1 H2 H3 H4 H5]
  · isplitl [HX]; · iexact HX
    isplitl [Hs]; · iexact Hs
    isplitl [HO]; · iexact HO
    isplitl [H0 H1 H2 H3 H4]
    · unfold ops
      isplitl [H0]; · iexact H0
      isplitl [H1]; · iexact H1
      isplitl [H2]; · iexact H2
      isplitl [H3]; · iexact H3
      iexact H4
    iexists _; iexact H5
  unfold leaves ops
  iintro ⟨Hs, Hos, Hb, ⟨H0, H1, H2, H3, H4⟩, H5, ⟨%W', HO⟩⟩
  isplitl [Hs Hos Hb Hp]
  · isplitl [Hb]; · iexact Hb
    isplitl [Hos]; · iexact Hos
    isplitl [Hs]; · iexact Hs
    iexact Hp
  isplitl [HO]; · iapply (owes_in V c _ 0 (owed_last V c) W'); iexact HO
  isplitl [H0]; · iexact H0
  isplitl [H1]; · iexact H1
  isplitl [H2]; · iexact H2
  isplitl [H3]; · iexact H3
  isplitl [H4]; · iexact H4
  iexact H5

/-! ## The region -/

theorem owedB_pos {n : ℕ} {g : GSem nD τ sig} {u : Unit} (h : 0 < owedB c n g u) : ∃ j, g = barCell (mv j c) := by
  by_contra hne
  rw [not_exists] at hne
  refine absurd h ?_
  unfold owedB
  rw [Finset.sum_apply, Finsupp.finset_sum_apply, Finset.sum_eq_zero]
  · exact Nat.lt_irrefl 0
  · intro j _
    by_cases hp : n ≤ j.val
    · rw [if_pos hp, tallyAt_apply, if_neg fun hh => hne j hh.1]
    · rw [if_neg hp]; rfl

theorem O₀_pos {g : GSem nD τ sig} {u : Unit} (h : 0 < O₀ c g u) : (∃ e, g = cellR e (tgt e c)) ∨ ∃ j, g = barCell (mv j c) := by
  unfold O₀ at h
  rw [Pi.add_apply, Finsupp.add_apply] at h
  rcases Nat.add_pos_iff_pos_or_pos.mp h with h | h
  · obtain ⟨e, -, he⟩ := owedT_pos h; exact .inl ⟨e, he⟩
  · exact .inr (owedB_pos c h)

theorem cut (t : Fin (cfg0.N + 1)) (g : GSem nD τ sig) (i : Unit) (h : 0 < (dat0 V c).owed t g i) : i ∈ L g ∧ (0 : ℕ) < lv g i := by
  have e : (dat0 V c).owed t = if t.val = 0 then O₀ c else 0 := rfl
  rw [e] at h
  split at h
  · rcases O₀_pos c h with ⟨e, rfl⟩ | ⟨j, rfl⟩
    · exact ⟨by rw [show L (cellR e (tgt e c)) = {()} from L_tc _ _]; exact Finset.mem_singleton_self _, by rw [lv_R]; exact Nat.lt_trans Nat.one_pos (lvE_pos e)⟩
    · exact ⟨by rw [show L (barCell (mv j c)) = {()} from L_tc _ _]; exact Finset.mem_singleton_self _, by rw [lv_bar]; exact Nat.one_pos⟩
  · exact absurd h (Nat.lt_irrefl 0)

theorem hin0 : iprop(Pipeline.scopedRest (Pipeline.pin (pcfgs (F := F)) adm 0).spec c ∗ (∃ r, prngReg c r)
      ∗ StableHlo.held (c.tc : Thread nD τ) ∅ (V c) ∗ Xk (insOf V) c) ⊢ (pdats V 0 c).Φ 0 := by
  rw [show (pdats V 0 c).Φ 0 = iprop(Xk (insOf V) c ∗ scratch (F := F) c ∗ ∃ r, prngReg c r) from phi_first V c]
  iintro ⟨Hs, Hp, -, HX⟩
  isplitl [HX]; · iexact HX
  isplitl [Hs]; · iexact Hs
  iexact Hp

/-- What a device keeps after the region: its barrier counter at zero. -/
def Yk (c : Dev nD) : sProp 𝕄 := semVal (barCell c) 0

theorem hout0 : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vout V c) ∗ Pipeline.ownSems0 osem c ∗ Yk (F := F) c) := by
  rw [show (pdats V 0 c).Φ (Fin.last _) = iprop(semVal (barCell c) 0 ∗ Pipeline.ownSems0 osem c ∗ scratch (F := F) c ∗ ∃ r, prngReg c r)
    from phi_last V c]
  unfold Yk StableHlo.held
  rw [bigSep_empty]
  iintro ⟨Hb, Ho, Hs, Hp⟩
  isplitl [Hs]; · iexact Hs
  isplitl [Hp]; · iexact Hp
  isplitr; · iempintro
  isplitl [Ho]; · iexact Ho
  iexact Hb

/-- The result array ends at the result. -/
theorem final_out : (dat0 V c).arrAt 5 cfg0.N = resV (insOf V) c :=
  (dat0 V c).arrAt_eq_of_after_last 5 t0_0 (by decide +kernel) (resV (insOf V) c) fun _ => rfl

theorem final_all (w : Fin cfg0.W) : (dat0 V c).arrAt w cfg0.N = Vout V c (Proc.devRef .tc (Pipeline.arrRef spec0 w)) := by
  unfold Vout
  match w with
  | ⟨0, _⟩ => exact ((dat0 V c).arrAt_in 0 rfl _).trans (Function.update_of_ne (show (main_arg0 : DevRef τ sig) ≠ main_v46 by decide) _ (V c)).symm
  | ⟨1, _⟩ => exact ((dat0 V c).arrAt_in 1 rfl _).trans (Function.update_of_ne (show (main_arg1 : DevRef τ sig) ≠ main_v46 by decide) _ (V c)).symm
  | ⟨2, _⟩ => exact ((dat0 V c).arrAt_in 2 rfl _).trans (Function.update_of_ne (show (main_arg2 : DevRef τ sig) ≠ main_v46 by decide) _ (V c)).symm
  | ⟨3, _⟩ => exact ((dat0 V c).arrAt_in 3 rfl _).trans (Function.update_of_ne (show (main_arg3 : DevRef τ sig) ≠ main_v46 by decide) _ (V c)).symm
  | ⟨4, _⟩ => exact ((dat0 V c).arrAt_in 4 rfl _).trans (Function.update_of_ne (show (main_v45 : DevRef τ sig) ≠ main_v46 by decide) _ (V c)).symm
  | ⟨5, _⟩ => exact (final_out V c).trans (Function.update_self (main_v46 : DevRef τ sig) (resV (insOf V) c) (V c)).symm

/-- The staging counters lie at the lowest level. -/
theorem stageLow (d : Dev nD) (w : Fin cfg0.W) (s : Fin (cfg0.win w).nbuf) :
    lv ((d : Thread nD τ), SemLoc.dma ((cfg0.win w).sem s)) () ≤ 0 := by
  have h : ∀ (w : Fin cfg0.W) (s : Fin (cfg0.win w).nbuf), ¬ 6 ≤ ((cfg0.win w).sem s).val := by decide
  exact le_of_eq (if_neg (h w s))

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that are no array of the region. -/
abbrev others : Finset (DevRef τ sig) := Pipeline.ucRefs τ sig \ Pipeline.arrRefs (τ := τ) spec0

theorem rest_same (b : DevRef τ sig) (hb : b ∈ others \ ∅) : Vout V c b = V c b := by
  refine Function.update_of_ne (fun e => ?_) ..
  subst e
  rw [Finset.sdiff_empty, Finset.mem_sdiff] at hb
  exact hb.2 (by decide +kernel)

set_option backward.isDefEq.respectTransparency.types false in
def reg0 (hT : ∀ c, (V c main_v45 : (⟨S14, .i32⟩ : BufTy).Contents (Elt F)) = metaV (F := F) c) :
    Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ others (Finset.empty_subset _) kitP rfl (fun c => (body0 V c hT).loose)
    (fun _ => 0) O₀ (fun c => (owed_first V c).trans (zero_add _).symm) (owed_last V) (fun _ => rfl)
    (fun c w => (dat0 V c).share_full (fun _ => rfl) w)
    V (Vout V) (rest_same V)
    (Tk (insOf V)) Yk (Xk (insOf V)) Yk hopen0 (hin0 V) (hout0 V)
    (fun c => by iintro H; imodintro; iexact H)
    (fun _ => 0)
    ⟨fun c w s => Finset.mem_singleton_self (), stageLow, fun c t g i h => cut V c t g i h⟩
    (fun _ => iprop(emp))
    (fun _ w => rfl) (fun c w => final_all V c w)

end Cert.KernelIdeal.Ring

end
-- ==== Proof.Ring.HostTable.lean ====
/- The table of words the ring kernel is given: what the operations before it make of the device's number. -/
module

public import proofs.«01_k».proof.Proof.Gen.KernelIdeal.Regions
public import Idealize.ShloMosaic.Lib.StableHlo.RunRead
public import proofs.«01_k».proof.Proof.Ring.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The operations on words -/

def wSign (x : BitVec 32) : BitVec 32 := if x = 0 then 0 else if x.msb then -1 else 1
def wDiv (x k : BitVec 32) : BitVec 32 :=
  Scalar.select (IntOp.andi (IntOp.cmpi .ne (wSign x) (wSign k)) (IntOp.cmpi .ne (IntOp.remsi .host x k) 0#32))
    (IntOp.subi (IntOp.divsi .host x k) 1#32) (IntOp.divsi .host x k)
def wMod (k : BitVec 32) : BitVec 32 := Scalar.select (IntOp.cmpi .eq k 0#32) 1#32 k
def wRem (x k : BitVec 32) : BitVec 32 :=
  Scalar.select (IntOp.andi (IntOp.cmpi .ne (IntOp.cmpi .slt (IntOp.remsi .host x (wMod k)) 0#32) (IntOp.cmpi .slt (wMod k) 0#32))
      (IntOp.cmpi .ne (IntOp.remsi .host x (wMod k)) 0#32))
    (IntOp.addi (IntOp.remsi .host x (wMod k)) (wMod k)) (IntOp.remsi .host x (wMod k))
def wIdx (x : BitVec 32) : BitVec 32 := Scalar.select (IntOp.cmpi .slt x 0#32) (IntOp.addi x 8#32) x

/-- The one index of a scalar. -/
abbrev pt : S_.Idx := Shape.Idx.first h_S_
/-- The entry of a table of eight words at a word. -/
def wAt (tab : S8.Idx → BitVec 32) (x : BitVec 32) : BitVec 32 :=
  shapeCast S_ (Host.dynamicSlice S1 tab (fun _ => x.toInt) sliceFits_S8_S1) shapeCasts_S1_S_ pt

abbrev Wd (F : FTy → Type) : Type := (⟨S_, .i32⟩ : BufTy).Contents (Elt F)
abbrev W8 (F : FTy → Type) : Type := (⟨S8, .i32⟩ : BufTy).Contents (Elt F)

section Stretches

variable (V : Valuation τ sig (Elt F))

theorem h0 (c : Dev nD) : (StableHlo.after (hostOps0 c) V main_v4 : Wd F) pt = BitVec.ofNat 32 c.val / 1#32 % 32#32 := by
  after_reads_simp [StableHlo.unaryIndexed_result_read, StableHlo.indexContents_cons, StableHlo.indexContents_empty, StableHlo.TRef.ofBuf_toBuf, Matrix.cons_val_fin_one, cast_eq]
  rfl
theorem h0k (c : Dev nD) : (StableHlo.after (hostOps0 c) V main_c_3 : Wd F) pt = 8#32 := by
  after_reads_simp [StableHlo.unaryIndexed_result_read, StableHlo.indexContents_cons, StableHlo.indexContents_empty, StableHlo.TRef.ofBuf_toBuf, Matrix.cons_val_fin_one, cast_eq]
  rfl
theorem h0l (c : Dev nD) : (StableHlo.after (hostOps0 c) V main_c : W8 F) = fun i => lit0 (S8.rowMajor i) := by
  after_reads_simp [StableHlo.unaryIndexed_result_read, StableHlo.indexContents_cons, StableHlo.indexContents_empty, StableHlo.TRef.ofBuf_toBuf, Matrix.cons_val_fin_one, cast_eq]
  rfl
theorem h0m (c : Dev nD) : (StableHlo.after (hostOps0 c) V main_c_0 : W8 F) = fun i => lit1 (S8.rowMajor i) := by
  after_reads_simp [StableHlo.unaryIndexed_result_read, StableHlo.indexContents_cons, StableHlo.indexContents_empty, StableHlo.TRef.ofBuf_toBuf, Matrix.cons_val_fin_one, cast_eq]
  rfl
theorem h1 : (StableHlo.after hostOps0_1 V main_v5 : Wd F) pt = wDiv ((V main_v4 : Wd F) pt) ((V main_c_3 : Wd F) pt) := by
  after_reads_simp [StableHlo.unaryIndexed_result_read, StableHlo.indexContents_cons, StableHlo.indexContents_empty, StableHlo.TRef.ofBuf_toBuf, Matrix.cons_val_fin_one, cast_eq]
  rfl
theorem h2 : (StableHlo.after hostOps0_2 V main_c_4 : Wd F) pt = 8#32 := by
  after_reads_simp [StableHlo.unaryIndexed_result_read, StableHlo.indexContents_cons, StableHlo.indexContents_empty, StableHlo.TRef.ofBuf_toBuf, Matrix.cons_val_fin_one, cast_eq]
  rfl
theorem h3 : (StableHlo.after hostOps0_3 V main_v6 : Wd F) pt = wRem ((V main_v4 : Wd F) pt) ((V main_c_4 : Wd F) pt) := by
  after_reads_simp [StableHlo.unaryIndexed_result_read, StableHlo.indexContents_cons, StableHlo.indexContents_empty, StableHlo.TRef.ofBuf_toBuf, Matrix.cons_val_fin_one, cast_eq]
  rfl
theorem h5 : (StableHlo.after hostOps0_5 V main_v14 : Wd F) pt = wRem ((V main_v13 : Wd F) pt) ((V main_c_9 : Wd F) pt) := by
  after_reads_simp [StableHlo.unaryIndexed_result_read, StableHlo.indexContents_cons, StableHlo.indexContents_empty, StableHlo.TRef.ofBuf_toBuf, Matrix.cons_val_fin_one, cast_eq]
  rfl
theorem h7 : (StableHlo.after hostOps0_7 V main_v23 : Wd F) pt = wRem ((V main_v22 : Wd F) pt) ((V main_c_14 : Wd F) pt) := by
  after_reads_simp [StableHlo.unaryIndexed_result_read, StableHlo.indexContents_cons, StableHlo.indexContents_empty, StableHlo.TRef.ofBuf_toBuf, Matrix.cons_val_fin_one, cast_eq]
  rfl
theorem h9 : (StableHlo.after hostOps0_9 V main_v31 : Wd F) pt = wRem ((V main_v30 : Wd F) pt) ((V main_c_18 : Wd F) pt) := by
  after_reads_simp [StableHlo.unaryIndexed_result_read, StableHlo.indexContents_cons, StableHlo.indexContents_empty, StableHlo.TRef.ofBuf_toBuf, Matrix.cons_val_fin_one, cast_eq]
  rfl
theorem h11 : (StableHlo.after hostOps0_11 V main_v35 : Wd F) pt = wRem ((V main_v34 : Wd F) pt) ((V main_c_21 : Wd F) pt) := by
  after_reads_simp [StableHlo.unaryIndexed_result_read, StableHlo.indexContents_cons, StableHlo.indexContents_empty, StableHlo.TRef.ofBuf_toBuf, Matrix.cons_val_fin_one, cast_eq]
  rfl
theorem h4 : (StableHlo.after hostOps0_4 V main_v11 : Wd F) pt = wAt (V main_c_0 : W8 F) (wIdx ((V main_v6 : Wd F) pt)) := by
  after_reads_simp [StableHlo.unaryIndexed_result_read, StableHlo.indexContents_cons, StableHlo.indexContents_empty, StableHlo.TRef.ofBuf_toBuf, Matrix.cons_val_fin_one, cast_eq]
  rfl
theorem h4b : (StableHlo.after hostOps0_4 V main_v12 : Wd F) pt = IntOp.muli ((V main_v5 : Wd F) pt) 8#32 := by
  after_reads_simp [StableHlo.unaryIndexed_result_read, StableHlo.indexContents_cons, StableHlo.indexContents_empty, StableHlo.TRef.ofBuf_toBuf, Matrix.cons_val_fin_one, cast_eq]
  rfl
theorem h4c : (StableHlo.after hostOps0_4 V main_v13 : Wd F) pt = IntOp.addi (wAt (V main_c_0 : W8 F) (wIdx ((V main_v6 : Wd F) pt))) 1#32 := by
  after_reads_simp [StableHlo.unaryIndexed_result_read, StableHlo.indexContents_cons, StableHlo.indexContents_empty, StableHlo.TRef.ofBuf_toBuf, Matrix.cons_val_fin_one, cast_eq]
  rfl
theorem h4d : (StableHlo.after hostOps0_4 V main_c_9 : Wd F) pt = 8#32 := by
  after_reads_simp [StableHlo.unaryIndexed_result_read, StableHlo.indexContents_cons, StableHlo.indexContents_empty, StableHlo.TRef.ofBuf_toBuf, Matrix.cons_val_fin_one, cast_eq]
  rfl
theorem h6 : (StableHlo.after hostOps0_6 V main_v20 : Wd F) pt = IntOp.addi ((V main_v12 : Wd F) pt) (wAt (V main_c : W8 F) (wIdx ((V main_v14 : Wd F) pt))) := by
  after_reads_simp [StableHlo.unaryIndexed_result_read, StableHlo.indexContents_cons, StableHlo.indexContents_empty, StableHlo.TRef.ofBuf_toBuf, Matrix.cons_val_fin_one, cast_eq]
  rfl
theorem h6b : (StableHlo.after hostOps0_6 V main_v21 : Wd F) pt = IntOp.muli ((V main_v5 : Wd F) pt) 8#32 := by
  after_reads_simp [StableHlo.unaryIndexed_result_read, StableHlo.indexContents_cons, StableHlo.indexContents_empty, StableHlo.TRef.ofBuf_toBuf, Matrix.cons_val_fin_one, cast_eq]
  rfl
theorem h6c : (StableHlo.after hostOps0_6 V main_v22 : Wd F) pt = IntOp.addi ((V main_v11 : Wd F) pt) 7#32 := by
  after_reads_simp [StableHlo.unaryIndexed_result_read, StableHlo.indexContents_cons, StableHlo.indexContents_empty, StableHlo.TRef.ofBuf_toBuf, Matrix.cons_val_fin_one, cast_eq]
  rfl
theorem h6d : (StableHlo.after hostOps0_6 V main_c_14 : Wd F) pt = 8#32 := by
  after_reads_simp [StableHlo.unaryIndexed_result_read, StableHlo.indexContents_cons, StableHlo.indexContents_empty, StableHlo.TRef.ofBuf_toBuf, Matrix.cons_val_fin_one, cast_eq]
  rfl
theorem h8 : (StableHlo.after hostOps0_8 V main_v29 : Wd F) pt = IntOp.addi ((V main_v21 : Wd F) pt) (wAt (V main_c : W8 F) (wIdx ((V main_v23 : Wd F) pt))) := by
  after_reads_simp [StableHlo.unaryIndexed_result_read, StableHlo.indexContents_cons, StableHlo.indexContents_empty, StableHlo.TRef.ofBuf_toBuf, Matrix.cons_val_fin_one, cast_eq]
  rfl
theorem h8b : (StableHlo.after hostOps0_8 V main_v30 : Wd F) pt = IntOp.addi ((V main_v5 : Wd F) pt) 1#32 := by
  after_reads_simp [StableHlo.unaryIndexed_result_read, StableHlo.indexContents_cons, StableHlo.indexContents_empty, StableHlo.TRef.ofBuf_toBuf, Matrix.cons_val_fin_one, cast_eq]
  rfl
theorem h8c : (StableHlo.after hostOps0_8 V main_c_18 : Wd F) pt = 4#32 := by
  after_reads_simp [StableHlo.unaryIndexed_result_read, StableHlo.indexContents_cons, StableHlo.indexContents_empty, StableHlo.TRef.ofBuf_toBuf, Matrix.cons_val_fin_one, cast_eq]
  rfl
theorem h10 : (StableHlo.after hostOps0_10 V main_v33 : Wd F) pt = IntOp.addi (IntOp.muli ((V main_v31 : Wd F) pt) 8#32) ((V main_v6 : Wd F) pt) := by
  after_reads_simp [StableHlo.unaryIndexed_result_read, StableHlo.indexContents_cons, StableHlo.indexContents_empty, StableHlo.TRef.ofBuf_toBuf, Matrix.cons_val_fin_one, cast_eq]
  rfl
theorem h10b : (StableHlo.after hostOps0_10 V main_v34 : Wd F) pt = IntOp.addi ((V main_v5 : Wd F) pt) 3#32 := by
  after_reads_simp [StableHlo.unaryIndexed_result_read, StableHlo.indexContents_cons, StableHlo.indexContents_empty, StableHlo.TRef.ofBuf_toBuf, Matrix.cons_val_fin_one, cast_eq]
  rfl
theorem h10c : (StableHlo.after hostOps0_10 V main_c_21 : Wd F) pt = 4#32 := by
  after_reads_simp [StableHlo.unaryIndexed_result_read, StableHlo.indexContents_cons, StableHlo.indexContents_empty, StableHlo.TRef.ofBuf_toBuf, Matrix.cons_val_fin_one, cast_eq]
  rfl

/-- The table: six words, then the eight of the cycle. -/
def tabOf (a₀ a₁ a₂ a₃ a₄ a₅ : S_.Idx → BitVec 32) (t : S8.Idx → BitVec 32) : S14.Idx → BitVec 32 :=
  concatenate S14 0 [⟨S6, concatenate S6 0 [⟨S1, broadcastInDim S1 ![] bcast_S_S1 a₀⟩, ⟨S1, broadcastInDim S1 ![] bcast_S_S1 a₁⟩,
    ⟨S1, broadcastInDim S1 ![] bcast_S_S1 a₂⟩, ⟨S1, broadcastInDim S1 ![] bcast_S_S1 a₃⟩, ⟨S1, broadcastInDim S1 ![] bcast_S_S1 a₄⟩,
    ⟨S1, broadcastInDim S1 ![] bcast_S_S1 a₅⟩] concatenates_S1_S1_S1_S1_S1_S1_S6_d0⟩, ⟨S8, t⟩] concatenates_S6_S8_S14_d0

theorem h12 : (StableHlo.after hostOps0_12 V main_v45 : (⟨S14, .i32⟩ : BufTy).Contents (Elt F))
    = tabOf (V main_v5 : Wd F) (V main_v11 : Wd F) (V main_v20 : Wd F) (V main_v29 : Wd F) (V main_v33 : Wd F)
        (fun i => IntOp.addi (IntOp.muli ((V main_v35 : Wd F) i) 8#32) ((V main_v6 : Wd F) i)) (V main_c : W8 F) := by
  after_reads_simp
  rfl

end Stretches

/-! ## The words of a device -/

def wId (c : Dev nD) : BitVec 32 := BitVec.ofNat 32 c.val / 1#32 % 32#32
def tab0 : S8.Idx → BitVec 32 := fun i => lit0 (S8.rowMajor i)
def tab1 : S8.Idx → BitVec 32 := fun i => lit1 (S8.rowMajor i)
def wP (c : Dev nD) : BitVec 32 := wDiv (wId c) 8#32
def wQ (c : Dev nD) : BitVec 32 := wRem (wId c) 8#32
def wT (c : Dev nD) : BitVec 32 := wAt tab1 (wIdx (wQ c))
def wNext (c : Dev nD) : BitVec 32 :=
  IntOp.addi (IntOp.muli (wP c) 8#32) (wAt tab0 (wIdx (wRem (IntOp.addi (wT c) 1#32) 8#32)))
def wPrev (c : Dev nD) : BitVec 32 :=
  IntOp.addi (IntOp.muli (wP c) 8#32) (wAt tab0 (wIdx (wRem (IntOp.addi (wT c) 7#32) 8#32)))
def wUp (c : Dev nD) : BitVec 32 := IntOp.addi (IntOp.muli (wRem (IntOp.addi (wP c) 1#32) 4#32) 8#32) (wQ c)
def wDown (c : Dev nD) : BitVec 32 := IntOp.addi (IntOp.muli (wRem (IntOp.addi (wP c) 3#32) 4#32) 8#32) (wQ c)

theorem words_eq (c : Dev nD) :
    wP c = metaW c 0 ∧ wT c = metaW c 1 ∧ wNext c = metaW c 2 ∧ wPrev c = metaW c 3 ∧ wUp c = metaW c 4 ∧ wDown c = metaW c 5 := by
  revert c; decide +kernel

theorem tab_eq (c : Dev nD) (i : S14.Idx) :
    tabOf (fun _ => metaW c 0) (fun _ => metaW c 1) (fun _ => metaW c 2) (fun _ => metaW c 3) (fun _ => metaW c 4) (fun _ => metaW c 5) tab0 i
      = metaW c (i 0).val := by
  obtain ⟨n, rfl⟩ : ∃ n : Fin 14, i = fun a => Fin.cast (by fin_cases a; rfl) n := ⟨i 0, by funext a; fin_cases a; rfl⟩
  revert c n; decide +kernel

theorem wd_of {x : Wd F} {a : BitVec 32} (h : x pt = a) : x = fun _ => a :=
  funext fun i => (congrArg x (Subsingleton.elim i pt)).trans h

section Table

variable (m : (ℓ : Loc nD τ sig) → Buf (Elt F) ℓ) (c : Dev nD)

theorem rd_v4 : (V1 m c main_v4 : Wd F) pt = wId c := h0 _ c
theorem rd_c : (V1 m c main_c : W8 F) = tab0 := h0l _ c
theorem rd_c0 : (V1 m c main_c_0 : W8 F) = tab1 := h0m _ c
theorem rd_v5 : (V2 m c main_v5 : Wd F) pt = wP c := by
  unfold V2; rw [h1, rd_v4, show (V1 m c main_c_3 : Wd F) pt = 8#32 from h0k _ c]; rfl
theorem rd_v6 : (V4 m c main_v6 : Wd F) pt = wQ c := by
  unfold V4; rw [h3, show (V3 m c main_c_4 : Wd F) pt = 8#32 from h2 _, V3_of m c main_v4 (by decide), V2_of m c main_v4 (by decide), rd_v4]; rfl
theorem rd4_v5 : (V4 m c main_v5 : Wd F) pt = wP c := by
  rw [V4_of m c main_v5 (by decide), V3_of m c main_v5 (by decide), rd_v5]
theorem rd4_c : (V4 m c main_c : W8 F) = tab0 := by
  rw [V4_of m c main_c (by decide), V3_of m c main_c (by decide), V2_of m c main_c (by decide), rd_c]
theorem rd4_c0 : (V4 m c main_c_0 : W8 F) = tab1 := by
  rw [V4_of m c main_c_0 (by decide), V3_of m c main_c_0 (by decide), V2_of m c main_c_0 (by decide), rd_c0]
theorem rd_v11 : (V5 m c main_v11 : Wd F) pt = wT c := by
  unfold V5; rw [h4, rd_v6, rd4_c0]; rfl
theorem rd_v12 : (V5 m c main_v12 : Wd F) pt = IntOp.muli (wP c) 8#32 := by
  unfold V5; rw [h4b, rd4_v5]
theorem rd_v13 : (V5 m c main_v13 : Wd F) pt = IntOp.addi (wT c) 1#32 := by
  unfold V5; rw [h4c, rd_v6, rd4_c0]; rfl
theorem rd_v14 : (V6 m c main_v14 : Wd F) pt = wRem (IntOp.addi (wT c) 1#32) 8#32 := by
  unfold V6; rw [h5, rd_v13, show (V5 m c main_c_9 : Wd F) pt = 8#32 from h4d _]
theorem rd6_v5 : (V6 m c main_v5 : Wd F) pt = wP c := by
  rw [V6_of m c main_v5 (by decide), V5_of m c main_v5 (by decide), rd4_v5]
theorem rd6_c : (V6 m c main_c : W8 F) = tab0 := by
  rw [V6_of m c main_c (by decide), V5_of m c main_c (by decide), rd4_c]
theorem rd_v20 : (V7 m c main_v20 : Wd F) pt = wNext c := by
  unfold V7; rw [h6, rd_v14, rd6_c, V6_of m c main_v12 (by decide), rd_v12]; rfl
theorem rd_v21 : (V7 m c main_v21 : Wd F) pt = IntOp.muli (wP c) 8#32 := by
  unfold V7; rw [h6b, rd6_v5]
theorem rd_v22 : (V7 m c main_v22 : Wd F) pt = IntOp.addi (wT c) 7#32 := by
  unfold V7; rw [h6c, V6_of m c main_v11 (by decide), rd_v11]
theorem rd_v23 : (V8 m c main_v23 : Wd F) pt = wRem (IntOp.addi (wT c) 7#32) 8#32 := by
  unfold V8; rw [h7, rd_v22, show (V7 m c main_c_14 : Wd F) pt = 8#32 from h6d _]
theorem rd8_v5 : (V8 m c main_v5 : Wd F) pt = wP c := by
  rw [V8_of m c main_v5 (by decide), V7_of m c main_v5 (by decide), rd6_v5]
theorem rd8_c : (V8 m c main_c : W8 F) = tab0 := by
  rw [V8_of m c main_c (by decide), V7_of m c main_c (by decide), rd6_c]
theorem rd_v29 : (V9 m c main_v29 : Wd F) pt = wPrev c := by
  unfold V9; rw [h8, rd_v23, rd8_c, V8_of m c main_v21 (by decide), rd_v21]; rfl
theorem rd_v30 : (V9 m c main_v30 : Wd F) pt = IntOp.addi (wP c) 1#32 := by
  unfold V9; rw [h8b, rd8_v5]
theorem rd_v31 : (V10 m c main_v31 : Wd F) pt = wRem (IntOp.addi (wP c) 1#32) 4#32 := by
  unfold V10; rw [h9, rd_v30, show (V9 m c main_c_18 : Wd F) pt = 4#32 from h8c _]
theorem rd10_v5 : (V10 m c main_v5 : Wd F) pt = wP c := by
  rw [V10_of m c main_v5 (by decide), V9_of m c main_v5 (by decide), rd8_v5]
theorem rd10_v6 : (V10 m c main_v6 : Wd F) pt = wQ c := by
  rw [V10_of m c main_v6 (by decide), V9_of m c main_v6 (by decide), V8_of m c main_v6 (by decide), V7_of m c main_v6 (by decide),
    V6_of m c main_v6 (by decide), V5_of m c main_v6 (by decide), rd_v6]
theorem rd_v33 : (V11 m c main_v33 : Wd F) pt = wUp c := by
  unfold V11; rw [h10, rd_v31, rd10_v6]; rfl
theorem rd_v34 : (V11 m c main_v34 : Wd F) pt = IntOp.addi (wP c) 3#32 := by
  unfold V11; rw [h10b, rd10_v5]
theorem rd_v35 : (V12 m c main_v35 : Wd F) pt = wRem (IntOp.addi (wP c) 3#32) 4#32 := by
  unfold V12; rw [h11, rd_v34, show (V11 m c main_c_21 : Wd F) pt = 4#32 from h10c _]

theorem table_eq : (V13 m c main_v45 : (⟨S14, .i32⟩ : BufTy).Contents (Elt F)) = metaV (F := F) c := by
  obtain ⟨e0, e1, e2, e3, e4, e5⟩ := words_eq c
  have a0 : (V12 m c main_v5 : Wd F) = fun _ => metaW c 0 := wd_of (by
    rw [V12_of m c main_v5 (by decide), V11_of m c main_v5 (by decide), rd10_v5, e0])
  have a1 : (V12 m c main_v11 : Wd F) = fun _ => metaW c 1 := wd_of (by
    rw [V12_of m c main_v11 (by decide), V11_of m c main_v11 (by decide), V10_of m c main_v11 (by decide), V9_of m c main_v11 (by decide),
      V8_of m c main_v11 (by decide), V7_of m c main_v11 (by decide), V6_of m c main_v11 (by decide), rd_v11, e1])
  have a2 : (V12 m c main_v20 : Wd F) = fun _ => metaW c 2 := wd_of (by
    rw [V12_of m c main_v20 (by decide), V11_of m c main_v20 (by decide), V10_of m c main_v20 (by decide), V9_of m c main_v20 (by decide),
      V8_of m c main_v20 (by decide), rd_v20, e2])
  have a3 : (V12 m c main_v29 : Wd F) = fun _ => metaW c 3 := wd_of (by
    rw [V12_of m c main_v29 (by decide), V11_of m c main_v29 (by decide), V10_of m c main_v29 (by decide), rd_v29, e3])
  have a4 : (V12 m c main_v33 : Wd F) = fun _ => metaW c 4 := wd_of (by rw [V12_of m c main_v33 (by decide), rd_v33, e4])
  have a5 : (fun i => IntOp.addi (IntOp.muli ((V12 m c main_v35 : Wd F) i) 8#32) ((V12 m c main_v6 : Wd F) i) : Wd F)
      = fun _ => metaW c 5 := wd_of (F := F) (by
    show IntOp.addi (IntOp.muli ((V12 (F := F) m c main_v35 : Wd F) pt) 8#32) ((V12 (F := F) m c main_v6 : Wd F) pt) = _
    rw [rd_v35 (F := F) m c, V12_of (F := F) m c main_v6 (by decide), V11_of m c main_v6 (by decide), rd10_v6 (F := F) m c, ← e5]; rfl)
  have a6 : (V12 m c main_c : W8 F) = tab0 := by
    rw [V12_of m c main_c (by decide), V11_of m c main_c (by decide), V10_of m c main_c (by decide), V9_of m c main_c (by decide), rd8_c]
  unfold V13
  rw [h12, a0, a1, a2, a3, a4, a5, a6]
  exact funext fun i => tab_eq c i

end Table

end Cert.KernelIdeal.Ring

end
-- ==== Proof.Ring.Launch.lean ====
/- The launch: every cell's invariant made, the transfers' ones closed until the kernel is entered; tokens and credits dealt to the
   devices that pay and wait. -/
module

public import proofs.«01_k».proof.Proof.Ring.Region
public import proofs.«01_k».proof.Proof.Ring.HostTable

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Every duty of the protocol: nine at a barrier cell, one at a transfer's cell. -/
abbrev Duty : Type := Fin 9 ⊕ Own
abbrev dSem : Duty → SemLoc sig := Sum.elim (fun _ => .reg barS) osem
abbrev dNum : Duty → Fin 9 := Sum.elim (fun j => j) (fun _ => 0)

theorem osem_ne_bar (k : Own) : osem k ≠ .reg barS := fun h => by cases h

theorem duty_inj : Function.Injective (fun k : Duty => (dSem k, dNum k)) := by
  intro a b h
  have h1 : dSem a = dSem b := congrArg Prod.fst h
  have h2 : dNum a = dNum b := congrArg Prod.snd h
  match a, b with
  | .inl i, .inl j => exact congrArg Sum.inl h2
  | .inl i, .inr k => exact absurd h1.symm (osem_ne_bar k)
  | .inr k, .inl j => exact absurd h1 (osem_ne_bar k)
  | .inr k, .inr l => exact congrArg Sum.inr (osem_inj h1)

def tokEmb : Dev nD × Duty ↪ GSem nD τ sig × ℕ × Fin 9 :=
  ⟨fun ck => (((ck.1 : Thread nD τ), dSem ck.2), 0, dNum ck.2), fun _ _ h =>
    Prod.ext (congrArg (fun t : GSem nD τ sig × ℕ × Fin 9 => t.1.1.1) h)
      (duty_inj (Prod.ext (congrArg (fun t : GSem nD τ sig × ℕ × Fin 9 => t.1.2) h) (congrArg (fun t : GSem nD τ sig × ℕ × Fin 9 => t.2.2) h)))⟩
def ringToks : Finset (GSem nD τ sig × ℕ × Fin 9) := Finset.univ.map tokEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells scCells ringToks)

/-- The whole of `X` given to one device, nothing to the others. -/
def onDev (c₀ : Dev nD) (X : sProp 𝕄) (c : Dev nD) : sProp 𝕄 := if c = c₀ then X else BI.emp
theorem bigSep_onDev (c₀ : Dev nD) (X : sProp 𝕄) : bigSep Finset.univ (onDev c₀ X) = X := by
  have h : bigSep (Finset.univ.erase c₀) (onDev c₀ X) = (BI.emp : sProp 𝕄) :=
    (bigSep_congr (s := Finset.univ.erase c₀) (Ψ := fun _ => (BI.emp : sProp 𝕄)) fun c hc =>
      show (if c = c₀ then X else BI.emp) = BI.emp from if_neg (Finset.ne_of_mem_erase hc)).trans (BI.bigSep_emp_const _)
  rw [bigSep_univ_at _ c₀, h, show onDev c₀ X c₀ = X from if_pos rfl]
  exact BI.equiv_iff.mp sep_emp

def G : Dev nD → sProp 𝕄 := onDev 0 (BI.own (ER (launchOf barCells scCells ringToks)))

/-- A device's own tokens, by cell. -/
def toksAt (c : Dev nD) : sProp 𝕄 :=
  iprop((bigSep Finset.univ fun j : Fin 9 => dutyTok ER (barCell c) 0 j)
    ∗ (bigSep Finset.univ fun e : Tr => dutyTok ER (cellS e c) 0 0) ∗ (bigSep Finset.univ fun e : Tr => dutyTok ER (cellR e c) 0 0))

theorem toks_eq : bigSep ringToks (fun x => (dutyTok ER x.1 x.2.1 x.2.2 : sProp 𝕄)) = bigSep Finset.univ fun c : Dev nD => toksAt c := by
  unfold ringToks
  rw [bigSep_map, bigSep_univ_prod]
  refine bigSep_congr fun c _ => ?_
  rw [bigSep_univ_sum, bigSep_own]
  rfl

/-- The tokens handed to the devices that pay with them: a neighbour's barrier, a transfer's target. -/
theorem toks_around : (bigSep Finset.univ fun c : Dev nD => (toksAt c : sProp 𝕄)) = bigSep Finset.univ fun c : Dev nD => dutiesOf c := by
  unfold toksAt dutiesOf
  rw [bigSep_sep', bigSep_sep', bigSep_sep', bigSep_sep']
  rw [bigSep_univ_comm (fun (c : Dev nD) (j : Fin 9) => (dutyTok ER (barCell c) 0 j : sProp 𝕄)),
    bigSep_univ_comm (fun (c : Dev nD) (j : Fin 9) => (dutyTok ER (barCell (mv j c)) 0 j : sProp 𝕄)),
    bigSep_univ_comm (fun (c : Dev nD) (e : Tr) => (dutyTok ER (cellR e c) 0 0 : sProp 𝕄)),
    bigSep_univ_comm (fun (c : Dev nD) (e : Tr) => (dutyTok ER (cellR e (tgt e c)) 0 0 : sProp 𝕄))]
  rw [bigSep_congr (s := Finset.univ) (fun (j : Fin 9) _ => bigSep_univ_equiv (mvE j) (fun c : Dev nD => (dutyTok ER (barCell c) 0 j : sProp 𝕄))),
    bigSep_congr (s := Finset.univ) (fun (e : Tr) _ => bigSep_univ_equiv (mvE (grp e)) (fun c : Dev nD => (dutyTok ER (cellR e c) 0 0 : sProp 𝕄)))]
  rfl

/-! ## The launch credit -/

theorem bar_eq {c d : Dev nD} (h : barCell c = barCell d) : c = d := congrArg (fun g : GSem nD τ sig => g.1.1) h
theorem R_ne_bar (e : Tr) (c d : Dev nD) : cellR e c ≠ barCell d := fun h => osem_ne_bar (true, e) (congrArg Prod.snd h)
theorem R_eq {e e' : Tr} {c d : Dev nD} (h : cellR e c = cellR e' d) : e = e' ∧ c = d :=
  ⟨congrArg Prod.snd (osem_inj (show osem (true, e) = osem (true, e') from congrArg Prod.snd h)), congrArg (fun g : GSem nD τ sig => g.1.1) h⟩

theorem owed_bar (d c : Dev nD) : O₀ d (barCell c) () = ∑ j : Fin 9, if d = mvI j c then 1 else 0 := by
  have h1 : owedT d (fun _ => true) (barCell c) () = 0 := by
    by_contra h
    obtain ⟨e, -, he⟩ := owedT_pos (Nat.pos_of_ne_zero h)
    exact R_ne_bar e _ _ he.symm
  unfold O₀
  rw [Pi.add_apply, Finsupp.add_apply, h1, Nat.zero_add]
  unfold owedB
  rw [Finset.sum_apply, Finsupp.finset_sum_apply]
  refine Finset.sum_congr rfl fun j _ => ?_
  rw [if_pos (Nat.zero_le _), tallyAt_apply]
  by_cases h : d = mvI j c
  · subst h; rw [mv_mvI, if_pos ⟨rfl, rfl⟩, if_pos rfl]
  · rw [if_neg h, if_neg fun hh => h (by rw [bar_eq hh.1, mvI_mv])]

theorem owed_R (d c : Dev nD) (e : Tr) : O₀ d (cellR e c) () = if d = mvI (grp e) c then amt e else 0 := by
  have h1 : owedB d 0 (cellR e c) () = 0 := by
    by_contra h
    obtain ⟨j, hj⟩ := owedB_pos d (Nat.pos_of_ne_zero h)
    exact R_ne_bar e _ _ hj
  unfold O₀
  rw [Pi.add_apply, Finsupp.add_apply, h1, Nat.add_zero]
  unfold owedT
  rw [Finset.sum_apply, Finsupp.finset_sum_apply, Finset.sum_eq_single e]
  · rw [if_pos rfl, tallyAt_apply]
    by_cases h : d = mvI (grp e) c
    · subst h; rw [show tgt e (mvI (grp e) c) = c from mv_mvI _ _, if_pos ⟨rfl, rfl⟩, if_pos rfl]
    · rw [if_neg h, if_neg fun hh => h (by rw [(R_eq hh.1).2]; exact (mvI_mv _ _).symm)]
  · intro e' _ hne
    rw [if_pos rfl, tallyAt_apply, if_neg fun hh => hne (R_eq hh.1).1.symm]
  · exact fun h => absurd (Finset.mem_univ _) h

theorem launch_bar (c : Dev nD) :
    tallyOn (barCell c) (launchCredit (Pipeline.owing O₀) 0 (barCell c)) = (tallyAt (barCell c) () 9 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun j _ => (Finset.sum_ite_eq' Finset.univ (mvI j c) fun _ => 1).trans (if_pos (Finset.mem_univ _))]
  rfl

theorem launch_R (e : Tr) (c : Dev nD) :
    tallyOn (cellR e c) (launchCredit (Pipeline.owing O₀) 0 (cellR e c)) = (tallyAt (cellR e c) () (amt e) : CellTallies nD τ sig Unit) := by
  unfold tallyAt; refine congrArg _ (Finsupp.ext fun u => ?_); cases u
  rw [Pipeline.launchCredit_owing, Finsupp.single_eq_same, Finset.sum_congr rfl fun d _ => owed_R d c e,
    Finset.sum_ite_eq' Finset.univ (mvI (grp e) c) fun _ => amt e, if_pos (Finset.mem_univ _)]

def rEmb : Tr ↪ SemLoc sig := ⟨fun e => osem (true, e), fun _ _ h => congrArg Prod.snd (osem_inj h)⟩

theorem creds (c : Dev nD) : (Pipeline.launchCred O₀ c : sProp 𝕄) ⊢ credsOf c := by
  unfold Pipeline.launchCred credsOf
  rw [bigSep_univ_at _ (SemLoc.reg barS), launch_bar]
  refine sep_mono_right ?_
  have hsub : (Finset.univ.map rEmb : Finset (SemLoc sig)) ⊆ Finset.univ.erase (SemLoc.reg barS) := fun sm h => by
    obtain ⟨e, -, rfl⟩ := Finset.mem_map.mp h
    exact Finset.mem_erase.mpr ⟨osem_ne_bar (true, e), Finset.mem_univ _⟩
  refine (bigSep_subset hsub).trans ?_
  rw [bigSep_map]
  exact bigSep_mono fun e _ => Entails.of_eq (congrArg (fun t => (cred t : sProp 𝕄)) (launch_R e c))

/-! ## The launch -/

/-- The unscoped counters of a device are its barrier's. -/
theorem unscoped_eq : ∀ sm : SemLoc sig, sm.isScoped .tc = false → sm = .reg barS := by decide

theorem sems_bar (c : Dev nD) : (unscopedSems0 c : sProp 𝕄) ⊢ semVal (barCell c) 0 := by
  unfold unscopedSems0
  exact bigSep_elim (i := SemLoc.reg barS) (by decide)

variable (I : Ins F) (ρ : Dev nD → PrngReg)

/-- What a device carries from the launch to the region beside its buffers. -/
def carry (c : Dev nD) : sProp 𝕄 :=
  iprop(Tk I c ∗ (∃ r, prngReg c r) ∗ ∃ W, owes (c : Thread nD τ) (O₀ c) W)
/-- What it carries after. -/
def after1 (c : Dev nD) : sProp 𝕄 := iprop(semVal (barCell c) 0 ∗ ∃ W, owes (c : Thread nD τ) (0 : CellTallies nD τ sig Unit) W)

def restOf : Fin 2 → Dev nD → sProp 𝕄
  | 0 => carry I
  | 1 => after1

/-- What of a device's launch holdings is its own from the start. -/
def own0 (c : Dev nD) : sProp 𝕄 := iprop(credsOf c ∗ owes (c : Thread nD τ) (O₀ c) ∅ ∗ ∃ r, prngReg c r)
/-- What the protocol deals to device c. -/
def dealt (c : Dev nD) : sProp 𝕄 :=
  iprop(atPos ER (barCell c) 0 ∅ 0 ∗ (bigSep Finset.univ fun k : Own => openTok ER ((c : Thread nD τ), osem k)) ∗ dutiesOf c)

theorem carry_intro (K : GSem nD τ sig → ℕ) (c : Dev nD) : iprop(records I K ∗ (dealt c ∗ own0 c)) ⊢ carry I c := by
  unfold dealt own0 carry Tk
  iintro ⟨#HR, ⟨Ha, Ho, Hd⟩, Hc, HO, Hp⟩
  isplitl [Ha Ho Hd Hc]
  · isplitr [Hc]
    · iexists K
      isplitr; · iexact HR
      isplitl [Ha]; · iexact Ha
      isplitl [Ho]; · iexact Ho
      iexact Hd
    iexact Hc
  isplitl [Hp]; · iexact Hp
  iexists ∅; iexact HO

theorem core_split (c : Dev nD) : iprop(unscopedSems0 c ∗ owes (c : Thread nD τ) (O₀ c) ∅ ∗ Pipeline.launchCred O₀ c ∗ prngReg c (ρ c) ∗ G c)
    ⊢ (iprop(own0 c ∗ (semVal (barCell c) 0 ∗ G c)) : sProp 𝕄) := by
  unfold own0
  iintro ⟨Hus, HO, Hcr, Hp, HG⟩
  ihave Hc := (creds (F := F) c) $$ Hcr
  ihave Hb := (sems_bar (F := F) c) $$ Hus
  isplitl [Hc HO Hp]
  · isplitl [Hc]; · iexact Hc
    isplitl [HO]; · iexact HO
    iexists (ρ c); iexact Hp
  isplitl [Hb]; · iexact Hb
  iexact HG

theorem start_all :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (restOf I 0) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Own => openTok ER ((c : Thread nD τ), osem k)) :=
    Entails.of_eq (by rw [bigSep_map, bigSep_univ_prod]; rfl)
  iintro ⟨H, #HL⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(own0 c ∗ (semVal (barCell c) 0 ∗ G c)) : sProp 𝕄) from bigSep_mono fun c _ => core_split ρ c) $$ H
  ihave H2 := (Entails.of_eq (bigSep_sep' (Finset.univ : Finset (Dev nD)) (fun c => (own0 c : sProp 𝕄)) (fun c => iprop(semVal (barCell c) 0 ∗ G c)))) $$ H'; icases H2 with ⟨HB, H3⟩
  ihave H4 := (Entails.of_eq (bigSep_sep' (Finset.univ : Finset (Dev nD)) (fun c => (semVal (barCell c) 0 : sProp 𝕄)) (fun c => G c))) $$ H3; icases H4 with ⟨Hv, HG⟩
  ihave Hu := (show bigSep Finset.univ (G (F := F)) ⊢ BI.own (ER (launchOf barCells scCells ringToks)) from
    Entails.of_eq (bigSep_onDev (F := F) 0 (BI.own (ER (launchOf barCells scCells ringToks))))) $$ HG
  imod (Rounds.fund_launch ER (rd I) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records I κ) (Φ := fun c => iprop(dealt c ∗ own0 c)) fun c _ => carry_intro I κ c)
  isplitr
  · unfold records
    isplitr; · iexact Hinv
    isplitr; · iexact Hr
    iexact HL
  rw [bigSep_sep' (Finset.univ : Finset (Dev nD)) (fun c => (dealt c : sProp 𝕄)) (fun c => own0 c)]
  isplitr [HB]
  · unfold dealt
    rw [bigSep_sep', bigSep_sep']
    isplitl [Hat]; · iapply hat $$ Hat
    isplitl [Hopen]; · iapply hopen $$ Hopen
    iapply (Entails.of_eq ((toks_eq (F := F)).trans (toks_around (F := F)))) $$ Htok
  · iexact HB

/-! ## The region between its neighbours -/

variable (V : Dev nD → Valuation τ sig (Elt F)) (hT : ∀ c, (V c main_v45 : (⟨S14, .i32⟩ : BufTy).Contents (Elt F)) = metaV (F := F) c)

theorem arrs_sub : Pipeline.arrRefs (τ := τ) spec0 ⊆ Pipeline.ucRefs τ sig := by decide +kernel

theorem pre0 (c : Dev nD) : iprop(StableHlo.held (c : Thread nD τ) (Pipeline.ucRefs τ sig) (V c) ∗ restOf (insOf V) 0 c) ⊢ (reg0 V hT).pre c := by
  show _ ⊢ iprop(StableHlo.held (c.tc : Thread nD τ) (Pipeline.arrRefs (τ := τ) spec0) (V c) ∗ (∃ r, prngReg c r)
    ∗ (StableHlo.held (c.tc : Thread nD τ) others (V c) ∗ emp) ∗ Tk (insOf V) c ∗ ∃ Wd, owes (c : Thread nD τ) (0 + O₀ c) Wd)
  rw [StableHlo.held_sub_split (c.tc : Thread nD τ) arrs_sub (V c), zero_add]
  unfold restOf carry
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem post0 (c : Dev nD) : (reg0 V hT).post c ⊢ iprop(StableHlo.held (c : Thread nD τ) (Pipeline.ucRefs τ sig) (Vout V c) ∗ restOf (insOf V) 1 c) := by
  show iprop(StableHlo.held (c.tc : Thread nD τ) (Pipeline.arrRefs (τ := τ) spec0) (Vout V c) ∗ (∃ r, prngReg c r)
    ∗ (StableHlo.held (c.tc : Thread nD τ) others (Vout V c) ∗ emp) ∗ Yk c ∗ ∃ Wd, owes (c : Thread nD τ) (0 : CellTallies nD τ sig Unit) Wd) ⊢ _
  rw [StableHlo.held_sub_split (c.tc : Thread nD τ) arrs_sub (Vout V c)]
  unfold restOf after1 Yk
  iintro ⟨Ha, -, ⟨Hr, -⟩, Hb, HO⟩
  isplitl [Ha Hr]
  · isplitl [Ha]; · iexact Ha
    iexact Hr
  isplitl [Hb]; · iexact Hb
  iexact HO

end Cert.KernelIdeal.Ring

end
-- ==== Proof.Ring.Run.lean ====
/- The run of the program: it ends, the arguments as launched, every counter at zero, the result array at the ring's result. -/
module

public import proofs.«01_k».proof.Proof.Ring.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The ring's inputs: the arguments as launched. -/
def insM : Ins F where
  x c := m (c, main_arg0)
  w c := m (c, main_arg1)
  sx c := m (c, main_arg2)
  sw c := m (c, main_arg3)

/-- What the region leaves in the result array. -/
def outsM : Outs (F := F) := fun _ r c => if h : r = main_v46 then h ▸ (resV (insOf (V13 m)) c) else m ((c : Thread nD τ).loc r)

theorem V14_res (c : Dev nD) : V14 m (outsM m) c main_v46 = resV (insOf (V13 m)) c :=
  (Function.update_self (main_v46 : DevRef τ sig) _ (V13 m c)).trans (dif_pos rfl)

theorem V14_eq (c : Dev nD) : V14 m (outsM m) c = Vout (V13 m) c := by
  unfold Vout
  exact congrArg (Function.update (V13 m c) (main_v46 : DevRef τ sig)) (dif_pos rfl)

theorem V13_arg0 (c : Dev nD) : V13 m c main_arg0 = m (c, main_arg0) :=
  (Function.update_of_ne (show (main_arg0 : DevRef τ sig) ≠ main_v46 by decide) _ (V13 m c)).symm.trans (V14_main_arg0 m (outsM m) c)
theorem V13_arg1 (c : Dev nD) : V13 m c main_arg1 = m (c, main_arg1) :=
  (Function.update_of_ne (show (main_arg1 : DevRef τ sig) ≠ main_v46 by decide) _ (V13 m c)).symm.trans (V14_main_arg1 m (outsM m) c)
theorem V13_arg2 (c : Dev nD) : V13 m c main_arg2 = m (c, main_arg2) :=
  (Function.update_of_ne (show (main_arg2 : DevRef τ sig) ≠ main_v46 by decide) _ (V13 m c)).symm.trans (V14_main_arg2 m (outsM m) c)
theorem V13_arg3 (c : Dev nD) : V13 m c main_arg3 = m (c, main_arg3) :=
  (Function.update_of_ne (show (main_arg3 : DevRef τ sig) ≠ main_v46 by decide) _ (V13 m c)).symm.trans (V14_main_arg3 m (outsM m) c)

theorem ins_eq : insOf (V13 m) = insM m := by
  unfold insOf insM
  rw [Ins.mk.injEq]
  exact ⟨funext (V13_arg0 m), funext (V13_arg1 m), funext (V13_arg2 m), funext (V13_arg3 m)⟩

/-- The region's record in this program. -/
abbrev R0 := reg0 (V13 m) (table_eq m)

theorem pre_at (c : Dev nD) : iprop(StableHlo.held (c : Thread nD τ) (Pipeline.ucRefs τ sig) (V13 m c) ∗ restOf (insOf (V13 m)) 0 c) ⊢ (R0 m).pre c :=
  pre0 (V13 m) (table_eq m) c

theorem post_at (c : Dev nD) : (R0 m).post c ⊢ iprop(StableHlo.held (c : Thread nD τ) (Pipeline.ucRefs τ sig) (V14 m (outsM m) c) ∗ restOf (insOf (V13 m)) 1 c) := by
  rw [V14_eq]; exact post0 (V13 m) (table_eq m) c

/-- What the program ends with: the counters at zero, the arguments as launched, the result at the ring's. -/
def Ends (s : MemSt nD τ sig (Elt F)) : Prop :=
  s.sem = (fun _ => 0) ∧ ∀ c : Dev nD,
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v46) = resV (insM m) c

theorem start_held :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD =>
        iprop(StableHlo.held (c : Thread nD τ) (Pipeline.ucRefs τ sig) (V0 m c) ∗ restOf (insOf (V13 m)) 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (start_all (insOf (V13 m)) ρ) $$ [Hr Hla] with HE
  · isplitl [Hr]; · iexact Hr
    iexact Hla
  imodintro
  rw [bigSep_sep']
  isplitl [Hh]; · iexact Hh
  iexact HE

/-- What device c's holdings say of a final memory. -/
def Says (c : Dev nD) (s : MemSt nD τ sig (Elt F)) : Prop :=
  (∀ b ∈ Pipeline.ucRefs τ sig, s.mem (c, b) = V14 m (outsM m) c b) ∧ s.sem (barCell c) = 0

theorem says_mem (c : Dev nD) (s' : Phys nD τ sig (Elt F)) :
    iprop((StableHlo.held (c : Thread nD τ) (Pipeline.ucRefs τ sig) (V14 m (outsM m) c) ∗ semVal (barCell c) 0) ∗ SI s')
      ⊢ (|={Set.univ}=> iprop(⌜Says m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V14 m (outsM m) c) s') $$ [Hh HSI]
  · isplitl [Hh] <;> iassumption
  icases Hr with ⟨%h, HSI⟩
  imodintro
  isplitr
  · ipureintro
    exact ⟨h, by simpa using hb⟩
  · iexact HSI

theorem says_all (s : MemSt nD τ sig (Elt F)) (h : ∀ c, Says m c s)
    (hz : ∀ g' : GSem nD τ sig, (g'.1.2 ≠ .tc ∨ g'.2.isScoped .tc = true) → s.sem g' = 0) : Ends m s := by
  refine ⟨sem_eq_zero hz fun c sm hsm => by
    obtain rfl := unscoped_eq sm hsm
    exact (h c).2, fun c => ?_⟩
  exact ⟨((h c).1 (Proc.devRef .tc main_arg0) (Finset.mem_filter.mpr ⟨StableHlo.devRef_mem_tcRefs main_arg0, by decide⟩)).trans (V14_main_arg0 m (outsM m) c),
    ((h c).1 (Proc.devRef .tc main_arg1) (Finset.mem_filter.mpr ⟨StableHlo.devRef_mem_tcRefs main_arg1, by decide⟩)).trans (V14_main_arg1 m (outsM m) c),
    ((h c).1 (Proc.devRef .tc main_arg2) (Finset.mem_filter.mpr ⟨StableHlo.devRef_mem_tcRefs main_arg2, by decide⟩)).trans (V14_main_arg2 m (outsM m) c),
    ((h c).1 (Proc.devRef .tc main_arg3) (Finset.mem_filter.mpr ⟨StableHlo.devRef_mem_tcRefs main_arg3, by decide⟩)).trans (V14_main_arg3 m (outsM m) c),
    (((h c).1 (Proc.devRef .tc main_v46) (Finset.mem_filter.mpr ⟨StableHlo.devRef_mem_tcRefs main_v46, by decide⟩)).trans (V14_res m c)).trans
      (congrArg (fun I => resV I c) (ins_eq m))⟩

abbrev segsM (c : Dev nD) := segs m 𝒱₀ L lv (restOf (insOf (V13 m))) () (pdats (V13 m)) (R0 m) c

set_option backward.isDefEq.respectTransparency.types false in
/-- The run. -/
theorem run_main : θ_run defs (onTc (τ := τ) (main (F := F))) ⟨m, fun _ => 0, ρ⟩ (fun r => Ends m r.2) := by
  refine Pipeline.θ_run_regions_kit_dev_sems (pcfgs (F := F)) Gen.adm (pdats (V13 m)) () cellOf_inj EP defs₀ 𝒱₀ L lv m ρ main (segsM m)
    (fun c Q => by
      rewrite [main_chain c, Pipeline.Seg.run_eq_chain,
        show (segsM m c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()) ] from rfl]
      dsimp (config := { failIfUnchanged := false }) only
      exact .rfl)
    (fun c => by simp only [segsM, segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ restOf (insOf (V13 m)) 0 c))
    (Tₙ := fun c => iprop(StableHlo.held (c : Thread nD τ) (Pipeline.ucRefs τ sig) (V14 m (outsM m) c) ∗ semVal (barCell c) 0))
    (hch := fun c => ⟨.rfl, .rfl, .rfl, .rfl, .rfl, .rfl, .rfl, .rfl, .rfl, .rfl, .rfl, .rfl, .rfl, pre_at m c, (post_at m c).trans ?_⟩)
    (hinit := start_held m ρ) (QY := Says m) (hfin := says_mem m)
    (hQ := fun s h hs => says_all m s h hs)
  unfold restOf after1
  iintro ⟨Hh, Hb, HO⟩
  isplitr [HO]
  · isplitl [Hh] <;> iassumption
  · iexact HO

end Cert.KernelIdeal.Ring

end
-- ==== Proof.Ring.Sum.lean ====
/- What the ring kernel's result is over the reals: for every device, its rows of the sum over all devices of their products, scaled
   and cut at zero. -/
module

public import proofs.«01_k».proof.Proof.Ring.Ends
public import Idealize.ShloMosaic.Lib.MatmulPlain
public import Idealize.ShloMosaic.Lib.Pipeline.Value

@[expose] public section

noncomputable section

namespace Cert.KernelIdeal.Ring

open Idealize.ShloMosaic Idealize.ShloMosaic.TcCoe Idealize.ShloMosaic.ValueIdx
open Cert.KernelIdeal Cert.KernelIdeal.Gen
open scoped BigOperators

/-! ## Which devices a value has come by -/

/-- The devices whose products a lane of stage a1 has gathered after `h` hops. -/
def pathA (d : Fin 2) : ℕ → Dev nD → List (Dev nD)
  | 0, c => [c]
  | h + 1, c => c :: pathA d h (mvI (grp (.a1 d 0 0)) c)
def pathB (d : Fin 2) : ℕ → Dev nD → List (Dev nD)
  | 0, c => [c]
  | t + 1, c => c :: pathB d t (mvI (grp (.b1 d 0 0)) c)
/-- The same for stage a2, whose every hop adds a finished lane of stage a1. -/
def pathH (d : Fin 2) : ℕ → Dev nD → List (Dev nD)
  | 0, c => pathA d 7 c
  | t + 1, c => pathA d 7 c ++ pathH d t (mvI (grp (.a2 d 0)) c)
/-- The same for the sum over the plane after `k` arrivals of stage b2. -/
def pathG (d : Fin 2) (c : Dev nD) : ℕ → List (Dev nD)
  | 0 => pathB d 3 c
  | k + 1 => pathB d 3 (from' (.b2 d (Fin.ofNat 7 k)) c) ++ pathG d c k

theorem allA : ∀ d c, (pathH d 3 c).Perm (List.finRange 32) := by decide +kernel
theorem allB : ∀ d c, (pathG d c 7).Perm (List.finRange 32) := by decide +kernel

/-! ## Rows stay with the lane -/

theorem rowA_hop : ∀ (d : Fin 2) (h : Fin 7) (z : Fin 4) (c : Dev nD), rowA d (h.val + 1) z c = rowA d h.val z (mvI (grp (.a1 d 0 0)) c) := by decide +kernel
theorem rowB_hop : ∀ (d : Fin 2) (t : Fin 3) (i : Fin 8) (c : Dev nD), rowB d (t.val + 1) i c = rowB d t.val i (mvI (grp (.b1 d 0 0)) c) := by decide +kernel
theorem rowH_hop : ∀ (d : Fin 2) (t : Fin 3) (c : Dev nD),
    rowA d 7 (zA d (t.val + 1) c) c = rowA d 7 (zA d t.val (mvI (grp (.a2 d 0)) c)) (mvI (grp (.a2 d 0)) c) := by decide +kernel
theorem rowH_end : ∀ (d : Fin 2) (c : Dev nD), rowA d 7 (zA d 3 c) c = c := by decide +kernel
theorem rowG_mine : ∀ (d : Fin 2) (c : Dev nD), rowB d 3 (myLane c) c = c := by decide +kernel
theorem rowG_sent : ∀ (d : Fin 2) (k : Fin 7) (c : Dev nD), rowB d 3 (laneK k.val (from' (.b2 d k) c)) (from' (.b2 d k) c) = c := by decide +kernel

/-! ## The operations over the reals -/

variable (I : Ins Ideal)

theorem zero_f32 (s : Shape) (i : s.Idx) : (constant s .f32 0x00000000#32 : FVec Ideal s .f32) i = (0 : EReal) := Ideal.ofBits_zero_f32

theorem mmA_apply (x : Vec Ideal S128x128 .fp8e5m2) (w : Vec Ideal S128x640 .fp8e5m2) (r : Fin 128) (q : Fin 640) :
    mmA x w (ix2 r q) = ∑ k : Fin 128, (x (ix2 r k) : EReal) * w (ix2 k q) := by
  unfold mmA
  rw [shapeCast_self, shapeCast_self]
  exact (Ideal.matmul_plain_apply (M := 128) (K := 128) (N := 640) none x w _ r q).trans (by rw [zero_f32, zero_add])
theorem mmB_apply (x : Vec Ideal S128x128 .fp8e5m2) (w : Vec Ideal S128x384 .fp8e5m2) (r : Fin 128) (q : Fin 384) :
    mmB x w (ix2 r q) = ∑ k : Fin 128, (x (ix2 r k) : EReal) * w (ix2 k q) := by
  unfold mmB
  rw [shapeCast_self, shapeCast_self]
  exact (Ideal.matmul_plain_apply (M := 128) (K := 128) (N := 384) none x w _ r q).trans (by rw [zero_f32, zero_add])

theorem upA_startA (x : Vec Ideal S128x128 .fp8e5m2) (w : Vec Ideal S128x640 .fp8e5m2) : upA (startA x w) = mmA x w := by
  unfold upA startA; rw [shapeCast_shapeCast]; rfl
theorem upB_startB (x : Vec Ideal S128x128 .fp8e5m2) (w : Vec Ideal S128x384 .fp8e5m2) : upB (startB x w) = mmB x w := by
  unfold upB startB; rw [shapeCast_shapeCast]; rfl
theorem upA_hopA (v : Vec Ideal S1x1x128x640 .bf16) (x : Vec Ideal S128x128 .fp8e5m2) (w : Vec Ideal S128x640 .fp8e5m2) :
    upA (hopA v x w) = addf (upA v) (mmA x w) := by
  rw [show upA (hopA v x w) = extf .f32 (shapeCast S128x640 (hopA v x w) shapeCasts_S1x1x128x640_S128x640) bitsLt_bf16_f32 from rfl]
  unfold hopA; rw [shapeCast_shapeCast]; rfl
theorem upB_hopB (v : Vec Ideal S1x1x128x384 .bf16) (x : Vec Ideal S128x128 .fp8e5m2) (w : Vec Ideal S128x384 .fp8e5m2) :
    upB (hopB v x w) = addf (upB v) (mmB x w) := by
  rw [show upB (hopB v x w) = extf .f32 (shapeCast S128x384 (hopB v x w) shapeCasts_S1x1x128x384_S128x384) bitsLt_bf16_f32 from rfl]
  unfold hopB; rw [shapeCast_shapeCast]; rfl
theorem upH_fireH (v : Vec Ideal S1x1x128x640 .bf16) : upH (fireH v) = upA v := by
  unfold upH fireH upA; rw [shapeCast_shapeCast]
theorem upH_hopH (v : Vec Ideal S1x128x640 .bf16) (u : Vec Ideal S1x1x128x640 .bf16) : upH (hopH v u) = addf (upH v) (upA u) := by
  rw [show upH (hopH v u) = extf .f32 (shapeCast S128x640 (hopH v u) shapeCasts_S1x128x640_S128x640) bitsLt_bf16_f32 from rfl]
  unfold hopH; rw [shapeCast_shapeCast]; rfl
theorem upG_cast (v : Vec Ideal S1x1x128x384 .bf16) (h : S1x1x128x384.ShapeCasts S1x128x384) : upG (shapeCast S1x128x384 v h) = upB v := by
  unfold upG upB
  refine congrArg (fun u : FVec Ideal S128x384 .bf16 => (extf .f32 u bitsLt_bf16_f32 : FVec Ideal S128x384 .f32)) ?_
  exact funext fun j => congrArg v (Shape.reshapeEquiv_reshapeEquiv h _ j)

/-! ## What a lane holds -/

/-- Row `r` of block `j` of device `e`'s product at column `n`. -/
def term (j : Fin 32) (r : Fin 128) (n : Fin 2048) (e : Dev nD) : EReal :=
  ∑ k : Fin 128, (I.x e (ix2 ⟨128 * j.val + r.val, by omega⟩ k) : EReal) * I.w e (ix2 k n)

theorem xb_apply (c : Dev nD) (j : Fin 32) (r k : Fin 128) : I.xb c j (ix2 r k) = I.x c (ix2 ⟨128 * j.val + r.val, by omega⟩ k) := by
  unfold Ins.xb
  refine congrArg (I.x c) (funext fun a => Fin.ext ?_)
  match a with
  | ⟨0, _⟩ => exact (congrArg (128 * j.val + ·) (Nat.one_mul r.val) : _)
  | ⟨1, _⟩ => exact (Nat.zero_add _).trans (Nat.one_mul _)

theorem wA_apply (c : Dev nD) (d : Fin 2) (k : Fin 128) (q : Fin 640) : I.wA d c (ix2 k q) = I.w c (ix2 k ⟨640 * d.val + q.val, by omega⟩) := by
  unfold Ins.wA
  refine congrArg (I.w c) (funext fun a => Fin.ext ?_)
  match a with
  | ⟨0, _⟩ => exact (Nat.zero_add _).trans (Nat.one_mul _)
  | ⟨1, _⟩ => exact (congrArg (640 * d.val + ·) (Nat.one_mul q.val) : _)

theorem wB_apply (c : Dev nD) (d : Fin 2) (k : Fin 128) (q : Fin 384) : I.wB d c (ix2 k q) = I.w c (ix2 k ⟨1280 + 384 * d.val + q.val, by omega⟩) := by
  unfold Ins.wB
  refine congrArg (I.w c) (funext fun a => Fin.ext ?_)
  match a with
  | ⟨0, _⟩ => exact (Nat.zero_add _).trans (Nat.one_mul _)
  | ⟨1, _⟩ => exact (congrArg (1280 + 384 * d.val + ·) (Nat.one_mul q.val) : _)

theorem mmA_term (c : Dev nD) (d : Fin 2) (j : Fin 32) (r : Fin 128) (q : Fin 640) :
    mmA (I.xb c j) (I.wA d c) (ix2 r q) = term I j r ⟨640 * d.val + q.val, by omega⟩ c := by
  rw [mmA_apply]; exact Finset.sum_congr rfl fun k _ => by rw [xb_apply, wA_apply]
theorem mmB_term (c : Dev nD) (d : Fin 2) (j : Fin 32) (r : Fin 128) (q : Fin 384) :
    mmB (I.xb c j) (I.wB d c) (ix2 r q) = term I j r ⟨1280 + 384 * d.val + q.val, by omega⟩ c := by
  rw [mmB_apply]; exact Finset.sum_congr rfl fun k _ => by rw [xb_apply, wB_apply]

theorem addf_at {s : Shape} (a b : FVec Ideal s .f32) (i : s.Idx) : addf a b i = (a i + b i : EReal) := rfl

theorem valA_apply (d : Fin 2) (z : Fin 4) (r : Fin 128) (q : Fin 640) : ∀ (h : ℕ) (_ : h ≤ 7) (c : Dev nD),
    upA (I.valA d z h c) (ix2 r q) = ((pathA d h c).map (term I (rowA d h z c) r ⟨640 * d.val + q.val, by omega⟩)).sum
  | 0, _, c => by
    rw [Ins.valA, upA_startA, mmA_term, pathA, List.map_singleton, List.sum_singleton]
  | h + 1, hh, c => by
    rw [Ins.valA, upA_hopA, addf_at, mmA_term, pathA, List.map_cons, List.sum_cons, show grp (.a1 d 0 z) = grp (.a1 d 0 0) from rfl,
      valA_apply d z r q h (Nat.le_of_succ_le hh), rowA_hop d ⟨h, hh⟩ z c, add_comm]

theorem valB_apply (d : Fin 2) (i : Fin 8) (r : Fin 128) (q : Fin 384) : ∀ (t : ℕ) (_ : t ≤ 3) (c : Dev nD),
    upB (I.valB d i t c) (ix2 r q) = ((pathB d t c).map (term I (rowB d t i c) r ⟨1280 + 384 * d.val + q.val, by omega⟩)).sum
  | 0, _, c => by
    rw [Ins.valB, upB_startB, mmB_term, pathB, List.map_singleton, List.sum_singleton]
  | t + 1, ht, c => by
    rw [Ins.valB, upB_hopB, addf_at, mmB_term, pathB, List.map_cons, List.sum_cons, show grp (.b1 d 0 i) = grp (.b1 d 0 0) from rfl,
      valB_apply d i r q t (Nat.le_of_succ_le ht), rowB_hop d ⟨t, ht⟩ i c, add_comm]

theorem valH_apply (d : Fin 2) (r : Fin 128) (q : Fin 640) : ∀ (t : ℕ) (_ : t ≤ 3) (c : Dev nD),
    upH (I.valH d t c) (ix2 r q) = ((pathH d t c).map (term I (rowA d 7 (zA d t c) c) r ⟨640 * d.val + q.val, by omega⟩)).sum
  | 0, _, c => by rw [Ins.valH, upH_fireH, valA_apply I d _ r q 7 le_rfl, pathH]
  | t + 1, ht, c => by
    rw [Ins.valH, upH_hopH, addf_at, valA_apply I d _ r q 7 le_rfl, pathH, List.map_append, List.sum_append,
      valH_apply d r q t (Nat.le_of_succ_le ht), ← rowH_hop d ⟨t, ht⟩ c, add_comm]

/-- Device c's result before the scale. -/
def total (c : Dev nD) (r : Fin 128) (n : Fin 2048) : EReal := ∑ e : Dev nD, term I c r n e

theorem sum_all {l : List (Dev nD)} (h : l.Perm (List.finRange 32)) (f : Dev nD → EReal) : (l.map f).sum = ∑ e : Dev nD, f e := by
  rw [(h.map f).sum_eq, ← List.ofFn_eq_map, List.sum_ofFn]

theorem accA_apply (d : Fin 2) (c : Dev nD) (r : Fin 128) (q : Fin 640) :
    addf (upH (I.valH d 2 (mvI (grp (.a2 d 0)) c))) (upA (I.valA d (zA d 3 c) 7 c)) (ix2 r q) = total I c r ⟨640 * d.val + q.val, by omega⟩ := by
  rw [← upH_hopH, show hopH (I.valH d 2 (mvI (grp (.a2 d 0)) c)) (I.valA d (zA d 3 c) 7 c) = I.valH d 3 c from rfl,
    valH_apply I d r q 3 le_rfl, rowH_end, sum_all (allA d c)]
  rfl

theorem accB_apply (d : Fin 2) (c : Dev nD) (r : Fin 128) (q : Fin 384) : ∀ (k : ℕ) (_ : k ≤ 7),
    I.accB d c k (ix2 r q) = ((pathG d c k).map (term I c r ⟨1280 + 384 * d.val + q.val, by omega⟩)).sum
  | 0, _ => by rw [Ins.accB, valB_apply I d _ r q 3 le_rfl, rowG_mine, pathG]
  | k + 1, hk => by
    rw [Ins.accB, addf_at, accB_apply d c r q k (Nat.le_of_succ_le hk), pathG, List.map_append, List.sum_append, Ins.valG, upG_cast,
      valB_apply I d _ r q 3 le_rfl, rowG_sent, add_comm]

theorem accB_total (d : Fin 2) (c : Dev nD) (r : Fin 128) (q : Fin 384) :
    I.accB d c 7 (ix2 r q) = total I c r ⟨1280 + 384 * d.val + q.val, by omega⟩ := by
  rw [accB_apply I d c r q 7 le_rfl, sum_all (allB d c)]; rfl

/-! ## The result -/

/-- What device c's result is at row `r`, column `n`. -/
def resR (c : Dev nD) (r : Fin 128) (n : Fin 2048) : EReal := max (total I c r n * I.scale c) 0

theorem outA_apply (d : Fin 2) (c : Dev nD) (r : Fin 128) (q : Fin 640) : I.outA d c (ix2 r q) = resR I c r ⟨640 * d.val + q.val, by omega⟩ := by
  unfold resR
  rw [← accA_apply I d c r q, ← Ideal.ofBits_zero_f32]
  rfl
theorem outB_apply (d : Fin 2) (c : Dev nD) (r : Fin 128) (q : Fin 384) : I.outB d c (ix2 r q) = resR I c r ⟨1280 + 384 * d.val + q.val, by omega⟩ := by
  unfold resR
  rw [← accB_total I d c r q, ← Ideal.ofBits_zero_f32]
  rfl

theorem embO (o w : ℕ) (inb : ∀ a, (![0, o] : Fin 2 → ℕ) a + (![128, w] : Fin 2 → ℕ) a ≤ S128x2048.size a) (r : Fin 128) (q : Fin w) (h : o + q.val < 2048) :
    (Rect.unit (s := S128x2048) ![0, o] ![128, w] inb).emb (ix2 r q) = ix2 r (⟨o + q.val, h⟩ : Fin 2048) := by
  funext a
  refine Fin.ext ?_
  match a with
  | ⟨0, _⟩ => exact (Nat.zero_add _).trans (Nat.one_mul _)
  | ⟨1, _⟩ => exact (congrArg (o + ·) (Nat.one_mul q.val) : _)

theorem resV_apply (c : Dev nD) (r : Fin 128) (n : Fin 2048) : resV I c (ix2 r n) = resR I c r n := by
  have hA (d : Fin 2) (q : Fin 640) (hq : 640 * d.val + q.val = n.val) : ix2 r n = (rectOA d).emb (ix2 r q) := by
    refine Eq.trans ?_ (embO (640 * d.val) 640 (inbOA d) r q (by omega)).symm
    exact congrArg (ix2 r) (Fin.ext hq.symm)
  have hB (d : Fin 2) (q : Fin 384) (hq : 1280 + 384 * d.val + q.val = n.val) : ix2 r n = (rectOB d).emb (ix2 r q) := by
    refine Eq.trans ?_ (embO (1280 + 384 * d.val) 384 (inbWB d) r q (by omega)).symm
    exact congrArg (ix2 r) (Fin.ext hq.symm)
  have hn := n.isLt
  rcases Nat.lt_or_ge n.val 640 with h | h
  · rw [hA 0 ⟨n.val, h⟩ (by simp)]
    exact (resV_emb 0 _).trans ((outA_apply I 0 c r ⟨n.val, h⟩).trans (congrArg (resR I c r) (Fin.ext (by simp))))
  rcases Nat.lt_or_ge n.val 1280 with h' | h'
  · rw [hA 1 ⟨n.val - 640, by omega⟩ (by simp; omega)]
    exact (resV_emb 1 _).trans ((outA_apply I 1 c r ⟨n.val - 640, by omega⟩).trans (congrArg (resR I c r) (Fin.ext (by simp; omega))))
  rcases Nat.lt_or_ge n.val 1664 with h'' | h''
  · rw [hB 0 ⟨n.val - 1280, by omega⟩ (by simp; omega)]
    exact (resV_emb 2 _).trans ((outB_apply I 0 c r ⟨n.val - 1280, by omega⟩).trans (congrArg (resR I c r) (Fin.ext (by simp; omega))))
  · rw [hB 1 ⟨n.val - 1664, by omega⟩ (by simp; omega)]
    exact (resV_emb 3 _).trans ((outB_apply I 1 c r ⟨n.val - 1664, by omega⟩).trans (congrArg (resR I c r) (Fin.ext (by simp; omega))))

end Cert.KernelIdeal.Ring

end
-- ==== Proof.Whole.Reference.lean ====
/- What the reference's result is over the reals: the whole product, scaled and cut at zero. The reference has one grid point whose
   blocks are the whole arrays, so its result array is the value it stores. -/
module

public import proofs.«01_k».proof.Proof.Gen.ReferenceIdeal.Value
public import Idealize.ShloMosaic.Lib.MatmulPlain
public import Idealize.ShloMosaic.Lib.Pipeline.Value
public import Idealize.ShloMosaic.Lib.Pipeline.ReadBack
public import Idealize.ShloMosaic.Lib.Pipeline.ValueKit.Geometry

@[expose] public section

set_option maxRecDepth 16384

noncomputable section

namespace Cert.ReferenceIdeal.Whole

open Idealize.ShloMosaic Idealize.ShloMosaic.TcCoe Idealize.ShloMosaic.ValueIdx
open Idealize.SL.Sem
open Cert.ReferenceIdeal Cert.ReferenceIdeal.Gen
open scoped BigOperators

variable {F : FTy → Type} [FloatOps F]

/-- The one word of a scale. -/
abbrev first : S1.Idx := Shape.Idx.first (s := S1) (by decide)

/-- The result array as one function of the arguments. -/
def whole (x : Vec F S4096x4096 .fp8e5m2) (w : Vec F S4096x2048 .fp8e5m2) (sx sw : Vec F S1 .f32) : Vec F S4096x2048 .f32 :=
  k0_pay1 x w (sx first) (sw first)

theorem origin2 : (![0, 0] : Fin 2 → ℕ) = fun _ => 0 := funext fun a => by fin_cases a <;> rfl

/-- Every index of a one-word array is its first. -/
theorem one_word (i : S1.Idx) : i = first :=
  funext fun a => match a with
    | ⟨0, h⟩ => Fin.ext ((Nat.lt_one_iff.mp (i ⟨0, h⟩).isLt).trans (Nat.lt_one_iff.mp (first ⟨0, h⟩).isLt).symm)

/-- What the body leaves in the result's buffer. -/
theorem stored (c : Dev nD) (a0 : Memref sig .tc .vmem S4096x4096 .fp8e5m2) (h0 : a0.IsWhole) (a1 : Memref sig .tc .vmem S4096x2048 .fp8e5m2)
    (h1 : a1.IsWhole) (a2 : Memref sig .tc .smem S1 .f32) (h2 : a2.IsWhole) (a3 : Memref sig .tc .smem S1 .f32) (h3 : a3.IsWhole)
    (a4 : Memref sig .tc .vmem S4096x2048 .f32) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = whole x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero origin2, View.readAt_eq_ld, View.readAt_eq_ld, View.readAt_eq_ld, View.readAt_eq_ld, h0.read_unread, h1.read_unread,
    h2.read_unread, h3.read_unread, View.ld_unit_zero origin2, View.ld_unit_zero origin2]
  exact congrArg₂ (k0_pay1 x w) (congrArg sx (one_word _)) (congrArg sw (one_word _))

variable (m : (ℓ : Loc nD τ sig) → Buf (Elt F) ℓ) (ρ : Dev nD → PrngReg)

/-- The one grid point. -/
abbrev t0 : Fin cfg0.N := ⟨0, by decide +kernel⟩

/-! The one block of every argument is the argument. -/

theorem block0 (c : Dev nD) : (iblk m c 0 t0 : Vec F S4096x4096 .fp8e5m2) = m ((c.tc : Thread nD τ).loc main_arg0) := by
  rw [← V_main_arg0 m c]
  funext j
  exact congrArg (V m c main_arg0) (show ((cfg0.win 0).rect t0).emb j = j from
    funext fun a => Fin.ext (Pipeline.Window.rect_emb_val_of_index_zero (cfg0.win 0) t0 a (by revert a; decide +kernel) j))
theorem block1 (c : Dev nD) : (iblk m c 1 t0 : Vec F S4096x2048 .fp8e5m2) = m ((c.tc : Thread nD τ).loc main_arg1) := by
  rw [← V_main_arg1 m c]
  funext j
  exact congrArg (V m c main_arg1) (show ((cfg0.win 1).rect t0).emb j = j from
    funext fun a => Fin.ext (Pipeline.Window.rect_emb_val_of_index_zero (cfg0.win 1) t0 a (by revert a; decide +kernel) j))
theorem block2 (c : Dev nD) : (iblk m c 2 t0 : Vec F S1 .f32) = m ((c.tc : Thread nD τ).loc main_arg2) := by
  rw [← V_main_arg2 m c]
  funext j
  exact congrArg (V m c main_arg2) (show ((cfg0.win 2).rect t0).emb j = j from
    funext fun a => Fin.ext (Pipeline.Window.rect_emb_val_of_index_zero (cfg0.win 2) t0 a (by revert a; decide +kernel) j))
theorem block3 (c : Dev nD) : (iblk m c 3 t0 : Vec F S1 .f32) = m ((c.tc : Thread nD τ).loc main_arg3) := by
  rw [← V_main_arg3 m c]
  funext j
  exact congrArg (V m c main_arg3) (show ((cfg0.win 3).rect t0).emb j = j from
    funext fun a => Fin.ext (Pipeline.Window.rect_emb_val_of_index_zero (cfg0.win 3) t0 a (by revert a; decide +kernel) j))

/-- The reference's result of the arguments it started with. -/
def result (c : Dev nD) : Vec F S4096x2048 .f32 :=
  whole (m ((c.tc : Thread nD τ).loc main_arg0)) (m ((c.tc : Thread nD τ).loc main_arg1)) (m ((c.tc : Thread nD τ).loc main_arg2))
    (m ((c.tc : Thread nD τ).loc main_arg3))

theorem final (c : Dev nD) : (dats m 0 c).arrAt 4 cfg0.N = result m c := by
  refine (dats m 0 c).arrAt_eq_of_after_last 4 t0 (by decide +kernel) (result m c) ?_
  rw [show (dats m 0 c).after 4 t0 = outsAt0 m c t0 from after0_4 m c t0]
  unfold outsAt0
  rw [stored]
  unfold result
  rw [← block0 m c, ← block1 m c, ← block2 m c, ← block3 m c]
  exact fun _ => rfl

/-! ## Over the reals -/

theorem whole_apply (x : Vec Ideal S4096x4096 .fp8e5m2) (w : Vec Ideal S4096x2048 .fp8e5m2) (sx sw : Vec Ideal S1 .f32) (r : Fin 4096) (n : Fin 2048) :
    whole x w sx sw (ix2 r n) =
      max (((∑ k : Fin 4096, (x (ix2 r k) : EReal) * w (ix2 k n) : EReal)) * (Scalar.mulf (sx first) (sw first) : Ideal .f32)) (0 : EReal) := by
  let x' : FVec Ideal S4096x4096 .f32 := extf .f32 x bitsLt_fp8e5m2_f32
  let w' : FVec Ideal S4096x2048 .f32 := extf .f32 w bitsLt_fp8e5m2_f32
  let z : FVec Ideal S4096x2048 .f32 := constant S4096x2048 .f32 0x00000000#32
  have hz : z (ix2 r n) = (0 : EReal) := Ideal.ofBits_zero_f32
  have e : FloatOps.matmul (DotDims.plain 4096 4096 2048) none x' w' z (ix2 r n) = (∑ k : Fin 4096, (x (ix2 r k) : EReal) * w (ix2 k n) : EReal) := by
    rw [Ideal.matmul_plain_apply (M := 4096) (K := 4096) (N := 2048) none x' w' z r n, hz, zero_add]; rfl
  rw [← e, ← Ideal.ofBits_zero_f32]
  rfl

end Cert.ReferenceIdeal.Whole

end
-- ==== Proof.Whole.Blocks.lean ====
/- Device c's result is block c of the reference's result: the ring kernel's sum over devices of sums over their 128 columns is the
   reference's sum over all 4096 columns. -/
module

public import proofs.«01_k».proof.Proof.Ring.Sum
public import proofs.«01_k».proof.Proof.Whole.Reference
public import Idealize.ShloMosaic.Lib.Layout

@[expose] public section

set_option maxRecDepth 16384

noncomputable section

namespace Cert.Whole

open Idealize.ShloMosaic Idealize.ShloMosaic.TcCoe Idealize.ShloMosaic.ValueIdx
open Cert.KernelIdeal.Ring (Ins resV total term resR resV_apply)
open Cert.ReferenceIdeal.Whole (whole whole_apply)
open scoped BigOperators

/-- The arrays of the reference: both operands uncut, and the two scales. -/
abbrev XX := (⟨2, ![4096, 4096]⟩ : Shape).Idx → Elt Ideal .fp8e5m2
abbrev WW := (⟨2, ![4096, 2048]⟩ : Shape).Idx → Elt Ideal .fp8e5m2

theorem cols_at (c : Fin 32) (X : XX) (r : Fin 4096) (k : Fin 128) :
    Layout.block ⟨2, ![4096, 128]⟩ ⟨2, ![4096, 4096]⟩ 1 32 c X (by decide) (ix2 r k) = X (ix2 r (finProdFinEquiv (m := 32) (n := 128) (c, k) : Fin 4096)) := by
  rw [Layout.block_apply]
  refine congrArg X (funext fun a => Fin.ext ?_)
  match a with
  | ⟨0, _⟩ => rfl
  | ⟨1, _⟩ => exact ((congrArg (· + k.val) (Nat.mul_comm c.val 128)).trans (Nat.add_comm _ _) : c.val * 128 + k.val = k.val + 128 * c.val)

theorem rows_at {α : Type} (c : Fin 32) (X : (⟨2, ![4096, 2048]⟩ : Shape).Idx → α) (r : Fin 128) (n : Fin 2048) :
    Layout.block ⟨2, ![128, 2048]⟩ ⟨2, ![4096, 2048]⟩ 0 32 c X (by decide) (ix2 r n) = X (ix2 (⟨128 * c.val + r.val, by omega⟩ : Fin 4096) n) := by
  rw [Layout.block_apply]
  refine congrArg X (funext fun a => Fin.ext ?_)
  match a with
  | ⟨0, _⟩ => exact (congrArg (· + r.val) (Nat.mul_comm c.val 128) : c.val * 128 + r.val = 128 * c.val + r.val)
  | ⟨1, _⟩ => rfl

variable (I : Ins Ideal) (X : XX) (W : WW) (sx sw : Vec Ideal Cert.ReferenceIdeal.S1 .f32)
variable (hx : ∀ c, I.x c = Layout.block ⟨2, ![4096, 128]⟩ ⟨2, ![4096, 4096]⟩ 1 32 c X (by decide))
variable (hw : ∀ c, I.w c = Layout.block ⟨2, ![128, 2048]⟩ ⟨2, ![4096, 2048]⟩ 0 32 c W (by decide))
variable (hsx : ∀ c, I.sx c = sx) (hsw : ∀ c, I.sw c = sw)

include hx hw in
theorem total_eq (c : Fin 32) (r : Fin 128) (n : Fin 2048) :
    total I c r n = ∑ K : Fin 4096, (X (ix2 (⟨128 * c.val + r.val, by omega⟩ : Fin 4096) K) : EReal) * W (ix2 K n) := by
  have e : ∑ p : Fin 32 × Fin 128, (X (ix2 (⟨128 * c.val + r.val, by omega⟩ : Fin 4096) (finProdFinEquiv p : Fin 4096)) : EReal) * W (ix2 (finProdFinEquiv p : Fin 4096) n)
      = ∑ K : Fin 4096, (X (ix2 (⟨128 * c.val + r.val, by omega⟩ : Fin 4096) K) : EReal) * W (ix2 K n) :=
    Equiv.sum_comp (finProdFinEquiv (m := 32) (n := 128))
      fun K : Fin 4096 => ((X (ix2 (⟨128 * c.val + r.val, by omega⟩ : Fin 4096) K) : EReal) * W (ix2 K n) : EReal)
  rw [← e, Fintype.sum_prod_type]
  refine Finset.sum_congr rfl fun d _ => Finset.sum_congr rfl fun k _ => ?_
  rw [hx d, hw d]
  refine congrArg₂ (fun a b : EReal => a * b) (cols_at d X _ k) ((rows_at d W k n).trans (congrArg (fun K : Fin 4096 => W (ix2 K n)) (Fin.ext (Nat.add_comm (128 * d.val) k.val))))

include hx hw hsx hsw in
/-- Device c's result is its rows of the reference's. -/
theorem result_block (c : Fin 32) :
    resV I c = Layout.block ⟨2, ![128, 2048]⟩ ⟨2, ![4096, 2048]⟩ 0 32 c (whole X W sx sw) (by decide) := by
  funext i
  obtain ⟨r, n, rfl⟩ : ∃ (r : Fin 128) (n : Fin 2048), i = ix2 r n := ⟨_, _, eq_ix2 i⟩
  rw [rows_at]
  refine (resV_apply I c r n).trans (Eq.trans ?_ (whole_apply X W sx sw _ n).symm)
  unfold resR Ins.scale
  rw [total_eq I X W hx hw, hsx, hsw]

end Cert.Whole

end
-- ==== Proof.lean ====
/- The proof of the five claims: the kernel ends with its arguments unchanged and every counter at zero, on the words and over the
   reals; so does the reference; nothing was rewritten; and over the reals device c's result is block c of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ring.Run
public import proofs.«01_k».proof.Proof.RingK.Run
public import proofs.«01_k».proof.Proof.Whole.Blocks
public import Idealize.ShloMosaic.Adequacy
public import Idealize.ShloMosaic.Init

@[expose] public section

noncomputable section

namespace Cert.Proof

open Idealize.ShloMosaic Idealize.SL.Sem Cert.Kernel

/-- The kernel's frame, on the words. -/
theorem frame_words : Cert.quiescent_Kernel := fun m g _ =>
  (θ_run _ _ _).mono (fun _ h => ⟨fun c => ⟨(h.2 c).1, (h.2 c).2.1, (h.2 c).2.2.1, (h.2 c).2.2.2.1⟩, h.1⟩) (Cert.Kernel.Ring.run_main m g)

/-- The kernel's frame, over the reals. -/
theorem frame_reals : Cert.quiescent_KernelIdeal := fun m g _ =>
  (θ_run _ _ _).mono (fun _ h => ⟨fun c => ⟨(h.2 c).1, (h.2 c).2.1, (h.2 c).2.2.1, (h.2 c).2.2.2.1⟩, h.1⟩) (Cert.KernelIdeal.Ring.run_main m g)

/-- Over the reals device c's result is block c of the reference's result. -/
theorem blocks : Cert.algebraic_KernelIdeal_ReferenceIdeal := fun m g m' g' _ hin =>
  ⟨Cert.ReferenceIdeal.Whole.result m' 0,
    (θ_run _ _ _).mono (fun _ h c =>
      ⟨(h.2 c).2.2.2.2.trans (Cert.Whole.result_block (Cert.KernelIdeal.Ring.insM m) _ _ _ _ (fun c => (hin c).1) (fun c => (hin c).2.1)
          (fun c => (hin c).2.2.1) (fun c => (hin c).2.2.2) c),
        (h.2 c).1, (h.2 c).2.1, (h.2 c).2.2.1, (h.2 c).2.2.2.1⟩) (Cert.KernelIdeal.Ring.run_main m g),
    (θ_run _ _ _).mono (fun _ h => ⟨(h 0).1.trans (Cert.ReferenceIdeal.Whole.final m' 0), (h 0).2⟩) (Cert.ReferenceIdeal.Value.run_blocks m' g')⟩

theorem claim : Cert.Claim := ⟨Cert.Kernel.Gen.facts, Cert.KernelIdeal.Gen.facts, Cert.ReferenceIdeal.Gen.facts,
  frame_words, frame_reals, fun m g _ => Cert.ReferenceIdeal.Gen.frame m g, trivial, blocks⟩

end Cert.Proof

end
